-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_inputs [hPre_finite_inputs : Cert.Pre_finite_inputs.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_inputs.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_inputs [hPre_finite_inputs : Cert.Pre_finite_inputs.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_inputs.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_route [hPre_finite_route : Cert.Pre_finite_route.Facts] (m : (ℓ : Loc Cert.RouteIdeal.nD Cert.RouteIdeal.τ Cert.RouteIdeal.sig) → Buf (Elt Ideal) ℓ) : Prop :=
  ∀ c : Dev Cert.RouteIdeal.nD,
    (Cert.Pre_finite_route.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_route [hPre_finite_route : Cert.Pre_finite_route.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_route.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))) = (fun _ => 1#1)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_finite_inputs [hHgrnIdeal : Cert.HgrnIdeal.Facts] [hPre_finite_inputs : Cert.Pre_finite_inputs.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_inputs m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_finite_inputs [hHgrnRefIdeal : Cert.HgrnRefIdeal.Facts] [hPre_finite_inputs : Cert.Pre_finite_inputs.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_inputs m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteIdeal_pre_finite_route [hRouteIdeal : Cert.RouteIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_route m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_RouteRefIdeal_pre_finite_route [hRouteRefIdeal : Cert.RouteRefIdeal.Facts] [hPre_finite_route : Cert.Pre_finite_route.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_route m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def preserves_Hgrn_HgrnIdeal : Prop :=
  True

def algebraic_HgrnIdeal_HgrnRefIdeal_pre_finite_inputs [hHgrnIdeal : Cert.HgrnIdeal.Facts] [hHgrnRefIdeal : Cert.HgrnRefIdeal.Facts] [hPre_finite_inputs : Cert.Pre_finite_inputs.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_inputs m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v2)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v2) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v148) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v90) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Route_RouteIdeal : Prop :=
  True

def algebraic_RouteIdeal_RouteRefIdeal_pre_finite_route [hRouteIdeal : Cert.RouteIdeal.Facts] [hRouteRefIdeal : Cert.RouteRefIdeal.Facts] [hPre_finite_route : Cert.Pre_finite_route.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_route m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v43) = v0 c
          ∧ r.2.mem ((c.tc : Thread Cert.RouteRefIdeal.nD Cert.RouteRefIdeal.τ).loc Cert.RouteRefIdeal.main_v45) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def Claim : Prop :=
  ∃ (hHgrn : Cert.Hgrn.Facts) (hHgrnIdeal : Cert.HgrnIdeal.Facts) (hHgrnRefIdeal : Cert.HgrnRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hRoute : Cert.Route.Facts) (hRouteIdeal : Cert.RouteIdeal.Facts) (hRouteRefIdeal : Cert.RouteRefIdeal.Facts) (hPre_finite_inputs : Cert.Pre_finite_inputs.Facts) (hPre_finite_route : Cert.Pre_finite_route.Facts),
    quiescent_Hgrn (hHgrn := hHgrn)
    ∧ quiescent_HgrnIdeal (hHgrnIdeal := hHgrnIdeal)
    ∧ quiescent_HgrnIdeal_pre_finite_inputs (hHgrnIdeal := hHgrnIdeal) (hPre_finite_inputs := hPre_finite_inputs)
    ∧ quiescent_HgrnRefIdeal (hHgrnRefIdeal := hHgrnRefIdeal)
    ∧ quiescent_HgrnRefIdeal_pre_finite_inputs (hHgrnRefIdeal := hHgrnRefIdeal) (hPre_finite_inputs := hPre_finite_inputs)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_Route (hRoute := hRoute)
    ∧ quiescent_RouteIdeal (hRouteIdeal := hRouteIdeal)
    ∧ quiescent_RouteIdeal_pre_finite_route (hRouteIdeal := hRouteIdeal) (hPre_finite_route := hPre_finite_route)
    ∧ quiescent_RouteRefIdeal (hRouteRefIdeal := hRouteRefIdeal)
    ∧ quiescent_RouteRefIdeal_pre_finite_route (hRouteRefIdeal := hRouteRefIdeal) (hPre_finite_route := hPre_finite_route)
    ∧ preserves_Hgrn_HgrnIdeal
    ∧ algebraic_HgrnIdeal_HgrnRefIdeal_pre_finite_inputs (hHgrnIdeal := hHgrnIdeal) (hHgrnRefIdeal := hHgrnRefIdeal) (hPre_finite_inputs := hPre_finite_inputs)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_Route_RouteIdeal
    ∧ algebraic_RouteIdeal_RouteRefIdeal_pre_finite_route (hRouteIdeal := hRouteIdeal) (hRouteRefIdeal := hRouteRefIdeal) (hPre_finite_route := hPre_finite_route)
-- ==== Pre_finite_inputs.lean ====
abbrev S16x4096x3584 : Shape := ⟨3, ![16, 4096, 3584]⟩
abbrev S2x2x512 : Shape := ⟨3, ![2, 2, 512]⟩
abbrev S512 : Shape := ⟨1, ![512]⟩
abbrev S_ : Shape := ⟨0, ![]⟩
abbrev S16x4096x512 : Shape := ⟨3, ![16, 4096, 512]⟩
abbrev S1x1x512 : Shape := ⟨3, ![1, 1, 512]⟩

class Facts : Prop where
  bcast_S_S2x2x512 : S_.BroadcastsInDim S2x2x512 (![] : Fin 0 → Fin S2x2x512.rank)
  slices_S16x4096x3584_S16x4096x512_0_0_0 : S16x4096x3584.Slices ![0, 0, 0] S16x4096x512
  bcast_S_S16x4096x512 : S_.BroadcastsInDim S16x4096x512 (![] : Fin 0 → Fin S16x4096x512.rank)
  slices_S16x4096x3584_S16x4096x512_0_0_1536 : S16x4096x3584.Slices ![0, 0, 1536] S16x4096x512
  slices_S2x2x512_S1x1x512_0_0_0 : S2x2x512.Slices ![0, 0, 0] S1x1x512
  shapeCasts_S1x1x512_S512 : S1x1x512.ShapeCasts S512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  slices_S2x2x512_S1x1x512_0_1_0 : S2x2x512.Slices ![0, 1, 0] S1x1x512
  slices_S2x2x512_S1x1x512_1_0_0 : S2x2x512.Slices ![1, 0, 0] S1x1x512
  slices_S2x2x512_S1x1x512_1_1_0 : S2x2x512.Slices ![1, 1, 0] S1x1x512

variable [Facts]

def fn_part1 {F : FTy → Type} [FloatOps F] (main_v2 : IVec S2x2x512 1) (main_v16 : IVec S16x4096x512 1) (main_v20 : IVec S16x4096x512 1) : IVec S16x4096x512 1 :=
  let main_v21 : IVec S16x4096x512 1 := andi main_v16 main_v20
  let main_v22 : IVec S1x1x512 1 := (extractStridedSlice S1x1x512 ![1, 0, 0] · slices_S2x2x512_S1x1x512_1_0_0) main_v2
  let main_v23 : IVec S512 1 := shapeCast S512 main_v22 shapeCasts_S1x1x512_S512
  let main_v24 : IVec S1x1x512 1 := broadcastInDim S1x1x512 ![2] bcast_S512_S1x1x512_2 main_v23
  let main_v25 : IVec S16x4096x512 1 := broadcastInDim S16x4096x512 ![0, 1, 2] bcast_S1x1x512_S16x4096x512_0_1_2 main_v24
  let main_v26 : IVec S16x4096x512 1 := andi main_v21 main_v25
  let main_v27 : IVec S1x1x512 1 := (extractStridedSlice S1x1x512 ![1, 1, 0] · slices_S2x2x512_S1x1x512_1_1_0) main_v2
  let main_v28 : IVec S512 1 := shapeCast S512 main_v27 shapeCasts_S1x1x512_S512
  let main_v29 : IVec S1x1x512 1 := broadcastInDim S1x1x512 ![2] bcast_S512_S1x1x512_2 main_v28
  let main_v30 : IVec S16x4096x512 1 := broadcastInDim S16x4096x512 ![0, 1, 2] bcast_S1x1x512_S16x4096x512_0_1_2 main_v29
  let main_v31 : IVec S16x4096x512 1 := andi main_v26 main_v30
  main_v31

def fn {F : FTy → Type} [FloatOps F] (main_arg0 : FVec F S16x4096x3584 .f32) (main_arg1 : FVec F S2x2x512 .f32) (main_arg2 : FVec F S512 .f32) : IVec S16x4096x512 1 :=
  let main_v0 : FVec F S2x2x512 .f32 := Host.absf main_arg1
  let main_cst : FVec F S_ .f32 := constant S_ .f32 0x7F800000#32
  let main_v1 : FVec F S2x2x512 .f32 := broadcastInDim S2x2x512 ![] bcast_S_S2x2x512 main_cst
  let main_v2 : IVec S2x2x512 1 := cmpf .olt main_v0 main_v1
  let main_v3 : FVec F S16x4096x512 .f32 := (extractStridedSlice S16x4096x512 ![0, 0, 0] · slices_S16x4096x3584_S16x4096x512_0_0_0) main_arg0
  let main_v4 : FVec F S16x4096x512 .f32 := Host.absf main_v3
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_v7 : FVec F S16x4096x512 .f32 := (extractStridedSlice S16x4096x512 ![0, 0, 1536] · slices_S16x4096x3584_S16x4096x512_0_0_1536) main_arg0
  let main_v8 : FVec F S16x4096x512 .f32 := Host.absf main_v7
  let main_cst_1 : FVec F S_ .f32 := constant S_ .f32 0x7F800000#32
  let main_v9 : FVec F S16x4096x512 .f32 := broadcastInDim S16x4096x512 ![] bcast_S_S16x4096x512 main_cst_1
  let main_v10 : IVec S16x4096x512 1 := cmpf .olt main_v8 main_v9
  let main_v11 : IVec S16x4096x512 1 := andi main_v6 main_v10
  let main_v12 : IVec S1x1x512 1 := (extractStridedSlice S1x1x512 ![0, 0, 0] · slices_S2x2x512_S1x1x512_0_0_0) main_v2
  let main_v13 : IVec S512 1 := shapeCast S512 main_v12 shapeCasts_S1x1x512_S512
  let main_v14 : IVec S1x1x512 1 := broadcastInDim S1x1x512 ![2] bcast_S512_S1x1x512_2 main_v13
  let main_v15 : IVec S16x4096x512 1 := broadcastInDim S16x4096x512 ![0, 1, 2] bcast_S1x1x512_S16x4096x512_0_1_2 main_v14
  let main_v16 : IVec S16x4096x512 1 := andi main_v11 main_v15
  let main_v17 : IVec S1x1x512 1 := (extractStridedSlice S1x1x512 ![0, 1, 0] · slices_S2x2x512_S1x1x512_0_1_0) main_v2
  let main_v18 : IVec S512 1 := shapeCast S512 main_v17 shapeCasts_S1x1x512_S512
  let main_v19 : IVec S1x1x512 1 := broadcastInDim S1x1x512 ![2] bcast_S512_S1x1x512_2 main_v18
  let main_v20 : IVec S16x4096x512 1 := broadcastInDim S16x4096x512 ![0, 1, 2] bcast_S1x1x512_S16x4096x512_0_1_2 main_v19
  fn_part1 (F := F) main_v2 main_v16 main_v20
-- ==== Pre_finite_route.lean ====
abbrev S65536x1024 : Shape := ⟨2, ![65536, 1024]⟩
abbrev S1024x2048 : Shape := ⟨2, ![1024, 2048]⟩
abbrev S8x128x128 : Shape := ⟨3, ![8, 128, 128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  main_v18

def fn {F : FTy → Type} [FloatOps F] (main_arg0 : FVec F S65536x1024 .f32) (main_arg1 : FVec F S1024x2048 .f32) (main_arg2 : FVec F S8x128x128 .f32) (main_arg3 : FVec F S8x128x128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_v13 main_v16
-- ==== Hgrn.lean ====
abbrev S16x4096x3584 : Shape := ⟨3, ![16, 4096, 3584]⟩
abbrev S2x2x512 : Shape := ⟨3, ![2, 2, 512]⟩
abbrev S512 : Shape := ⟨1, ![512]⟩
abbrev S2x2x4x1x128 : Shape := ⟨5, ![2, 2, 4, 1, 128]⟩
abbrev S4x1x128 : Shape := ⟨3, ![4, 1, 128]⟩
abbrev S16x4096x512 : Shape := ⟨3, ![16, 4096, 512]⟩
abbrev S1x4096x128 : Shape := ⟨3, ![1, 4096, 128]⟩
abbrev S2x2x1x1x128 : Shape := ⟨5, ![2, 2, 1, 1, 128]⟩
abbrev S1x1x128 : Shape := ⟨3, ![1, 1, 128]⟩
abbrev S4096x128 : Shape := ⟨2, ![4096, 128]⟩
abbrev S1x1x1x1x128 : Shape := ⟨5, ![1, 1, 1, 1, 128]⟩
abbrev S1x128 : Shape := ⟨2, ![1, 128]⟩
abbrev S128x128 : Shape := ⟨2, ![128, 128]⟩
abbrev S1x128x128 : Shape := ⟨3, ![1, 128, 128]⟩
abbrev S16x128 : Shape := ⟨2, ![16, 128]⟩
abbrev S128x16 : Shape := ⟨2, ![128, 16]⟩
abbrev S16x16 : Shape := ⟨2, ![16, 16]⟩
abbrev S112x16 : Shape := ⟨2, ![112, 16]⟩
abbrev S112x128 : Shape := ⟨2, ![112, 128]⟩
abbrev S96x16 : Shape := ⟨2, ![96, 16]⟩
abbrev S96x128 : Shape := ⟨2, ![96, 128]⟩
abbrev S80x16 : Shape := ⟨2, ![80, 16]⟩
abbrev S32x128 : Shape := ⟨2, ![32, 128]⟩
abbrev S80x128 : Shape := ⟨2, ![80, 128]⟩
abbrev S64x16 : Shape := ⟨2, ![64, 16]⟩
abbrev S48x128 : Shape := ⟨2, ![48, 128]⟩
abbrev S64x128 : Shape := ⟨2, ![64, 128]⟩
abbrev S48x16 : Shape := ⟨2, ![48, 16]⟩
abbrev S32x16 : Shape := ⟨2, ![32, 16]⟩
abbrev S128 : Shape := ⟨1, ![128]⟩
abbrev S128x1 : Shape := ⟨2, ![128, 1]⟩

abbrev nBuf : Space → Nat
  | .hbm => 6
  | .vmem => 17
  | .smem => 0
  | _ => 0

abbrev bufTy : (tb : Table) → Fin (tcTables nBuf tb) → BufTy
  | .hbm, ⟨0, _⟩ => ⟨S16x4096x3584, .f32⟩
  | .hbm, ⟨1, _⟩ => ⟨S2x2x512, .f32⟩
  | .hbm, ⟨2, _⟩ => ⟨S512, .f32⟩
  | .hbm, ⟨3, _⟩ => ⟨S2x2x4x1x128, .f32⟩
  | .hbm, ⟨4, _⟩ => ⟨S4x1x128, .f32⟩
  | .hbm, ⟨5, _⟩ => ⟨S16x4096x512, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S2x2x1x1x128, .f32⟩
  | .local _ .vmem, ⟨11, _⟩ => ⟨S2x2x1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x4096x128, .f32⟩
  | .local _ .vmem, ⟨15, _⟩ => ⟨S1x4096x128, .f32⟩
  | .local _ .vmem, ⟨16, _⟩ => ⟨S4096x128, .f32⟩
  | _, _ => ⟨S16x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c16_i32 : BitVec 32 := 16#32
  let v23 : BitVec 32 := Scalar.addi c0_i32 c16_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v27 : BitVec 32 := Scalar.muli arg11 c128_i32
  v27
def k0_mult2 (k0_t1 : Fin k0_t1_loop.trips) : BitVec 32 :=
  let c31_i32 : BitVec 32 := 31#32
  let c0_i32 : BitVec 32 := 0#32
  let c1_i32 : BitVec 32 := 1#32
  let arg11 : BitVec 32 := Scf.iv c0_i32 c1_i32 k0_t1
  let v29 : BitVec 32 := Scalar.subi c31_i32 arg11
  let c128_i32_23 : BitVec 32 := 128#32
  let v30 : BitVec 32 := Scalar.muli v29 c128_i32_23
  v30
def k0_off1 (k0_t1 : Fin k0_t1_loop.trips) : Fin 3 → Nat :=
  let c0_24 : Index := 0#32
  let c0_i32 : BitVec 32 := 0#32
  let c1_i32 : BitVec 32 := 1#32
  let arg11 : BitVec 32 := Scf.iv c0_i32 c1_i32 k0_t1
  let c128_i32 : BitVec 32 := 128#32
  let v27 : BitVec 32 := Scalar.muli arg11 c128_i32
  let v28 : BitVec 32 := v27
  let v32 : Index := Scalar.indexCast v28
  let c0_25 : Index := 0#32
  ![0, v32.toNat, 0]
def k0_off2 (k0_t1 : Fin k0_t1_loop.trips) : Fin 3 → Nat :=
  let c0_81 : Index := 0#32
  let c31_i32 : BitVec 32 := 31#32
  let c0_i32 : BitVec 32 := 0#32
  let c1_i32 : BitVec 32 := 1#32
  let arg11 : BitVec 32 := Scf.iv c0_i32 c1_i32 k0_t1
  let v29 : BitVec 32 := Scalar.subi c31_i32 arg11
  let c128_i32_23 : BitVec 32 := 128#32
  let v30 : BitVec 32 := Scalar.muli v29 c128_i32_23
  let v31 : BitVec 32 := v30
  let v347 : Index := Scalar.indexCast v31
  let c0_82 : Index := 0#32
  ![0, v347.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v27 : BitVec 32 := Scalar.muli arg11 c128_i32
  let v28 : BitVec 32 := v27
  let v662 : Index := Scalar.indexCast v28
  let c0_137 : Index := 0#32
  ![v662.toNat, 0]
@[reducible] def k0_t2_loop : Scf.Loop 32 :=
  let c16_i32_19 : BitVec 32 := 16#32
  let c16_i32_20 : BitVec 32 := 16#32
  let v25 : BitVec 32 := Scalar.addi c16_i32_19 c16_i32_20
  let c1_i32_21 : BitVec 32 := 1#32
  ⟨c16_i32_19, v25, c1_i32_21⟩
def k0_mult3 (k0_t2 : Fin k0_t2_loop.trips) : BitVec 32 :=
  let c16_i32_19 : BitVec 32 := 16#32
  let c1_i32_21 : BitVec 32 := 1#32
  let arg11 : BitVec 32 := Scf.iv c16_i32_19 c1_i32_21 k0_t2
  let c128_i32 : BitVec 32 := 128#32
  let v27 : BitVec 32 := Scalar.muli arg11 c128_i32
  v27
def k0_mult4 (k0_t2 : Fin k0_t2_loop.trips) : BitVec 32 :=
  let c31_i32 : BitVec 32 := 31#32
  let c16_i32_19 : BitVec 32 := 16#32
  let c1_i32_21 : BitVec 32 := 1#32
  let arg11 : BitVec 32 := Scf.iv c16_i32_19 c1_i32_21 k0_t2
  let v29 : BitVec 32 := Scalar.subi c31_i32 arg11
  let c128_i32_23 : BitVec 32 := 128#32
  let v30 : BitVec 32 := Scalar.muli v29 c128_i32_23
  v30
def k0_off4 (k0_t2 : Fin k0_t2_loop.trips) : Fin 3 → Nat :=
  let c0_24 : Index := 0#32
  let c16_i32_19 : BitVec 32 := 16#32
  let c1_i32_21 : BitVec 32 := 1#32
  let arg11 : BitVec 32 := Scf.iv c16_i32_19 c1_i32_21 k0_t2
  let c128_i32 : BitVec 32 := 128#32
  let v27 : BitVec 32 := Scalar.muli arg11 c128_i32
  let v28 : BitVec 32 := v27
  let v32 : Index := Scalar.indexCast v28
  let c0_25 : Index := 0#32
  ![0, v32.toNat, 0]
def k0_off5 (k0_t2 : Fin k0_t2_loop.trips) : Fin 3 → Nat :=
  let c0_81 : Index := 0#32
  let c31_i32 : BitVec 32 := 31#32
  let c16_i32_19 : BitVec 32 := 16#32
  let c1_i32_21 : BitVec 32 := 1#32
  let arg11 : BitVec 32 := Scf.iv c16_i32_19 c1_i32_21 k0_t2
  let v29 : BitVec 32 := Scalar.subi c31_i32 arg11
  let c128_i32_23 : BitVec 32 := 128#32
  let v30 : BitVec 32 := Scalar.muli v29 c128_i32_23
  let v31 : BitVec 32 := v30
  let v347 : Index := Scalar.indexCast v31
  let c0_82 : Index := 0#32
  ![0, v347.toNat, 0]
def k0_off6 (k0_t2 : Fin k0_t2_loop.trips) : Fin 2 → Nat :=
  let c31_i32 : BitVec 32 := 31#32
  let c16_i32_19 : BitVec 32 := 16#32
  let c1_i32_21 : BitVec 32 := 1#32
  let arg11 : BitVec 32 := Scf.iv c16_i32_19 c1_i32_21 k0_t2
  let v29 : BitVec 32 := Scalar.subi c31_i32 arg11
  let c128_i32_23 : BitVec 32 := 128#32
  let v30 : BitVec 32 := Scalar.muli v29 c128_i32_23
  let v31 : BitVec 32 := v30
  let v690 : Index := Scalar.indexCast v31
  let c0_149 : Index := 0#32
  ![v690.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HgrnRefIdeal.lean ====
abbrev S16x4096x3584 : Shape := ⟨3, ![16, 4096, 3584]⟩
abbrev S2x2x512 : Shape := ⟨3, ![2, 2, 512]⟩
abbrev S512 : Shape := ⟨1, ![512]⟩
abbrev S_ : Shape := ⟨0, ![]⟩
abbrev S2x512 : Shape := ⟨2, ![2, 512]⟩
abbrev S2x1x512 : Shape := ⟨3, ![2, 1, 512]⟩
abbrev S16x4096x512 : Shape := ⟨3, ![16, 4096, 512]⟩
abbrev S16x4096x4x128 : Shape := ⟨4, ![16, 4096, 4, 128]⟩
abbrev S16x4x4096x128 : Shape := ⟨4, ![16, 4, 4096, 128]⟩
abbrev S1x512 : Shape := ⟨2, ![1, 512]⟩
abbrev S4x1x128 : Shape := ⟨3, ![4, 1, 128]⟩
abbrev S1x4x1x128 : Shape := ⟨4, ![1, 4, 1, 128]⟩
abbrev S32x4x4096x128 : Shape := ⟨4, ![32, 4, 4096, 128]⟩
abbrev S32x4x256x16x128 : Shape := ⟨5, ![32, 4, 256, 16, 128]⟩
abbrev S32x4x256x1x128 : Shape := ⟨5, ![32, 4, 256, 1, 128]⟩
abbrev S32x4x256x16x16 : Shape := ⟨5, ![32, 4, 256, 16, 16]⟩
abbrev S16x16 : Shape := ⟨2, ![16, 16]⟩
abbrev S32x4x256x128 : Shape := ⟨4, ![32, 4, 256, 128]⟩
abbrev S256x32x4x16x128 : Shape := ⟨5, ![256, 32, 4, 16, 128]⟩
abbrev S256x32x4x128 : Shape := ⟨4, ![256, 32, 4, 128]⟩
abbrev S32x4x128x128 : Shape := ⟨4, ![32, 4, 128, 128]⟩
abbrev S1x32x4x16x128 : Shape := ⟨5, ![1, 32, 4, 16, 128]⟩
abbrev S32x4x16x128 : Shape := ⟨4, ![32, 4, 16, 128]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S16x4x4096 : Shape := ⟨3, ![16, 4, 4096]⟩
abbrev S16x4x4096x1 : Shape := ⟨4, ![16, 4, 4096, 1]⟩
abbrev S1x1x512 : Shape := ⟨3, ![1, 1, 512]⟩

abbrev nBuf : Space → Nat
  | .hbm => 243
  | .vmem => 0
  | .smem => 0
  | _ => 0

abbrev hbmTy0_0 (i : Nat) : BufTy := match i % 128 with
  | 0 => ⟨S16x4096x3584, .f32⟩
  | 1 => ⟨S2x2x512, .f32⟩
  | 2 => ⟨S512, .f32⟩
  | 3 => ⟨S_, .f32⟩
  | 4 => ⟨S2x512, .f32⟩
  | 5 => ⟨S_, .f32⟩
  | 6 => ⟨S2x512, .f32⟩
  | 7 => ⟨S2x512, .f32⟩
  | 8 => ⟨S2x1x512, .f32⟩
  | 9 => ⟨S2x2x512, .f32⟩
  | 10 => ⟨S2x2x512, .f32⟩
  | 11 => ⟨S2x2x512, .f32⟩
  | 12 => ⟨S_, .f32⟩
  | 13 => ⟨S2x512, .f32⟩
  | 14 => ⟨S2x1x512, .f32⟩
  | 15 => ⟨S2x2x512, .f32⟩
  | 16 => ⟨S2x2x512, .f32⟩
  | 17 => ⟨S_, .f32⟩
  | 18 => ⟨S_, .f32⟩
  | 19 => ⟨S2x2x512, .f32⟩
  | 20 => ⟨S2x1x512, .f32⟩
  | 21 => ⟨S2x512, .f32⟩
  | 22 => ⟨S16x4096x512, .f32⟩
  | 23 => ⟨S16x4096x512, .f32⟩
  | 24 => ⟨S16x4096x512, .f32⟩
  | 25 => ⟨S16x4096x512, .f32⟩
  | 26 => ⟨S16x4096x512, .f32⟩
  | 27 => ⟨S16x4096x4x128, .f32⟩
  | 28 => ⟨S16x4x4096x128, .f32⟩
  | 29 => ⟨S16x4096x4x128, .f32⟩
  | 30 => ⟨S16x4x4096x128, .f32⟩
  | 31 => ⟨S1x512, .f32⟩
  | 32 => ⟨S512, .f32⟩
  | 33 => ⟨S16x4096x4x128, .f32⟩
  | 34 => ⟨S16x4x4096x128, .f32⟩
  | 35 => ⟨S4x1x128, .f32⟩
  | 36 => ⟨S_, .f32⟩
  | 37 => ⟨S4x1x128, .f32⟩
  | 38 => ⟨S4x1x128, .f32⟩
  | 39 => ⟨S16x4x4096x128, .f32⟩
  | 40 => ⟨S16x4x4096x128, .f32⟩
  | 41 => ⟨S_, .f32⟩
  | 42 => ⟨S16x4x4096x128, .f32⟩
  | 43 => ⟨S16x4x4096x128, .f32⟩
  | 44 => ⟨S_, .f32⟩
  | 45 => ⟨S16x4x4096x128, .f32⟩
  | 46 => ⟨S16x4x4096x128, .f32⟩
  | 47 => ⟨S1x4x1x128, .f32⟩
  | 48 => ⟨S16x4x4096x128, .f32⟩
  | 49 => ⟨S16x4x4096x128, .f32⟩
  | 50 => ⟨S1x4x1x128, .f32⟩
  | 51 => ⟨S16x4x4096x128, .f32⟩
  | 52 => ⟨S16x4x4096x128, .f32⟩
  | 53 => ⟨S16x4x4096x128, .f32⟩
  | 54 => ⟨S_, .f32⟩
  | 55 => ⟨S4x1x128, .f32⟩
  | 56 => ⟨S4x1x128, .f32⟩
  | 57 => ⟨S16x4x4096x128, .f32⟩
  | 58 => ⟨S16x4x4096x128, .f32⟩
  | 59 => ⟨S16x4x4096x128, .f32⟩
  | 60 => ⟨S_, .f32⟩
  | 61 => ⟨S16x4x4096x128, .f32⟩
  | 62 => ⟨S16x4x4096x128, .f32⟩
  | 63 => ⟨S_, .f32⟩
  | 64 => ⟨S16x4x4096x128, .f32⟩
  | 65 => ⟨S16x4x4096x128, .f32⟩
  | 66 => ⟨S1x4x1x128, .f32⟩
  | 67 => ⟨S16x4x4096x128, .f32⟩
  | 68 => ⟨S16x4x4096x128, .f32⟩
  | 69 => ⟨S1x512, .f32⟩
  | 70 => ⟨S512, .f32⟩
  | 71 => ⟨S16x4096x4x128, .f32⟩
  | 72 => ⟨S16x4x4096x128, .f32⟩
  | 73 => ⟨S4x1x128, .f32⟩
  | 74 => ⟨S_, .f32⟩
  | 75 => ⟨S4x1x128, .f32⟩
  | 76 => ⟨S4x1x128, .f32⟩
  | 77 => ⟨S16x4x4096x128, .f32⟩
  | 78 => ⟨S16x4x4096x128, .f32⟩
  | 79 => ⟨S_, .f32⟩
  | 80 => ⟨S16x4x4096x128, .f32⟩
  | 81 => ⟨S16x4x4096x128, .f32⟩
  | 82 => ⟨S_, .f32⟩
  | 83 => ⟨S16x4x4096x128, .f32⟩
  | 84 => ⟨S16x4x4096x128, .f32⟩
  | 85 => ⟨S1x4x1x128, .f32⟩
  | 86 => ⟨S16x4x4096x128, .f32⟩
  | 87 => ⟨S16x4x4096x128, .f32⟩
  | 88 => ⟨S1x4x1x128, .f32⟩
  | 89 => ⟨S16x4x4096x128, .f32⟩
  | 90 => ⟨S16x4x4096x128, .f32⟩
  | 91 => ⟨S16x4x4096x128, .f32⟩
  | 92 => ⟨S_, .f32⟩
  | 93 => ⟨S4x1x128, .f32⟩
  | 94 => ⟨S4x1x128, .f32⟩
  | 95 => ⟨S16x4x4096x128, .f32⟩
  | 96 => ⟨S16x4x4096x128, .f32⟩
  | 97 => ⟨S16x4x4096x128, .f32⟩
  | 98 => ⟨S_, .f32⟩
  | 99 => ⟨S16x4x4096x128, .f32⟩
  | 100 => ⟨S16x4x4096x128, .f32⟩
  | 101 => ⟨S_, .f32⟩
  | 102 => ⟨S16x4x4096x128, .f32⟩
  | 103 => ⟨S16x4x4096x128, .f32⟩
  | 104 => ⟨S1x4x1x128, .f32⟩
  | 105 => ⟨S16x4x4096x128, .f32⟩
  | 106 => ⟨S16x4x4096x128, .f32⟩
  | 107 => ⟨S16x4x4096x128, .f32⟩
  | 108 => ⟨S32x4x4096x128, .f32⟩
  | 109 => ⟨S16x4x4096x128, .f32⟩
  | 110 => ⟨S32x4x4096x128, .f32⟩
  | 111 => ⟨S16x4x4096x128, .f32⟩
  | 112 => ⟨S32x4x4096x128, .f32⟩
  | 113 => ⟨S16x4x4096x128, .f32⟩
  | 114 => ⟨S32x4x4096x128, .f32⟩
  | 115 => ⟨S32x4x256x16x128, .f32⟩
  | 116 => ⟨S32x4x256x16x128, .f32⟩
  | 117 => ⟨S32x4x256x16x128, .f32⟩
  | 118 => ⟨S32x4x256x16x128, .f32⟩
  | 119 => ⟨S_, .f32⟩
  | 120 => ⟨S_, .f32⟩
  | 121 => ⟨S32x4x256x16x128, .f32⟩
  | 122 => ⟨S32x4x256x1x128, .f32⟩
  | 123 => ⟨S32x4x256x16x128, .f32⟩
  | 124 => ⟨S32x4x256x16x128, .f32⟩
  | 125 => ⟨S32x4x256x16x128, .f32⟩
  | 126 => ⟨S32x4x256x16x128, .f32⟩
  | 127 => ⟨S32x4x256x16x128, .f32⟩
  | _ => ⟨S16x4096x3584, .f32⟩

abbrev hbmTy0_1 (i : Nat) : BufTy := match i % 128 with
  | 0 => ⟨S32x4x256x16x128, .f32⟩
  | 1 => ⟨S32x4x256x16x128, .f32⟩
  | 2 => ⟨S32x4x256x16x128, .f32⟩
  | 3 => ⟨S32x4x256x16x16, .f32⟩
  | 4 => ⟨S_, .i1⟩
  | 5 => ⟨S16x16, .i1⟩
  | 6 => ⟨S16x16, .i32⟩
  | 7 => ⟨S_, .i32⟩
  | 8 => ⟨S16x16, .i32⟩
  | 9 => ⟨S16x16, .i32⟩
  | 10 => ⟨S16x16, .i32⟩
  | 11 => ⟨S16x16, .i1⟩
  | 12 => ⟨S_, .i1⟩
  | 13 => ⟨S16x16, .i1⟩
  | 14 => ⟨S16x16, .i1⟩
  | 15 => ⟨S_, .f32⟩
  | 16 => ⟨S_, .f32⟩
  | 17 => ⟨S32x4x256x16x16, .i1⟩
  | 18 => ⟨S32x4x256x16x16, .f32⟩
  | 19 => ⟨S32x4x256x16x16, .f32⟩
  | 20 => ⟨S32x4x256x16x128, .f32⟩
  | 21 => ⟨S32x4x256x16x128, .f32⟩
  | 22 => ⟨S32x4x256x16x128, .f32⟩
  | 23 => ⟨S32x4x256x128, .f32⟩
  | 24 => ⟨S32x4x256x128, .f32⟩
  | 25 => ⟨S256x32x4x16x128, .f32⟩
  | 26 => ⟨S256x32x4x16x128, .f32⟩
  | 27 => ⟨S256x32x4x16x128, .f32⟩
  | 28 => ⟨S256x32x4x128, .f32⟩
  | 29 => ⟨S_, .f32⟩
  | 30 => ⟨S32x4x128x128, .f32⟩
  | 31 => ⟨S_, .f32⟩
  | 32 => ⟨S256x32x4x16x128, .f32⟩
  | 33 => ⟨S_, .i32⟩
  | 34 => ⟨S256x32x4x16x128, .f32⟩
  | 35 => ⟨S256x32x4x16x128, .f32⟩
  | 36 => ⟨S256x32x4x16x128, .f32⟩
  | 37 => ⟨S256x32x4x128, .f32⟩
  | 38 => ⟨S_, .i32⟩
  | 39 => ⟨S32x4x128x128, .f32⟩
  | 40 => ⟨S256x32x4x16x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x32x4x16x128, .f32⟩
  | 48 => ⟨S32x4x16x128, .f32⟩
  | 49 => ⟨S_, .i32⟩
  | 50 => ⟨S_, .i32⟩
  | 51 => ⟨S_, .i32⟩
  | 52 => ⟨S_, .i32⟩
  | 53 => ⟨S1x32x4x16x128, .f32⟩
  | 54 => ⟨S32x4x16x128, .f32⟩
  | 55 => ⟨S_, .i32⟩
  | 56 => ⟨S_, .i32⟩
  | 57 => ⟨S_, .i32⟩
  | 58 => ⟨S_, .i32⟩
  | 59 => ⟨S1x32x4x16x128, .f32⟩
  | 60 => ⟨S32x4x16x128, .f32⟩
  | 61 => ⟨S_, .i32⟩
  | 62 => ⟨S_, .i32⟩
  | 63 => ⟨S_, .i32⟩
  | 64 => ⟨S1x32x4x128, .f32⟩
  | 65 => ⟨S32x4x128, .f32⟩
  | 66 => ⟨S32x4x16x128, .f32⟩
  | 67 => ⟨S32x4x128x1, .f32⟩
  | 68 => ⟨S32x4x128x128, .f32⟩
  | 69 => ⟨S32x4x128x128, .f32⟩
  | 70 => ⟨S32x4x128x128, .f32⟩
  | 71 => ⟨S32x4x128x128, .f32⟩
  | 72 => ⟨S1x32x4x16x128, .f32⟩
  | 73 => ⟨S_, .i32⟩
  | 74 => ⟨S_, .i32⟩
  | 75 => ⟨S_, .i32⟩
  | 76 => ⟨S_, .i32⟩
  | 77 => ⟨S256x32x4x16x128, .f32⟩
  | 78 => ⟨S_, .i32⟩
  | 79 => ⟨S_, .i32⟩
  | 80 => ⟨S32x4x256x16x128, .f32⟩
  | 81 => ⟨S32x4x256x16x128, .f32⟩
  | 82 => ⟨S32x4x4096x128, .f32⟩
  | 83 => ⟨S16x4x4096x128, .f32⟩
  | 84 => ⟨S16x4x4096x128, .f32⟩
  | 85 => ⟨S16x4x4096x128, .f32⟩
  | 86 => ⟨S16x4x4096x128, .f32⟩
  | 87 => ⟨S16x4x4096x128, .f32⟩
  | 88 => ⟨S_, .f32⟩
  | 89 => ⟨S16x4x4096, .f32⟩
  | 90 => ⟨S16x4x4096x1, .f32⟩
  | 91 => ⟨S_, .f32⟩
  | 92 => ⟨S16x4x4096x1, .f32⟩
  | 93 => ⟨S16x4x4096x1, .f32⟩
  | 94 => ⟨S_, .f32⟩
  | 95 => ⟨S16x4x4096x1, .f32⟩
  | 96 => ⟨S16x4x4096x1, .f32⟩
  | 97 => ⟨S16x4x4096x1, .f32⟩
  | 98 => ⟨S16x4x4096x128, .f32⟩
  | 99 => ⟨S16x4x4096x128, .f32⟩
  | 100 => ⟨S16x4096x4x128, .f32⟩
  | 101 => ⟨S16x4096x512, .f32⟩
  | 102 => ⟨S1x1x512, .f32⟩
  | 103 => ⟨S16x4096x512, .f32⟩
  | 104 => ⟨S16x4096x512, .f32⟩
  | 105 => ⟨S16x4096x512, .f32⟩
  | 106 => ⟨S16x4096x512, .f32⟩
  | 107 => ⟨S_, .f32⟩
  | 108 => ⟨S16x4096x512, .f32⟩
  | 109 => ⟨S16x4096x512, .f32⟩
  | 110 => ⟨S_, .f32⟩
  | 111 => ⟨S16x4096x512, .f32⟩
  | 112 => ⟨S16x4096x512, .f32⟩
  | 113 => ⟨S16x4096x512, .f32⟩
  | 114 => ⟨S16x4096x512, .f32⟩
  | _ => ⟨S16x4096x3584, .f32⟩

abbrev hbmTy (i : Nat) : BufTy := match i / 128 with
  | 0 => hbmTy0_0 i
  | 1 => hbmTy0_1 i
  | _ => ⟨S16x4096x3584, .f32⟩

abbrev bufTy : (tb : Table) → Fin (tcTables nBuf tb) → BufTy
  | .hbm, ⟨i, _⟩ => hbmTy i
  | _, _ => ⟨S16x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_call5_call0_cst : Ref sig .tc := ⟨.hbm, 119, rfl⟩
abbrev main_call5_call0_v0 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c : Ref sig .tc := ⟨.hbm, 132, rfl⟩
abbrev main_v110 : Ref sig .tc := ⟨.hbm, 133, rfl⟩
abbrev main_call6_v0 : Ref sig .tc := ⟨.hbm, 134, rfl⟩
abbrev main_call6_c : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_c_0 : Ref sig .tc := ⟨.hbm, 140, rfl⟩
abbrev main_call6_v5 : Ref sig .tc := ⟨.hbm, 141, rfl⟩
abbrev main_v111 : Ref sig .tc := ⟨.hbm, 142, rfl⟩
abbrev main_cst_14 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_15 : Ref sig .tc := ⟨.hbm, 157, rfl⟩
abbrev main_v122 : Ref sig .tc := ⟨.hbm, 158, rfl⟩
abbrev main_cst_16 : Ref sig .tc := ⟨.hbm, 159, rfl⟩
abbrev main_v123 : Ref sig .tc := ⟨.hbm, 160, rfl⟩
abbrev main_c_17 : Ref sig .tc := ⟨.hbm, 161, rfl⟩
abbrev main_v124_0 : Ref sig .tc := ⟨.hbm, 162, rfl⟩
abbrev main_v124_1 : Ref sig .tc := ⟨.hbm, 163, rfl⟩
abbrev main_v124_2 : Ref sig .tc := ⟨.hbm, 164, rfl⟩
abbrev main_v124_3 : Ref sig .tc := ⟨.hbm, 165, rfl⟩
abbrev main_v124_4 : Ref sig .tc := ⟨.hbm, 166, rfl⟩
abbrev main_v124_5 : Ref sig .tc := ⟨.hbm, 167, rfl⟩
abbrev main_v124_6 : Ref sig .tc := ⟨.hbm, 168, rfl⟩
abbrev main_while0c_c_27 : Ref sig .tc := ⟨.hbm, 169, rfl⟩
abbrev main_while0c_v149 : Ref sig .tc := ⟨.hbm, 170, rfl⟩
abbrev main_while0b_call8_c : Ref sig .tc := ⟨.hbm, 171, rfl⟩
abbrev main_while0b_call8_c_0 : Ref sig .tc := ⟨.hbm, 172, rfl⟩
abbrev main_while0b_call8_c_1 : Ref sig .tc := ⟨.hbm, 173, rfl⟩
abbrev main_while0b_call8_c_2 : Ref sig .tc := ⟨.hbm, 174, rfl⟩
abbrev main_while0b_call8_v0 : Ref sig .tc := ⟨.hbm, 175, rfl⟩
abbrev main_while0b_v149 : Ref sig .tc := ⟨.hbm, 176, rfl⟩
abbrev main_while0b_call9_c : Ref sig .tc := ⟨.hbm, 177, rfl⟩
abbrev main_while0b_call9_c_0 : Ref sig .tc := ⟨.hbm, 178, rfl⟩
abbrev main_while0b_call9_c_1 : Ref sig .tc := ⟨.hbm, 179, rfl⟩
abbrev main_while0b_call9_c_2 : Ref sig .tc := ⟨.hbm, 180, rfl⟩
abbrev main_while0b_call9_v0 : Ref sig .tc := ⟨.hbm, 181, rfl⟩
abbrev main_while0b_v150 : Ref sig .tc := ⟨.hbm, 182, rfl⟩
abbrev main_while0b_call10_c : Ref sig .tc := ⟨.hbm, 183, rfl⟩
abbrev main_while0b_call10_c_0 : Ref sig .tc := ⟨.hbm, 184, rfl⟩
abbrev main_while0b_call10_c_1 : Ref sig .tc := ⟨.hbm, 185, rfl⟩
abbrev main_while0b_call10_c_2 : Ref sig .tc := ⟨.hbm, 186, rfl⟩
abbrev main_while0b_call10_v0 : Ref sig .tc := ⟨.hbm, 187, rfl⟩
abbrev main_while0b_v151 : Ref sig .tc := ⟨.hbm, 188, rfl⟩
abbrev main_while0b_call11_c : Ref sig .tc := ⟨.hbm, 189, rfl⟩
abbrev main_while0b_call11_c_0 : Ref sig .tc := ⟨.hbm, 190, rfl⟩
abbrev main_while0b_call11_c_1 : Ref sig .tc := ⟨.hbm, 191, rfl⟩
abbrev main_while0b_call11_v0 : Ref sig .tc := ⟨.hbm, 192, rfl⟩
abbrev main_while0b_v152 : Ref sig .tc := ⟨.hbm, 193, rfl⟩
abbrev main_while0b_v153 : Ref sig .tc := ⟨.hbm, 194, rfl⟩
abbrev main_while0b_v154 : Ref sig .tc := ⟨.hbm, 195, rfl⟩
abbrev main_while0b_v155 : Ref sig .tc := ⟨.hbm, 196, rfl⟩
abbrev main_while0b_v156 : Ref sig .tc := ⟨.hbm, 197, rfl⟩
abbrev main_while0b_v157 : Ref sig .tc := ⟨.hbm, 198, rfl⟩
abbrev main_while0b_v158 : Ref sig .tc := ⟨.hbm, 199, rfl⟩
abbrev main_while0b_call12_v0 : Ref sig .tc := ⟨.hbm, 200, rfl⟩
abbrev main_while0b_call12_c : Ref sig .tc := ⟨.hbm, 201, rfl⟩
abbrev main_while0b_call12_c_0 : Ref sig .tc := ⟨.hbm, 202, rfl⟩
abbrev main_while0b_call12_c_1 : Ref sig .tc := ⟨.hbm, 203, rfl⟩
abbrev main_while0b_call12_c_2 : Ref sig .tc := ⟨.hbm, 204, rfl⟩
abbrev main_while0b_v159 : Ref sig .tc := ⟨.hbm, 205, rfl⟩
abbrev main_while0b_c_27 : Ref sig .tc := ⟨.hbm, 206, rfl⟩
abbrev main_while0b_v160 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_18 : Ref sig .tc := ⟨.hbm, 216, rfl⟩
abbrev main_v133 : Ref sig .tc := ⟨.hbm, 217, rfl⟩
abbrev main_v134 : Ref sig .tc := ⟨.hbm, 218, rfl⟩
abbrev main_cst_19 : Ref sig .tc := ⟨.hbm, 219, rfl⟩
abbrev main_v135 : Ref sig .tc := ⟨.hbm, 220, rfl⟩
abbrev main_v136 : Ref sig .tc := ⟨.hbm, 221, rfl⟩
abbrev main_cst_20 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_call14_v0 : Ref sig .tc := ⟨.hbm, 233, rfl⟩
abbrev main_call14_v1 : Ref sig .tc := ⟨.hbm, 234, rfl⟩
abbrev main_call14_cst : Ref sig .tc := ⟨.hbm, 235, rfl⟩
abbrev main_call14_v2 : Ref sig .tc := ⟨.hbm, 236, rfl⟩
abbrev main_call14_v3 : Ref sig .tc := ⟨.hbm, 237, rfl⟩
abbrev main_call14_cst_0 : Ref sig .tc := ⟨.hbm, 238, rfl⟩
abbrev main_call14_v4 : Ref sig .tc := ⟨.hbm, 239, rfl⟩
abbrev main_call14_v5 : Ref sig .tc := ⟨.hbm, 240, rfl⟩
abbrev main_v147 : Ref sig .tc := ⟨.hbm, 241, rfl⟩
abbrev main_v148 : Ref sig .tc := ⟨.hbm, 242, rfl⟩

abbrev nD : Nat := 1
abbrev τ : Topo := Topo.v7x

variable {F : FTy → Type} [FloatOps F]

abbrev main_while0_count : Scf.Loop 32 := ⟨0#32, 256#32, 1#32⟩
-- ==== Proj.lean ====
abbrev S65536x1024 : Shape := ⟨2, ![65536, 1024]⟩
abbrev S1024x3584 : Shape := ⟨2, ![1024, 3584]⟩
abbrev S65536x3584 : Shape := ⟨2, ![65536, 3584]⟩
abbrev S512x1024 : Shape := ⟨2, ![512, 1024]⟩
abbrev S512x3584 : Shape := ⟨2, ![512, 3584]⟩

abbrev nBuf : Space → Nat
  | .hbm => 3
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3584, .bf16⟩
  | .hbm, ⟨2, _⟩ => ⟨S65536x3584, .f32⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S512x3584, .f32⟩
  | .local _ .vmem, ⟨4, _⟩ => ⟨S512x3584, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S65536x1024 : Shape := ⟨2, ![65536, 1024]⟩
abbrev S1024x3584 : Shape := ⟨2, ![1024, 3584]⟩
abbrev S65536x3584 : Shape := ⟨2, ![65536, 3584]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3584, .bf16⟩
  | .hbm, ⟨2, _⟩ => ⟨S1024x3584, .f32⟩
  | .hbm, ⟨3, _⟩ => ⟨S65536x3584, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S16x4096x512 : Shape := ⟨3, ![16, 4096, 512]⟩
abbrev S16x4096x3584 : Shape := ⟨3, ![16, 4096, 3584]⟩
abbrev S16x4096x1024 : Shape := ⟨3, ![16, 4096, 1024]⟩
abbrev S4x128 : Shape := ⟨2, ![4, 128]⟩
abbrev S4x128x128 : Shape := ⟨3, ![4, 128, 128]⟩
abbrev S1024x1024 : Shape := ⟨2, ![1024, 1024]⟩
abbrev S1024 : Shape := ⟨1, ![1024]⟩
abbrev S4x128x1 : Shape := ⟨3, ![4, 128, 1]⟩
abbrev S1x512 : Shape := ⟨2, ![1, 512]⟩
abbrev S1x1024 : Shape := ⟨2, ![1, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S16x4096x512, .f32⟩
  | .hbm, ⟨1, _⟩ => ⟨S16x4096x3584, .f32⟩
  | .hbm, ⟨2, _⟩ => ⟨S16x4096x1024, .f32⟩
  | .hbm, ⟨3, _⟩ => ⟨S4x128, .f32⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4x128x1, .f32⟩
  | .hbm, ⟨11, _⟩ => ⟨S4x128x128, .f32⟩
  | .hbm, ⟨12, _⟩ => ⟨S1x512, .f32⟩
  | .hbm, ⟨13, _⟩ => ⟨S1x512, .f32⟩
  | .hbm, ⟨14, _⟩ => ⟨S4x128x128, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S16x4096x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1024, .f32⟩
  | .local _ .vmem, ⟨7, _⟩ => ⟨S1x512x1024, .f32⟩
  | .local _ .vmem, ⟨8, _⟩ => ⟨S1x512, .f32⟩
  | .local _ .vmem, ⟨9, _⟩ => ⟨S1x512, .f32⟩
  | .local _ .vmem, ⟨10, _⟩ => ⟨S4x128x128, .bf16⟩
  | .local _ .vmem, ⟨11, _⟩ => ⟨S4x128x128, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S16x4096x512 : Shape := ⟨3, ![16, 4096, 512]⟩
abbrev S16x4096x3584 : Shape := ⟨3, ![16, 4096, 3584]⟩
abbrev S16x4096x1024 : Shape := ⟨3, ![16, 4096, 1024]⟩
abbrev S4x128 : Shape := ⟨2, ![4, 128]⟩
abbrev S4x128x128 : Shape := ⟨3, ![4, 128, 128]⟩
abbrev S1024x1024 : Shape := ⟨2, ![1024, 1024]⟩
abbrev S1024 : Shape := ⟨1, ![1024]⟩
abbrev S_ : Shape := ⟨0, ![]⟩
abbrev S16x32x128x4x128 : Shape := ⟨5, ![16, 32, 128, 4, 128]⟩
abbrev S16x32x128x4 : Shape := ⟨4, ![16, 32, 128, 4]⟩
abbrev S16x32x128x4x1 : Shape := ⟨5, ![16, 32, 128, 4, 1]⟩
abbrev S1x1x1x4x128 : Shape := ⟨5, ![1, 1, 1, 4, 128]⟩
abbrev S4x16x32x128x128 : Shape := ⟨5, ![4, 16, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x3584, .f32⟩
  | .hbm, ⟨2, _⟩ => ⟨S16x4096x1024, .f32⟩
  | .hbm, ⟨3, _⟩ => ⟨S4x128, .f32⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S16x4096x512, .f32⟩
  | .hbm, ⟨14, _⟩ => ⟨S_, .f32⟩
  | .hbm, ⟨15, _⟩ => ⟨S16x4096x512, .f32⟩
  | .hbm, ⟨16, _⟩ => ⟨S16x4096x512, .f32⟩
  | .hbm, ⟨17, _⟩ => ⟨S16x4096x512, .f32⟩
  | .hbm, ⟨18, _⟩ => ⟨S_, .f32⟩
  | .hbm, ⟨19, _⟩ => ⟨S16x4096x512, .f32⟩
  | .hbm, ⟨20, _⟩ => ⟨S16x4096x512, .f32⟩
  | .hbm, ⟨21, _⟩ => ⟨S16x4096x512, .f32⟩
  | .hbm, ⟨22, _⟩ => ⟨S_, .f32⟩
  | .hbm, ⟨23, _⟩ => ⟨S16x4096x512, .f32⟩
  | .hbm, ⟨24, _⟩ => ⟨S16x4096x512, .f32⟩
  | .hbm, ⟨25, _⟩ => ⟨S_, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x512, .f32⟩
  | .hbm, ⟨31, _⟩ => ⟨S_, .f32⟩
  | .hbm, ⟨32, _⟩ => ⟨S16x4096x512, .f32⟩
  | .hbm, ⟨33, _⟩ => ⟨S16x4096x512, .f32⟩
  | .hbm, ⟨34, _⟩ => ⟨S16x4096x512, .f32⟩
  | .hbm, ⟨35, _⟩ => ⟨S_, .f32⟩
  | .hbm, ⟨36, _⟩ => ⟨S16x4096x512, .f32⟩
  | .hbm, ⟨37, _⟩ => ⟨S16x4096x512, .f32⟩
  | .hbm, ⟨38, _⟩ => ⟨S16x4096x512, .f32⟩
  | .hbm, ⟨39, _⟩ => ⟨S_, .f32⟩
  | .hbm, ⟨40, _⟩ => ⟨S16x4096x512, .f32⟩
  | .hbm, ⟨41, _⟩ => ⟨S16x4096x512, .f32⟩
  | .hbm, ⟨42, _⟩ => ⟨S_, .f32⟩
  | .hbm, ⟨43, _⟩ => ⟨S16x4096x512, .f32⟩
  | .hbm, ⟨44, _⟩ => ⟨S16x4096x512, .f32⟩
  | .hbm, ⟨45, _⟩ => ⟨S16x4096x512, .f32⟩
  | .hbm, ⟨46, _⟩ => ⟨S16x32x128x4x128, .f32⟩
  | .hbm, ⟨47, _⟩ => ⟨S_, .f32⟩
  | .hbm, ⟨48, _⟩ => ⟨S16x32x128x4, .f32⟩
  | .hbm, ⟨49, _⟩ => ⟨S16x32x128x4x1, .f32⟩
  | .hbm, ⟨50, _⟩ => ⟨S_, .f32⟩
  | .hbm, ⟨51, _⟩ => ⟨S16x32x128x4x1, .f32⟩
  | .hbm, ⟨52, _⟩ => ⟨S16x32x128x4x1, .f32⟩
  | .hbm, ⟨53, _⟩ => ⟨S16x32x128x4x128, .f32⟩
  | .hbm, ⟨54, _⟩ => ⟨S16x32x128x4x128, .f32⟩
  | .hbm, ⟨55, _⟩ => ⟨S16x32x128x4x128, .f32⟩
  | .hbm, ⟨56, _⟩ => ⟨S_, .f32⟩
  | .hbm, ⟨57, _⟩ => ⟨S16x32x128x4, .f32⟩
  | .hbm, ⟨58, _⟩ => ⟨S16x32x128x4x1, .f32⟩
  | .hbm, ⟨59, _⟩ => ⟨S_, .f32⟩
  | .hbm, ⟨60, _⟩ => ⟨S16x32x128x4x1, .f32⟩
  | .hbm, ⟨61, _⟩ => ⟨S16x32x128x4x1, .f32⟩
  | .hbm, ⟨62, _⟩ => ⟨S16x32x128x4x128, .f32⟩
  | .hbm, ⟨63, _⟩ => ⟨S16x32x128x4x128, .f32⟩
  | .hbm, ⟨64, _⟩ => ⟨S_, .f32⟩
  | .hbm, ⟨65, _⟩ => ⟨S16x32x128x4x1, .f32⟩
  | .hbm, ⟨66, _⟩ => ⟨S16x32x128x4x1, .f32⟩
  | .hbm, ⟨67, _⟩ => ⟨S16x32x128x4x1, .f32⟩
  | .hbm, ⟨68, _⟩ => ⟨S16x32x128x4x128, .f32⟩
  | .hbm, ⟨69, _⟩ => ⟨S16x32x128x4x128, .f32⟩
  | .hbm, ⟨70, _⟩ => ⟨S1x1x1x4x128, .f32⟩
  | .hbm, ⟨71, _⟩ => ⟨S16x32x128x4x128, .f32⟩
  | .hbm, ⟨72, _⟩ => ⟨S16x32x128x4x128, .f32⟩
  | .hbm, ⟨73, _⟩ => ⟨S1x1x1x4x128, .f32⟩
  | .hbm, ⟨74, _⟩ => ⟨S16x32x128x4x128, .f32⟩
  | .hbm, ⟨75, _⟩ => ⟨S16x32x128x4x128, .f32⟩
  | .hbm, ⟨76, _⟩ => ⟨S4x16x32x128x128, .f32⟩
  | .hbm, ⟨77, _⟩ => ⟨S16x32x128x4x128, .f32⟩
  | .hbm, ⟨78, _⟩ => ⟨S128x4, .f32⟩
  | .hbm, ⟨79, _⟩ => ⟨S128x4x1, .f32⟩
  | .hbm, ⟨80, _⟩ => ⟨S1x1x128x4x1, .f32⟩
  | .hbm, ⟨81, _⟩ => ⟨S16x32x128x4x128, .f32⟩
  | .hbm, ⟨82, _⟩ => ⟨S16x32x128x4x128, .f32⟩
  | .hbm, ⟨83, _⟩ => ⟨S16x4096x512, .f32⟩
  | .hbm, ⟨84, _⟩ => ⟨S16x4096x512, .f32⟩
  | .hbm, ⟨85, _⟩ => ⟨S16x4096x1024, .f32⟩
  | .hbm, ⟨86, _⟩ => ⟨S16x4096x1024, .f32⟩
  | .hbm, ⟨87, _⟩ => ⟨S_, .f32⟩
  | .hbm, ⟨88, _⟩ => ⟨S16x4096x1024, .f32⟩
  | .hbm, ⟨89, _⟩ => ⟨S16x4096x1024, .f32⟩
  | .hbm, ⟨90, _⟩ => ⟨S16x4096x1024, .f32⟩
  | .hbm, ⟨91, _⟩ => ⟨S_, .f32⟩
  | .hbm, ⟨92, _⟩ => ⟨S16x4096, .f32⟩
  | .hbm, ⟨93, _⟩ => ⟨S16x4096x1, .f32⟩
  | .hbm, ⟨94, _⟩ => ⟨S_, .f32⟩
  | .hbm, ⟨95, _⟩ => ⟨S16x4096x1, .f32⟩
  | .hbm, ⟨96, _⟩ => ⟨S16x4096x1, .f32⟩
  | .hbm, ⟨97, _⟩ => ⟨S16x4096x1024, .f32⟩
  | .hbm, ⟨98, _⟩ => ⟨S16x4096x1024, .f32⟩
  | .hbm, ⟨99, _⟩ => ⟨S16x4096x1024, .f32⟩
  | .hbm, ⟨100, _⟩ => ⟨S_, .f32⟩
  | .hbm, ⟨101, _⟩ => ⟨S16x4096, .f32⟩
  | .hbm, ⟨102, _⟩ => ⟨S16x4096x1, .f32⟩
  | .hbm, ⟨103, _⟩ => ⟨S_, .f32⟩
  | .hbm, ⟨104, _⟩ => ⟨S16x4096x1, .f32⟩
  | .hbm, ⟨105, _⟩ => ⟨S16x4096x1, .f32⟩
  | .hbm, ⟨106, _⟩ => ⟨S16x4096x1024, .f32⟩
  | .hbm, ⟨107, _⟩ => ⟨S16x4096x1024, .f32⟩
  | .hbm, ⟨108, _⟩ => ⟨S_, .f32⟩
  | .hbm, ⟨109, _⟩ => ⟨S16x4096x1, .f32⟩
  | .hbm, ⟨110, _⟩ => ⟨S16x4096x1, .f32⟩
  | .hbm, ⟨111, _⟩ => ⟨S16x4096x1, .f32⟩
  | .hbm, ⟨112, _⟩ => ⟨S16x4096x1024, .f32⟩
  | .hbm, ⟨113, _⟩ => ⟨S16x4096x1024, .f32⟩
  | .hbm, ⟨114, _⟩ => ⟨S1x1x1024, .f32⟩
  | .hbm, ⟨115, _⟩ => ⟨S16x4096x1024, .f32⟩
  | .hbm, ⟨116, _⟩ => ⟨S16x4096x1024, .f32⟩
  | .hbm, ⟨117, _⟩ => ⟨S1x1x1024, .f32⟩
  | .hbm, ⟨118, _⟩ => ⟨S16x4096x1024, .f32⟩
  | .hbm, ⟨119, _⟩ => ⟨S16x4096x1024, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Norm.lean ====
abbrev S65536x1024 : Shape := ⟨2, ![65536, 1024]⟩
abbrev S65536x8x128 : Shape := ⟨3, ![65536, 8, 128]⟩
abbrev S1024 : Shape := ⟨1, ![1024]⟩
abbrev S524288x128 : Shape := ⟨2, ![524288, 128]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S1024, .f32⟩
  | .hbm, ⟨3, _⟩ => ⟨S1024, .f32⟩
  | .hbm, ⟨4, _⟩ => ⟨S524288x128, .f32⟩
  | .hbm, ⟨5, _⟩ => ⟨S1x1024, .f32⟩
  | .hbm, ⟨6, _⟩ => ⟨S1x1024, .f32⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S65536x1024 : Shape := ⟨2, ![65536, 1024]⟩
abbrev S65536x8x128 : Shape := ⟨3, ![65536, 8, 128]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S65536x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Route.lean ====
abbrev S65536x1024 : Shape := ⟨2, ![65536, 1024]⟩
abbrev S1024x2048 : Shape := ⟨2, ![1024, 2048]⟩
abbrev S8x128x128 : Shape := ⟨3, ![8, 128, 128]⟩
abbrev S512x128x128 : Shape := ⟨3, ![512, 128, 128]⟩
abbrev S256x1024 : Shape := ⟨2, ![256, 1024]⟩
abbrev S2x128x128 : Shape := ⟨3, ![2, 128, 128]⟩
abbrev S256x2048 : Shape := ⟨2, ![256, 2048]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S256 : Shape := ⟨1, ![256]⟩
abbrev S1x256 : Shape := ⟨2, ![1, 256]⟩
abbrev S16x256 : Shape := ⟨2, ![16, 256]⟩
abbrev S8x256 : Shape := ⟨2, ![8, 256]⟩
abbrev S80x256 : Shape := ⟨2, ![80, 256]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S8x128x128, .f32⟩
  | .hbm, ⟨3, _⟩ => ⟨S8x128x128, .f32⟩
  | .hbm, ⟨4, _⟩ => ⟨S1024x2048, .bf16⟩
  | .hbm, ⟨5, _⟩ => ⟨S8x128x128, .bf16⟩
  | .hbm, ⟨6, _⟩ => ⟨S8x128x128, .bf16⟩
  | .hbm, ⟨7, _⟩ => ⟨S512x128x128, .i32⟩
  | .hbm, ⟨8, _⟩ => ⟨S512x128x128, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S8x128x128, .bf16⟩
  | .local _ .vmem, ⟨4, _⟩ => ⟨S8x128x128, .bf16⟩
  | .local _ .vmem, ⟨5, _⟩ => ⟨S2x128x128, .i32⟩
  | .local _ .vmem, ⟨6, _⟩ => ⟨S2x128x128, .i32⟩
  | .local _ .vmem, ⟨7, _⟩ => ⟨S2x128x128, .f32⟩
  | .local _ .vmem, ⟨8, _⟩ => ⟨S2x128x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouteRefIdeal.lean ====
abbrev S65536x1024 : Shape := ⟨2, ![65536, 1024]⟩
abbrev S1024x2048 : Shape := ⟨2, ![1024, 2048]⟩
abbrev S8x128x128 : Shape := ⟨3, ![8, 128, 128]⟩
abbrev S65536x2048 : Shape := ⟨2, ![65536, 2048]⟩
abbrev S65536x8x2x128 : Shape := ⟨4, ![65536, 8, 2, 128]⟩
abbrev S65536x8x1x128 : Shape := ⟨4, ![65536, 8, 1, 128]⟩
abbrev S65536x8x128 : Shape := ⟨3, ![65536, 8, 128]⟩
abbrev S8x128x65536 : Shape := ⟨3, ![8, 128, 65536]⟩
abbrev S65536x8x16 : Shape := ⟨3, ![65536, 8, 16]⟩
abbrev S65536x8x16x1 : Shape := ⟨4, ![65536, 8, 16, 1]⟩
abbrev S65536x8x1x16 : Shape := ⟨4, ![65536, 8, 1, 16]⟩
abbrev S65536x8x16x16 : Shape := ⟨4, ![65536, 8, 16, 16]⟩
abbrev S65536x8x256 : Shape := ⟨3, ![65536, 8, 256]⟩
abbrev S_ : Shape := ⟨0, ![]⟩
abbrev S1 : Shape := ⟨1, ![1]⟩
abbrev S1x1x1x1 : Shape := ⟨4, ![1, 1, 1, 1]⟩
abbrev S65536x128 : Shape := ⟨2, ![65536, 128]⟩
abbrev S65536x8 : Shape := ⟨2, ![65536, 8]⟩
abbrev S65536x8x1 : Shape := ⟨3, ![65536, 8, 1]⟩
abbrev S512x128x128 : Shape := ⟨3, ![512, 128, 128]⟩

abbrev nBuf : Space → Nat
  | .hbm => 83
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S8x128x128, .f32⟩
  | .hbm, ⟨3, _⟩ => ⟨S8x128x128, .f32⟩
  | .hbm, ⟨4, _⟩ => ⟨S65536x2048, .f32⟩
  | .hbm, ⟨5, _⟩ => ⟨S65536x8x2x128, .f32⟩
  | .hbm, ⟨6, _⟩ => ⟨S65536x8x1x128, .f32⟩
  | .hbm, ⟨7, _⟩ => ⟨S65536x8x128, .f32⟩
  | .hbm, ⟨8, _⟩ => ⟨S8x128x65536, .f32⟩
  | .hbm, ⟨9, _⟩ => ⟨S65536x8x128, .f32⟩
  | .hbm, ⟨10, _⟩ => ⟨S65536x8x1x128, .f32⟩
  | .hbm, ⟨11, _⟩ => ⟨S65536x8x128, .f32⟩
  | .hbm, ⟨12, _⟩ => ⟨S8x128x65536, .f32⟩
  | .hbm, ⟨13, _⟩ => ⟨S65536x8x128, .f32⟩
  | .hbm, ⟨14, _⟩ => ⟨S65536x8x16, .f32⟩
  | .hbm, ⟨15, _⟩ => ⟨S65536x8x16, .i32⟩
  | .hbm, ⟨16, _⟩ => ⟨S65536x8x16, .f32⟩
  | .hbm, ⟨17, _⟩ => ⟨S65536x8x16, .i32⟩
  | .hbm, ⟨18, _⟩ => ⟨S65536x8x16x1, .f32⟩
  | .hbm, ⟨19, _⟩ => ⟨S65536x8x1x16, .f32⟩
  | .hbm, ⟨20, _⟩ => ⟨S65536x8x16x16, .f32⟩
  | .hbm, ⟨21, _⟩ => ⟨S65536x8x16x16, .f32⟩
  | .hbm, ⟨22, _⟩ => ⟨S65536x8x16x16, .f32⟩
  | .hbm, ⟨23, _⟩ => ⟨S65536x8x256, .f32⟩
  | .hbm, ⟨24, _⟩ => ⟨S65536x8x16x1, .i32⟩
  | .hbm, ⟨25, _⟩ => ⟨S_, .i32⟩
  | .hbm, ⟨26, _⟩ => ⟨S65536x8x16x1, .i32⟩
  | .hbm, ⟨27, _⟩ => ⟨S65536x8x16x1, .i32⟩
  | .hbm, ⟨28, _⟩ => ⟨S65536x8x1x16, .i32⟩
  | .hbm, ⟨29, _⟩ => ⟨S65536x8x16x16, .i32⟩
  | .hbm, ⟨30, _⟩ => ⟨S65536x8x16x16, .i32⟩
  | .hbm, ⟨31, _⟩ => ⟨S65536x8x16x16, .i32⟩
  | .hbm, ⟨32, _⟩ => ⟨S65536x8x256, .i32⟩
  | .hbm, ⟨33, _⟩ => ⟨S65536x8x16, .f32⟩
  | .hbm, ⟨34, _⟩ => ⟨S65536x8x16, .i32⟩
  | .hbm, ⟨35, _⟩ => ⟨S_, .i32⟩
  | .hbm, ⟨36, _⟩ => ⟨S65536x8x16, .i32⟩
  | .hbm, ⟨37, _⟩ => ⟨S65536x8x16, .i1⟩
  | .hbm, ⟨38, _⟩ => ⟨S_, .i32⟩
  | .hbm, ⟨39, _⟩ => ⟨S65536x8x16, .i32⟩
  | .hbm, ⟨40, _⟩ => ⟨S65536x8x16, .i32⟩
  | .hbm, ⟨41, _⟩ => ⟨S65536x8x16, .i32⟩
  | .hbm, ⟨42, _⟩ => ⟨S65536x8x16x1, .i32⟩
  | .hbm, ⟨43, _⟩ => ⟨S1, .i32⟩
  | .hbm, ⟨44, _⟩ => ⟨S_, .i32⟩
  | .hbm, ⟨45, _⟩ => ⟨S65536x8x16x1, .i32⟩
  | .hbm, ⟨46, _⟩ => ⟨S65536x8x16x1, .i1⟩
  | .hbm, ⟨47, _⟩ => ⟨S1x1x1x1, .i32⟩
  | .hbm, ⟨48, _⟩ => ⟨S65536x8x16x1, .i32⟩
  | .hbm, ⟨49, _⟩ => ⟨S65536x8x16x1, .i1⟩
  | .hbm, ⟨50, _⟩ => ⟨S65536x8x16x1, .i1⟩
  | .hbm, ⟨51, _⟩ => ⟨S_, .i1⟩
  | .hbm, ⟨52, _⟩ => ⟨S65536x8x16, .i1⟩
  | .hbm, ⟨53, _⟩ => ⟨S65536x8x16, .i32⟩
  | .hbm, ⟨54, _⟩ => ⟨S_, .i32⟩
  | .hbm, ⟨55, _⟩ => ⟨S65536x8x16, .i32⟩
  | .hbm, ⟨56, _⟩ => ⟨S65536x8x16, .i32⟩
  | .hbm, ⟨57, _⟩ => ⟨S65536x128, .i32⟩
  | .hbm, ⟨58, _⟩ => ⟨S_, .f32⟩
  | .hbm, ⟨59, _⟩ => ⟨S65536x8, .f32⟩
  | .hbm, ⟨60, _⟩ => ⟨S_, .f32⟩
  | .hbm, ⟨61, _⟩ => ⟨S65536x8, .f32⟩
  | .hbm, ⟨62, _⟩ => ⟨S65536x8, .f32⟩
  | .hbm, ⟨63, _⟩ => ⟨S65536x8x1, .f32⟩
  | .hbm, ⟨64, _⟩ => ⟨S65536x8x16, .f32⟩
  | .hbm, ⟨65, _⟩ => ⟨S65536x8x16, .f32⟩
  | .hbm, ⟨66, _⟩ => ⟨S65536x8x16, .f32⟩
  | .hbm, ⟨67, _⟩ => ⟨S_, .f32⟩
  | .hbm, ⟨68, _⟩ => ⟨S65536x8, .f32⟩
  | .hbm, ⟨69, _⟩ => ⟨S65536x8x1, .f32⟩
  | .hbm, ⟨70, _⟩ => ⟨S65536x8x16, .f32⟩
  | .hbm, ⟨71, _⟩ => ⟨S65536x8x16, .f32⟩
  | .hbm, ⟨72, _⟩ => ⟨S65536x128, .f32⟩
  | .hbm, ⟨73, _⟩ => ⟨S_, .i32⟩
  | .hbm, ⟨74, _⟩ => ⟨S65536x128, .i32⟩
  | .hbm, ⟨75, _⟩ => ⟨S65536x128, .i32⟩
  | .hbm, ⟨76, _⟩ => ⟨S_, .i32⟩
  | .hbm, ⟨77, _⟩ => ⟨S65536x128, .i32⟩
  | .hbm, ⟨78, _⟩ => ⟨S65536x128, .i32⟩
  | .hbm, ⟨79, _⟩ => ⟨S512x128x128, .i32⟩
  | .hbm, ⟨80, _⟩ => ⟨S512x128x128, .i32⟩
  | .hbm, ⟨81, _⟩ => ⟨S512x128x128, .f32⟩
  | .hbm, ⟨82, _⟩ => ⟨S512x128x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_values : Ref sig .tc := ⟨.hbm, 14, rfl⟩
abbrev main_indices : Ref sig .tc := ⟨.hbm, 15, rfl⟩
abbrev main_values_0 : Ref sig .tc := ⟨.hbm, 16, rfl⟩
abbrev main_indices_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_values_2 : Ref sig .tc := ⟨.hbm, 33, rfl⟩
abbrev main_indices_3 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_c_4 : Ref sig .tc := ⟨.hbm, 54, rfl⟩
abbrev main_call0_v14 : Ref sig .tc := ⟨.hbm, 55, rfl⟩
abbrev main_v24 : Ref sig .tc := ⟨.hbm, 56, rfl⟩
abbrev main_v25 : Ref sig .tc := ⟨.hbm, 57, rfl⟩
abbrev main_cst : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_6 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩

abbrev nD : Nat := 1
abbrev τ : Topo := Topo.v7x

variable {F : FTy → Type} [FloatOps F]
-- ==== Proof.Layer.ProjValue.lean ====
/- The projection call: its output array is the product of the token rows with the weight matrix. -/
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.MatmulPlain

@[expose] public section

noncomputable section

namespace Cert.ProjIdeal.Product

open Cert.ProjIdeal Cert.ProjIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The product of the 65536 token rows with the weight matrix, entry by entry. -/
def prod (x : Vec Ideal S65536x1024 .f32) (w : Vec Ideal S1024x3584 .bf16) : Vec Ideal S65536x3584 .f32 := fun i =>
  ∑ k : Fin 1024, (x (ix2 (i 0) k) : EReal) * (w (ix2 k (i 1)) : EReal)

/-- One block of the body: the product of 512 rows with the weight matrix, read at a row and a column. -/
theorem pay_apply (x : Vec Ideal S512x1024 .f32) (w : Vec Ideal S1024x3584 .bf16) (r : Fin 512) (l : Fin 3584) :
    (k0_pay1 x w : Vec Ideal S512x3584 .f32) (ix2 r l) = ∑ k : Fin 1024, (x (ix2 r k) : EReal) * (w (ix2 k l) : EReal) := by
  refine (Ideal.matmul_plain_apply (M := 512) (K := 1024) (N := 3584) (φ₁ := .bf16) (φ₂ := .bf16) none
    (truncf .bf16 x bitsLt_bf16_f32) w (constant S512x3584 .f32 0x00000000#32) r l).trans ?_
  rw [constant_apply, Idealize.ShloMosaic.Ideal.ofBits_zero_f32, zero_add]
  rfl

/-- The row windows sit at block row `t`, the weight window at the origin. -/
theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

theorem flushed_eq (c : Dev nD) (t : Fin cfg0.N) (_ : (cfg0.win 2).flush t = true) :
    (dats m 0 c).flushed 2 t = ((cfg0.win 2).blk t).view.read (Elt Ideal)
      (prod (m ((c : Thread nD τ).loc main_arg0)) (m ((c : Thread nD τ).loc main_arg1))) := by
  rw [Value.flushed2]
  obtain ⟨h00, h01, h10, h11, h20, h21⟩ := idx_facts t
  funext j
  have ho : (out0_2 (iblk m c 0 t) (iblk m c 1 t) : Vec Ideal S512x3584 .f32) = k0_pay1 (iblk m c 0 t) (iblk m c 1 t) := by
    unfold out0_2
    rw [View.ld_unit_zero (by decide), View.ld_unit_zero (by decide)]
    exact View.canon_unit_zero (by decide) _ _
  rw [ho]
  obtain ⟨r, l, rfl⟩ : ∃ (r : Fin 512) (l : Fin 3584), j = ix2 r l := ⟨j 0, j 1, funext fun a => by
    match a with
    | ⟨0, _⟩ => rfl
    | ⟨1, _⟩ => rfl⟩
  show (k0_pay1 (iblk m c 0 t) (iblk m c 1 t) : Vec Ideal S512x3584 .f32) (ix2 r l) = _
  rw [pay_apply, View.read_apply]
  show _ = prod _ _ _
  unfold prod
  refine Finset.sum_congr rfl fun k _ => ?_
  unfold iblk
  rw [View.read_apply, View.read_apply]
  congr 1
  · show V m c main_arg0 _ = m (c.tc.loc main_arg0) _
    unfold V
    congr 1
    funext a
    apply Fin.ext
    match a with
    | ⟨0, _⟩ => show win0_0.index t 0 * 512 + 1 * r.val = win0_2.index t 0 * 512 + 1 * r.val; rw [h00, h20]
    | ⟨1, _⟩ => show win0_0.index t 1 * 1024 + 1 * k.val = k.val; rw [h01]; omega
  · show V m c main_arg1 _ = m (c.tc.loc main_arg1) _
    unfold V
    congr 1
    funext a
    apply Fin.ext
    match a with
    | ⟨0, _⟩ => show win0_1.index t 0 * 1024 + 1 * k.val = k.val; rw [h10]; omega
    | ⟨1, _⟩ => show win0_1.index t 1 * 3584 + 1 * l.val = win0_2.index t 1 * 3584 + 1 * l.val; rw [h11, h21]

/-- The result array of the projection call. -/
theorem final (c : Dev nD) : (dats m 0 c).arrAt 2 cfg0.N
    = prod (m ((c : Thread nD τ).loc main_arg0)) (m ((c : Thread nD τ).loc main_arg1)) :=
  (dats m 0 c).arrAt_eq_of_cover 2 _ (flushed_eq m c) fun i => by
    have h0 : (i 0 : Nat) < 65536 := (i 0).isLt
    have h1 : (i 1 : Nat) < 3584 := (i 1).isLt
    have hN : cfg0.N = 128 := N_0
    refine ⟨⟨(i 0 : Nat) / 512, by rw [hN]; omega⟩, flush0_2 _, ?_⟩
    generalize ht : (⟨(i 0 : Nat) / 512, _⟩ : Fin cfg0.N) = t
    have htv : t.val = (i 0 : Nat) / 512 := by rw [← ht]
    obtain ⟨-, -, -, -, h20, h21⟩ := idx_facts t
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512
                rw [h20]; omega
    | ⟨1, _⟩ => show win0_2.index t 1 * 3584 ≤ (i 1 : Nat) ∧ (i 1 : Nat) < win0_2.index t 1 * 3584 + 3584
                rw [h21]; omega

/-- The reference's product is the same sum. -/
theorem ref_eq (x : Vec Ideal S65536x1024 .f32) (w : Vec Ideal S1024x3584 .bf16) :
    (Cert.ProjRefIdeal.Read.val_main_v1 (F := Ideal) x w : Vec Ideal S65536x3584 .f32) = prod x w := by
  funext i
  refine (Cert.ProjRefIdeal.Read.val_main_v1_apply x w i).trans (Finset.sum_congr rfl fun k _ => ?_)
  congr 1
  · refine congrArg x (funext fun a => ?_)
    match a with
    | ⟨0, _⟩ => rfl
    | ⟨1, _⟩ => rfl
  · refine congrArg w (funext fun a => ?_)
    match a with
    | ⟨0, _⟩ => rfl
    | ⟨1, _⟩ => rfl

end Cert.ProjIdeal.Product

end
-- ==== Proof.Layer.Rep.lean ====
/- Matrices of extended reals whose entries are reals: a matrix `x` REPRESENTS a function `r` of two natural numbers when
   every entry of `x` is the real `r` gives at its row and column. Each vector operation of the recurrence preserves it. -/
module

public import Idealize.ShloMosaic.Lib.MatmulPlain
public import Idealize.ShloMosaic.Lib.KernelVsHost
public import Idealize.ShloMosaic.Lib.Pipeline.Value
public import Idealize.ShloMosaic.Lib.ValueIdx
public import Idealize.ShloMosaic.Lib.IdealHost
public import Idealize.ShloMosaic.Lib.Pointwise

@[expose] public section

noncomputable section

namespace Cert.Layer

open Idealize.ShloMosaic hiding ix2
open Idealize.ShloMosaic.ValueIdx

variable {M N K : ℕ} {φ φ' : FTy}

/-- Every entry of `x` is the real that `r` gives at its row and column. -/
def Rep (x : FVec Ideal ⟨2, ![M, N]⟩ φ) (r : ℕ → ℕ → ℝ) : Prop :=
  ∀ (i : Fin M) (j : Fin N), (x (ix2 i j) : EReal) = ((r i.val j.val : ℝ) : EReal)

/-- A finite sum of reals, coerced. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_sum_fin (n : ℕ) (f : ℕ → ℝ) : ((∑ i ∈ Finset.range n, f i : ℝ) : EReal) = ∑ i : Fin n, ((f i.val : ℝ) : EReal) := by
  rw [coe_sum, Finset.sum_range fun i => ((f i : ℝ) : EReal)]

namespace Rep

variable {x y : FVec Ideal ⟨2, ![M, N]⟩ φ} {r s : ℕ → ℕ → ℝ}

theorem congr (hx : Rep x r) (h : ∀ i j, i < M → j < N → r i j = s i j) : Rep x s := fun i j => by
  rw [hx i j, h i.val j.val i.isLt j.isLt]

theorem add (hx : Rep x r) (hy : Rep y s) : Rep (addf x y) fun i j => r i j + s i j := fun i j => by
  show (x (ix2 i j) + y (ix2 i j) : EReal) = _
  rw [hx i j, hy i j, EReal.coe_add]

theorem sub (hx : Rep x r) (hy : Rep y s) : Rep (subf x y) fun i j => r i j - s i j := fun i j => by
  show (x (ix2 i j) - y (ix2 i j) : EReal) = _
  rw [hx i j, hy i j, EReal.coe_sub]

theorem mul (hx : Rep x r) (hy : Rep y s) : Rep (mulf x y) fun i j => r i j * s i j := fun i j => by
  show (x (ix2 i j) * y (ix2 i j) : EReal) = _
  rw [hx i j, hy i j, EReal.coe_mul]

theorem exp (hx : Rep x r) : Rep (Idealize.ShloMosaic.exp x) fun i j => Real.exp (r i j) := fun i j => by
  show Ideal.exp (x (ix2 i j)) = _
  rw [hx i j, Ideal.exp_coe]

theorem trunc (hx : Rep x r) (h : φ'.bits < φ.bits) : Rep (truncf φ' x h) r := fun i j => hx i j

/-- The zero splat. -/
theorem zero : Rep (broadcast ⟨2, ![M, N]⟩ (Scalar.ofBits .f32 0x00000000#32 : Ideal .f32) : FVec Ideal ⟨2, ![M, N]⟩ .f32)
    fun _ _ => 0 := fun i j => by
  show Ideal.ofBits .f32 0x00000000#32 = _
  rw [Ideal.ofBits_zero_f32]; rfl

/-- The splat of one. -/
theorem one : Rep (broadcast ⟨2, ![M, N]⟩ (Scalar.ofBits .f32 0x3F800000#32 : Ideal .f32) : FVec Ideal ⟨2, ![M, N]⟩ .f32)
    fun _ _ => 1 := fun i j => by
  show Ideal.ofBits .f32 0x3F800000#32 = _
  rw [Ideal.ofBits_one_f32]; rfl

/-- A run of rows. -/
theorem rows (hx : Rep x r) {M' : ℕ} (o : ℕ) (h : (⟨2, ![M, N]⟩ : Shape).Slices ![o, 0] ⟨2, ![M', N]⟩) :
    Rep (extractStridedSlice ⟨2, ![M', N]⟩ ![o, 0] x h : FVec Ideal ⟨2, ![M', N]⟩ φ) fun i j => r (o + i) j := fun i j => by
  have hb : o + i.val < M := by
    have := h.2 (0 : Fin 2); have := i.isLt; simp at *; omega
  rw [extractStridedSlice_apply ![o, 0] x h (ix2 i j) (ix2 (⟨o + i.val, hb⟩ : Fin M) j) (fun a => by
    match a with
    | ⟨0, _⟩ => rfl
    | ⟨1, _⟩ => exact (Nat.zero_add _).symm)]
  exact hx _ _

/-- One row repeated. -/
theorem spread {x : FVec Ideal ⟨2, ![1, N]⟩ φ} (hx : Rep x r) (hN : N ≠ 1) (h : (⟨2, ![1, N]⟩ : Shape).Broadcasts ⟨2, ![M, N]⟩) :
    Rep (broadcastTo ⟨2, ![M, N]⟩ x h : FVec Ideal ⟨2, ![M, N]⟩ φ) fun _ j => r 0 j := fun i j => by
  rw [broadcastTo_apply x h (ix2 i j) (ix2 (0 : Fin 1) j) (fun a => by
    match a with
    | ⟨0, _⟩ => rfl
    | ⟨1, _⟩ => exact (if_neg hN).symm)]
  exact hx _ _

/-- Two matrices stacked. -/
theorem stack {M₁ M₂ : ℕ} {x₁ : FVec Ideal ⟨2, ![M₁, N]⟩ φ} {x₂ : FVec Ideal ⟨2, ![M₂, N]⟩ φ} {r₁ r₂ : ℕ → ℕ → ℝ}
    (h₁ : Rep x₁ r₁) (h₂ : Rep x₂ r₂) (h : Shape.Concatenates [⟨2, ![M₁, N]⟩, ⟨2, ![M₂, N]⟩] ⟨2, ![M, N]⟩ 0) (hM : M = M₁ + M₂) :
    Rep (concatenate ⟨2, ![M, N]⟩ 0 [⟨⟨2, ![M₁, N]⟩, x₁⟩, ⟨⟨2, ![M₂, N]⟩, x₂⟩] h : FVec Ideal ⟨2, ![M, N]⟩ φ)
      fun i j => if i < M₁ then r₁ i j else r₂ (i - M₁) j := fun i j => by
  by_cases hi : i.val < M₁
  · rw [concatenate_pair_apply_left 0 x₁ x₂ h (ix2 i j) rfl (ix2 (⟨i.val, hi⟩ : Fin M₁) j) (fun b => by
      match b with
      | ⟨0, _⟩ => rfl
      | ⟨1, _⟩ => rfl), h₁ _ _]
    exact congrArg _ (if_pos hi).symm
  · have hlt := i.isLt
    rw [concatenate_pair_apply_right 0 x₁ x₂ h (ix2 i j) rfl rfl (ix2 (⟨i.val - M₁, by omega⟩ : Fin M₂) j) (fun b hb => by
      match b with
      | ⟨0, _⟩ => exact absurd rfl hb
      | ⟨1, _⟩ => rfl) (by show i.val - M₁ + M₁ = i.val; omega), h₂ _ _]
    exact congrArg _ (if_neg hi).symm

/-- A product with the right factor's rows contracted. -/
theorem dotNT {x : FVec Ideal ⟨2, ![M, K]⟩ φ} {y : FVec Ideal ⟨2, ![N, K]⟩ φ'} (hx : Rep x r) (hy : Rep y s) :
    Rep (FloatOps.matmul (DotDims.transposedRhs M K N) none x y (constant ⟨2, ![M, N]⟩ .f32 0x00000000#32))
      fun i j => ∑ k ∈ Finset.range K, r i k * s j k := fun i j => by
  rw [Ideal.matmul_transposedRhs_apply, constant_apply, Ideal.ofBits_zero_f32, zero_add, coe_sum_fin K fun k => r i k * s j k]
  exact Finset.sum_congr rfl fun k _ => by rw [hx i k, hy j k, EReal.coe_mul]

/-- A plain product. -/
theorem dotNN {x : FVec Ideal ⟨2, ![M, K]⟩ φ} {y : FVec Ideal ⟨2, ![K, N]⟩ φ'} (hx : Rep x r) (hy : Rep y s) :
    Rep (FloatOps.matmul (DotDims.plain M K N) none x y (constant ⟨2, ![M, N]⟩ .f32 0x00000000#32))
      fun i j => ∑ k ∈ Finset.range K, r i k * s k j := fun i j => by
  rw [Ideal.matmul_plain_apply, constant_apply, Ideal.ofBits_zero_f32, zero_add, coe_sum_fin K fun k => r i k * s k j]
  exact Finset.sum_congr rfl fun k _ => by rw [hx i k, hy k j, EReal.coe_mul]

end Rep

/-- `[K,M]ᵀ × [K,N]`: both operands contracted on their rows. -/
def lhsT (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product with both operands' rows contracted. -/
theorem Rep.dotTN {x : FVec Ideal ⟨2, ![K, M]⟩ φ} {y : FVec Ideal ⟨2, ![K, N]⟩ φ'} {r s : ℕ → ℕ → ℝ} (hx : Rep x r) (hy : Rep y s) :
    Rep (FloatOps.matmul (lhsT K M N) none x y (constant ⟨2, ![M, N]⟩ .f32 0x00000000#32))
      fun i j => ∑ k ∈ Finset.range K, r k i * s k j := fun i j => by
  have hk := fun k => contrEquiv1_symm_val (lhsT K M N) K rfl rfl k
  rw [Ideal.matmul_apply, ← Equiv.sum_comp (contrEquiv1 (lhsT K M N) K rfl rfl).symm, constant_apply, Ideal.ofBits_zero_f32, zero_add,
    coe_sum_fin K fun k => r k i * s k j]
  refine Finset.sum_congr rfl fun k _ => ?_
  have el : (lhsT K M N).lhsIdx (ix2 i j) ((contrEquiv1 (lhsT K M N) K rfl rfl).symm k) = ix2 k i := by
    funext a; apply Fin.ext
    match a with
    | ⟨0, _⟩ => exact hk k
    | ⟨1, _⟩ => rfl
  have er : (lhsT K M N).rhsIdx (ix2 i j) ((contrEquiv1 (lhsT K M N) K rfl rfl).symm k) = ix2 k j := by
    funext a; apply Fin.ext
    match a with
    | ⟨0, _⟩ => exact hk k
    | ⟨1, _⟩ => rfl
  rw [el, er, hx k i, hy k j, EReal.coe_mul]

end Cert.Layer
-- ==== Proof.Layer.Chunk.lean ====
/- One chunk of 128 rows of the gated recurrence, as the body computes it: the gates of one direction, the inclusive sum of
   the log gates by doubling, the carried state's contribution, the new state, and the eight 16-column pieces of the
   masked product. The definitions are over any value type; the body's printed payloads are these by unfolding. -/
module

public import proofs.«01_k».proof.Proof.Gen.HgrnIdeal.Loops
public import proofs.«01_k».proof.Proof.Layer.Rep

@[expose] public section

noncomputable section

namespace Cert.Layer

open Idealize.ShloMosaic hiding ix2
open Idealize.ShloMosaic.ValueIdx

variable {F : FTy → Type} [FloatOps F]

/-- The shape of a matrix. -/
abbrev Sh (a b : ℕ) : Shape := ⟨2, ![a, b]⟩

/-- The zero splat of a matrix. -/
def zeros (a b : ℕ) : FVec F (Sh a b) .f32 := broadcast (Sh a b) (Scalar.ofBits .f32 0x00000000#32 : F .f32)

theorem bits_lt : FTy.bf16.bits < FTy.f32.bits := by decide

/-- A value cut to the narrower format, as the products take it. -/
def cut {a b : ℕ} (x : FVec F (Sh a b) .f32) : FVec F (Sh a b) .bf16 := truncf .bf16 x bits_lt

/-- The log of the forget gate: `log (lb + (1 - lb) · σ(z))`. -/
def logGate (lb : FVec F (Sh 1 128) .f32) (z : FVec F (Sh 128 128) .f32)
    (h : (Sh 1 128).Broadcasts (Sh 128 128) := by decide) : FVec F (Sh 128 128) .f32 :=
  log (addf (broadcastTo (Sh 128 128) lb h)
    (mulf (broadcastTo (Sh 128 128) (subf (broadcast (Sh 1 128) (Scalar.ofBits .f32 0x3F800000#32 : F .f32)) lb) h) (logistic z)))

/-- The key: `(1 - lb) · σ(0 - z)`. -/
def key (lb : FVec F (Sh 1 128) .f32) (z : FVec F (Sh 128 128) .f32)
    (h : (Sh 1 128).Broadcasts (Sh 128 128) := by decide) : FVec F (Sh 128 128) .f32 :=
  mulf (broadcastTo (Sh 128 128) (subf (broadcast (Sh 1 128) (Scalar.ofBits .f32 0x3F800000#32 : F .f32)) lb) h)
    (logistic (subf (zeros 128 128) z))

/-- One doubling of the sum running down the rows: row `i` gains row `i - n`. -/
def down (n : BitVec 32) (x : FVec F (Sh 128 128) .f32) (h : (Sh 128 128).Rotates 0 none := by decide)
    (hi : (Sh 128 128).Iotas .tc 32 [0] := by decide) : FVec F (Sh 128 128) .f32 :=
  addf x (select (cmpi .sge (iota .tc (Sh 128 128) 32 [0] hi) (broadcast (Sh 128 128) n)) (dynamicRotate 0 n none x h) (zeros 128 128))

/-- One doubling of the sum running up the rows: row `i` gains row `i + 128 - n`. -/
def up (n : BitVec 32) (x : FVec F (Sh 128 128) .f32) (h : (Sh 128 128).Rotates 0 none := by decide)
    (hi : (Sh 128 128).Iotas .tc 32 [0] := by decide) : FVec F (Sh 128 128) .f32 :=
  addf x (select (cmpi .slt (iota .tc (Sh 128 128) 32 [0] hi) (broadcast (Sh 128 128) n)) (dynamicRotate 0 n none x h) (zeros 128 128))

/-- The inclusive sums down the rows. -/
def sumDown (x : FVec F (Sh 128 128) .f32) : FVec F (Sh 128 128) .f32 :=
  down 64#32 (down 32#32 (down 16#32 (down 8#32 (down 4#32 (down 2#32 (down 1#32 x))))))

/-- The inclusive sums up the rows. -/
def sumUp (x : FVec F (Sh 128 128) .f32) : FVec F (Sh 128 128) .f32 :=
  up 64#32 (up 96#32 (up 112#32 (up 120#32 (up 124#32 (up 126#32 (up 127#32 x))))))

/-- What the carried state (held value column first) adds to the chunk's rows. -/
def inter (q b st : FVec F (Sh 128 128) .f32) : FVec F (Sh 128 128) .f32 :=
  FloatOps.matmul (DotDims.transposedRhs 128 128 128) none (cut (mulf q (exp b))) (cut st) (constant (Sh 128 128) .f32 0x00000000#32)

/-- The state after the chunk, from the running sums' edge row. -/
def nextState (k b st : FVec F (Sh 128 128) .f32) (vb : FVec F (Sh 128 128) .bf16) (edge : FVec F (Sh 1 128) .f32)
    (h : (Sh 1 128).Broadcasts (Sh 128 128) := by decide) : FVec F (Sh 128 128) .f32 :=
  addf (mulf st (broadcastTo (Sh 128 128) (exp edge) h))
    (FloatOps.matmul (lhsT 128 128 128) none vb (cut (mulf k (exp (subf (broadcastTo (Sh 128 128) edge h) b))))
      (constant (Sh 128 128) .f32 0x00000000#32))

/-- The unmasked scores of `M` rows against 16 rows, relative to a reference row of the running sums. -/
def scores {M : ℕ} (q b : FVec F (Sh M 128) .f32) (k bk : FVec F (Sh 16 128) .f32) (ref : FVec F (Sh 1 128) .f32)
    (h1 : (Sh 1 128).Broadcasts (Sh M 128)) (h2 : (Sh 1 128).Broadcasts (Sh 16 128)) : FVec F (Sh M 16) .f32 :=
  FloatOps.matmul (DotDims.transposedRhs M 128 16) none (cut (mulf q (exp (subf b (broadcastTo (Sh M 128) ref h1)))))
    (cut (mulf k (exp (subf (broadcastTo (Sh 16 128) ref h2) bk)))) (constant (Sh M 16) .f32 0x00000000#32)

/-- The diagonal block with the entries right of (`p = sle`) or left of (`p = sge`) the diagonal at zero. -/
def mask (p : CmpIPredicate) (a : FVec F (Sh 16 16) .f32) (h0 : (Sh 16 16).Iotas .tc 32 [0] := by decide)
    (h1 : (Sh 16 16).Iotas .tc 32 [1] := by decide) : FVec F (Sh 16 16) .f32 :=
  select (cmpi p (iota .tc (Sh 16 16) 32 [1] h1) (iota .tc (Sh 16 16) 32 [0] h0)) a (zeros 16 16)

/-- The scores times the 16 value rows. -/
def weigh {M : ℕ} (a : FVec F (Sh M 16) .f32) (v : FVec F (Sh 16 128) .bf16) : FVec F (Sh M 128) .f32 :=
  FloatOps.matmul (DotDims.plain M 16 128) none (cut a) v (constant (Sh M 128) .f32 0x00000000#32)

/-- A run of rows of a chunk's matrix. -/
def cutRows {φ : FTy} (o M : ℕ) (x : FVec F (Sh 128 128) φ) (h : (Sh 128 128).Slices ![o, 0] (Sh M 128)) : FVec F (Sh M 128) φ :=
  extractStridedSlice (Sh M 128) ![o, 0] x h

section pieces

variable (q k b : FVec F (Sh 128 128) .f32) (vb : FVec F (Sh 128 128) .bf16)

/-- Forward, the first 16 columns: every row. -/
def fwdFirst (h1 : (Sh 1 128).Broadcasts (Sh 128 128) := by decide) (h2 : (Sh 1 128).Broadcasts (Sh 16 128) := by decide)
    (h3 : (Sh 128 128).Slices ![15, 0] (Sh 1 128) := by decide) (h4 : (Sh 128 128).Slices ![0, 0] (Sh 16 128) := by decide)
    (h5 : (Sh 128 16).Slices ![0, 0] (Sh 16 16) := by decide) (h6 : (Sh 128 16).Slices ![16, 0] (Sh 112 16) := by decide)
    (h7 : Shape.Concatenates [Sh 16 16, Sh 112 16] (Sh 128 16) 0 := by decide) : FVec F (Sh 128 128) .f32 :=
  weigh (concatenate (Sh 128 16) 0
      [⟨Sh 16 16, mask .sle (extractStridedSlice (Sh 16 16) ![0, 0] (scores q b (cutRows 0 16 k h4) (cutRows 0 16 b h4) (cutRows 15 1 b h3) h1 h2) h5)⟩,
       ⟨Sh 112 16, extractStridedSlice (Sh 112 16) ![16, 0] (scores q b (cutRows 0 16 k h4) (cutRows 0 16 b h4) (cutRows 15 1 b h3) h1 h2) h6⟩] h7)
    (cutRows 0 16 vb h4)

/-- Forward, 16 columns from `o`: the `M` rows from `o` on (`e = o + 15`, `M = M' + 16 = 128 - o`), zero above. -/
def fwdMid (o e M M' : ℕ) (h1 : (Sh 1 128).Broadcasts (Sh M 128) := by decide) (h2 : (Sh 1 128).Broadcasts (Sh 16 128) := by decide)
    (h3 : (Sh 128 128).Slices ![e, 0] (Sh 1 128) := by decide) (h4 : (Sh 128 128).Slices ![o, 0] (Sh 16 128) := by decide)
    (h8 : (Sh 128 128).Slices ![o, 0] (Sh M 128) := by decide)
    (h5 : (Sh M 16).Slices ![0, 0] (Sh 16 16) := by decide) (h6 : (Sh M 16).Slices ![16, 0] (Sh M' 16) := by decide)
    (h7 : Shape.Concatenates [Sh 16 16, Sh M' 16] (Sh M 16) 0 := by decide)
    (h9 : Shape.Concatenates [Sh o 128, Sh M 128] (Sh 128 128) 0 := by decide) : FVec F (Sh 128 128) .f32 :=
  concatenate (Sh 128 128) 0 [⟨Sh o 128, zeros o 128⟩, ⟨Sh M 128,
    weigh (concatenate (Sh M 16) 0
      [⟨Sh 16 16, mask .sle (extractStridedSlice (Sh 16 16) ![0, 0]
          (scores (cutRows o M q h8) (cutRows o M b h8) (cutRows o 16 k h4) (cutRows o 16 b h4) (cutRows e 1 b h3) h1 h2) h5)⟩,
       ⟨Sh M' 16, extractStridedSlice (Sh M' 16) ![16, 0]
          (scores (cutRows o M q h8) (cutRows o M b h8) (cutRows o 16 k h4) (cutRows o 16 b h4) (cutRows e 1 b h3) h1 h2) h6⟩] h7)
      (cutRows o 16 vb h4)⟩] h9

/-- Forward, the last 16 columns: the last 16 rows, zero above. -/
def fwdLast (h2 : (Sh 1 128).Broadcasts (Sh 16 128) := by decide)
    (h3 : (Sh 128 128).Slices ![127, 0] (Sh 1 128) := by decide) (h4 : (Sh 128 128).Slices ![112, 0] (Sh 16 128) := by decide)
    (h9 : Shape.Concatenates [Sh 112 128, Sh 16 128] (Sh 128 128) 0 := by decide) : FVec F (Sh 128 128) .f32 :=
  concatenate (Sh 128 128) 0 [⟨Sh 112 128, zeros 112 128⟩, ⟨Sh 16 128,
    weigh (mask .sle (scores (cutRows 112 16 q h4) (cutRows 112 16 b h4) (cutRows 112 16 k h4) (cutRows 112 16 b h4) (cutRows 127 1 b h3) h2 h2))
      (cutRows 112 16 vb h4)⟩] h9

/-- Backward, the first 16 columns: the first 16 rows, zero below. -/
def bwdFirst (h2 : (Sh 1 128).Broadcasts (Sh 16 128) := by decide)
    (h3 : (Sh 128 128).Slices ![0, 0] (Sh 1 128) := by decide) (h4 : (Sh 128 128).Slices ![0, 0] (Sh 16 128) := by decide)
    (h9 : Shape.Concatenates [Sh 16 128, Sh 112 128] (Sh 128 128) 0 := by decide) : FVec F (Sh 128 128) .f32 :=
  concatenate (Sh 128 128) 0 [⟨Sh 16 128,
    weigh (mask .sge (scores (cutRows 0 16 q h4) (cutRows 0 16 b h4) (cutRows 0 16 k h4) (cutRows 0 16 b h4) (cutRows 0 1 b h3) h2 h2))
      (cutRows 0 16 vb h4)⟩, ⟨Sh 112 128, zeros 112 128⟩] h9

/-- Backward, 16 columns from `o`: the first `M = o + 16` rows, zero in the `M'` rows below. -/
def bwdMid (o M M' : ℕ) (h1 : (Sh 1 128).Broadcasts (Sh M 128) := by decide) (h2 : (Sh 1 128).Broadcasts (Sh 16 128) := by decide)
    (h3 : (Sh 128 128).Slices ![o, 0] (Sh 1 128) := by decide) (h4 : (Sh 128 128).Slices ![o, 0] (Sh 16 128) := by decide)
    (h8 : (Sh 128 128).Slices ![0, 0] (Sh M 128) := by decide)
    (h5 : (Sh M 16).Slices ![o, 0] (Sh 16 16) := by decide) (h6 : (Sh M 16).Slices ![0, 0] (Sh o 16) := by decide)
    (h7 : Shape.Concatenates [Sh o 16, Sh 16 16] (Sh M 16) 0 := by decide)
    (h9 : Shape.Concatenates [Sh M 128, Sh M' 128] (Sh 128 128) 0 := by decide) : FVec F (Sh 128 128) .f32 :=
  concatenate (Sh 128 128) 0 [⟨Sh M 128,
    weigh (concatenate (Sh M 16) 0
      [⟨Sh o 16, extractStridedSlice (Sh o 16) ![0, 0]
          (scores (cutRows 0 M q h8) (cutRows 0 M b h8) (cutRows o 16 k h4) (cutRows o 16 b h4) (cutRows o 1 b h3) h1 h2) h6⟩,
       ⟨Sh 16 16, mask .sge (extractStridedSlice (Sh 16 16) ![o, 0]
          (scores (cutRows 0 M q h8) (cutRows 0 M b h8) (cutRows o 16 k h4) (cutRows o 16 b h4) (cutRows o 1 b h3) h1 h2) h5)⟩] h7)
      (cutRows o 16 vb h4)⟩, ⟨Sh M' 128, zeros M' 128⟩] h9

/-- Backward, the last 16 columns: every row. -/
def bwdLast (h1 : (Sh 1 128).Broadcasts (Sh 128 128) := by decide) (h2 : (Sh 1 128).Broadcasts (Sh 16 128) := by decide)
    (h3 : (Sh 128 128).Slices ![112, 0] (Sh 1 128) := by decide) (h4 : (Sh 128 128).Slices ![112, 0] (Sh 16 128) := by decide)
    (h5 : (Sh 128 16).Slices ![112, 0] (Sh 16 16) := by decide) (h6 : (Sh 128 16).Slices ![0, 0] (Sh 112 16) := by decide)
    (h7 : Shape.Concatenates [Sh 112 16, Sh 16 16] (Sh 128 16) 0 := by decide) : FVec F (Sh 128 128) .f32 :=
  weigh (concatenate (Sh 128 16) 0
      [⟨Sh 112 16, extractStridedSlice (Sh 112 16) ![0, 0] (scores q b (cutRows 112 16 k h4) (cutRows 112 16 b h4) (cutRows 112 1 b h3) h1 h2) h6⟩,
       ⟨Sh 16 16, mask .sge (extractStridedSlice (Sh 16 16) ![112, 0] (scores q b (cutRows 112 16 k h4) (cutRows 112 16 b h4) (cutRows 112 1 b h3) h1 h2) h5)⟩] h7)
    (cutRows 112 16 vb h4)

end pieces

/-- The forward chunk's rows from the state before it. -/
def fwdOutOf (q k b : FVec F (Sh 128 128) .f32) (vb : FVec F (Sh 128 128) .bf16) (st : FVec F (Sh 128 128) .f32) : FVec F (Sh 128 128) .f32 :=
  addf (addf (addf (addf (addf (addf (addf (addf (inter q b st) (fwdFirst q k b vb)) (fwdMid q k b vb 16 31 112 96))
    (fwdMid q k b vb 32 47 96 80)) (fwdMid q k b vb 48 63 80 64)) (fwdMid q k b vb 64 79 64 48)) (fwdMid q k b vb 80 95 48 32))
    (fwdMid q k b vb 96 111 32 16)) (fwdLast q k b vb)

/-- The backward chunk's rows from the state after it. -/
def bwdOutOf (q k b : FVec F (Sh 128 128) .f32) (vb : FVec F (Sh 128 128) .bf16) (st : FVec F (Sh 128 128) .f32) : FVec F (Sh 128 128) .f32 :=
  addf (addf (addf (addf (addf (addf (addf (addf (inter q b st) (bwdFirst q k b vb)) (bwdMid q k b vb 16 32 96))
    (bwdMid q k b vb 32 48 80)) (bwdMid q k b vb 48 64 64)) (bwdMid q k b vb 64 80 48)) (bwdMid q k b vb 80 96 32))
    (bwdMid q k b vb 96 112 16)) (bwdLast q k b vb)

/-- The forward chunk's rows. -/
def fwdOut (lb : FVec F (Sh 1 128) .f32) (q z v st : FVec F (Sh 128 128) .f32) : FVec F (Sh 128 128) .f32 :=
  fwdOutOf q (key lb z) (sumDown (logGate lb z)) (cut v) st
/-- The state after a forward chunk. -/
def fwdState (lb : FVec F (Sh 1 128) .f32) (z v st : FVec F (Sh 128 128) .f32)
    (h : (Sh 128 128).Slices ![127, 0] (Sh 1 128) := by decide) : FVec F (Sh 128 128) .f32 :=
  nextState (key lb z) (sumDown (logGate lb z)) st (cut v) (cutRows 127 1 (sumDown (logGate lb z)) h)
/-- The backward chunk's rows. -/
def bwdOut (lb : FVec F (Sh 1 128) .f32) (q z v st : FVec F (Sh 128 128) .f32) : FVec F (Sh 128 128) .f32 :=
  bwdOutOf q (key lb z) (sumUp (logGate lb z)) (cut v) st
/-- The state after a backward chunk. -/
def bwdState (lb : FVec F (Sh 1 128) .f32) (z v st : FVec F (Sh 128 128) .f32)
    (h : (Sh 128 128).Slices ![0, 0] (Sh 1 128) := by decide) : FVec F (Sh 128 128) .f32 :=
  nextState (key lb z) (sumUp (logGate lb z)) st (cut v) (cutRows 0 1 (sumUp (logGate lb z)) h)

end Cert.Layer
-- ==== Proof.Layer.Gates.lean ====
/- The gates of one chunk and the inclusive sums of its log gates, at the extended reals: from lower bounds strictly between
   0 and 1 the log gate and the key are real whatever the gate logits are, and seven doublings give the inclusive sums. -/
module

public import proofs.«01_k».proof.Proof.Layer.Chunk

@[expose] public section

noncomputable section

namespace Cert.Layer

open Idealize.ShloMosaic hiding ix2
open Idealize.ShloMosaic.ValueIdx

/-- The logistic function of an extended real, as a real. -/
def sg (x : EReal) : ℝ := (Ideal.logistic x).toReal

theorem logistic_real (x : EReal) : Ideal.logistic x = ((sg x : ℝ) : EReal) ∧ 0 ≤ sg x := by
  induction x using EReal.rec with
  | bot =>
    have h : Ideal.logistic ⊥ = ((0 : ℝ) : EReal) := by simp
    unfold sg; rw [h]; simp
  | top =>
    have h : Ideal.logistic ⊤ = ((1 : ℝ) : EReal) := by simp
    unfold sg; rw [h]; simp
  | coe r =>
    have h := Ideal.logistic_coe (r := r)
    unfold sg; rw [h]
    refine ⟨rfl, ?_⟩
    rw [EReal.toReal_coe]; positivity

theorem sg_coe (x : EReal) : Ideal.logistic x = ((sg x : ℝ) : EReal) := (logistic_real x).1
theorem sg_nonneg (x : EReal) : 0 ≤ sg x := (logistic_real x).2

/-- The real log gate of a lower bound and a gate logit. -/
def lg (l : ℝ) (z : EReal) : ℝ := Real.log (l + (1 - l) * sg z)
/-- The real key of a lower bound and a gate logit. -/
def ky (l : ℝ) (z : EReal) : ℝ := (1 - l) * sg (-z)

/-- A matrix of extended reals given at every row and column by a function of two natural numbers. -/
def Ext {M N : ℕ} (x : FVec Ideal (Sh M N) .f32) (r : ℕ → ℕ → EReal) : Prop :=
  ∀ (i : Fin M) (j : Fin N), (x (ix2 i j) : EReal) = r i.val j.val

theorem log_gate_real {l : ℝ} (h0 : 0 < l) (h1 : l < 1) (z : EReal) :
    Ideal.log ((l : EReal) + ((1 : ℝ) - (l : EReal)) * Ideal.logistic z) = ((lg l z : ℝ) : EReal) := by
  have hp : 0 < l + (1 - l) * sg z := add_pos_of_pos_of_nonneg h0 (mul_nonneg (by linarith) (sg_nonneg z))
  rw [sg_coe, ← EReal.coe_sub, ← EReal.coe_mul, ← EReal.coe_add, Ideal.log_coe, if_neg (not_le.2 hp)]
  rfl

theorem key_real (l : ℝ) (z : EReal) :
    ((1 : ℝ) - (l : EReal)) * Ideal.logistic (-z) = ((ky l z : ℝ) : EReal) := by
  rw [sg_coe, ← EReal.coe_sub, ← EReal.coe_mul]; rfl

section gates

variable {lb : FVec Ideal (Sh 1 128) .f32} {l : ℕ → ℝ} {z : FVec Ideal (Sh 128 128) .f32} {Z : ℕ → ℕ → EReal}

theorem Rep.logGate (hl : Rep lb fun _ d => l d) (h01 : ∀ d, 0 < l d ∧ l d < 1) (hz : Ext z Z) :
    Rep (logGate lb z) fun i d => lg (l d) (Z i d) := fun i d => by
  have h1 := (hl.spread (M := 128) (by decide) (by decide)) i d
  have h2 := ((Rep.one.sub hl).spread (M := 128) (by decide) (by decide)) i d
  show Ideal.log (_ + _ * Ideal.logistic (z (ix2 i d))) = _
  rw [← log_gate_real (h01 d.val).1 (h01 d.val).2, ← EReal.coe_sub, ← hz i d]
  exact congrArg Ideal.log (congrArg₂ _ h1 (congrArg₂ _ h2 rfl))

theorem Rep.key (hl : Rep lb fun _ d => l d) (hz : Ext z Z) :
    Rep (key lb z) fun i d => ky (l d) (Z i d) := fun i d => by
  have h2 := ((Rep.one.sub hl).spread (M := 128) (by decide) (by decide)) i d
  have h0 := (Rep.zero (M := 128) (N := 128)) i d
  rw [← key_real, ← EReal.coe_sub, ← hz i d]
  refine congrArg₂ _ h2 (congrArg Ideal.logistic ?_)
  refine (congrArg (· - z (ix2 i d) : EReal → EReal) (h0.trans EReal.coe_zero)).trans ?_
  exact zero_sub _

end gates

/-! ## The sums by doubling -/

section sums

variable {x : FVec Ideal (Sh 128 128) .f32} {r : ℕ → ℕ → ℝ}

theorem cmp_sge (i : Fin 128) (w : ℕ) (hw : w < 128) :
    IntOp.cmpi .sge (BitVec.ofNat 32 i.val) (BitVec.ofNat 32 w) = if w ≤ i.val then 1#1 else 0#1 := by
  have hi := i.isLt
  have h : IntOp.cmpi .sge (BitVec.ofNat 32 i.val) (BitVec.ofNat 32 w) = BitVec.ofBool (decide (w ≤ i.val)) := by
    show BitVec.ofBool ((BitVec.ofNat 32 w).sle (BitVec.ofNat 32 i.val)) = _
    congr 1
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    all_goals simp only [BitVec.toNat_ofNat]; omega
  rw [h]; split <;> rename_i hc <;> simp [hc]

theorem cmp_slt (i : Fin 128) (w : ℕ) (hw : w < 128) :
    IntOp.cmpi .slt (BitVec.ofNat 32 i.val) (BitVec.ofNat 32 w) = if i.val < w then 1#1 else 0#1 := by
  have hi := i.isLt
  have h : IntOp.cmpi .slt (BitVec.ofNat 32 i.val) (BitVec.ofNat 32 w) = BitVec.ofBool (decide (i.val < w)) := by
    show BitVec.ofBool ((BitVec.ofNat 32 i.val).slt (BitVec.ofNat 32 w)) = _
    congr 1
    rw [BitVec.slt_eq_decide, BitVec.toInt_eq_toNat_of_lt, BitVec.toInt_eq_toNat_of_lt]
    · simp only [BitVec.toNat_ofNat]
      rw [Nat.mod_eq_of_lt (by omega), Nat.mod_eq_of_lt (by omega)]
      simp
    all_goals simp only [BitVec.toNat_ofNat]; omega
  rw [h]; split <;> rename_i hc <;> simp [hc]

theorem rotated (w : ℕ) (hw : w < 128) (h : (Sh 128 128).Rotates 0 none) (i j k : Fin 128)
    (hk : k.val = (i.val + 128 - w) % 128) :
    dynamicRotate 0 (BitVec.ofNat 32 w) none x h (ix2 i j) = x (ix2 k j) :=
  dynamicRotate_apply 0 _ x h (ix2 i j) (ix2 k j) fun b => by
    match b with
    | ⟨0, _⟩ =>
      show k.val = (i.val + 128 - (BitVec.ofNat 32 w).toNat % 128) % 128
      rw [BitVec.toNat_ofNat, Nat.mod_eq_of_lt (a := w) (by omega), Nat.mod_eq_of_lt hw, hk]
    | ⟨1, _⟩ => rfl

/-- A row gains the row `w` above it, where there is one. -/
theorem Rep.down (hx : Rep x r) (w : ℕ) (hw : w < 128) :
    Rep (down (BitVec.ofNat 32 w) x) fun i j => r i j + if w ≤ i then r (i - w) j else 0 := fun i j => by
  have hi := i.isLt
  rw [EReal.coe_add, ← hx i j]
  refine congrArg (x (ix2 i j) + · : EReal → EReal) ?_
  rw [select_apply, cmpi_apply, iota_single_apply, show broadcast (Sh 128 128) (BitVec.ofNat 32 w) (ix2 i j) = BitVec.ofNat 32 w from rfl]
  rw [show BitVec.ofNat 32 ((ix2 i j : (Sh 128 128).Idx) (0 : Fin 2)).val = BitVec.ofNat 32 i.val from rfl, cmp_sge i w hw]
  by_cases hc : w ≤ i.val
  · rw [if_pos hc, if_pos hc, rotated w hw _ i j ⟨i.val - w, by omega⟩ (by show i.val - w = _; omega)]
    exact hx _ j
  · rw [if_neg hc, if_neg hc]
    exact (Rep.zero (M := 128) (N := 128)) i j

/-- A row gains the row `128 - w` below it, where there is one. -/
theorem Rep.up (hx : Rep x r) (w : ℕ) (hw : w < 128) (hw0 : 0 < w) :
    Rep (up (BitVec.ofNat 32 w) x) fun i j => r i j + if i < w then r (i + (128 - w)) j else 0 := fun i j => by
  have hi := i.isLt
  rw [EReal.coe_add, ← hx i j]
  refine congrArg (x (ix2 i j) + · : EReal → EReal) ?_
  rw [select_apply, cmpi_apply, iota_single_apply, show broadcast (Sh 128 128) (BitVec.ofNat 32 w) (ix2 i j) = BitVec.ofNat 32 w from rfl]
  rw [show BitVec.ofNat 32 ((ix2 i j : (Sh 128 128).Idx) (0 : Fin 2)).val = BitVec.ofNat 32 i.val from rfl, cmp_slt i w hw]
  by_cases hc : i.val < w
  · rw [if_pos hc, if_pos hc, rotated w hw _ i j ⟨i.val + (128 - w), by omega⟩ (by show i.val + (128 - w) = _; omega)]
    exact hx _ j
  · rw [if_neg hc, if_neg hc]
    exact (Rep.zero (M := 128) (N := 128)) i j

/-- The sum of the first `n` rows of a column. -/
def pre (r : ℕ → ℕ → ℝ) (n j : ℕ) : ℝ := ∑ s ∈ Finset.range n, r s j
/-- The sum of the last `n` of 128 rows of a column. -/
def suf (r : ℕ → ℕ → ℝ) (n j : ℕ) : ℝ := ∑ s ∈ Finset.range n, r (127 - s) j

theorem down_step {y : FVec Ideal (Sh 128 128) .f32} (w : ℕ) (hw : w < 128)
    (hy : Rep y fun i j => pre r (i + 1) j - pre r (i + 1 - w) j) :
    Rep (down (BitVec.ofNat 32 w) y) fun i j => pre r (i + 1) j - pre r (i + 1 - 2 * w) j :=
  (hy.down w hw).congr fun i j _ _ => by
    by_cases hc : w ≤ i
    · rw [if_pos hc, show i - w + 1 = i + 1 - w by omega, show i + 1 - w - w = i + 1 - 2 * w by omega]; ring
    · rw [if_neg hc, show i + 1 - w = 0 by omega, show i + 1 - 2 * w = 0 by omega]; ring

theorem up_step {y : FVec Ideal (Sh 128 128) .f32} (w v : ℕ) (hv : v < 128) (hv0 : 0 < v) (hwv : 128 - v = w)
    (hy : Rep y fun i j => suf r (128 - i) j - suf r (128 - i - w) j) :
    Rep (up (BitVec.ofNat 32 v) y) fun i j => suf r (128 - i) j - suf r (128 - i - 2 * w) j :=
  (hy.up v hv hv0).congr fun i j _ _ => by
    by_cases hc : i < v
    · rw [if_pos hc, hwv, show 128 - (i + w) = 128 - i - w by omega, show 128 - i - w - w = 128 - i - 2 * w by omega]; ring
    · rw [if_neg hc, show 128 - i - w = 0 by omega, show 128 - i - 2 * w = 0 by omega]; ring

/-- The inclusive sums from the first row down. -/
theorem Rep.sumDown (hx : Rep x r) : Rep (sumDown x) fun i j => pre r (i + 1) j := by
  have h0 : Rep x fun i j => pre r (i + 1) j - pre r (i + 1 - 1) j :=
    hx.congr fun i j _ _ => by rw [Nat.add_sub_cancel, pre, pre, Finset.sum_range_succ]; ring
  have h := down_step 64 (by decide) (down_step 32 (by decide) (down_step 16 (by decide) (down_step 8 (by decide)
    (down_step 4 (by decide) (down_step 2 (by decide) (down_step 1 (by decide) h0))))))
  exact h.congr fun i j hi _ => by rw [show i + 1 - 2 * 64 = 0 by omega]; simp [pre]

/-- The inclusive sums from the last row up. -/
theorem Rep.sumUp (hx : Rep x r) : Rep (sumUp x) fun i j => suf r (128 - i) j := by
  have h0 : Rep x fun i j => suf r (128 - i) j - suf r (128 - i - 1) j :=
    hx.congr fun i j hi _ => by
      obtain ⟨n, hn⟩ : ∃ n, 128 - i = n + 1 := ⟨127 - i, by omega⟩
      rw [hn, Nat.add_sub_cancel, suf, suf, Finset.sum_range_succ, show 127 - n = i by omega]; ring
  have h := up_step 64 64 (by decide) (by decide) rfl (up_step 32 96 (by decide) (by decide) rfl (up_step 16 112 (by decide) (by decide) rfl
    (up_step 8 120 (by decide) (by decide) rfl (up_step 4 124 (by decide) (by decide) rfl (up_step 2 126 (by decide) (by decide) rfl
      (up_step 1 127 (by decide) (by decide) rfl h0))))))
  exact h.congr fun i j hi _ => by rw [show 128 - i - 2 * 64 = 0 by omega]; simp [suf]

end sums

end Cert.Layer
-- ==== Proof.Layer.Pieces.lean ====
/- The eight 16-column pieces of a chunk's masked product, the carried state's part and the new state, at the extended reals:
   the reference rows cancel in the exponents, and the pieces add up to the sum over the chunk's earlier (or later) rows. -/
module

public import proofs.«01_k».proof.Proof.Layer.Chunk

@[expose] public section

noncomputable section

namespace Cert.Layer

open Idealize.ShloMosaic hiding ix2
open Idealize.ShloMosaic.ValueIdx

/-- The score of row `i` against row `s`: the key decayed from `s` to `i`. -/
def sco (Q K B : ℕ → ℕ → ℝ) (i s : ℕ) : ℝ := ∑ d ∈ Finset.range 128, Q i d * K s d * Real.exp (B i d - B s d)

theorem Rep.cut {M N : ℕ} {x : FVec Ideal (Sh M N) .f32} {r : ℕ → ℕ → ℝ} (hx : Rep x r) : Rep (cut x) r := hx.trunc bits_lt

theorem Rep.cutRows {φ : FTy} {x : FVec Ideal (Sh 128 128) φ} {r : ℕ → ℕ → ℝ} (hx : Rep x r) (o M : ℕ)
    (h : (Sh 128 128).Slices ![o, 0] (Sh M 128)) : Rep (cutRows o M x h) fun i j => r (o + i) j := hx.rows o h

section ops

variable {q k b st : FVec Ideal (Sh 128 128) .f32} {vb : FVec Ideal (Sh 128 128) .bf16} {Q K B V S : ℕ → ℕ → ℝ}

theorem Rep.inter (hq : Rep q Q) (hb : Rep b B) (hs : Rep st S) :
    Rep (inter q b st) fun i e => ∑ d ∈ Finset.range 128, Q i d * Real.exp (B i d) * S e d :=
  Rep.dotNT (hq.mul hb.exp).cut hs.cut

theorem Rep.nextState {edge : FVec Ideal (Sh 1 128) .f32} {E : ℕ → ℕ → ℝ} (hk : Rep k K) (hb : Rep b B) (hs : Rep st S) (hv : Rep vb V)
    (he : Rep edge E) : Rep (nextState k b st vb edge) fun e d =>
      S e d * Real.exp (E 0 d) + ∑ s ∈ Finset.range 128, V s e * (K s d * Real.exp (E 0 d - B s d)) :=
  (hs.mul (he.exp.spread (by decide) (by decide))).add
    (Rep.dotTN hv (hk.mul ((he.spread (by decide) (by decide)).sub hb).exp).cut)

theorem Rep.scores {M : ℕ} {q b : FVec Ideal (Sh M 128) .f32} {k bk : FVec Ideal (Sh 16 128) .f32} {ref : FVec Ideal (Sh 1 128) .f32}
    {Q B K BK R : ℕ → ℕ → ℝ} (hq : Rep q Q) (hb : Rep b B) (hk : Rep k K) (hbk : Rep bk BK) (hr : Rep ref R)
    (h1 : (Sh 1 128).Broadcasts (Sh M 128)) (h2 : (Sh 1 128).Broadcasts (Sh 16 128)) :
    Rep (scores q b k bk ref h1 h2) fun i j => ∑ d ∈ Finset.range 128, Q i d * K j d * Real.exp (B i d - BK j d) :=
  (Rep.dotNT (hq.mul (hb.sub (hr.spread (by decide) h1)).exp).cut (hk.mul ((hr.spread (by decide) h2).sub hbk).exp).cut).congr
    fun i j _ _ => Finset.sum_congr rfl fun d _ => by
      rw [show B i d - BK j d = (B i d - R 0 d) + (R 0 d - BK j d) by ring, Real.exp_add]; ring

theorem cmp16 (i j : Fin 16) : (IntOp.cmpi .sle (BitVec.ofNat 32 j.val) (BitVec.ofNat 32 i.val) = if j.val ≤ i.val then 1#1 else 0#1)
    ∧ (IntOp.cmpi .sge (BitVec.ofNat 32 j.val) (BitVec.ofNat 32 i.val) = if i.val ≤ j.val then 1#1 else 0#1) := by
  revert i j; decide

theorem Rep.maskLe {a : FVec Ideal (Sh 16 16) .f32} {r : ℕ → ℕ → ℝ} (ha : Rep a r) :
    Rep (mask .sle a) fun i j => if j ≤ i then r i j else 0 := fun i j => by
  unfold mask
  rw [select_apply, cmpi_apply, iota_single_apply, iota_single_apply]
  show Scalar.select (IntOp.cmpi .sle (BitVec.ofNat 32 j.val) (BitVec.ofNat 32 i.val)) _ _ = ((if j.val ≤ i.val then r i.val j.val else 0 : ℝ) : EReal)
  rw [(cmp16 i j).1]
  by_cases hc : j.val ≤ i.val
  · rw [if_pos hc, if_pos hc]; exact ha i j
  · rw [if_neg hc, if_neg hc]; exact (Rep.zero (M := 16) (N := 16)) i j

theorem Rep.maskGe {a : FVec Ideal (Sh 16 16) .f32} {r : ℕ → ℕ → ℝ} (ha : Rep a r) :
    Rep (mask .sge a) fun i j => if i ≤ j then r i j else 0 := fun i j => by
  unfold mask
  rw [select_apply, cmpi_apply, iota_single_apply, iota_single_apply]
  show Scalar.select (IntOp.cmpi .sge (BitVec.ofNat 32 j.val) (BitVec.ofNat 32 i.val)) _ _ = ((if i.val ≤ j.val then r i.val j.val else 0 : ℝ) : EReal)
  rw [(cmp16 i j).2]
  by_cases hc : i.val ≤ j.val
  · rw [if_pos hc, if_pos hc]; exact ha i j
  · rw [if_neg hc, if_neg hc]; exact (Rep.zero (M := 16) (N := 16)) i j

theorem Rep.weigh {M : ℕ} {a : FVec Ideal (Sh M 16) .f32} {v : FVec Ideal (Sh 16 128) .bf16} {A W : ℕ → ℕ → ℝ} (ha : Rep a A) (hv : Rep v W) :
    Rep (weigh a v) fun i e => ∑ j ∈ Finset.range 16, A i j * W j e := Rep.dotNN ha.cut hv

end ops

section pieces

variable {q k b st : FVec Ideal (Sh 128 128) .f32} {vb : FVec Ideal (Sh 128 128) .bf16} {Q K B V S : ℕ → ℕ → ℝ}

/-- The part of 16 columns from `o`, forward. -/
def partLe (Q K B V : ℕ → ℕ → ℝ) (o i e : ℕ) : ℝ := ∑ j ∈ Finset.range 16, if o + j ≤ i then sco Q K B i (o + j) * V (o + j) e else 0
/-- The part of 16 columns from `o`, backward. -/
def partGe (Q K B V : ℕ → ℕ → ℝ) (o i e : ℕ) : ℝ := ∑ j ∈ Finset.range 16, if i ≤ o + j then sco Q K B i (o + j) * V (o + j) e else 0

theorem part_zero {o : ℕ} {p : ℕ → Prop} [DecidablePred p] (h : ∀ j, j < 16 → ¬ p j) (f : ℕ → ℝ) :
    (∑ j ∈ Finset.range 16, if p j then f j else 0) = 0 :=
  Finset.sum_eq_zero fun j hj => if_neg (h j (Finset.mem_range.1 hj))

theorem ite_mul_zero' (p : Prop) [Decidable p] (a b : ℝ) : (if p then a else 0) * b = if p then a * b else 0 := by split <;> simp

theorem Rep.fwdFirst (hq : Rep q Q) (hk : Rep k K) (hb : Rep b B) (hv : Rep vb V) : Rep (fwdFirst q k b vb) (partLe Q K B V 0) := by
  have hs := Rep.scores hq hb (hk.cutRows 0 16 (by decide)) (hb.cutRows 0 16 (by decide)) (hb.cutRows 15 1 (by decide)) (by decide) (by decide)
  refine (Rep.weigh (Rep.stack ((hs.rows 0 (by decide)).maskLe) (hs.rows (M' := 112) 16 (by decide)) (by decide) rfl) (hv.cutRows 0 16 (by decide))).congr
    fun i e _ _ => Finset.sum_congr rfl fun j hj => ?_
  have hj := Finset.mem_range.1 hj
  by_cases hi : i < 16
  · rw [if_pos hi, ite_mul_zero']; simp only [Nat.zero_add, sco]
  · rw [if_neg hi, if_pos (by omega), show 16 + (i - 16) = i by omega]; simp only [Nat.zero_add, sco]

theorem Rep.fwdMid (hq : Rep q Q) (hk : Rep k K) (hb : Rep b B) (hv : Rep vb V) (o e M M' : ℕ) (hM : 128 = o + M) (hM' : M = 16 + M')
    (h1 : (Sh 1 128).Broadcasts (Sh M 128)) (h2 : (Sh 1 128).Broadcasts (Sh 16 128))
    (h3 : (Sh 128 128).Slices ![e, 0] (Sh 1 128)) (h4 : (Sh 128 128).Slices ![o, 0] (Sh 16 128))
    (h8 : (Sh 128 128).Slices ![o, 0] (Sh M 128))
    (h5 : (Sh M 16).Slices ![0, 0] (Sh 16 16)) (h6 : (Sh M 16).Slices ![16, 0] (Sh M' 16))
    (h7 : Shape.Concatenates [Sh 16 16, Sh M' 16] (Sh M 16) 0)
    (h9 : Shape.Concatenates [Sh o 128, Sh M 128] (Sh 128 128) 0) :
    Rep (fwdMid q k b vb o e M M' h1 h2 h3 h4 h8 h5 h6 h7 h9) (partLe Q K B V o) := by
  have hs := Rep.scores (hq.cutRows o M h8) (hb.cutRows o M h8) (hk.cutRows o 16 h4) (hb.cutRows o 16 h4) (hb.cutRows e 1 h3) h1 h2
  refine (Rep.stack Rep.zero (Rep.weigh (Rep.stack ((hs.rows 0 h5).maskLe) (hs.rows 16 h6) h7 hM') (hv.cutRows o 16 h4)) h9 hM).congr
    fun i e _ _ => ?_
  by_cases ho : i < o
  · rw [if_pos ho]; exact (part_zero (o := o) (fun j _ => by omega) _).symm
  rw [if_neg ho]
  refine Finset.sum_congr rfl fun j hj => ?_
  have hj := Finset.mem_range.1 hj
  by_cases hi : i - o < 16
  · rw [if_pos hi, ite_mul_zero']
    simp only [Nat.zero_add, sco, show o + (i - o) = i by omega, show (j ≤ i - o) = (o + j ≤ i) from propext (by omega)]
  · rw [if_neg hi, if_pos (by omega), show 16 + (i - o - 16) = i - o by omega, show o + (i - o) = i by omega]; rfl

theorem Rep.fwdLast (hq : Rep q Q) (hk : Rep k K) (hb : Rep b B) (hv : Rep vb V) : Rep (fwdLast q k b vb) (partLe Q K B V 112) := by
  have hs := Rep.scores (hq.cutRows 112 16 (by decide)) (hb.cutRows 112 16 (by decide)) (hk.cutRows 112 16 (by decide))
    (hb.cutRows 112 16 (by decide)) (hb.cutRows 127 1 (by decide)) (by decide) (by decide)
  refine (Rep.stack (Rep.zero (M := 112)) (Rep.weigh hs.maskLe (hv.cutRows 112 16 (by decide))) (by decide) rfl).congr fun i e _ _ => ?_
  by_cases ho : i < 112
  · rw [if_pos ho]; exact (part_zero (o := 112) (fun j _ => by omega) _).symm
  rw [if_neg ho]
  refine Finset.sum_congr rfl fun j hj => ?_
  rw [ite_mul_zero']
  simp only [sco, show 112 + (i - 112) = i by omega, show (j ≤ i - 112) = (112 + j ≤ i) from propext (by omega)]

theorem Rep.bwdFirst (hq : Rep q Q) (hk : Rep k K) (hb : Rep b B) (hv : Rep vb V) : Rep (bwdFirst q k b vb) (partGe Q K B V 0) := by
  have hs := Rep.scores (hq.cutRows 0 16 (by decide)) (hb.cutRows 0 16 (by decide)) (hk.cutRows 0 16 (by decide))
    (hb.cutRows 0 16 (by decide)) (hb.cutRows 0 1 (by decide)) (by decide) (by decide)
  refine (Rep.stack (Rep.weigh hs.maskGe (hv.cutRows 0 16 (by decide))) (Rep.zero (M := 112)) (by decide) rfl).congr fun i e _ _ => ?_
  by_cases ho : i < 16
  · rw [if_pos ho]
    refine Finset.sum_congr rfl fun j hj => ?_
    rw [ite_mul_zero']; simp only [Nat.zero_add, sco]
  · rw [if_neg ho]; exact (part_zero (o := 0) (fun j _ => by omega) _).symm

theorem Rep.bwdMid (hq : Rep q Q) (hk : Rep k K) (hb : Rep b B) (hv : Rep vb V) (o M M' : ℕ) (hM : 128 = M + M') (hM' : M = o + 16)
    (h1 : (Sh 1 128).Broadcasts (Sh M 128)) (h2 : (Sh 1 128).Broadcasts (Sh 16 128))
    (h3 : (Sh 128 128).Slices ![o, 0] (Sh 1 128)) (h4 : (Sh 128 128).Slices ![o, 0] (Sh 16 128))
    (h8 : (Sh 128 128).Slices ![0, 0] (Sh M 128))
    (h5 : (Sh M 16).Slices ![o, 0] (Sh 16 16)) (h6 : (Sh M 16).Slices ![0, 0] (Sh o 16))
    (h7 : Shape.Concatenates [Sh o 16, Sh 16 16] (Sh M 16) 0)
    (h9 : Shape.Concatenates [Sh M 128, Sh M' 128] (Sh 128 128) 0) :
    Rep (bwdMid q k b vb o M M' h1 h2 h3 h4 h8 h5 h6 h7 h9) (partGe Q K B V o) := by
  have hs := Rep.scores (hq.cutRows 0 M h8) (hb.cutRows 0 M h8) (hk.cutRows o 16 h4) (hb.cutRows o 16 h4) (hb.cutRows o 1 h3) h1 h2
  refine (Rep.stack (Rep.weigh (Rep.stack (hs.rows 0 h6) ((hs.rows o h5).maskGe) h7 hM') (hv.cutRows o 16 h4)) Rep.zero h9 hM).congr
    fun i e _ _ => ?_
  by_cases ho : i < M
  · rw [if_pos ho]
    refine Finset.sum_congr rfl fun j hj => ?_
    by_cases hi : i < o
    · rw [if_pos hi, if_pos (by omega)]; simp only [Nat.zero_add, sco]
    · rw [if_neg hi, ite_mul_zero']
      simp only [Nat.zero_add, sco, show o + (i - o) = i by omega, show (i - o ≤ j) = (i ≤ o + j) from propext (by omega)]
  · rw [if_neg ho]; exact (part_zero (o := o) (fun j _ => by omega) _).symm

theorem Rep.bwdLast (hq : Rep q Q) (hk : Rep k K) (hb : Rep b B) (hv : Rep vb V) : Rep (bwdLast q k b vb) (partGe Q K B V 112) := by
  have hs := Rep.scores hq hb (hk.cutRows 112 16 (by decide)) (hb.cutRows 112 16 (by decide)) (hb.cutRows 112 1 (by decide)) (by decide) (by decide)
  refine (Rep.weigh (Rep.stack (hs.rows (M' := 112) 0 (by decide)) ((hs.rows 112 (by decide)).maskGe) (by decide) rfl) (hv.cutRows 112 16 (by decide))).congr
    fun i e _ _ => Finset.sum_congr rfl fun j hj => ?_
  have hj := Finset.mem_range.1 hj
  by_cases hi : i < 112
  · rw [if_pos hi, if_pos (by omega)]; simp only [Nat.zero_add, sco]
  · rw [if_neg hi, ite_mul_zero']
    simp only [sco, show 112 + (i - 112) = i by omega, show (i - 112 ≤ j) = (i ≤ 112 + j) from propext (by omega)]

/-- Eight runs of 16. -/
theorem sum_eight (f : ℕ → ℝ) (c : ℝ) : c + (∑ j ∈ Finset.range 16, f (0 + j)) + (∑ j ∈ Finset.range 16, f (16 + j)) + (∑ j ∈ Finset.range 16, f (32 + j))
    + (∑ j ∈ Finset.range 16, f (48 + j)) + (∑ j ∈ Finset.range 16, f (64 + j)) + (∑ j ∈ Finset.range 16, f (80 + j))
    + (∑ j ∈ Finset.range 16, f (96 + j)) + (∑ j ∈ Finset.range 16, f (112 + j)) = c + ∑ s ∈ Finset.range 128, f s := by
  have h := fun n : ℕ => Finset.sum_range_add f n 16
  rw [h 112, h 96, h 80, h 64, h 48, h 32, h 16]
  simp only [Nat.zero_add]
  ring

theorem Rep.fwdOutOf (hq : Rep q Q) (hk : Rep k K) (hb : Rep b B) (hv : Rep vb V) (hs : Rep st S) :
    Rep (fwdOutOf q k b vb st) fun i e => (∑ d ∈ Finset.range 128, Q i d * Real.exp (B i d) * S e d)
      + ∑ s ∈ Finset.range 128, if s ≤ i then sco Q K B i s * V s e else 0 :=
  (((((((((hq.inter hb hs).add (hq.fwdFirst hk hb hv)).add (hq.fwdMid hk hb hv 16 31 112 96 rfl rfl _ _ _ _ _ _ _ _ _)).add
    (hq.fwdMid hk hb hv 32 47 96 80 rfl rfl _ _ _ _ _ _ _ _ _)).add (hq.fwdMid hk hb hv 48 63 80 64 rfl rfl _ _ _ _ _ _ _ _ _)).add
    (hq.fwdMid hk hb hv 64 79 64 48 rfl rfl _ _ _ _ _ _ _ _ _)).add (hq.fwdMid hk hb hv 80 95 48 32 rfl rfl _ _ _ _ _ _ _ _ _)).add
    (hq.fwdMid hk hb hv 96 111 32 16 rfl rfl _ _ _ _ _ _ _ _ _)).add (hq.fwdLast hk hb hv)).congr
    fun i e _ _ => sum_eight (fun s => if s ≤ i then sco Q K B i s * V s e else 0) _

theorem Rep.bwdOutOf (hq : Rep q Q) (hk : Rep k K) (hb : Rep b B) (hv : Rep vb V) (hs : Rep st S) :
    Rep (bwdOutOf q k b vb st) fun i e => (∑ d ∈ Finset.range 128, Q i d * Real.exp (B i d) * S e d)
      + ∑ s ∈ Finset.range 128, if i ≤ s then sco Q K B i s * V s e else 0 :=
  (((((((((hq.inter hb hs).add (hq.bwdFirst hk hb hv)).add (hq.bwdMid hk hb hv 16 32 96 rfl rfl _ _ _ _ _ _ _ _ _)).add
    (hq.bwdMid hk hb hv 32 48 80 rfl rfl _ _ _ _ _ _ _ _ _)).add (hq.bwdMid hk hb hv 48 64 64 rfl rfl _ _ _ _ _ _ _ _ _)).add
    (hq.bwdMid hk hb hv 64 80 48 rfl rfl _ _ _ _ _ _ _ _ _)).add (hq.bwdMid hk hb hv 80 96 32 rfl rfl _ _ _ _ _ _ _ _ _)).add
    (hq.bwdMid hk hb hv 96 112 16 rfl rfl _ _ _ _ _ _ _ _ _)).add (hq.bwdLast hk hb hv)).congr
    fun i e _ _ => sum_eight (fun s => if i ≤ s then sco Q K B i s * V s e else 0) _

end pieces

end Cert.Layer
-- ==== Proof.Layer.Math.lean ====
/- The gated recurrence over a real sequence, as mathematics: each row reads every earlier row's value through its query, that
   row's key and the decay between the two; a chunked pass carries a state that sums the values so far, each decayed to the
   chunk's start. The chunk length is a parameter, so that passes of different chunk lengths meet in the same closed form. -/
module

public import proofs.«01_k».proof.Proof.Layer.Gates
public import proofs.«01_k».proof.Proof.Layer.Pieces

@[expose] public section

noncomputable section

namespace Cert.Layer

variable (Q K V L : ℕ → ℕ → ℝ)

/-- The recurrence's row `t`, value column `e`. -/
def att (t e : ℕ) : ℝ :=
  ∑ s ∈ Finset.range (t + 1), (∑ d ∈ Finset.range 128, Q t d * K s d * Real.exp (pre L (t + 1) d - pre L (s + 1) d)) * V s e

/-- The state after `T` rows: value column `e`, key column `d`. -/
def stt (T e d : ℕ) : ℝ := ∑ s ∈ Finset.range T, V s e * (K s d * Real.exp (pre L T d - pre L (s + 1) d))

/-- A sequence from row `T` on. -/
def sh (X : ℕ → ℕ → ℝ) (T : ℕ) : ℕ → ℕ → ℝ := fun i d => X (T + i) d

theorem pre_shift (T n d : ℕ) : pre L (T + n) d = pre L T d + pre (sh L T) n d := Finset.sum_range_add (fun s => L s d) T n

theorem stt_zero (e d : ℕ) : stt K V L 0 e d = 0 := by simp [stt]

theorem stt_step (T C e d : ℕ) : stt K V L (T + C) e d = stt K V L T e d * Real.exp (pre (sh L T) C d)
    + ∑ s ∈ Finset.range C, sh V T s e * (sh K T s d * Real.exp (pre (sh L T) C d - pre (sh L T) (s + 1) d)) := by
  unfold stt
  rw [Finset.sum_range_add, Finset.sum_mul]
  congr 1
  · refine Finset.sum_congr rfl fun s _ => ?_
    rw [pre_shift, show pre L T d + pre (sh L T) C d - pre L (s + 1) d = (pre L T d - pre L (s + 1) d) + pre (sh L T) C d by ring, Real.exp_add]
    ring
  · refine Finset.sum_congr rfl fun s _ => ?_
    rw [Nat.add_assoc T s 1, pre_shift L T C, pre_shift L T (s + 1)]
    unfold sh
    congr 3; ring

theorem att_step (T C i e : ℕ) (hi : i < C) : att Q K V L (T + i) e
    = (∑ d ∈ Finset.range 128, sh Q T i d * Real.exp (pre (sh L T) (i + 1) d) * stt K V L T e d)
      + ∑ s ∈ Finset.range C, if s ≤ i then sco (sh Q T) (sh K T) (fun i d => pre (sh L T) (i + 1) d) i s * sh V T s e else 0 := by
  unfold att
  rw [Nat.add_assoc T i 1, Finset.sum_range_add]
  congr 1
  · simp only [stt, Finset.mul_sum, Finset.sum_mul]
    rw [Finset.sum_comm]
    refine Finset.sum_congr rfl fun d _ => Finset.sum_congr rfl fun s _ => ?_
    rw [pre_shift L T (i + 1), show pre L T d + pre (sh L T) (i + 1) d - pre L (s + 1) d = pre (sh L T) (i + 1) d + (pre L T d - pre L (s + 1) d) by ring,
      Real.exp_add]
    unfold sh; ring
  · rw [← Finset.sum_filter]
    have hset : (Finset.range C).filter (fun s => s ≤ i) = Finset.range (i + 1) := by
      ext s; simp only [Finset.mem_filter, Finset.mem_range]; omega
    rw [hset]
    refine Finset.sum_congr rfl fun s _ => ?_
    congr 1
    unfold sco
    refine Finset.sum_congr rfl fun d _ => ?_
    rw [Nat.add_assoc T s 1, pre_shift L T (i + 1), pre_shift L T (s + 1)]
    unfold sh
    congr 2; ring

/-- A sequence of 4096 rows read from its end. -/
def rev {α : Type} (X : ℕ → ℕ → α) : ℕ → ℕ → α := fun t d => X (4095 - t) d

variable {Q K V L}

theorem suf_rev (n i d : ℕ) (hn : n < 32) (hi : i ≤ 128) :
    suf (fun j d => L (128 * (31 - n) + j) d) i d = pre (sh (rev L) (128 * n)) i d :=
  Finset.sum_congr rfl fun s hs => by
    have := Finset.mem_range.1 hs
    show L (128 * (31 - n) + (127 - s)) d = L (4095 - (128 * n + s)) d
    congr 1; omega

/-- A chunk's row counted from the end. -/
theorem row_rev (X : ℕ → ℕ → ℝ) (n i d : ℕ) (hn : n < 32) (hi : i < 128) : X (128 * (31 - n) + i) d = sh (rev X) (128 * n) (127 - i) d := by
  show _ = X (4095 - (128 * n + (127 - i))) d
  congr 1; omega

theorem row_rev' (X : ℕ → ℕ → ℝ) (n i d : ℕ) (hn : n < 32) (hi : i < 128) : X (128 * (31 - n) + (127 - i)) d = sh (rev X) (128 * n) i d := by
  show _ = X (4095 - (128 * n + i)) d
  congr 1; omega

end Cert.Layer
-- ==== Proof.Layer.Spec.lean ====
/- The layer's recurrence as a function of the three argument arrays: the projected rows, the lower-bound logits and the norm's
   weights. Per sequence and head, the forward and the backward recurrences are summed, normalised by their root mean square,
   weighted, and gated. -/
module

public import proofs.«01_k».proof.Proof.Layer.Math

@[expose] public section

noncomputable section

namespace Cert.Layer

open Idealize.ShloMosaic hiding ix1 ix2 ix3
open Idealize.ShloMosaic.ValueIdx

/-- The softmax of two reals, at the first. -/
def sm (a b : ℝ) : ℝ := Real.exp (a - max a b) / (Real.exp (a - max a b) + Real.exp (b - max a b))

theorem sm_pos (a b : ℝ) : 0 < sm a b := by unfold sm; positivity
theorem sm_lt (a b : ℝ) : sm a b < 1 := by
  unfold sm
  rw [div_lt_one (by positivity)]
  have := Real.exp_pos (b - max a b)
  linarith

/-- The log gates of a sequence of gate logits. -/
def lgs (l : ℕ → ℝ) (Z : ℕ → ℕ → EReal) : ℕ → ℕ → ℝ := fun t d => lg (l d) (Z t d)
/-- The keys of a sequence of gate logits. -/
def kys (l : ℕ → ℝ) (Z : ℕ → ℕ → EReal) : ℕ → ℕ → ℝ := fun t d => ky (l d) (Z t d)

/-- A summed row, normalised by its root mean square, at a column; times a weight; times a gate `g · σ(g)`. -/
def gated (o : ℕ → ℝ) (e : ℕ) (n g : EReal) : EReal :=
  ((o e : ℝ) : EReal) * Ideal.rsqrt (Ideal.div ((∑ k ∈ Finset.range 128, o k * o k : ℝ) : EReal) (Ideal.ofBits .f32 0x43000000#32)
    + Ideal.ofBits .f32 0x358637BD#32) * n * (g * Ideal.logistic g)

abbrev ArgX := FVec Ideal ⟨3, ![16, 4096, 3584]⟩ .f32
abbrev ArgL := FVec Ideal ⟨3, ![2, 2, 512]⟩ .f32
abbrev ArgN := FVec Ideal ⟨1, ![512]⟩ .f32
abbrev Res := FVec Ideal ⟨3, ![16, 4096, 512]⟩ .f32

variable (A : ArgX) (L : ArgL) (N : ArgN)

/-- Stream `c` of head `h` of sequence `b`: 0 the queries, 1 and 2 the two directions' gate logits, 3 the values, 4 the gate. -/
def col (c h : ℕ) (b : Fin 16) (t d : ℕ) : EReal :=
  A (ix3 b (⟨t % 4096, Nat.mod_lt _ (by decide)⟩ : Fin 4096) (⟨(c * 512 + h * 128 + d) % 3584, Nat.mod_lt _ (by decide)⟩ : Fin 3584))

/-- A stream as reals. -/
def colR (c h : ℕ) (b : Fin 16) : ℕ → ℕ → ℝ := fun t d => (col A c h b t d).toReal

/-- A lower-bound logit as a real. -/
def lbl (dir r : Fin 2) (h d : ℕ) : ℝ := (L (ix3 dir r (⟨(h * 128 + d) % 512, Nat.mod_lt _ (by decide)⟩ : Fin 512)) : EReal).toReal

/-- The lower bounds of one direction. -/
def low (dir : Fin 2) (h : ℕ) : ℕ → ℝ := fun d => sm (lbl L dir 0 h d) (lbl L dir 1 h d)

/-- The forward recurrence's rows. -/
def recF (h : ℕ) (b : Fin 16) (t e : ℕ) : ℝ :=
  att (colR A 0 h b) (kys (low L 0 h) (col A 1 h b)) (colR A 3 h b) (lgs (low L 0 h) (col A 1 h b)) t e

/-- The backward recurrence's rows. -/
def recB (h : ℕ) (b : Fin 16) (t e : ℕ) : ℝ :=
  att (rev (colR A 0 h b)) (rev (kys (low L 1 h) (col A 2 h b))) (rev (colR A 3 h b)) (rev (lgs (low L 1 h) (col A 2 h b))) (4095 - t) e

/-- The weight of the norm at a column of a head. -/
def nrm (h e : ℕ) : EReal := N (ix1 (⟨(h * 128 + e) % 512, Nat.mod_lt _ (by decide)⟩ : Fin 512))

/-- The layer's result at sequence `b`, row `t`, column `j`. -/
def layerAt (b : Fin 16) (t : Fin 4096) (j : Fin 512) : EReal :=
  gated (fun k => recF A L (j.val / 128) b t.val k + recB A L (j.val / 128) b t.val k) (j.val % 128)
    (nrm N (j.val / 128) (j.val % 128)) (col A 4 (j.val / 128) b t.val (j.val % 128))

/-- The layer's result. -/
def layer : Res := fun i => layerAt A L N (i 0) (i 1) (i 2)

/-- The queries, the values and the lower-bound logits are real. -/
structure Real3 : Prop where
  q : ∀ (h : ℕ) (b : Fin 16) (t d : ℕ), h < 4 → d < 128 → col A 0 h b t d = ((colR A 0 h b t d : ℝ) : EReal)
  v : ∀ (h : ℕ) (b : Fin 16) (t d : ℕ), h < 4 → d < 128 → col A 3 h b t d = ((colR A 3 h b t d : ℝ) : EReal)
  l : ∀ (i : (⟨3, ![2, 2, 512]⟩ : Shape).Idx), (L i : EReal) = (((L i : EReal).toReal : ℝ) : EReal)

end Cert.Layer
-- ==== Proof.Layer.Pre.lean ====
/- What the precondition says: the queries, the values and the lower-bound logits are real. -/
module

public import proofs.«01_k».proof.Pre_finite_inputs
public import proofs.«01_k».proof.Proof.Layer.Spec
public import Idealize.ShloMosaic.Lib.Affine

@[expose] public section

noncomputable section

namespace Cert.Layer

open Cert.Pre_finite_inputs Cert.Pre_finite_inputs.Facts
open Idealize.ShloMosaic hiding ix1 ix2 ix3
open Idealize.ShloMosaic.ValueIdx

instance preFacts : Cert.Pre_finite_inputs.Facts := by constructor <;> decide

theorem inf_f32 : Ideal.ofBits .f32 0x7F800000#32 = ⊤ := by simp [Ideal.ofBits, Ideal.ieee]

theorem cmp_olt_one (x y : EReal) (h : Ideal.cmp .olt x y = 1#1) : x < y := by
  by_contra hn
  simp [Ideal.cmp, hn] at h

/-- A number whose absolute value is below infinity is real. -/
theorem real_of_abs (x : EReal) (h : Ideal.cmp .olt (max x (-x)) (Ideal.ofBits .f32 0x7F800000#32) = 1#1) : x = ((x.toReal : ℝ) : EReal) := by
  have h := cmp_olt_one _ _ h
  rw [inf_f32] at h
  refine (EReal.coe_toReal ?_ ?_).symm
  · rintro rfl; simp at h
  · rintro rfl; simp at h

theorem pick {A : ArgX} {L : ArgL} {N : ArgN} (h : fn (F := Ideal) A L N = fun _ => 1#1) (b : Fin 16) (t : Fin 4096) (j : Fin 512) :
    (A (ix3 b t (⟨j.val, by omega⟩ : Fin 3584)) : EReal) = (((A (ix3 b t (⟨j.val, by omega⟩ : Fin 3584)) : EReal).toReal : ℝ) : EReal)
    ∧ (A (ix3 b t (⟨1536 + j.val, by omega⟩ : Fin 3584)) : EReal) = (((A (ix3 b t (⟨1536 + j.val, by omega⟩ : Fin 3584)) : EReal).toReal : ℝ) : EReal)
    ∧ ∀ r s : Fin 2, (L (ix3 r s j) : EReal) = (((L (ix3 r s j) : EReal).toReal : ℝ) : EReal) := by
  have h := congrFun h (ix3 b t j)
  obtain ⟨h, h11⟩ := IntOp.andi_eq_one.1 h
  obtain ⟨h, h10⟩ := IntOp.andi_eq_one.1 h
  obtain ⟨h, h01⟩ := IntOp.andi_eq_one.1 h
  obtain ⟨h, h00⟩ := IntOp.andi_eq_one.1 h
  obtain ⟨hq, hv⟩ := IntOp.andi_eq_one.1 h
  have hr : ∀ (r s : Fin 2) (o : Fin 3 → ℕ) (ho : o = ![r.val, s.val, 0]) (hs : S2x2x512.Slices o S1x1x512),
      broadcastInDim S16x4096x512 ![0, 1, 2] bcast_S1x1x512_S16x4096x512_0_1_2 (broadcastInDim S1x1x512 ![2] bcast_S512_S1x1x512_2
        (shapeCast S512 (extractStridedSlice S1x1x512 o (cmpf .olt (Host.absf L) (broadcastInDim S2x2x512 ![] bcast_S_S2x2x512
          (constant (F := Ideal) S_ .f32 0x7F800000#32))) hs) shapeCasts_S1x1x512_S512)) (ix3 b t j) = 1#1 →
      (L (ix3 r s j) : EReal) = (((L (ix3 r s j) : EReal).toReal : ℝ) : EReal) := by
    intro r s o ho hs h
    subst ho
    rw [broadcastInDim_apply _ _ _ (ix3 b t j) (ix3 (0 : Fin 1) (0 : Fin 1) j) (fun a => by
        match a with
        | ⟨0, _⟩ => rfl
        | ⟨1, _⟩ => rfl
        | ⟨2, _⟩ => rfl),
      broadcastInDim_apply _ _ _ (ix3 (0 : Fin 1) (0 : Fin 1) j) (ix1 j) (fun a => by
        match a with
        | ⟨0, _⟩ => rfl),
      shapeCast_apply _ _ (ix1 j) (ix3 (0 : Fin 1) (0 : Fin 1) j) (by
        rw [Shape.rowMajor_val_three, Shape.rowMajor_val_one]; simp),
      extractStridedSlice_apply _ _ hs (ix3 (0 : Fin 1) (0 : Fin 1) j) (ix3 r s j) (fun a => by
        match a with
        | ⟨0, _⟩ => rfl
        | ⟨1, _⟩ => rfl
        | ⟨2, _⟩ => exact (Nat.zero_add _).symm)] at h
    exact real_of_abs _ h
  have ha : ∀ (o : ℕ) (ho : o + 512 ≤ 3584) (hs : S16x4096x3584.Slices ![0, 0, o] S16x4096x512),
      cmpf .olt (Host.absf (extractStridedSlice S16x4096x512 ![0, 0, o] A hs)) (broadcastInDim S16x4096x512 ![] bcast_S_S16x4096x512
          (constant (F := Ideal) S_ .f32 0x7F800000#32)) (ix3 b t j) = 1#1 →
      (A (ix3 b t (⟨o + j.val, by omega⟩ : Fin 3584)) : EReal) = (((A (ix3 b t (⟨o + j.val, by omega⟩ : Fin 3584)) : EReal).toReal : ℝ) : EReal) := by
    intro o ho hs h
    have h := real_of_abs _ h
    rw [extractStridedSlice_apply _ _ hs (ix3 b t j) (ix3 b t (⟨o + j.val, by omega⟩ : Fin 3584)) (fun a => by
        match a with
        | ⟨0, _⟩ => exact (Nat.zero_add _).symm
        | ⟨1, _⟩ => exact (Nat.zero_add _).symm
        | ⟨2, _⟩ => rfl)] at h
    exact h
  refine ⟨?_, ha 1536 (by omega) _ hv, fun r s => ?_⟩
  · have h := ha 0 (by omega) _ hq
    have he : (⟨0 + j.val, by omega⟩ : Fin 3584) = ⟨j.val, by omega⟩ := Fin.ext (Nat.zero_add _)
    rw [he] at h; exact h
  · match r, s with
    | 0, 0 => exact hr 0 0 _ rfl _ h00
    | 0, 1 => exact hr 0 1 _ rfl _ h01
    | 1, 0 => exact hr 1 0 _ rfl _ h10
    | 1, 1 => exact hr 1 1 _ rfl _ h11

theorem real3_of_pre {A : ArgX} {L : ArgL} {N : ArgN} (h : fn (F := Ideal) A L N = fun _ => 1#1) : Real3 A L where
  q hd b t d hh hdd := by
    have hp := (pick h b ⟨t % 4096, Nat.mod_lt _ (by decide)⟩ ⟨hd * 128 + d, by omega⟩).1
    unfold colR col
    have he : (⟨(0 * 512 + hd * 128 + d) % 3584, Nat.mod_lt _ (by decide)⟩ : Fin 3584) = ⟨hd * 128 + d, by omega⟩ := Fin.ext (by simp only; omega)
    rw [he]; exact hp
  v hd b t d hh hdd := by
    have hp := (pick h b ⟨t % 4096, Nat.mod_lt _ (by decide)⟩ ⟨hd * 128 + d, by omega⟩).2.1
    unfold colR col
    have he : (⟨(3 * 512 + hd * 128 + d) % 3584, Nat.mod_lt _ (by decide)⟩ : Fin 3584) = ⟨1536 + (hd * 128 + d), by omega⟩ := Fin.ext (by simp only; omega)
    rw [he]; exact hp
  l i := by
    have hp := (pick h 0 0 (i 2)).2.2 (i 0) (i 1)
    have he : i = ix3 (i 0) (i 1) (i 2) := funext fun a => by
      match a with
      | ⟨0, _⟩ => rfl
      | ⟨1, _⟩ => rfl
      | ⟨2, _⟩ => rfl
    rw [he]; exact hp

end Cert.Layer
-- ==== Proof.Layer.Trips.lean ====
/- What one trip of the body's two loops yields and stores, as the chunk functions of the rows it loads. -/
module

public import proofs.«01_k».proof.Proof.Layer.Chunk

@[expose] public section

set_option maxRecDepth 65536

noncomputable section

namespace Cert.HgrnIdeal.Body

open Cert.HgrnIdeal Cert.HgrnIdeal.Gen Cert.Layer Idealize.ShloMosaic Idealize.ShloMosaic.TcCoe
open Idealize.SL.Sem

variable {F : FTy → Type} [FloatOps F]

/-- A block of 128 rows as a matrix. -/
def mat (x : Vec F S1x128x128 .f32) : FVec F (Sh 128 128) .f32 := k0_pay6 x

variable (arg2 arg3 arg4 arg5 arg6 arg9 : Memref sig .tc .vmem S1x4096x128 .f32) (arg8 : Memref sig .tc .vmem S1x1x128 .f32)
  (arg10 : Memref sig .tc .vmem S4096x128 .f32)
  (v0 v2 v11 v13 : Vec F S1x1x1x1x128 .f32)
  (X2 : BufTy.Contents (Elt F) arg2.view.ty) (X3 : BufTy.Contents (Elt F) arg3.view.ty) (X4 : BufTy.Contents (Elt F) arg4.view.ty)
  (X5 : BufTy.Contents (Elt F) arg5.view.ty)

/-- 128 rows of a staged block, from row offset `o`. -/
abbrev ld (a : Memref sig .tc .vmem S1x4096x128 .f32) (X : BufTy.Contents (Elt F) a.view.ty) (o : Fin 3 → Nat)
    (h : ∀ d, o d + S1x128x128.size d ≤ S1x4096x128.size d) : Vec F S1x128x128 .f32 :=
  View.readAt (Elt F) a.view (Rect.unit (s := S1x4096x128) o S1x128x128.size h).toLoadRect X

theorem r1_9 (k : Fin k0_t1_loop.trips) (acc : FVec F S128x128 .f32 × FVec F S128x128 .f32) :
    trip_k0_t1.sl.r_9 arg3 arg5 v0 v2 X3 X5 k acc
      = fwdState (k0_pay1 v0 v2) (mat (ld arg3 X3 (k0_off1 k) (k0_off1_inb k))) (mat (ld arg5 X5 (k0_off1 k) (k0_off1_inb k))) acc.1 := rfl

theorem r1_32 (k : Fin k0_t1_loop.trips) (acc : FVec F S128x128 .f32 × FVec F S128x128 .f32) :
    trip_k0_t1.sl.r_32 arg4 arg5 v11 v13 X4 X5 k acc
      = bwdState (k0_pay1 v11 v13) (mat (ld arg4 X4 (k0_off2 k) (k0_off2_inb k))) (mat (ld arg5 X5 (k0_off2 k) (k0_off2_inb k))) acc.2 := rfl

theorem r1_24 (k : Fin k0_t1_loop.trips) (acc : FVec F S128x128 .f32 × FVec F S128x128 .f32) :
    trip_k0_t1.sl.r_24 arg2 arg3 arg5 v0 v2 X2 X3 X5 k acc
      = fwdOut (k0_pay1 v0 v2) (mat (ld arg2 X2 (k0_off1 k) (k0_off1_inb k))) (mat (ld arg3 X3 (k0_off1 k) (k0_off1_inb k)))
          (mat (ld arg5 X5 (k0_off1 k) (k0_off1_inb k))) acc.1 := rfl

theorem r1_47 (k : Fin k0_t1_loop.trips) (acc : FVec F S128x128 .f32 × FVec F S128x128 .f32) :
    trip_k0_t1.sl.r_47 arg2 arg4 arg5 v11 v13 X2 X4 X5 k acc
      = bwdOut (k0_pay1 v11 v13) (mat (ld arg2 X2 (k0_off2 k) (k0_off2_inb k))) (mat (ld arg4 X4 (k0_off2 k) (k0_off2_inb k)))
          (mat (ld arg5 X5 (k0_off2 k) (k0_off2_inb k))) acc.2 := rfl

/-! ## The second loop -/

/-- The gated norm of 128 summed rows: root mean square normalised, times the norm's weights, times `g · σ(g)`. -/
def gnorm (o : FVec F (Sh 128 128) .f32) (ng : FVec F (Sh 1 128) .f32) (g : FVec F (Sh 128 128) .f32) : FVec F (Sh 128 128) .f32 :=
  mulf (mulf (mulf o (broadcastTo S128x128 (rsqrt (addf (divf
      (shapeCast S128x1 (multiReduction .add [1] S128 (mulf o o) 0x00000000#32 reduces_S128x128_S128 (.inl rfl) rfl) shapeCasts_S128_S128x1)
      (broadcast S128x1 (Scalar.ofBits .f32 0x43000000#32 : F .f32))) (broadcast S128x1 (Scalar.ofBits .f32 0x358637BD#32 : F .f32))))
    broadcasts_S128x1_S128x128)) (broadcastTo S128x128 ng broadcasts_S1x128_S128x128)) (mulf g (logistic g))

/-- The norm's weights as a row. -/
def ngRow (x : Vec F S1x1x128 .f32) : FVec F (Sh 1 128) .f32 := shapeCast S1x128 x shapeCasts_S1x1x128_S1x128
/-- A matrix as a block of 128 rows. -/
def unmat (x : FVec F (Sh 128 128) .f32) : Vec F S1x128x128 .f32 := k0_pay4 x

variable (X6 : BufTy.Contents (Elt F) arg6.view.ty) (X8 : BufTy.Contents (Elt F) arg8.view.ty) (X10 : BufTy.Contents (Elt F) arg10.view.ty)

theorem r2_9 (k : Fin k0_t2_loop.trips) (acc : FVec F S128x128 .f32 × FVec F S128x128 .f32) :
    trip_k0_t2.sl.r_9 arg3 arg5 v0 v2 X3 X5 k acc
      = fwdState (k0_pay1 v0 v2) (mat (ld arg3 X3 (k0_off4 k) (k0_off4_inb k))) (mat (ld arg5 X5 (k0_off4 k) (k0_off4_inb k))) acc.1 := rfl

theorem r2_32 (k : Fin k0_t2_loop.trips) (acc : FVec F S128x128 .f32 × FVec F S128x128 .f32) :
    trip_k0_t2.sl.r_32 arg4 arg5 v11 v13 X4 X5 k acc
      = bwdState (k0_pay1 v11 v13) (mat (ld arg4 X4 (k0_off5 k) (k0_off5_inb k))) (mat (ld arg5 X5 (k0_off5 k) (k0_off5_inb k))) acc.2 := rfl

theorem r2_24 (k : Fin k0_t2_loop.trips) (acc : FVec F S128x128 .f32 × FVec F S128x128 .f32) :
    trip_k0_t2.sl.r_24 arg2 arg3 arg5 v0 v2 X2 X3 X5 k acc
      = fwdOut (k0_pay1 v0 v2) (mat (ld arg2 X2 (k0_off4 k) (k0_off4_inb k))) (mat (ld arg3 X3 (k0_off4 k) (k0_off4_inb k)))
          (mat (ld arg5 X5 (k0_off4 k) (k0_off4_inb k))) acc.1 := rfl

theorem r2_47 (k : Fin k0_t2_loop.trips) (acc : FVec F S128x128 .f32 × FVec F S128x128 .f32) :
    trip_k0_t2.sl.r_47 arg2 arg4 arg5 v11 v13 X2 X4 X5 k acc
      = bwdOut (k0_pay1 v11 v13) (mat (ld arg2 X2 (k0_off5 k) (k0_off5_inb k))) (mat (ld arg4 X4 (k0_off5 k) (k0_off5_inb k)))
          (mat (ld arg5 X5 (k0_off5 k) (k0_off5_inb k))) acc.2 := rfl

/-! ## A whole trip -/

section trips

variable (𝒱 : Variants) (c : Dev nD) (bd : Option 𝒱.V) (i : grid0.Coords)
  (arg7 : Memref sig .tc .vmem S2x2x1x1x128 .f32)
  (harg2 : arg2.IsWhole) (harg3 : arg3.IsWhole) (harg4 : arg4.IsWhole) (harg5 : arg5.IsWhole) (harg6 : arg6.IsWhole)
  (harg7 : arg7.IsWhole) (harg8 : arg8.IsWhole) (harg9 : arg9.IsWhole) (harg10 : arg10.IsWhole)

theorem tripR1 (k : Fin k0_t1_loop.trips) (acc : FVec F S128x128 .f32 × FVec F S128x128 .f32) :
    tripR_k0_t1 𝒱 c bd i arg2 harg2 arg3 harg3 arg4 harg4 arg5 harg5 arg6 harg6 arg7 harg7 arg8 harg8 arg9 harg9 arg10 harg10
        v0 v2 v11 v13 X2 X3 X4 X5 k acc
      = (fwdState (k0_pay1 v0 v2) (mat (ld arg3 X3 (k0_off1 k) (k0_off1_inb k))) (mat (ld arg5 X5 (k0_off1 k) (k0_off1_inb k))) acc.1,
         bwdState (k0_pay1 v11 v13) (mat (ld arg4 X4 (k0_off2 k) (k0_off2_inb k))) (mat (ld arg5 X5 (k0_off2 k) (k0_off2_inb k))) acc.2) := by
  unfold tripR_k0_t1 trip_k0_t1
  exact Prod.ext (r1_9 ..) (r1_32 ..)

theorem tripL1 (k : Fin k0_t1_loop.trips) (acc : FVec F S128x128 .f32 × FVec F S128x128 .f32) :
    tripL_k0_t1 𝒱 c bd i arg2 harg2 arg3 harg3 arg4 harg4 arg5 harg5 arg6 harg6 arg7 harg7 arg8 harg8 arg9 harg9 arg10 harg10
        v0 v2 v11 v13 X2 X3 X4 X5 k acc
      = ([⟨Rect.unit (s := S1x4096x128) (k0_off2 k) S1x128x128.size (k0_off2_inb k), unmat (bwdOut (k0_pay1 v11 v13)
            (mat (ld arg2 X2 (k0_off2 k) (k0_off2_inb k))) (mat (ld arg4 X4 (k0_off2 k) (k0_off2_inb k)))
            (mat (ld arg5 X5 (k0_off2 k) (k0_off2_inb k))) acc.2)⟩],
         [⟨Rect.unit (s := S4096x128) (k0_off3 k) S128x128.size (k0_off3_inb k), k0_pay64 (fwdOut (k0_pay1 v0 v2)
            (mat (ld arg2 X2 (k0_off1 k) (k0_off1_inb k))) (mat (ld arg3 X3 (k0_off1 k) (k0_off1_inb k)))
            (mat (ld arg5 X5 (k0_off1 k) (k0_off1_inb k))) acc.1)⟩]) := by
  unfold tripL_k0_t1 trip_k0_t1
  rw [← r1_24 arg2 arg3 arg5 v0 v2, ← r1_47 arg2 arg4 arg5 v11 v13]
  rfl

theorem tripR2 (k : Fin k0_t2_loop.trips) (acc : FVec F S128x128 .f32 × FVec F S128x128 .f32) (f9 : BufTy.Contents (Elt F) arg9.view.ty) :
    tripR_k0_t2 𝒱 c bd i arg2 harg2 arg3 harg3 arg4 harg4 arg5 harg5 arg6 harg6 arg7 harg7 arg8 harg8 arg9 harg9 arg10 harg10
        v0 v2 v11 v13 X2 X3 X4 X5 X6 X8 X10 k acc f9
      = (fwdState (k0_pay1 v0 v2) (mat (ld arg3 X3 (k0_off4 k) (k0_off4_inb k))) (mat (ld arg5 X5 (k0_off4 k) (k0_off4_inb k))) acc.1,
         bwdState (k0_pay1 v11 v13) (mat (ld arg4 X4 (k0_off5 k) (k0_off5_inb k))) (mat (ld arg5 X5 (k0_off5 k) (k0_off5_inb k))) acc.2) := by
  unfold tripR_k0_t2 trip_k0_t2
  exact Prod.ext (r2_9 ..) (r2_32 ..)

theorem tripL2 (k : Fin k0_t2_loop.trips) (acc : FVec F S128x128 .f32 × FVec F S128x128 .f32) (f9 : BufTy.Contents (Elt F) arg9.view.ty) :
    tripL_k0_t2 𝒱 c bd i arg2 harg2 arg3 harg3 arg4 harg4 arg5 harg5 arg6 harg6 arg7 harg7 arg8 harg8 arg9 harg9 arg10 harg10
        v0 v2 v11 v13 X2 X3 X4 X5 X6 X8 X10 k acc f9
      = [⟨Rect.unit (s := S1x4096x128) (k0_off5 k) S1x128x128.size (k0_off5_inb k), unmat (gnorm
            (addf (bwdOut (k0_pay1 v11 v13) (mat (ld arg2 X2 (k0_off5 k) (k0_off5_inb k))) (mat (ld arg4 X4 (k0_off5 k) (k0_off5_inb k)))
              (mat (ld arg5 X5 (k0_off5 k) (k0_off5_inb k))) acc.2)
              (View.readAt (Elt F) arg10.view (Rect.unit (s := S4096x128) (k0_off6 k) S128x128.size (k0_off6_inb k)).toLoadRect X10))
            (ngRow (View.readAt (Elt F) arg8.view (Rect.unit (s := S1x1x128) ![0, 0, 0] S1x1x128.size inb_S1x1x128_S1x1x128_0_0_0).toLoadRect X8))
            (mat (ld arg6 X6 (k0_off5 k) (k0_off5_inb k))))⟩,
         ⟨Rect.unit (s := S1x4096x128) (k0_off4 k) S1x128x128.size (k0_off4_inb k), unmat (gnorm
            (addf (fwdOut (k0_pay1 v0 v2) (mat (ld arg2 X2 (k0_off4 k) (k0_off4_inb k))) (mat (ld arg3 X3 (k0_off4 k) (k0_off4_inb k)))
              (mat (ld arg5 X5 (k0_off4 k) (k0_off4_inb k))) acc.1) (mat (ld arg9 f9 (k0_off4 k) (k0_off4_inb k))))
            (ngRow (View.readAt (Elt F) arg8.view (Rect.unit (s := S1x1x128) ![0, 0, 0] S1x1x128.size inb_S1x1x128_S1x1x128_0_0_0).toLoadRect X8))
            (mat (ld arg6 X6 (k0_off4 k) (k0_off4_inb k))))⟩] := by
  unfold tripL_k0_t2 trip_k0_t2
  rw [← r2_24 arg2 arg3 arg5 v0 v2, ← r2_47 arg2 arg4 arg5 v11 v13]
  rfl

end trips

end Cert.HgrnIdeal.Body
-- ==== Proof.Layer.Seq.lean ====
/- The chunks of a block in order: the two directions' states and rows, and what the body's two loops leave in the output
   block, chunk by chunk, over any value type. -/
module

public import proofs.«01_k».proof.Proof.Layer.Trips
public import Idealize.ShloMosaic.Lib.WritesUnit
public import Idealize.ShloMosaic.Lib.ValueLayout

@[expose] public section

set_option maxRecDepth 65536

noncomputable section

namespace Cert.HgrnIdeal.Body

open Cert.HgrnIdeal Cert.HgrnIdeal.Gen Cert.Layer Idealize.ShloMosaic.TcCoe
open Idealize.ShloMosaic hiding ix2 ix3
open Idealize.ShloMosaic.ValueIdx
open Idealize.SL.Sem

variable {F : FTy → Type} [FloatOps F]

/-- A block of one sequence: 4096 rows. -/
abbrev Blk (F : FTy → Type) := Vec F S1x4096x128 .f32

theorem eta2 {a b : ℕ} (j : (Sh a b).Idx) : j = ix2 (j 0) (j 1) := by
  funext d; match d with
  | ⟨0, _⟩ => rfl
  | ⟨1, _⟩ => rfl

theorem row_lt (t : ℕ) : t % 4096 < 4096 := Nat.mod_lt _ (by decide)

/-- The 128 rows of a block from row `128 n`. -/
def chunk (x : Blk F) (n : ℕ) : FVec F (Sh 128 128) .f32 :=
  fun j => x (ix3 (0 : Fin 1) (⟨(128 * n + (j 0).val) % 4096, row_lt _⟩ : Fin 4096) (j 1))

/-- The same of a plain matrix of 4096 rows. -/
def chunk2 (x : Vec F S4096x128 .f32) (n : ℕ) : FVec F (Sh 128 128) .f32 :=
  fun j => x (ix2 (⟨(128 * n + (j 0).val) % 4096, row_lt _⟩ : Fin 4096) (j 1))

variable (l0 l1 : FVec F (Sh 1 128) .f32) (q zf zb v g : Blk F) (ng : FVec F (Sh 1 128) .f32)

/-- The forward state before chunk `n`. -/
def fS : ℕ → FVec F (Sh 128 128) .f32
  | 0 => zeros 128 128
  | n + 1 => fwdState l0 (chunk zf n) (chunk v n) (fS n)
/-- The backward state before its `n`-th chunk, which is chunk `31 - n`. -/
def bS : ℕ → FVec F (Sh 128 128) .f32
  | 0 => zeros 128 128
  | n + 1 => bwdState l1 (chunk zb (31 - n)) (chunk v (31 - n)) (bS n)
/-- The forward rows of chunk `n`. -/
def fO (n : ℕ) : FVec F (Sh 128 128) .f32 := fwdOut l0 (chunk q n) (chunk zf n) (chunk v n) (fS l0 zf v n)
/-- The backward rows of the backward direction's `n`-th chunk. -/
def bO (n : ℕ) : FVec F (Sh 128 128) .f32 := bwdOut l1 (chunk q (31 - n)) (chunk zb (31 - n)) (chunk v (31 - n)) (bS l1 zb v n)
/-- The output rows of chunk `m`: the later of the two directions is added to the one kept. -/
def outChunk (m : ℕ) : FVec F (Sh 128 128) .f32 :=
  gnorm (if 16 ≤ m then addf (fO l0 q zf v m) (bO l1 q zb v (31 - m)) else addf (bO l1 q zb v (31 - m)) (fO l0 q zf v m)) ng (chunk g m)

/-- The output block. -/
def outBlk : Blk F := fun y => outChunk l0 l1 q zf zb v g ng ((y 1).val / 128)
  (ix2 (⟨(y 1).val % 128, Nat.mod_lt _ (by decide)⟩ : Fin 128) (y 2))

theorem trips1 : k0_t1_loop.trips = 16 := by decide +kernel
theorem trips2 : k0_t2_loop.trips = 16 := by decide +kernel
theorem off1 : ∀ k : Fin k0_t1_loop.trips, k0_off1 k = ![0, 128 * k.val, 0] := by decide +kernel
theorem off2 : ∀ k : Fin k0_t1_loop.trips, k0_off2 k = ![0, 128 * (31 - k.val), 0] := by decide +kernel
theorem off3 : ∀ k : Fin k0_t1_loop.trips, k0_off3 k = ![128 * k.val, 0] := by decide +kernel
theorem off4 : ∀ k : Fin k0_t2_loop.trips, k0_off4 k = ![0, 128 * (16 + k.val), 0] := by decide +kernel
theorem off5 : ∀ k : Fin k0_t2_loop.trips, k0_off5 k = ![0, 128 * (15 - k.val), 0] := by decide +kernel
theorem off6 : ∀ k : Fin k0_t2_loop.trips, k0_off6 k = ![128 * (15 - k.val), 0] := by decide +kernel

/-- Rows loaded at row `128 n` are chunk `n`. -/
theorem mat_ld (a : Memref sig .tc .vmem S1x4096x128 .f32) (X : BufTy.Contents (Elt F) a.view.ty) (o : Fin 3 → Nat)
    (h : ∀ d, o d + S1x128x128.size d ≤ S1x4096x128.size d) (n : ℕ) (hn : n < 32) (ho : o = ![0, 128 * n, 0]) :
    mat (ld a X o h) = chunk (a.view.read (Elt F) X) n := by
  subst ho
  funext j
  obtain ⟨a0, a1, rfl⟩ : ∃ a0 a1, j = ix2 a0 a1 := ⟨_, _, eta2 j⟩
  refine (shapeCast_1ab_ab_apply (ld a X ![0, 128 * n, 0] h) shapeCasts_S1x128x128_S128x128 a0 a1).trans ?_
  refine congrArg (a.view.read (Elt F) X) (funext fun d => Fin.ext ?_)
  have h0 : a0.val < 128 := a0.isLt
  match d with
  | ⟨0, _⟩ => rfl
  | ⟨1, _⟩ =>
      show 128 * n + 1 * a0.val = (128 * n + a0.val) % 4096
      omega
  | ⟨2, _⟩ => show 0 + 1 * a1.val = a1.val; omega

theorem ld2_chunk (a : Memref sig .tc .vmem S4096x128 .f32) (X : BufTy.Contents (Elt F) a.view.ty) (o : Fin 2 → Nat)
    (h : ∀ d, o d + S128x128.size d ≤ S4096x128.size d) (n : ℕ) (hn : n < 32) (ho : o = ![128 * n, 0]) :
    View.readAt (Elt F) a.view (Rect.unit (s := S4096x128) o S128x128.size h).toLoadRect X = chunk2 (a.view.read (Elt F) X) n := by
  subst ho
  funext j
  refine congrArg (a.view.read (Elt F) X) (funext fun d => Fin.ext ?_)
  have h0 : (j 0).val < 128 := (j 0).isLt
  match d with
  | ⟨0, _⟩ =>
      show 128 * n + 1 * (j 0).val = (128 * n + (j 0).val) % 4096
      omega
  | ⟨1, _⟩ => show 0 + 1 * (j 1).val = (j 1).val; omega

/-- A chunk after one more stored chunk. -/
theorem chunk_write (a : Memref sig .tc .vmem S1x4096x128 .f32) (f : BufTy.Contents (Elt F) a.view.ty) (o : Fin 3 → Nat)
    (h : ∀ d, o d + S1x128x128.size d ≤ S1x4096x128.size d) (n : ℕ) (hn : n < 32) (ho : o = ![0, 128 * n, 0])
    (M : FVec F (Sh 128 128) .f32) (L : List (View.Piece (Elt F) S1x4096x128 .f32)) (m : ℕ) (hm : m < 32) :
    chunk (a.view.read (Elt F) (a.view.writes (Elt F) f ((⟨Rect.unit (s := S1x4096x128) o S1x128x128.size h, unmat M⟩ : View.Piece (Elt F) S1x4096x128 .f32) :: L))) m
      = if m = n then M else chunk (a.view.read (Elt F) (a.view.writes (Elt F) f L)) m := by
  funext j
  have h0 : (j 0).val < 128 := (j 0).isLt
  by_cases e : m = n
  · subst e
    rw [if_pos rfl]
    refine (View.read_writes_cons_unit_of_mem a.view f h _ L _ (ix3 (0 : Fin 1) (j 0) (j 1)) ho ?_).trans ?_
    · intro d
      match d with
      | ⟨0, _⟩ => rfl
      | ⟨1, _⟩ => show (128 * m + (j 0).val) % 4096 = 128 * m + (j 0).val; omega
      | ⟨2, _⟩ => show (j 1).val = 0 + (j 1).val; omega
    · refine (shapeCast_ab_1ab_apply M _ _ _ _).trans ?_
      exact congrArg M (eta2 j).symm
  · rw [if_neg e]
    refine View.read_writes_cons_unit_of_not_mem a.view f h _ L _ ho (1 : Fin 3) ?_
    show (128 * m + (j 0).val) % 4096 < 128 * n ∨ 128 * n + 128 ≤ (128 * m + (j 0).val) % 4096
    omega

theorem chunk2_write (a : Memref sig .tc .vmem S4096x128 .f32) (f : BufTy.Contents (Elt F) a.view.ty) (o : Fin 2 → Nat)
    (h : ∀ d, o d + S128x128.size d ≤ S4096x128.size d) (n : ℕ) (hn : n < 32) (ho : o = ![128 * n, 0])
    (M : FVec F (Sh 128 128) .f32) (L : List (View.Piece (Elt F) S4096x128 .f32)) (m : ℕ) (hm : m < 32) :
    chunk2 (a.view.read (Elt F) (a.view.writes (Elt F) f ((⟨Rect.unit (s := S4096x128) o S128x128.size h, k0_pay64 M⟩ : View.Piece (Elt F) S4096x128 .f32) :: L))) m
      = if m = n then M else chunk2 (a.view.read (Elt F) (a.view.writes (Elt F) f L)) m := by
  have hM : k0_pay64 M = M := shapeCast_self M _
  rw [hM]
  funext j
  have h0 : (j 0).val < 128 := (j 0).isLt
  by_cases e : m = n
  · subst e
    rw [if_pos rfl]
    refine (View.read_writes_cons_unit_of_mem a.view f h M L _ j ho ?_)
    intro d
    match d with
    | ⟨0, _⟩ => show (128 * m + (j 0).val) % 4096 = 128 * m + (j 0).val; omega
    | ⟨1, _⟩ => show (j 1).val = 0 + (j 1).val; omega
  · rw [if_neg e]
    refine View.read_writes_cons_unit_of_not_mem a.view f h M L _ ho (0 : Fin 2) ?_
    show (128 * m + (j 0).val) % 4096 < 128 * n ∨ 128 * n + 128 ≤ (128 * m + (j 0).val) % 4096
    omega

/-- Two blocks with the same chunks are the same block. -/
theorem ext_chunk (x y : Blk F) (h : ∀ m < 32, chunk x m = chunk y m) : x = y := by
  funext p
  have h1 : (p 1).val < 4096 := (p 1).isLt
  have key : ∀ z : Blk F, z p = chunk z ((p 1).val / 128) (ix2 (⟨(p 1).val % 128, Nat.mod_lt _ (by decide)⟩ : Fin 128) (p 2)) := fun z => by
    refine congrArg z (funext fun d => Fin.ext ?_)
    match d with
    | ⟨0, _⟩ => have : (p 0).val < 1 := (p 0).isLt; show (p 0).val = 0; omega
    | ⟨1, _⟩ => show (p 1).val = (128 * ((p 1).val / 128) + (p 1).val % 128) % 4096; omega
    | ⟨2, _⟩ => rfl
  rw [key x, key y, h _ (by omega)]

theorem chunk_outBlk (m : ℕ) (hm : m < 32) : chunk (outBlk l0 l1 q zf zb v g ng) m = outChunk l0 l1 q zf zb v g ng m := by
  funext j
  have h0 : (j 0).val < 128 := (j 0).isLt
  show outChunk l0 l1 q zf zb v g ng ((128 * m + (j 0).val) % 4096 / 128) _ = _
  have e : (128 * m + (j 0).val) % 4096 / 128 = m := by omega
  rw [e]
  refine congrArg _ (funext fun d => Fin.ext ?_)
  match d with
  | ⟨0, _⟩ => show (128 * m + (j 0).val) % 4096 % 128 = (j 0).val; omega
  | ⟨1, _⟩ => rfl

end Cert.HgrnIdeal.Body
-- ==== Proof.Layer.Chunks.lean ====
/- The kernel's chunks at the extended reals: from blocks of real queries, values and lower bounds, the rows each direction
   leaves are the recurrence's rows — the backward direction's those of the sequence read from its end. -/
module

public import proofs.«01_k».proof.Proof.Layer.Spec
public import proofs.«01_k».proof.Proof.Layer.Seq

@[expose] public section

noncomputable section

namespace Cert.HgrnIdeal.Body

open Cert.HgrnIdeal Cert.Layer
open Idealize.ShloMosaic hiding ix2 ix3
open Idealize.ShloMosaic.ValueIdx

/-- Every entry of a block is the real at its row and column. -/
def BRep (x : Blk Ideal) (X : ℕ → ℕ → ℝ) : Prop :=
  ∀ (t : Fin 4096) (d : Fin 128), (x (ix3 (0 : Fin 1) t d) : EReal) = ((X t.val d.val : ℝ) : EReal)
/-- The same for a block of extended reals. -/
def BExt (x : Blk Ideal) (X : ℕ → ℕ → EReal) : Prop :=
  ∀ (t : Fin 4096) (d : Fin 128), (x (ix3 (0 : Fin 1) t d) : EReal) = X t.val d.val

theorem BRep.chunk {x : Blk Ideal} {X : ℕ → ℕ → ℝ} (hx : BRep x X) (n : ℕ) (hn : n < 32) : Rep (chunk x n) fun i d => X (128 * n + i) d :=
  fun i j => (hx ⟨(128 * n + i.val) % 4096, row_lt _⟩ j).trans (by
    have := i.isLt
    show ((X ((128 * n + i.val) % 4096) j.val : ℝ) : EReal) = _
    rw [Nat.mod_eq_of_lt (by omega)])

theorem BExt.chunk {x : Blk Ideal} {X : ℕ → ℕ → EReal} (hx : BExt x X) (n : ℕ) (hn : n < 32) : Ext (chunk x n) fun i d => X (128 * n + i) d :=
  fun i j => (hx ⟨(128 * n + i.val) % 4096, row_lt _⟩ j).trans (by
    have := i.isLt
    show X ((128 * n + i.val) % 4096) j.val = _
    rw [Nat.mod_eq_of_lt (by omega)])

section

variable {lb : FVec Ideal (Sh 1 128) .f32} {l : ℕ → ℝ} {q z v : Blk Ideal} {Q V : ℕ → ℕ → ℝ} {Z : ℕ → ℕ → EReal}
variable (hl : Rep lb fun _ d => l d) (h01 : ∀ d, 0 < l d ∧ l d < 1) (hq : BRep q Q) (hz : BExt z Z) (hv : BRep v V)

include hl h01 hz hv

theorem rep_fS (n : ℕ) (hn : n ≤ 32) : Rep (fS lb z v n) (stt (kys l Z) V (lgs l Z) (128 * n)) := by
  induction n with
  | zero => exact Rep.zero.congr fun e d _ _ => (stt_zero _ _ _ e d).symm
  | succ n ih =>
    have hk := hl.key (hz.chunk n (by omega))
    have hb := (hl.logGate h01 (hz.chunk n (by omega))).sumDown
    refine (Rep.nextState hk hb (ih (by omega)) (hv.chunk n (by omega)).cut (hb.cutRows 127 1 (by decide))).congr fun e d _ _ => ?_
    rw [Nat.mul_succ, stt_step]; rfl

theorem rep_bS (n : ℕ) (hn : n ≤ 32) : Rep (bS lb z v n) (stt (rev (kys l Z)) (rev V) (rev (lgs l Z)) (128 * n)) := by
  induction n with
  | zero => exact Rep.zero.congr fun e d _ _ => (stt_zero _ _ _ e d).symm
  | succ n ih =>
    have hk := hl.key (hz.chunk (31 - n) (by omega))
    have hb := (hl.logGate h01 (hz.chunk (31 - n) (by omega))).sumUp
    refine (Rep.nextState hk hb (ih (by omega)) (hv.chunk (31 - n) (by omega)).cut (hb.cutRows 0 1 (by decide))).congr fun e d _ _ => ?_
    rw [Nat.mul_succ, stt_step]
    have hs := fun i (hi : i ≤ 128) => suf_rev (L := lgs l Z) n i d (by omega) hi
    congr 1
    · exact congrArg (fun x => _ * Real.exp x) (hs 128 le_rfl)
    · rw [← Finset.sum_range_reflect]
      refine Finset.sum_congr rfl fun s hs' => ?_
      have hs' := Finset.mem_range.1 hs'
      rw [show 128 - 1 - s = 127 - s by omega]
      refine congrArg₂ _ (row_rev' V n s e (by omega) hs') (congrArg₂ _ (row_rev' (kys l Z) n s d (by omega) hs') ?_)
      refine congrArg Real.exp (congrArg₂ _ (hs 128 le_rfl) ?_)
      rw [show 128 - (127 - s) = s + 1 by omega]
      exact hs (s + 1) (by omega)

include hq

theorem rep_fO (n : ℕ) (hn : n < 32) : Rep (fO lb q z v n) fun i e => att Q (kys l Z) V (lgs l Z) (128 * n + i) e := by
  have hk := hl.key (hz.chunk n hn)
  have hb := (hl.logGate h01 (hz.chunk n hn)).sumDown
  refine (Rep.fwdOutOf (hq.chunk n hn) hk hb (hv.chunk n hn).cut (rep_fS hl h01 hz hv n hn.le)).congr fun i e hi _ => ?_
  rw [att_step _ _ _ _ (128 * n) 128 i e hi]; rfl

theorem rep_bO (n : ℕ) (hn : n < 32) : Rep (bO lb q z v n) fun i e =>
    att (rev Q) (rev (kys l Z)) (rev V) (rev (lgs l Z)) (128 * n + (127 - i)) e := by
  have hk := hl.key (hz.chunk (31 - n) (by omega))
  have hb := (hl.logGate h01 (hz.chunk (31 - n) (by omega))).sumUp
  refine (Rep.bwdOutOf (hq.chunk (31 - n) (by omega)) hk hb (hv.chunk (31 - n) (by omega)).cut (rep_bS hl h01 hz hv n hn.le)).congr fun i e hi _ => ?_
  have hs := fun d i (hi : i ≤ 128) => suf_rev (L := lgs l Z) n i d hn hi
  rw [att_step _ _ _ _ (128 * n) 128 (127 - i) e (by omega)]
  congr 1
  · refine Finset.sum_congr rfl fun d _ => ?_
    refine congrArg (· * _) (congrArg₂ _ (row_rev Q n i d hn hi) (congrArg Real.exp ?_))
    rw [show 127 - i + 1 = 128 - i by omega]
    exact hs d (128 - i) (by omega)
  · rw [← Finset.sum_range_reflect]
    refine Finset.sum_congr rfl fun s hs' => ?_
    have hs' := Finset.mem_range.1 hs'
    rw [show 128 - 1 - s = 127 - s by omega]
    refine if_congr (by omega) ?_ rfl
    refine congrArg₂ _ (Finset.sum_congr rfl fun d _ => ?_) (row_rev' V n s e hn hs')
    refine congrArg₂ _ (congrArg₂ _ (row_rev Q n i d hn hi) (row_rev' (kys l Z) n s d hn hs')) (congrArg Real.exp (congrArg₂ _ ?_ ?_))
    · show _ = pre _ (127 - i + 1) d
      rw [show 127 - i + 1 = 128 - i by omega]
      exact hs d (128 - i) (by omega)
    · show suf _ (128 - (127 - s)) d = _
      rw [show 128 - (127 - s) = s + 1 by omega]
      exact hs d (s + 1) (by omega)

end

end Cert.HgrnIdeal.Body
-- ==== Proof.Layer.Body.lean ====
/- What the body leaves in the output's staging buffer: the two loops by induction on their trips, then the run of the body. -/
module

public import proofs.«01_k».proof.Proof.Layer.Seq

@[expose] public section

set_option maxRecDepth 65536

noncomputable section

namespace Cert.HgrnIdeal.Body

open Cert.HgrnIdeal Cert.HgrnIdeal.Gen Cert.Layer Idealize.ShloMosaic.TcCoe
open Idealize.ShloMosaic hiding ix2 ix3
open Idealize.ShloMosaic.ValueIdx
open Idealize.SL.Sem

variable {F : FTy → Type} [FloatOps F]

section loops

variable (arg2 arg3 arg4 arg5 arg6 arg9 : Memref sig .tc .vmem S1x4096x128 .f32) (arg7 : Memref sig .tc .vmem S2x2x1x1x128 .f32)
  (arg8 : Memref sig .tc .vmem S1x1x128 .f32) (arg10 : Memref sig .tc .vmem S4096x128 .f32)
  (v0 v2 v11 v13 : Vec F S1x1x1x1x128 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X8 : BufTy.Contents (Elt F) arg8.view.ty)
  (X10 : BufTy.Contents (Elt F) arg10.view.ty)
  (𝒱 : Variants) (c : Dev nD) (bd : Option 𝒱.V) (i : grid0.Coords)
  (harg2 : arg2.IsWhole) (harg3 : arg3.IsWhole) (harg4 : arg4.IsWhole) (harg5 : arg5.IsWhole) (harg6 : arg6.IsWhole)
  (harg7 : arg7.IsWhole) (harg8 : arg8.IsWhole) (harg9 : arg9.IsWhole) (harg10 : arg10.IsWhole)

/-- The first loop before trip `k`: the states of the first `k` chunks of either direction, the backward rows of those chunks in
    the output buffer and the forward rows in the kept one. -/
theorem loop1 (G9 : BufTy.Contents (Elt F) arg9.view.ty) (G10 : BufTy.Contents (Elt F) arg10.view.ty) (k : ℕ) (hk : k ≤ 16) :
    let st := st_k0_t1 𝒱 c bd i arg2 harg2 arg3 harg3 arg4 harg4 arg5 harg5 arg6 harg6 arg7 harg7 arg8 harg8 arg9 harg9 arg10 harg10
        v0 v2 v11 v13 X2 X3 X4 X5 (k0_pay3, k0_pay3) k
    st.1 = (fS (k0_pay1 v0 v2) (arg3.view.read (Elt F) X3) (arg5.view.read (Elt F) X5) k,
            bS (k0_pay1 v11 v13) (arg4.view.read (Elt F) X4) (arg5.view.read (Elt F) X5) k)
    ∧ (∀ m, 32 - k ≤ m → m < 32 → chunk (arg9.view.read (Elt F) (arg9.view.writes (Elt F) G9 st.2.1)) m
        = bO (k0_pay1 v11 v13) (arg2.view.read (Elt F) X2) (arg4.view.read (Elt F) X4) (arg5.view.read (Elt F) X5) (31 - m))
    ∧ (∀ m, m < k → chunk2 (arg10.view.read (Elt F) (arg10.view.writes (Elt F) G10 st.2.2)) m
        = fO (k0_pay1 v0 v2) (arg2.view.read (Elt F) X2) (arg3.view.read (Elt F) X3) (arg5.view.read (Elt F) X5) m) := by
  induction k with
  | zero => exact ⟨rfl, fun m h h' => absurd h (by omega), fun m h => absurd h (by omega)⟩
  | succ k ih =>
    obtain ⟨h1, h2, h3⟩ := ih (by omega)
    have hk' : k < k0_t1_loop.trips := by rw [trips1]; omega
    have e := st_k0_t1_succ 𝒱 c bd i arg2 harg2 arg3 harg3 arg4 harg4 arg5 harg5 arg6 harg6 arg7 harg7 arg8 harg8 arg9 harg9 arg10 harg10
        v0 v2 v11 v13 X2 X3 X4 X5 (k0_pay3, k0_pay3) ⟨k, hk'⟩
    rw [tripR1, tripL1] at e
    simp only [] at e
    intro st
    have est : st = _ := e
    have o1 : ∀ (a : Memref sig .tc .vmem S1x4096x128 .f32) (X : BufTy.Contents (Elt F) a.view.ty),
        mat (ld a X (k0_off1 ⟨k, hk'⟩) (k0_off1_inb ⟨k, hk'⟩)) = chunk (a.view.read (Elt F) X) k :=
      fun a X => mat_ld a X _ _ k (by omega) (off1 ⟨k, hk'⟩)
    have o2 : ∀ (a : Memref sig .tc .vmem S1x4096x128 .f32) (X : BufTy.Contents (Elt F) a.view.ty),
        mat (ld a X (k0_off2 ⟨k, hk'⟩) (k0_off2_inb ⟨k, hk'⟩)) = chunk (a.view.read (Elt F) X) (31 - k) :=
      fun a X => mat_ld a X _ _ (31 - k) (by omega) (off2 ⟨k, hk'⟩)
    simp only [o1, o2, h1] at est
    rw [est]
    refine ⟨rfl, fun m hm hm' => ?_, fun m hm => ?_⟩
    · refine (chunk_write arg9 G9 _ _ (31 - k) (by omega) (off2 ⟨k, hk'⟩) _ _ m hm').trans ?_
      by_cases e : m = 31 - k
      · rw [if_pos e]
        have : 31 - m = k := by omega
        rw [this]; rfl
      · rw [if_neg e]; exact h2 m (by omega) hm'
    · refine (chunk2_write arg10 G10 _ _ k (by omega) (off3 ⟨k, hk'⟩) _ _ m (by omega)).trans ?_
      by_cases e : m = k
      · rw [if_pos e, e]; rfl
      · rw [if_neg e]; exact h3 m (by omega)

/-- The norm's weights as the body loads them. -/
abbrev ng8 : FVec F (Sh 1 128) .f32 :=
  ngRow (View.readAt (Elt F) arg8.view (Rect.unit (s := S1x1x128) ![0, 0, 0] S1x1x128.size inb_S1x1x128_S1x1x128_0_0_0).toLoadRect X8)

/-- The second loop before trip `k`: the `2k` middle chunks of the output buffer are done, the others as the first loop left them. -/
theorem loop2 (G9 : BufTy.Contents (Elt F) arg9.view.ty)
    (h9 : ∀ m, 16 ≤ m → m < 32 → chunk (arg9.view.read (Elt F) G9) m
        = bO (k0_pay1 v11 v13) (arg2.view.read (Elt F) X2) (arg4.view.read (Elt F) X4) (arg5.view.read (Elt F) X5) (31 - m))
    (h10 : ∀ m, m < 16 → chunk2 (arg10.view.read (Elt F) X10) m
        = fO (k0_pay1 v0 v2) (arg2.view.read (Elt F) X2) (arg3.view.read (Elt F) X3) (arg5.view.read (Elt F) X5) m)
    (k : ℕ) (hk : k ≤ 16) :
    let st := st_k0_t2 𝒱 c bd i arg2 harg2 arg3 harg3 arg4 harg4 arg5 harg5 arg6 harg6 arg7 harg7 arg8 harg8 arg9 harg9 arg10 harg10
        v0 v2 v11 v13 X2 X3 X4 X5 X6 X8 X10 G9
        (fS (k0_pay1 v0 v2) (arg3.view.read (Elt F) X3) (arg5.view.read (Elt F) X5) 16,
         bS (k0_pay1 v11 v13) (arg4.view.read (Elt F) X4) (arg5.view.read (Elt F) X5) 16) k
    st.1 = (fS (k0_pay1 v0 v2) (arg3.view.read (Elt F) X3) (arg5.view.read (Elt F) X5) (16 + k),
            bS (k0_pay1 v11 v13) (arg4.view.read (Elt F) X4) (arg5.view.read (Elt F) X5) (16 + k))
    ∧ (∀ m, m < 32 → chunk (arg9.view.read (Elt F) (arg9.view.writes (Elt F) G9 st.2)) m
        = if 16 - k ≤ m ∧ m < 16 + k then
            outChunk (k0_pay1 v0 v2) (k0_pay1 v11 v13) (arg2.view.read (Elt F) X2) (arg3.view.read (Elt F) X3) (arg4.view.read (Elt F) X4)
              (arg5.view.read (Elt F) X5) (arg6.view.read (Elt F) X6) (ng8 arg8 X8) m
          else chunk (arg9.view.read (Elt F) G9) m) := by
  induction k with
  | zero => exact ⟨rfl, fun m h => by rw [if_neg (by omega)]; rfl⟩
  | succ k ih =>
    obtain ⟨h1, h2⟩ := ih (by omega)
    have hk' : k < k0_t2_loop.trips := by rw [trips2]; omega
    have e := st_k0_t2_succ 𝒱 c bd i arg2 harg2 arg3 harg3 arg4 harg4 arg5 harg5 arg6 harg6 arg7 harg7 arg8 harg8 arg9 harg9 arg10 harg10
        v0 v2 v11 v13 X2 X3 X4 X5 X6 X8 X10 G9
        (fS (k0_pay1 v0 v2) (arg3.view.read (Elt F) X3) (arg5.view.read (Elt F) X5) 16,
         bS (k0_pay1 v11 v13) (arg4.view.read (Elt F) X4) (arg5.view.read (Elt F) X5) 16) ⟨k, hk'⟩
    rw [tripR2, tripL2] at e
    intro st
    have est : st = _ := e
    have o4 : ∀ (a : Memref sig .tc .vmem S1x4096x128 .f32) (X : BufTy.Contents (Elt F) a.view.ty),
        mat (ld a X (k0_off4 ⟨k, hk'⟩) (k0_off4_inb ⟨k, hk'⟩)) = chunk (a.view.read (Elt F) X) (16 + k) :=
      fun a X => mat_ld a X _ _ (16 + k) (by omega) (off4 ⟨k, hk'⟩)
    have o5 : ∀ (a : Memref sig .tc .vmem S1x4096x128 .f32) (X : BufTy.Contents (Elt F) a.view.ty),
        mat (ld a X (k0_off5 ⟨k, hk'⟩) (k0_off5_inb ⟨k, hk'⟩)) = chunk (a.view.read (Elt F) X) (15 - k) :=
      fun a X => mat_ld a X _ _ (15 - k) (by omega) (off5 ⟨k, hk'⟩)
    have o6 := ld2_chunk arg10 X10 (k0_off6 ⟨k, hk'⟩) (k0_off6_inb ⟨k, hk'⟩) (15 - k) (by omega) (off6 ⟨k, hk'⟩)
    have hb : 31 - (16 + k) = 15 - k := by omega
    simp only [o4, o5, o6, h1, h10 (15 - k) (by omega), h2 (16 + k) (by omega)] at est
    rw [if_neg (by omega), h9 (16 + k) (by omega) (by omega), hb] at est
    rw [est]
    refine ⟨?_, fun m hm => ?_⟩
    · have eb : bS (k0_pay1 v11 v13) (arg4.view.read (Elt F) X4) (arg5.view.read (Elt F) X5) (16 + (k + 1))
          = bwdState (k0_pay1 v11 v13) (chunk (arg4.view.read (Elt F) X4) (31 - (16 + k))) (chunk (arg5.view.read (Elt F) X5) (31 - (16 + k)))
              (bS (k0_pay1 v11 v13) (arg4.view.read (Elt F) X4) (arg5.view.read (Elt F) X5) (16 + k)) := rfl
      rw [hb] at eb
      exact Prod.ext rfl eb.symm
    · refine (chunk_write arg9 G9 _ _ (15 - k) (by omega) (off5 ⟨k, hk'⟩) _ _ m hm).trans ?_
      by_cases e : m = 15 - k
      · rw [if_pos e, if_pos (by omega)]
        unfold outChunk
        have : 31 - m = 16 + k := by omega
        rw [if_neg (by omega), this, e]
        unfold bO
        rw [hb]
      · rw [if_neg e]
        refine (chunk_write arg9 G9 _ _ (16 + k) (by omega) (off4 ⟨k, hk'⟩) _ _ m hm).trans ?_
        by_cases e' : m = 16 + k
        · rw [if_pos e', if_pos (by omega)]
          unfold outChunk
          have : 31 - m = 15 - k := by omega
          rw [if_pos (by omega), this, e']
          unfold fO; rfl
        · rw [if_neg e']
          refine (h2 m hm).trans ?_
          by_cases h : 16 - k ≤ m ∧ m < 16 + k
          · rw [if_pos h, if_pos (by omega)]
          · rw [if_neg h, if_neg (by omega)]

end loops

end Cert.HgrnIdeal.Body
-- ==== Proof.Layer.Run.lean ====
/- The run of the body on whole staging buffers, the pipeline's proof data, and the run of the whole program, over any value
   type: the output window's block is `outBlk` of the input windows' blocks. -/
module

public import proofs.«01_k».proof.Proof.Layer.Body
public import proofs.«01_k».proof.Proof.Gen.HgrnIdeal.Frame

@[expose] public section

set_option maxRecDepth 65536

noncomputable section

namespace Cert.HgrnIdeal.Body

open Cert.HgrnIdeal Cert.HgrnIdeal.Gen Cert.Layer
open Idealize.ShloMosaic hiding ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward direction's floor of the gate, from the block of logits. -/
def lbF (l : Vec F S2x2x1x1x128 .f32) : FVec F (Sh 1 128) .f32 :=
  k0_pay1 (View.ld l (Rect.unit (s := S2x2x1x1x128) ![0, 0, 0, 0, 0] S1x1x1x1x128.size inb_S2x2x1x1x128_S1x1x1x1x128_0_0_0_0_0))
    (View.ld l (Rect.unit (s := S2x2x1x1x128) ![0, 1, 0, 0, 0] S1x1x1x1x128.size inb_S2x2x1x1x128_S1x1x1x1x128_0_1_0_0_0))
/-- The backward direction's. -/
def lbB (l : Vec F S2x2x1x1x128 .f32) : FVec F (Sh 1 128) .f32 :=
  k0_pay1 (View.ld l (Rect.unit (s := S2x2x1x1x128) ![1, 0, 0, 0, 0] S1x1x1x1x128.size inb_S2x2x1x1x128_S1x1x1x1x128_1_0_0_0_0))
    (View.ld l (Rect.unit (s := S2x2x1x1x128) ![1, 1, 0, 0, 0] S1x1x1x1x128.size inb_S2x2x1x1x128_S1x1x1x1x128_1_1_0_0_0))
/-- The norm's weights. -/
def ngOf (n : Vec F S1x1x128 .f32) : FVec F (Sh 1 128) .f32 :=
  ngRow (View.ld n (Rect.unit (s := S1x1x128) ![0, 0, 0] S1x1x128.size inb_S1x1x128_S1x1x128_0_0_0))

/-- The output window's block from the input windows' blocks. -/
def outOf (x0 x1 x2 x3 x4 : Blk F) (x5 : Vec F S2x2x1x1x128 .f32) (x6 : Vec F S1x1x128 .f32) : Blk F :=
  outBlk (lbF x5) (lbB x5) x0 x1 x2 x3 x4 (ngOf x6)

/-- The output block after both loops. -/
theorem after_loops (c : Dev nD) (i : grid0.Coords)
    (arg2 arg3 arg4 arg5 arg6 : Memref sig .tc .vmem S1x4096x128 .f32) (arg7 : Memref sig .tc .vmem S2x2x1x1x128 .f32)
    (arg8 : Memref sig .tc .vmem S1x1x128 .f32) (arg9 : Memref sig .tc .vmem S1x4096x128 .f32) (arg10 : Memref sig .tc .vmem S4096x128 .f32)
    (h2 : arg2.IsWhole) (h3 : arg3.IsWhole) (h4 : arg4.IsWhole) (h5 : arg5.IsWhole) (h6 : arg6.IsWhole)
    (h7 : arg7.IsWhole) (h8 : arg8.IsWhole) (h9 : arg9.IsWhole) (h10 : arg10.IsWhole) (v0 v2 v11 v13 : Vec F S1x1x1x1x128 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X8 : BufTy.Contents (Elt F) arg8.view.ty)
    (G9 : BufTy.Contents (Elt F) arg9.view.ty) (G10 : BufTy.Contents (Elt F) arg10.view.ty) :
    let s1 := st_k0_t1 Variants.none c none i arg2 h2 arg3 h3 arg4 h4 arg5 h5 arg6 h6 arg7 h7 arg8 h8 arg9 h9 arg10 h10
        v0 v2 v11 v13 X2 X3 X4 X5 (k0_pay3, k0_pay3) k0_t1_loop.trips
    arg9.view.read (Elt F) (arg9.view.writes (Elt F) G9
      ((st_k0_t2 Variants.none c none i arg2 h2 arg3 h3 arg4 h4 arg5 h5 arg6 h6 arg7 h7 arg8 h8 arg9 h9 arg10 h10
        v0 v2 v11 v13 X2 X3 X4 X5 X6 X8 (arg10.view.writes (Elt F) G10 s1.2.2) (arg9.view.writes (Elt F) G9 s1.2.1)
        (s1.1.1, s1.1.2) k0_t2_loop.trips).2 ++ s1.2.1))
      = outBlk (k0_pay1 v0 v2) (k0_pay1 v11 v13) (arg2.view.read (Elt F) X2) (arg3.view.read (Elt F) X3) (arg4.view.read (Elt F) X4)
          (arg5.view.read (Elt F) X5) (arg6.view.read (Elt F) X6) (ng8 arg8 X8) := by
  intro s1
  obtain ⟨e1, e2, e3⟩ := loop1 arg2 arg3 arg4 arg5 arg6 arg9 arg7 arg8 arg10 v0 v2 v11 v13 X2 X3 X4 X5 Variants.none c none i
    h2 h3 h4 h5 h6 h7 h8 h9 h10 G9 G10 k0_t1_loop.trips (by rw [trips1])
  rw [View.writes_append]
  have es : s1.1 = _ := e1
  have t1 : k0_t1_loop.trips = 16 := trips1
  obtain ⟨-, f2⟩ := loop2 arg2 arg3 arg4 arg5 arg6 arg9 arg7 arg8 arg10 v0 v2 v11 v13 X2 X3 X4 X5 X6 X8
    (arg10.view.writes (Elt F) G10 s1.2.2) Variants.none c none i
    h2 h3 h4 h5 h6 h7 h8 h9 h10 (arg9.view.writes (Elt F) G9 s1.2.1) (fun m hm hm' => e2 m (by omega) hm') (fun m hm => e3 m (by omega))
    k0_t2_loop.trips (by rw [trips2])
  have t2 : k0_t2_loop.trips = 16 := trips2
  refine ext_chunk _ _ fun m hm => ?_
  rw [chunk_outBlk _ _ _ _ _ _ _ _ m hm]
  rw [es, show k0_t1_loop.trips = 16 from t1]
  refine (f2 m hm).trans ?_
  rw [if_pos (by omega)]

set_option maxHeartbeats 1000000 in
theorem sound_kernel (c : Dev nD) (E : Set ℕ) (i : grid0.Coords)
    (arg2 arg3 arg4 arg5 arg6 : Memref sig .tc .vmem S1x4096x128 .f32) (arg7 : Memref sig .tc .vmem S2x2x1x1x128 .f32)
    (arg8 : Memref sig .tc .vmem S1x1x128 .f32) (arg9 : Memref sig .tc .vmem S1x4096x128 .f32) (arg10 : Memref sig .tc .vmem S4096x128 .f32)
    (h2 : arg2.IsWhole) (h3 : arg3.IsWhole) (h4 : arg4.IsWhole) (h5 : arg5.IsWhole) (h6 : arg6.IsWhole)
    (h7 : arg7.IsWhole) (h8 : arg8.IsWhole) (h9 : arg9.IsWhole) (h10 : arg10.IsWhole)
    (x0 x1 x2 x3 x4 : Blk F) (x5 : Vec F S2x2x1x1x128 .f32) (x6 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (outOf x0 x1 x2 x3 x4 x5 x6)
        ∗ (∃ d, owns (c : Thread nD τ) arg10 fullShare d)) -∗ K ⟨⟩))
      ⊢ wp frame (wpE (defs₀ (F := F)) Variants.none c none) E
          (cc0_hgrn i arg2 h2 arg3 h3 arg4 h4 arg5 h5 arg6 h6 arg7 h7 arg8 h8 arg9 h9 arg10 h10) K := by
  simp only [cc0_hgrn_eq_skeleton]; unfold cc0_hgrn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact after_loops c i arg2 arg3 arg4 arg5 arg6 arg7 arg8 arg9 arg10 h2 h3 h4 h5 h6 h7 h8 h9 h10 _ _ _ _ f0 f1 f2 f3 f4 f6 f7 f8
  · iexists _; iexists _; isplitr
    swap; · iexact H8
    ipureintro; rfl

variable (m : (ℓ : Loc nD τ sig) → Buf (Elt F) ℓ) (ρ : Dev nD → PrngReg)

/-- The output window's block at point `t`. -/
def outAt (c : Dev nD) (t : Fin cfg0.N) : Blk F :=
  outOf (iblk m c 0 t) (iblk m c 1 t) (iblk m c 2 t) (iblk m c 3 t) (iblk m c 4 t) (iblk m c 5 t) (iblk m c 6 t)

/-- The arrays as the region finds them; after the body the inputs' buffers at their blocks and the output's at `outAt`; the
    scoped rest untouched; nothing owed; the shared array's share dealt among its windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem scr_in (c : Dev nD) (s : Buf (Elt F) ((c : Thread nD τ).loc cc0_scratch0)) :
    ((c : Thread nD τ).loc cc0_scratch0 ↦{fullShare} s) ⊢ (owns (c : Thread nD τ) (Memref.whole cc0_scratch0) fullShare s : sProp 𝕄) := by
  rw [owns_whole_eq]
  iintro H
  iexists s; isplitr; · ipureintro; rfl
  iexact H

theorem scr_out (c : Dev nD) (s : Vec F S4096x128 .f32) :
    (owns (c : Thread nD τ) (Memref.whole cc0_scratch0) fullShare s : sProp 𝕄)
      ⊢ iprop(∃ f : Buf (Elt F) ((c : Thread nD τ).loc cc0_scratch0), (c : Thread nD τ).loc cc0_scratch0 ↦{fullShare} f) := by
  rw [owns_whole_eq]
  iintro ⟨%f, -, H⟩
  iexists f; iexact H

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4,
    after0_5, after0_6, after0_7, show (dats m 0 c).Φ t.castSucc = Pipeline.ΦA spec0 c from rfl]
  unfold outAt Pipeline.ΦA
  rw [scopedRest0_eq]
  iintro ⟨⟨⟨%s, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ (iblk m c 0 t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexists s; iapply (scr_in c s); iexact HS
  iintro ⟨H0, H1, H2, H3, H4, H5, H6, H7, ⟨%s', HS⟩⟩
  isplitl [HS HP]
  · isplitl [HS]
    · iapply (scr_out c s'); iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

-- the runner's implicit arguments are found by unifying its conclusion with this one
set_option backward.isDefEq.respectTransparency.types false in
set_option maxHeartbeats 800000 in
/-- From any memory with zero counters every fair run ends with every array of the pipeline at what the proof data gives and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

/-- The frame: the arguments as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.HgrnIdeal.Body
-- ==== Proof.Layer.Out.lean ====
/- The output block of one sequence and head at the extended reals: the gated, normalised sum of the two recurrences. -/
module

public import proofs.«01_k».proof.Proof.Layer.Chunks
public import proofs.«01_k».proof.Proof.Layer.Run
public import Idealize.ShloMosaic.Lib.ValueLayoutCasts

@[expose] public section

noncomputable section

namespace Cert.HgrnIdeal.Body

open Cert.HgrnIdeal Cert.HgrnIdeal.Gen Cert.Layer
open Idealize.ShloMosaic hiding ix1 ix2 ix3 ix5
open Idealize.ShloMosaic.ValueIdx

/-- The gated norm of a matrix of real rows, at an entry. -/
theorem gnorm_apply {o : FVec Ideal (Sh 128 128) .f32} {O : ℕ → ℕ → ℝ} (ho : Rep o O) (ng : FVec Ideal (Sh 1 128) .f32)
    (g : FVec Ideal (Sh 128 128) .f32) (i e : Fin 128) :
    (gnorm o ng g (ix2 i e) : EReal) = gated (O i.val) e.val (ng (ix2 (0 : Fin 1) e)) (g (ix2 i e)) := by
  have hsum : (multiReduction .add [1] S128 (mulf o o) 0x00000000#32 reduces_S128x128_S128 (.inl rfl) rfl (ix1 i) : EReal)
      = ((∑ k ∈ Finset.range 128, O i.val k * O i.val k : ℝ) : EReal) := by
    refine (Ideal.multiReduction_add_single _ _ _ _ _ _).trans ?_
    rw [coe_sum_fin 128 fun k => O i.val k * O i.val k]
    refine Finset.sum_congr rfl fun k _ => ?_
    have hl : reduces_S128x128_S128.lift (ix1 i) k = ix2 i k := funext fun a => by
      match a with
      | ⟨0, _⟩ => rfl
      | ⟨1, _⟩ => rfl
    rw [hl]; exact (ho.mul ho) i k
  have hr : (broadcastTo S128x128 (rsqrt (addf (divf
      (shapeCast S128x1 (multiReduction .add [1] S128 (mulf o o) 0x00000000#32 reduces_S128x128_S128 (.inl rfl) rfl) shapeCasts_S128_S128x1)
      (broadcast S128x1 (Scalar.ofBits .f32 0x43000000#32 : Ideal .f32))) (broadcast S128x1 (Scalar.ofBits .f32 0x358637BD#32 : Ideal .f32))))
      broadcasts_S128x1_S128x128 (ix2 i e) : EReal)
      = Ideal.rsqrt (Ideal.div ((∑ k ∈ Finset.range 128, O i.val k * O i.val k : ℝ) : EReal) (Ideal.ofBits .f32 0x43000000#32)
        + Ideal.ofBits .f32 0x358637BD#32) := by
    rw [broadcastTo_apply _ _ (ix2 i e) (ix2 i (0 : Fin 1)) (fun a => by
      match a with
      | ⟨0, _⟩ => rfl
      | ⟨1, _⟩ => rfl), ← hsum]
    exact congrArg (fun x => Ideal.rsqrt (Ideal.div x _ + _)) (shapeCast_a_a1_apply (a := 128) _ _ i 0)
  have hn : (broadcastTo S128x128 ng broadcasts_S1x128_S128x128 (ix2 i e) : EReal) = ng (ix2 (0 : Fin 1) e) :=
    broadcastTo_apply _ _ (ix2 i e) (ix2 (0 : Fin 1) e) (fun a => by
      match a with
      | ⟨0, _⟩ => rfl
      | ⟨1, _⟩ => rfl)
  show ((o (ix2 i e) : EReal) * _ * _) * ((g (ix2 i e) : EReal) * Ideal.logistic (g (ix2 i e))) = _
  unfold gated
  exact congrArg₂ _ (congrArg₂ _ (congrArg₂ _ (ho i e) hr) hn) rfl

section

variable {l0 l1 ng : FVec Ideal (Sh 1 128) .f32} {la lb : ℕ → ℝ} {q zf zb v g : Blk Ideal} {Q V : ℕ → ℕ → ℝ} {Zf Zb : ℕ → ℕ → EReal}

/-- The output block at a row and a column. -/
theorem outBlk_apply (h0 : Rep l0 fun _ d => la d) (h00 : ∀ d, 0 < la d ∧ la d < 1) (h1 : Rep l1 fun _ d => lb d)
    (h11 : ∀ d, 0 < lb d ∧ lb d < 1) (hq : BRep q Q) (hzf : BExt zf Zf) (hzb : BExt zb Zb) (hv : BRep v V) (t : Fin 4096) (e : Fin 128) :
    (outBlk l0 l1 q zf zb v g ng (ix3 (0 : Fin 1) t e) : EReal)
      = gated (fun k => att Q (kys la Zf) V (lgs la Zf) t.val k + att (rev Q) (rev (kys lb Zb)) (rev V) (rev (lgs lb Zb)) (4095 - t.val) k)
        e.val (ng (ix2 (0 : Fin 1) e)) (g (ix3 (0 : Fin 1) t e)) := by
  have ht := t.isLt
  have hm : t.val / 128 < 32 := by omega
  have hF := rep_fO h0 h00 hq hzf hv (t.val / 128) hm
  have hB := rep_bO h1 h11 hq hzb hv (31 - t.val / 128) (by omega)
  have hs : Rep (if 16 ≤ t.val / 128 then addf (fO l0 q zf v (t.val / 128)) (bO l1 q zb v (31 - t.val / 128))
      else addf (bO l1 q zb v (31 - t.val / 128)) (fO l0 q zf v (t.val / 128)))
      fun i k => att Q (kys la Zf) V (lgs la Zf) (128 * (t.val / 128) + i) k
        + att (rev Q) (rev (kys lb Zb)) (rev V) (rev (lgs lb Zb)) (128 * (31 - t.val / 128) + (127 - i)) k := by
    split
    · exact hF.add hB
    · exact (hB.add hF).congr fun i j _ _ => add_comm _ _
  refine (gnorm_apply hs ng (chunk g (t.val / 128)) ⟨t.val % 128, Nat.mod_lt _ (by decide)⟩ e).trans ?_
  have hg : (chunk g (t.val / 128) (ix2 (⟨t.val % 128, Nat.mod_lt _ (by decide)⟩ : Fin 128) e) : EReal) = g (ix3 (0 : Fin 1) t e) := by
    refine congrArg (fun r => g (ix3 (0 : Fin 1) r e)) (Fin.ext ?_)
    show (128 * (t.val / 128) + t.val % 128) % 4096 = t.val
    omega
  rw [hg]
  refine congrArg (fun o => gated o e.val _ _) (funext fun k => ?_)
  show att Q _ V _ (128 * (t.val / 128) + t.val % 128) k + att _ _ _ _ (128 * (31 - t.val / 128) + (127 - t.val % 128)) k = _
  rw [show 128 * (t.val / 128) + t.val % 128 = t.val by omega, show 128 * (31 - t.val / 128) + (127 - t.val % 128) = 4095 - t.val by omega]

end

/-! ## The lower bounds -/

/-- The softmax of two rows of logits, at the first. -/
theorem pay1_rep {x y : Vec Ideal S1x1x1x1x128 .f32} {a b : ℕ → ℝ}
    (hx : ∀ d : Fin 128, (x (ix5 (0 : Fin 1) (0 : Fin 1) (0 : Fin 1) (0 : Fin 1) d) : EReal) = ((a d.val : ℝ) : EReal))
    (hy : ∀ d : Fin 128, (y (ix5 (0 : Fin 1) (0 : Fin 1) (0 : Fin 1) (0 : Fin 1) d) : EReal) = ((b d.val : ℝ) : EReal)) :
    Rep (k0_pay1 x y) fun _ d => sm (a d) (b d) := fun i d => by
  have hc : ∀ z : Vec Ideal S1x1x1x1x128 .f32, shapeCast S1x128 z shapeCasts_S1x1x1x1x128_S1x128 (ix2 i d)
      = z (ix5 (0 : Fin 1) (0 : Fin 1) (0 : Fin 1) (0 : Fin 1) d) := fun z =>
    shapeCast_apply _ _ _ _ (by
      have := i.isLt
      rw [Shape.rowMajor_val_two, Shape.rowMajor_val_five]; simp)
  show Ideal.div (Ideal.exp (shapeCast S1x128 x _ (ix2 i d) - max (shapeCast S1x128 x _ (ix2 i d) : EReal) (shapeCast S1x128 y _ (ix2 i d))))
    (Ideal.exp (shapeCast S1x128 x _ (ix2 i d) - max (shapeCast S1x128 x _ (ix2 i d) : EReal) (shapeCast S1x128 y _ (ix2 i d)))
      + Ideal.exp (shapeCast S1x128 y _ (ix2 i d) - max (shapeCast S1x128 x _ (ix2 i d) : EReal) (shapeCast S1x128 y _ (ix2 i d)))) = _
  rw [hc x, hc y, hx d, hy d, ← (EReal.coe_strictMono.monotone.map_max (a := a d.val) (b := b d.val)), ← EReal.coe_sub, ← EReal.coe_sub, Ideal.exp_coe, Ideal.exp_coe, ← EReal.coe_add,
    Ideal.div_coe (by positivity), ← EReal.coe_mul, mul_one_div]
  rfl

end Cert.HgrnIdeal.Body
-- ==== Proof.Layer.Final.lean ====
/- The recurrence call's output array: each grid point's block is one sequence's head, so the array is the layer's result. -/
module

public import proofs.«01_k».proof.Proof.Layer.Out
public import Idealize.ShloMosaic.Lib.StableHlo.RunRead

@[expose] public section

noncomputable section

namespace Cert.HgrnIdeal.Body

open Cert.HgrnIdeal Cert.HgrnIdeal.Gen Cert.Layer Idealize.ShloMosaic.TcCoe
open Idealize.ShloMosaic hiding ix1 ix2 ix3 ix5
open Idealize.ShloMosaic.ValueIdx
open Idealize.SL.Sem

variable (m : (ℓ : Loc nD τ sig) → Buf (Elt Ideal) ℓ) (ρ : Dev nD → PrngReg)

/-- Where each window's block sits at grid point `t`: sequence `t / 4`, head `t % 4`, the stream's columns. -/
theorem idx_facts : ∀ t : Fin cfg0.N,
    (win0_0.index t 0 = t.val / 4 ∧ win0_0.index t 1 = 0 ∧ win0_0.index t 2 = 4 * 0 + t.val % 4)
    ∧ (win0_1.index t 0 = t.val / 4 ∧ win0_1.index t 1 = 0 ∧ win0_1.index t 2 = 4 * 1 + t.val % 4)
    ∧ (win0_2.index t 0 = t.val / 4 ∧ win0_2.index t 1 = 0 ∧ win0_2.index t 2 = 4 * 2 + t.val % 4)
    ∧ (win0_3.index t 0 = t.val / 4 ∧ win0_3.index t 1 = 0 ∧ win0_3.index t 2 = 4 * 3 + t.val % 4)
    ∧ (win0_4.index t 0 = t.val / 4 ∧ win0_4.index t 1 = 0 ∧ win0_4.index t 2 = 4 * 4 + t.val % 4)
    ∧ (win0_5.index t 0 = 0 ∧ win0_5.index t 1 = 0 ∧ win0_5.index t 2 = t.val % 4 ∧ win0_5.index t 3 = 0 ∧ win0_5.index t 4 = 0)
    ∧ (win0_6.index t 0 = t.val % 4 ∧ win0_6.index t 1 = 0 ∧ win0_6.index t 2 = 0)
    ∧ (win0_7.index t 0 = t.val / 4 ∧ win0_7.index t 1 = 0 ∧ win0_7.index t 2 = t.val % 4) :=
  (by decide +kernel : ∀ t : Fin grid0.N,
    (win0_0.index t 0 = t.val / 4 ∧ win0_0.index t 1 = 0 ∧ win0_0.index t 2 = 4 * 0 + t.val % 4)
    ∧ (win0_1.index t 0 = t.val / 4 ∧ win0_1.index t 1 = 0 ∧ win0_1.index t 2 = 4 * 1 + t.val % 4)
    ∧ (win0_2.index t 0 = t.val / 4 ∧ win0_2.index t 1 = 0 ∧ win0_2.index t 2 = 4 * 2 + t.val % 4)
    ∧ (win0_3.index t 0 = t.val / 4 ∧ win0_3.index t 1 = 0 ∧ win0_3.index t 2 = 4 * 3 + t.val % 4)
    ∧ (win0_4.index t 0 = t.val / 4 ∧ win0_4.index t 1 = 0 ∧ win0_4.index t 2 = 4 * 4 + t.val % 4)
    ∧ (win0_5.index t 0 = 0 ∧ win0_5.index t 1 = 0 ∧ win0_5.index t 2 = t.val % 4 ∧ win0_5.index t 3 = 0 ∧ win0_5.index t 4 = 0)
    ∧ (win0_6.index t 0 = t.val % 4 ∧ win0_6.index t 1 = 0 ∧ win0_6.index t 2 = 0)
    ∧ (win0_7.index t 0 = t.val / 4 ∧ win0_7.index t 1 = 0 ∧ win0_7.index t 2 = t.val % 4))

theorem lt64 (t : Fin cfg0.N) : t.val < 64 := by have h := t.isLt; have hN : cfg0.N = 64 := N_0; omega

/-- The sequence of a grid point. -/
def seqOf (t : Fin cfg0.N) : Fin 16 := ⟨t.val / 4, by have := lt64 t; omega⟩

/-- An entry of the projected rows at a stream's column. -/
theorem arr_col (A : ArgX) (t : Fin cfg0.N) (s : ℕ) (hs : s < 5) (r : Fin 4096) (l : Fin 128) (i : (⟨3, ![16, 4096, 3584]⟩ : Shape).Idx)
    (h0 : (i 0).val = t.val / 4) (h1 : (i 1).val = r.val) (h2 : (i 2).val = (4 * s + t.val % 4) * 128 + l.val) :
    (A i : EReal) = col A s (t.val % 4) (seqOf t) r.val l.val := by
  have hr := r.isLt; have hl := l.isLt
  refine congrArg A (funext fun a => Fin.ext ?_)
  match a with
  | ⟨0, _⟩ => exact h0
  | ⟨1, _⟩ => refine h1.trans ?_; show r.val = r.val % 4096; omega
  | ⟨2, _⟩ => refine h2.trans ?_; show _ = (s * 512 + t.val % 4 * 128 + l.val) % 3584; omega

abbrev argX (c : Dev nD) : ArgX := m ((c : Thread nD τ).loc main_arg0)
abbrev argL (c : Dev nD) : ArgL := m ((c : Thread nD τ).loc main_arg1)
abbrev argN (c : Dev nD) : ArgN := m ((c : Thread nD τ).loc main_arg2)

theorem blk_0 (c : Dev nD) (t : Fin cfg0.N) (r : Fin 4096) (l : Fin 128) :
    (iblk m c 0 t (ix3 (0 : Fin 1) r l) : EReal) = col (argX m c) 0 (t.val % 4) (seqOf t) r.val l.val := by
  obtain ⟨⟨h0, h1, h2⟩, -⟩ := idx_facts t
  unfold iblk; rw [View.read_apply]
  show V m c main_arg0 _ = _
  rw [V_main_arg0]
  refine arr_col (argX m c) t 0 (by decide) r l _ ?_ ?_ ?_
  · show win0_0.index t 0 * 1 + 1 * 0 = _; rw [h0]; omega
  · show win0_0.index t 1 * 4096 + 1 * r.val = _; rw [h1]; omega
  · show win0_0.index t 2 * 128 + 1 * l.val = _; rw [h2]; omega

theorem blk_1 (c : Dev nD) (t : Fin cfg0.N) (r : Fin 4096) (l : Fin 128) :
    (iblk m c 1 t (ix3 (0 : Fin 1) r l) : EReal) = col (argX m c) 1 (t.val % 4) (seqOf t) r.val l.val := by
  obtain ⟨-, ⟨h0, h1, h2⟩, -⟩ := idx_facts t
  unfold iblk; rw [View.read_apply]
  show V m c main_arg0 _ = _
  rw [V_main_arg0]
  refine arr_col (argX m c) t 1 (by decide) r l _ ?_ ?_ ?_
  · show win0_1.index t 0 * 1 + 1 * 0 = _; rw [h0]; omega
  · show win0_1.index t 1 * 4096 + 1 * r.val = _; rw [h1]; omega
  · show win0_1.index t 2 * 128 + 1 * l.val = _; rw [h2]; omega

theorem blk_2 (c : Dev nD) (t : Fin cfg0.N) (r : Fin 4096) (l : Fin 128) :
    (iblk m c 2 t (ix3 (0 : Fin 1) r l) : EReal) = col (argX m c) 2 (t.val % 4) (seqOf t) r.val l.val := by
  obtain ⟨-, -, ⟨h0, h1, h2⟩, -⟩ := idx_facts t
  unfold iblk; rw [View.read_apply]
  show V m c main_arg0 _ = _
  rw [V_main_arg0]
  refine arr_col (argX m c) t 2 (by decide) r l _ ?_ ?_ ?_
  · show win0_2.index t 0 * 1 + 1 * 0 = _; rw [h0]; omega
  · show win0_2.index t 1 * 4096 + 1 * r.val = _; rw [h1]; omega
  · show win0_2.index t 2 * 128 + 1 * l.val = _; rw [h2]; omega

theorem blk_3 (c : Dev nD) (t : Fin cfg0.N) (r : Fin 4096) (l : Fin 128) :
    (iblk m c 3 t (ix3 (0 : Fin 1) r l) : EReal) = col (argX m c) 3 (t.val % 4) (seqOf t) r.val l.val := by
  obtain ⟨-, -, -, ⟨h0, h1, h2⟩, -⟩ := idx_facts t
  unfold iblk; rw [View.read_apply]
  show V m c main_arg0 _ = _
  rw [V_main_arg0]
  refine arr_col (argX m c) t 3 (by decide) r l _ ?_ ?_ ?_
  · show win0_3.index t 0 * 1 + 1 * 0 = _; rw [h0]; omega
  · show win0_3.index t 1 * 4096 + 1 * r.val = _; rw [h1]; omega
  · show win0_3.index t 2 * 128 + 1 * l.val = _; rw [h2]; omega

theorem blk_4 (c : Dev nD) (t : Fin cfg0.N) (r : Fin 4096) (l : Fin 128) :
    (iblk m c 4 t (ix3 (0 : Fin 1) r l) : EReal) = col (argX m c) 4 (t.val % 4) (seqOf t) r.val l.val := by
  obtain ⟨-, -, -, -, ⟨h0, h1, h2⟩, -⟩ := idx_facts t
  unfold iblk; rw [View.read_apply]
  show V m c main_arg0 _ = _
  rw [V_main_arg0]
  refine arr_col (argX m c) t 4 (by decide) r l _ ?_ ?_ ?_
  · show win0_4.index t 0 * 1 + 1 * 0 = _; rw [h0]; omega
  · show win0_4.index t 1 * 4096 + 1 * r.val = _; rw [h1]; omega
  · show win0_4.index t 2 * 128 + 1 * l.val = _; rw [h2]; omega

theorem V_v0 (c : Dev nD) : V m c main_v0 = shapeCast S2x2x4x1x128 (argL m c) shapeCasts_S2x2x512_S2x2x4x1x128 := by
  unfold V
  after_reads_simp
  try rfl

theorem V_v1 (c : Dev nD) : V m c main_v1 = shapeCast S4x1x128 (argN m c) shapeCasts_S512_S4x1x128 := by
  unfold V
  after_reads_simp
  try rfl

theorem blk_5 (c : Dev nD) (t : Fin cfg0.N) (a b : Fin 2) (d : Fin 128) :
    (iblk m c 5 t (ix5 a b (0 : Fin 1) (0 : Fin 1) d) : EReal)
      = argL m c (ix3 a b (⟨(t.val % 4 * 128 + d.val) % 512, Nat.mod_lt _ (by decide)⟩ : Fin 512)) := by
  obtain ⟨-, -, -, -, -, ⟨h0, h1, h2, h3, h4⟩, -⟩ := idx_facts t
  have hd := d.isLt
  unfold iblk; rw [View.read_apply]
  show V m c main_v0 _ = _
  rw [V_v0]
  refine (congrArg _ (?_ : _ = ix5 a b (⟨t.val % 4, Nat.mod_lt _ (by decide)⟩ : Fin 4) (0 : Fin 1) d)).trans
    (shapeCast_apply _ _ _ _ ?_)
  · refine funext fun x => Fin.ext ?_
    match x with
    | ⟨0, _⟩ => show win0_5.index t 0 * 2 + 1 * a.val = a.val; rw [h0]; omega
    | ⟨1, _⟩ => show win0_5.index t 1 * 2 + 1 * b.val = b.val; rw [h1]; omega
    | ⟨2, _⟩ => show win0_5.index t 2 * 1 + 1 * 0 = t.val % 4; rw [h2]; omega
    | ⟨3, _⟩ => show win0_5.index t 3 * 1 + 1 * 0 = 0; rw [h3]
    | ⟨4, _⟩ => show win0_5.index t 4 * 128 + 1 * d.val = d.val; rw [h4]; omega
  · rw [Shape.rowMajor_val_three, Shape.rowMajor_val_five]
    simp [ix5, ix3]
    omega

theorem blk_6 (c : Dev nD) (t : Fin cfg0.N) (d : Fin 128) :
    (iblk m c 6 t (ix3 (0 : Fin 1) (0 : Fin 1) d) : EReal) = nrm (argN m c) (t.val % 4) d.val := by
  obtain ⟨-, -, -, -, -, -, ⟨h0, h1, h2⟩, -⟩ := idx_facts t
  have hd := d.isLt
  unfold iblk; rw [View.read_apply]
  show V m c main_v1 _ = _
  rw [V_v1]
  refine (congrArg _ (?_ : _ = ix3 (⟨t.val % 4, Nat.mod_lt _ (by decide)⟩ : Fin 4) (0 : Fin 1) d)).trans
    (shapeCast_apply _ _ _ _ ?_)
  · refine funext fun x => Fin.ext ?_
    match x with
    | ⟨0, _⟩ => show win0_6.index t 0 * 1 + 1 * 0 = t.val % 4; rw [h0]; omega
    | ⟨1, _⟩ => show win0_6.index t 1 * 1 + 1 * 0 = 0; rw [h1]
    | ⟨2, _⟩ => show win0_6.index t 2 * 128 + 1 * d.val = d.val; rw [h2]; omega
  · rw [Shape.rowMajor_val_three, Shape.rowMajor_val_one]
    simp
    omega

variable {m}

theorem rep_lbF {c : Dev nD} (hr : Real3 (argX m c) (argL m c)) (t : Fin cfg0.N) :
    Rep (lbF (iblk m c 5 t)) fun _ d => low (argL m c) 0 (t.val % 4) d := by
  refine pay1_rep (a := lbl (argL m c) 0 0 (t.val % 4)) (b := lbl (argL m c) 0 1 (t.val % 4)) (fun d => ?_) (fun d => ?_)
  · refine Eq.trans (congrArg (iblk m c 5 t) (?_ : _ = ix5 (0 : Fin 2) (0 : Fin 2) (0 : Fin 1) (0 : Fin 1) d)) ((blk_5 m c t 0 0 d).trans (hr.l _))
    refine funext fun x => Fin.ext ?_
    match x with
    | ⟨0, _⟩ => rfl
    | ⟨1, _⟩ => rfl
    | ⟨2, _⟩ => rfl
    | ⟨3, _⟩ => rfl
    | ⟨4, _⟩ => show 0 + 1 * d.val = d.val; omega
  · refine Eq.trans (congrArg (iblk m c 5 t) (?_ : _ = ix5 (0 : Fin 2) (1 : Fin 2) (0 : Fin 1) (0 : Fin 1) d)) ((blk_5 m c t 0 1 d).trans (hr.l _))
    refine funext fun x => Fin.ext ?_
    match x with
    | ⟨0, _⟩ => rfl
    | ⟨1, _⟩ => rfl
    | ⟨2, _⟩ => rfl
    | ⟨3, _⟩ => rfl
    | ⟨4, _⟩ => show 0 + 1 * d.val = d.val; omega

theorem rep_lbB {c : Dev nD} (hr : Real3 (argX m c) (argL m c)) (t : Fin cfg0.N) :
    Rep (lbB (iblk m c 5 t)) fun _ d => low (argL m c) 1 (t.val % 4) d := by
  refine pay1_rep (a := lbl (argL m c) 1 0 (t.val % 4)) (b := lbl (argL m c) 1 1 (t.val % 4)) (fun d => ?_) (fun d => ?_)
  · refine Eq.trans (congrArg (iblk m c 5 t) (?_ : _ = ix5 (1 : Fin 2) (0 : Fin 2) (0 : Fin 1) (0 : Fin 1) d)) ((blk_5 m c t 1 0 d).trans (hr.l _))
    refine funext fun x => Fin.ext ?_
    match x with
    | ⟨0, _⟩ => rfl
    | ⟨1, _⟩ => rfl
    | ⟨2, _⟩ => rfl
    | ⟨3, _⟩ => rfl
    | ⟨4, _⟩ => show 0 + 1 * d.val = d.val; omega
  · refine Eq.trans (congrArg (iblk m c 5 t) (?_ : _ = ix5 (1 : Fin 2) (1 : Fin 2) (0 : Fin 1) (0 : Fin 1) d)) ((blk_5 m c t 1 1 d).trans (hr.l _))
    refine funext fun x => Fin.ext ?_
    match x with
    | ⟨0, _⟩ => rfl
    | ⟨1, _⟩ => rfl
    | ⟨2, _⟩ => rfl
    | ⟨3, _⟩ => rfl
    | ⟨4, _⟩ => show 0 + 1 * d.val = d.val; omega

theorem ng_eq (c : Dev nD) (t : Fin cfg0.N) (d : Fin 128) :
    (ngOf (iblk m c 6 t) (ix2 (0 : Fin 1) d) : EReal) = nrm (argN m c) (t.val % 4) d.val := by
  have h := shapeCast_1ab_ab_apply (View.ld (iblk m c 6 t) (Rect.unit (s := S1x1x128) ![0, 0, 0] S1x1x128.size inb_S1x1x128_S1x1x128_0_0_0))
    shapeCasts_S1x1x128_S1x128 (0 : Fin 1) d
  refine Eq.trans h (Eq.trans (congrArg (iblk m c 6 t) (?_ : _ = ix3 (0 : Fin 1) (0 : Fin 1) d)) (blk_6 m c t d))
  refine funext fun x => Fin.ext ?_
  match x with
  | ⟨0, _⟩ => rfl
  | ⟨1, _⟩ => rfl
  | ⟨2, _⟩ => show 0 + 1 * d.val = d.val; omega

/-- The block a grid point leaves, at a row and a column. -/
theorem outAt_apply {c : Dev nD} (hr : Real3 (argX m c) (argL m c)) (t : Fin cfg0.N) (r : Fin 4096) (l : Fin 128) :
    (outAt m c t (ix3 (0 : Fin 1) r l) : EReal)
      = layerAt (argX m c) (argL m c) (argN m c) (seqOf t) r ⟨t.val % 4 * 128 + l.val, by have := l.isLt; omega⟩ := by
  have hl := l.isLt
  have hb : ∀ d, 0 < low (argL m c) 0 (t.val % 4) d ∧ low (argL m c) 0 (t.val % 4) d < 1 := fun d => ⟨sm_pos _ _, sm_lt _ _⟩
  have hb' : ∀ d, 0 < low (argL m c) 1 (t.val % 4) d ∧ low (argL m c) 1 (t.val % 4) d < 1 := fun d => ⟨sm_pos _ _, sm_lt _ _⟩
  have hq : BRep (iblk m c 0 t) (colR (argX m c) 0 (t.val % 4) (seqOf t)) := fun r l =>
    (blk_0 m c t r l).trans (hr.q _ _ _ _ (Nat.mod_lt _ (by decide)) l.isLt)
  have hv : BRep (iblk m c 3 t) (colR (argX m c) 3 (t.val % 4) (seqOf t)) := fun r l =>
    (blk_3 m c t r l).trans (hr.v _ _ _ _ (Nat.mod_lt _ (by decide)) l.isLt)
  refine (outBlk_apply (rep_lbF hr t) hb (rep_lbB hr t) hb' hq (blk_1 m c t) (blk_2 m c t) hv r l).trans ?_
  rw [ng_eq, blk_4]
  unfold layerAt recF recB
  have h1 : (t.val % 4 * 128 + l.val) / 128 = t.val % 4 := by omega
  have h2 : (t.val % 4 * 128 + l.val) % 128 = l.val := by omega
  simp only [h1, h2]

/-- A result block read through the output window: the array at the block's place. -/
theorem read_out (t : Fin cfg0.N) (Y : Res) (r : Fin 4096) (l : Fin 128) :
    (((cfg0.win 7).blk t).view.read (Elt Ideal) Y : Blk Ideal) (ix3 (0 : Fin 1) r l)
      = Y (ix3 (seqOf t) r (⟨t.val % 4 * 128 + l.val, by have := l.isLt; omega⟩ : Fin 512)) := by
  obtain ⟨-, -, -, -, -, -, -, h0, h1, h2⟩ := idx_facts t
  rw [View.read_apply]
  refine congrArg Y (funext fun a => Fin.ext ?_)
  match a with
  | ⟨0, _⟩ => show win0_7.index t 0 * 1 + 1 * 0 = t.val / 4; rw [h0]; omega
  | ⟨1, _⟩ => show win0_7.index t 1 * 4096 + 1 * r.val = r.val; rw [h1]; omega
  | ⟨2, _⟩ => show win0_7.index t 2 * 128 + 1 * l.val = t.val % 4 * 128 + l.val; rw [h2]; omega

theorem eta3 (j : S1x4096x128.Idx) : j = ix3 (0 : Fin 1) (j 1) (j 2) := funext fun a => by
  match a with
  | ⟨0, _⟩ => exact Subsingleton.elim (α := Fin 1) _ _
  | ⟨1, _⟩ => rfl
  | ⟨2, _⟩ => rfl

/-- A block that agrees with an array at its place is the block the window reads of it. -/
theorem cut_eq (t : Fin cfg0.N) (X : Blk Ideal) (Y : Res) (h : ∀ (r : Fin 4096) (l : Fin 128),
      X (ix3 (0 : Fin 1) r l) = Y (ix3 (seqOf t) r (⟨t.val % 4 * 128 + l.val, by have := l.isLt; omega⟩ : Fin 512))) :
    (cfg0.win 7).cut (grid0.coords t) X = ((cfg0.win 7).blk t).view.read (Elt Ideal) Y := by
  refine funext fun (j : S1x4096x128.Idx) => ?_
  rw [eta3 j]
  exact (h (j 1) (j 2)).trans (read_out t Y (j 1) (j 2)).symm

theorem flushed_eq {c : Dev nD} (hr : Real3 (argX m c) (argL m c)) (t : Fin cfg0.N) (_ : (cfg0.win 7).flush t = true) :
    (dats m 0 c).flushed 7 t = ((cfg0.win 7).blk t).view.read (Elt Ideal) (layer (argX m c) (argL m c) (argN m c)) := by
  refine (congrArg ((cfg0.win 7).cut (grid0.coords t)) (after0_7 m c t)).trans ?_
  exact cut_eq t _ _ fun r l => outAt_apply hr t r l

/-- The call's result array. -/
theorem final {c : Dev nD} (hr : Real3 (argX m c) (argL m c)) :
    (dats m 0 c).arrAt 7 cfg0.N = layer (argX m c) (argL m c) (argN m c) :=
  (dats m 0 c).arrAt_eq_of_cover 7 _ (flushed_eq hr) fun i => by
    have h0' : (i 0 : Nat) < 16 := (i 0).isLt
    have h1' : (i 1 : Nat) < 4096 := (i 1).isLt
    have h2' : (i 2 : Nat) < 512 := (i 2).isLt
    have hN : cfg0.N = 64 := N_0
    refine ⟨⟨(i 0 : Nat) * 4 + (i 2 : Nat) / 128, by rw [hN]; omega⟩, flush0_7 _, ?_⟩
    generalize ht : (⟨(i 0 : Nat) * 4 + (i 2 : Nat) / 128, _⟩ : Fin cfg0.N) = t
    have htv : t.val = (i 0 : Nat) * 4 + (i 2 : Nat) / 128 := by rw [← ht]
    obtain ⟨-, -, -, -, -, -, -, h0, h1, h2⟩ := idx_facts t
    show i ∈ ((View.whole main_v2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [h0]; omega
    | ⟨1, _⟩ => show win0_7.index t 1 * 4096 ≤ (i 1 : Nat) ∧ (i 1 : Nat) < win0_7.index t 1 * 4096 + 4096
                rw [h1]; omega
    | ⟨2, _⟩ => show win0_7.index t 2 * 128 ≤ (i 2 : Nat) ∧ (i 2 : Nat) < win0_7.index t 2 * 128 + 128
                rw [h2]; omega

end Cert.HgrnIdeal.Body
-- ==== Proof.Layer.FrameBits.lean ====
/- The frame of the program over bit values: the same program as the one over the extended reals, at the other value type. -/
module

public import proofs.«01_k».proof.Proof.Layer.Run
public import proofs.«01_k».proof.Defs
public import proofs.«01_k».proof.Proof.Gen.Hgrn.Frame

@[expose] public section

set_option maxRecDepth 65536

namespace Cert.HgrnFrame

open Idealize.ShloMosaic Idealize.ShloMosaic.TcCoe
local instance : Cert.Hgrn.Facts := Cert.Hgrn.Gen.facts
local instance : Cert.HgrnIdeal.Facts := Cert.HgrnIdeal.Gen.facts

theorem sig_eq : Cert.Hgrn.sig = Cert.HgrnIdeal.sig := rfl
theorem grid_eq : Cert.Hgrn.grid0 = Cert.HgrnIdeal.grid0 := rfl
theorem body_eq {F : FTy → Type} [FloatOps F] : Cert.Hgrn.cc0_hgrn (F := F) = Cert.HgrnIdeal.cc0_hgrn (F := F) := rfl
theorem main_eq {F : FTy → Type} [FloatOps F] : Cert.Hgrn.main (F := F) = Cert.HgrnIdeal.main (F := F) := rfl
theorem table_eq {F : FTy → Type} [FloatOps F] : Cert.Hgrn.defs₀ (F := F) = Cert.HgrnIdeal.defs₀ (F := F) := by
  unfold Cert.Hgrn.defs₀ Cert.HgrnIdeal.defs₀
  refine congrArg Defs.onTc ?_
  funext l x
  match l, x with
  | ⟨0, _⟩, (t, s) => rfl
  | ⟨n + 1, h⟩, _ => exact absurd h (Nat.not_lt.2 (Nat.le_add_left _ _))
theorem defs_eq {F : FTy → Type} [FloatOps F] : Cert.Hgrn.defs (F := F) = Cert.HgrnIdeal.defs (F := F) :=
  congrArg (fun d => Pipeline.defs Cert.Hgrn.pcfgs d) table_eq

theorem frame (m : (ℓ : Loc Cert.Hgrn.nD Cert.Hgrn.τ Cert.Hgrn.sig) → Buf (Elt Bits) ℓ) (g : Dev Cert.Hgrn.nD → PrngReg) :
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0) := by
  rw [defs_eq, main_eq]
  exact Cert.HgrnIdeal.Body.frame (F := Bits) m g

end Cert.HgrnFrame
-- ==== Proof.Layer.RefTerms.lean ====
/- What the reference computes, written as terms: the floor of the gate, the log gates and keys of one direction, the two
   directions stacked, the chunked attention before the loop, one trip's step, and the gated normalisation after it. Then the
   readings: what each stretch of the reference's operations leaves in the buffers the later ones need. -/
module

public import proofs.«01_k».proof.Proof.Gen.HgrnRefIdeal.Run
public import Idealize.ShloMosaic.Lib.StableHlo.RunRead
public import proofs.«01_k».proof.Proof.Layer.Rep

@[expose] public section

set_option maxRecDepth 65536

noncomputable section

namespace Cert.HgrnRefIdeal.Ref

open Cert.HgrnRefIdeal Cert.HgrnRefIdeal.Gen Cert.HgrnRefIdeal.Value
open Idealize.ShloMosaic Idealize.ShloMosaic.TcCoe Idealize.ShloMosaic.StableHlo

/-- The type of a float array of shape `s`. -/
abbrev Arr (s : Shape) := FVec Ideal s .f32

/-! ## The terms -/

/-- The largest of the two logits. -/
def topL (A : Arr S2x2x512) : Arr S2x512 :=
  maximumf (broadcastInDim S2x512 ![] bcast_S_S2x512 (constant S_ .f32 0xFF800000#32))
    (Host.reduce FloatOps.maximumf A (constant S_ .f32 0xFF800000#32) reducesTo_S2x2x512_S2x512_d1 h_S_)

/-- One row of a [2,512] array repeated for the two logits. -/
def rep2 (x : Arr S2x512) : Arr S2x2x512 :=
  broadcastInDim S2x2x512 ![0, 1, 2] bcast_S2x1x512_S2x2x512_0_1_2 (broadcastInDim S2x1x512 ![0, 2] bcast_S2x512_S2x1x512_0_2 x)

/-- The exponentials of the logits less the largest. -/
def expL (A : Arr S2x2x512) : Arr S2x2x512 := Host.exp (subf A (rep2 (topL A)))

/-- The softmax of the logits along the middle axis. -/
def smxL (A : Arr S2x2x512) : Arr S2x2x512 :=
  Host.divf (expL A) (rep2 (Host.reduceAdd (expL A) (constant S_ .f32 0x00000000#32) reducesTo_S2x2x512_S2x512_d1 h_S_))

/-- The running sum along the middle axis. -/
def runL (x : Arr S2x2x512) : Arr S2x2x512 :=
  Host.reduceWindowAdd ![1, 2, 1] ![1, 1, 1] ![0, 1, 0] ![0, 0, 0] x
    (broadcastInDim S_ ![] bcast_S_S_ (constant S_ .f32 0x00000000#32)) reduceWindows_S2x2x512_S2x2x512_w1s1p0_0_w2s1p1_0_w1s1p0_0 h_S_

/-- The floors of the two directions: the running sum's first row. -/
def floorL (x : Arr S2x2x512) : Arr S2x512 :=
  shapeCast S2x512 (extractStridedSlice S2x1x512 ![0, 0, 0] x slices_S2x2x512_S2x1x512_0_0_0) shapeCasts_S2x1x512_S2x512

/-- The forward floors by head and feature. -/
def floorF (x : Arr S2x512) : Arr S4x1x128 :=
  shapeCast S4x1x128 (shapeCast S512 (extractStridedSlice S1x512 ![0, 0] x slices_S2x512_S1x512_0_0) shapeCasts_S1x512_S512) shapeCasts_S512_S4x1x128

/-- The backward floors by head and feature. -/
def floorB (x : Arr S2x512) : Arr S4x1x128 :=
  shapeCast S4x1x128 (shapeCast S512 (extractStridedSlice S1x512 ![1, 0] x slices_S2x512_S1x512_1_0) shapeCasts_S1x512_S512) shapeCasts_S512_S4x1x128

/-- Columns split into heads, the head axis before the tokens. -/
def heads (x : Arr S16x4096x512) : Arr S16x4x4096x128 :=
  transpose S16x4x4096x128 [0, 2, 1, 3] (shapeCast S16x4096x4x128 x shapeCasts_S16x4096x512_S16x4096x4x128) transposes_S16x4096x4x128_S16x4x4096x128_0_2_1_3

/-- A [4,1,128] array repeated over batch and tokens. -/
def repG (x : Arr S4x1x128) : Arr S16x4x4096x128 :=
  broadcastInDim S16x4x4096x128 ![0, 1, 2, 3] bcast_S1x4x1x128_S16x4x4096x128_0_1_2_3
    (broadcastInDim S1x4x1x128 ![1, 2, 3] bcast_S4x1x128_S1x4x1x128_1_2_3 x)

/-- One less the floor. -/
def restG (x : Arr S4x1x128) : Arr S4x1x128 :=
  subf (broadcastInDim S4x1x128 ![] bcast_S_S4x1x128 (constant S_ .f32 0x3F800000#32)) x

/-- The array of ones. -/
def onesG : Arr S16x4x4096x128 := broadcastInDim S16x4x4096x128 ![] bcast_S_S16x4x4096x128 (constant S_ .f32 0x3F800000#32)

/-- The logistic function written out. -/
def lgsG (z : Arr S16x4x4096x128) : Arr S16x4x4096x128 := Host.divf onesG (addf onesG (Host.exp (Host.negf z)))

/-- The log gates of one direction. -/
def gateG (l : Arr S4x1x128) (z : Arr S16x4x4096x128) : Arr S16x4x4096x128 :=
  Host.log (addf (repG l) (mulf (repG (restG l)) (lgsG z)))

/-- The keys of one direction. -/
def keyG (l : Arr S4x1x128) (z : Arr S16x4x4096x128) : Arr S16x4x4096x128 :=
  mulf (repG (restG l)) (lgsG (Host.negf z))

/-- The two directions stacked on the batch axis, the second one reversed in time, and split into chunks. -/
def stack (a b : Arr S16x4x4096x128) : Arr S32x4x256x16x128 :=
  shapeCast S32x4x256x16x128
    (concatenate S32x4x4096x128 0 [⟨S16x4x4096x128, a⟩, ⟨S16x4x4096x128, Host.reverse [2] b⟩] concatenates_S16x4x4096x128_S16x4x4096x128_S32x4x4096x128_d0)
    shapeCasts_S32x4x4096x128_S32x4x256x16x128

/-- The running sum inside each chunk. -/
def runC (x : Arr S32x4x256x16x128) : Arr S32x4x256x16x128 :=
  Host.reduceWindowAdd ![1, 1, 1, 16, 1] ![1, 1, 1, 1, 1] ![0, 0, 0, 15, 0] ![0, 0, 0, 0, 0] x
    (broadcastInDim S_ ![] bcast_S_S_ (constant S_ .f32 0x00000000#32))
    reduceWindows_S32x4x256x16x128_S32x4x256x16x128_w1s1p0_0_w1s1p0_0_w1s1p0_0_w16s1p15_0_w1s1p0_0 h_S_

/-- Each chunk's last row. -/
def lastC (x : Arr S32x4x256x16x128) : Arr S32x4x256x1x128 :=
  extractStridedSlice S32x4x256x1x128 ![0, 0, 0, 15, 0] x slices_S32x4x256x16x128_S32x4x256x1x128_0_0_0_15_0

/-- Each chunk's last row repeated over the chunk. -/
def repLast (x : Arr S32x4x256x16x128) : Arr S32x4x256x16x128 :=
  broadcastInDim S32x4x256x16x128 ![0, 1, 2, 3, 4] bcast_S32x4x256x1x128_S32x4x256x16x128_0_1_2_3_4 (lastC x)

/-- The keys scaled to the chunk's end. -/
def keyRel (k g : Arr S32x4x256x16x128) : Arr S32x4x256x16x128 := mulf k (Host.exp (subf (repLast g) g))

/-- The scores inside the chunks, queries and keys both scaled to the chunk's end. -/
def scoreC (q k g : Arr S32x4x256x16x128) : Arr S32x4x256x16x16 :=
  Host.dotGeneral dot_S32x4x256x16x128_S32x4x256x16x128_S32x4x256x16x16_4_4_3_3_012_012 none
    (mulf q (Host.exp (subf g (repLast g)))) (keyRel k g)

/-- The lower triangle. -/
def triC : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))

/-- The attention inside the chunks: the masked scores times the values. -/
def intraC (q k v g : Arr S32x4x256x16x128) : Arr S32x4x256x16x128 :=
  Host.dotGeneral dot_S32x4x256x16x16_S32x4x256x16x128_S32x4x256x16x128_4_3_3_4_012_012 none
    (select (broadcastInDim S32x4x256x16x16 ![3, 4] bcast_S16x16_S32x4x256x16x16_3_4 triC) (scoreC q k g)
      (broadcastInDim S32x4x256x16x16 ![] bcast_S_S32x4x256x16x16 (constant S_ .f32 0x00000000#32))) v

/-- The chunk axis first. -/
def chunkFirst (x : Arr S32x4x256x16x128) : Arr S256x32x4x16x128 :=
  transpose S256x32x4x16x128 [2, 0, 1, 3, 4] x transposes_S32x4x256x16x128_S256x32x4x16x128_2_0_1_3_4

/-- The decay over each whole chunk, the chunk axis first. -/
def decayC (g : Arr S32x4x256x16x128) : Arr S256x32x4x128 :=
  transpose S256x32x4x128 [2, 0, 1, 3] (Host.exp (shapeCast S32x4x256x128 (lastC g) shapeCasts_S32x4x256x1x128_S32x4x256x128))
    transposes_S32x4x256x128_S256x32x4x128_2_0_1_3

/-- The two directions' outputs added: the first half, and the second half read back in time. -/
def joinC (o w : Arr S32x4x256x16x128) : Arr S16x4x4096x128 :=
  addf (extractStridedSlice S16x4x4096x128 ![0, 0, 0, 0] (shapeCast S32x4x4096x128 (addf o w) shapeCasts_S32x4x256x16x128_S32x4x4096x128) slices_S32x4x4096x128_S16x4x4096x128_0_0_0_0)
    (Host.reverse [2] (extractStridedSlice S16x4x4096x128 ![16, 0, 0, 0] (shapeCast S32x4x4096x128 (addf o w) shapeCasts_S32x4x256x16x128_S32x4x4096x128) slices_S32x4x4096x128_S16x4x4096x128_16_0_0_0))

/-- The reciprocal root of the mean square of each head. -/
def rootC (o : Arr S16x4x4096x128) : Arr S16x4x4096x1 :=
  Host.rsqrt (addf (Host.divf (broadcastInDim S16x4x4096x1 ![0, 1, 2] bcast_S16x4x4096_S16x4x4096x1_0_1_2
      (Host.reduceAdd (mulf o o) (constant S_ .f32 0x00000000#32) reducesTo_S16x4x4096x128_S16x4x4096_d3 h_S_))
      (broadcastInDim S16x4x4096x1 ![] bcast_S_S16x4x4096x1 (constant S_ .f32 0x43000000#32)))
    (broadcastInDim S16x4x4096x1 ![] bcast_S_S16x4x4096x1 (constant S_ .f32 0x358637BD#32)))

/-- The normalised heads, back to columns. -/
def normC (o : Arr S16x4x4096x128) : Arr S16x4096x512 :=
  shapeCast S16x4096x512 (transpose S16x4096x4x128 [0, 2, 1, 3]
    (mulf o (broadcastInDim S16x4x4096x128 ![0, 1, 2, 3] bcast_S16x4x4096x1_S16x4x4096x128_0_1_2_3 (rootC o)))
    transposes_S16x4x4096x128_S16x4096x4x128_0_2_1_3) shapeCasts_S16x4096x4x128_S16x4096x512

/-- The gate times its logistic. -/
def siluC (g : Arr S16x4096x512) : Arr S16x4096x512 :=
  mulf g (Host.divf (broadcastInDim S16x4096x512 ![] bcast_S_S16x4096x512 (constant S_ .f32 0x3F800000#32))
    (addf (broadcastInDim S16x4096x512 ![] bcast_S_S16x4096x512 (constant S_ .f32 0x3F800000#32)) (Host.exp (Host.negf g))))

/-- The layer's result from the joined outputs, the norm's weights and the gate. -/
def resC (o : Arr S16x4x4096x128) (n : Arr S512) (g : Arr S16x4096x512) : Arr S16x4096x512 :=
  mulf (mulf (normC o) (broadcastInDim S16x4096x512 ![0, 1, 2] bcast_S1x1x512_S16x4096x512_0_1_2 (broadcastInDim S1x1x512 ![2] bcast_S512_S1x1x512_2 n)))
    (siluC g)

/-- Column block `o` of the first argument. -/
def cut0 (x : Arr S16x4096x3584) : Arr S16x4096x512 := extractStridedSlice S16x4096x512 ![0, 0, 0] x slices_S16x4096x3584_S16x4096x512_0_0_0
/-- The forward gate's columns. -/
def cut1 (x : Arr S16x4096x3584) : Arr S16x4096x512 := extractStridedSlice S16x4096x512 ![0, 0, 512] x slices_S16x4096x3584_S16x4096x512_0_0_512
/-- The backward gate's columns. -/
def cut2 (x : Arr S16x4096x3584) : Arr S16x4096x512 := extractStridedSlice S16x4096x512 ![0, 0, 1024] x slices_S16x4096x3584_S16x4096x512_0_0_1024
/-- The values' columns. -/
def cut3 (x : Arr S16x4096x3584) : Arr S16x4096x512 := extractStridedSlice S16x4096x512 ![0, 0, 1536] x slices_S16x4096x3584_S16x4096x512_0_0_1536
/-- The output gate's columns. -/
def cut4 (x : Arr S16x4096x3584) : Arr S16x4096x512 := extractStridedSlice S16x4096x512 ![0, 0, 2048] x slices_S16x4096x3584_S16x4096x512_0_0_2048

/-! ## The readings of the stretches before the loop -/

variable (E : Valuation τ sig (Elt Ideal))

theorem read_floor : afterL [hostOps0, hostOps0_1] E (Proc.devRef .tc main_v11) = runL (smxL (E (Proc.devRef .tc main_arg1))) := by
  simp only [afterL_cons, afterL_nil]; after_reads_simp; rfl

theorem read_arg0 : afterL [hostOps0, hostOps0_1] E (Proc.devRef .tc main_arg0) = E (Proc.devRef .tc main_arg0) := by
  simp only [afterL_cons, afterL_nil]; after_reads_simp

theorem read_q : after hostOps0_2 E (Proc.devRef .tc main_v20) = heads (cut0 (E (Proc.devRef .tc main_arg0))) := by
  after_reads_simp; rfl
theorem read_v : after hostOps0_2 E (Proc.devRef .tc main_v22) = heads (cut3 (E (Proc.devRef .tc main_arg0))) := by
  after_reads_simp; rfl
theorem read_g : after hostOps0_2 E (Proc.devRef .tc main_v18) = cut4 (E (Proc.devRef .tc main_arg0)) := by
  after_reads_simp; rfl
theorem read_gateF : after hostOps0_2 E (Proc.devRef .tc main_v42) = gateG (floorF (floorL (E (Proc.devRef .tc main_v11)))) (heads (cut1 (E (Proc.devRef .tc main_arg0)))) := by
  after_reads_simp; rfl
theorem read_keyF : after hostOps0_2 E (Proc.devRef .tc main_v54) = keyG (floorF (floorL (E (Proc.devRef .tc main_v11)))) (heads (cut1 (E (Proc.devRef .tc main_arg0)))) := by
  after_reads_simp; rfl
theorem read_gateB : after hostOps0_2 E (Proc.devRef .tc main_v74) = gateG (floorB (floorL (E (Proc.devRef .tc main_v11)))) (heads (cut2 (E (Proc.devRef .tc main_arg0)))) := by
  after_reads_simp; rfl
theorem read_keyB : after hostOps0_2 E (Proc.devRef .tc main_v86) = keyG (floorB (floorL (E (Proc.devRef .tc main_v11)))) (heads (cut2 (E (Proc.devRef .tc main_arg0)))) := by
  after_reads_simp; rfl

/-- The stretches that stack the two directions. -/
abbrev stackI : List (List (HloOp τ sig (Elt Ideal))) :=
  [hostOps0_3, hostOps0_4, hostOps0_5, hostOps0_6, hostOps0_7, hostOps0_8, hostOps0_9, hostOps0_10]

theorem read_stackQ : afterL stackI E (Proc.devRef .tc main_v95) = stack (E (Proc.devRef .tc main_v20)) (E (Proc.devRef .tc main_v20)) := by
  simp only [afterL_cons, afterL_nil]; after_reads_simp; rfl
theorem read_stackK : afterL stackI E (Proc.devRef .tc main_v96) = stack (E (Proc.devRef .tc main_v54)) (E (Proc.devRef .tc main_v86)) := by
  simp only [afterL_cons, afterL_nil]; after_reads_simp; rfl
theorem read_stackV : afterL stackI E (Proc.devRef .tc main_v97) = stack (E (Proc.devRef .tc main_v22)) (E (Proc.devRef .tc main_v22)) := by
  simp only [afterL_cons, afterL_nil]; after_reads_simp; rfl
theorem read_stackG : afterL stackI E (Proc.devRef .tc main_v98) = stack (E (Proc.devRef .tc main_v42)) (E (Proc.devRef .tc main_v74)) := by
  simp only [afterL_cons, afterL_nil]; after_reads_simp; rfl
theorem keep_stack_v18 : afterL stackI E (Proc.devRef .tc main_v18) = E (Proc.devRef .tc main_v18) := by
  simp only [afterL_cons, afterL_nil]; after_reads_simp

/-- The stretches from the running sums to the loop. -/
abbrev chunkI : List (List (HloOp τ sig (Elt Ideal))) :=
  [hostOps0_11, hostOps0_12, hostOps0_13, hostOps0_14, hostOps0_15, hostOps0_16]

theorem read_intra : afterL chunkI E (Proc.devRef .tc main_v113) =
    intraC (E (Proc.devRef .tc main_v95)) (E (Proc.devRef .tc main_v96)) (E (Proc.devRef .tc main_v97)) (runC (E (Proc.devRef .tc main_v98))) := by
  simp only [afterL_cons, afterL_nil]; after_reads_simp; rfl
theorem read_c0 : afterL chunkI E (Proc.devRef .tc main_v124_0) =
    chunkFirst (mulf (E (Proc.devRef .tc main_v95)) (Host.exp (runC (E (Proc.devRef .tc main_v98))))) := by
  simp only [afterL_cons, afterL_nil]; after_reads_simp; rfl
theorem read_c1 : afterL chunkI E (Proc.devRef .tc main_v124_1) =
    chunkFirst (keyRel (E (Proc.devRef .tc main_v96)) (runC (E (Proc.devRef .tc main_v98)))) := by
  simp only [afterL_cons, afterL_nil]; after_reads_simp; rfl
theorem read_c2 : afterL chunkI E (Proc.devRef .tc main_v124_2) = chunkFirst (E (Proc.devRef .tc main_v97)) := by
  simp only [afterL_cons, afterL_nil]; after_reads_simp; rfl
theorem read_c3 : afterL chunkI E (Proc.devRef .tc main_v124_3) = decayC (runC (E (Proc.devRef .tc main_v98))) := by
  simp only [afterL_cons, afterL_nil]; after_reads_simp; rfl
theorem read_c4 : afterL chunkI E (Proc.devRef .tc main_v124_4) = constantI S_ 32 0#32 := by
  simp only [afterL_cons, afterL_nil]; after_reads_simp; rfl
theorem read_c5 : afterL chunkI E (Proc.devRef .tc main_v124_5) =
    broadcastInDim S32x4x128x128 ![] bcast_S_S32x4x128x128 (constant (F := Ideal) S_ .f32 0x00000000#32) := by
  simp only [afterL_cons, afterL_nil]; after_reads_simp; rfl
theorem read_c6 : afterL chunkI E (Proc.devRef .tc main_v124_6) =
    broadcastInDim S256x32x4x16x128 ![] bcast_S_S256x32x4x16x128 (constant (F := Ideal) S_ .f32 0x00000000#32) := by
  simp only [afterL_cons, afterL_nil]; after_reads_simp; rfl
theorem keep_chunk_v18 : afterL chunkI E (Proc.devRef .tc main_v18) = E (Proc.devRef .tc main_v18) := by
  simp only [afterL_cons, afterL_nil]; after_reads_simp

/-! ## The stretches after the loop -/

theorem read_res : afterL postI E (Proc.devRef .tc main_v148) =
    resC (joinC (E (Proc.devRef .tc main_v113))
        (transpose S32x4x256x16x128 [1, 2, 0, 3, 4] (E (Proc.devRef .tc main_v124_6)) transposes_S256x32x4x16x128_S32x4x256x16x128_1_2_0_3_4))
      (E (Proc.devRef .tc main_arg2)) (E (Proc.devRef .tc main_v18)) := by
  simp only [afterL_cons, afterL_nil]; after_reads_simp; rfl

end Cert.HgrnRefIdeal.Ref

end
-- ==== Proof.Layer.RefKeep.lean ====
/- What the reference's stretches leave unchanged: the arguments throughout, and across the loop the two buffers that the
   operations after it still read. From this its arguments end as they began and its semaphores at zero. -/
module

public import proofs.«01_k».proof.Proof.Layer.RefTerms

@[expose] public section

set_option maxRecDepth 65536

noncomputable section

namespace Cert.HgrnRefIdeal.Ref

open Cert.HgrnRefIdeal Cert.HgrnRefIdeal.Gen Cert.HgrnRefIdeal.Value
open Idealize.ShloMosaic Idealize.ShloMosaic.TcCoe Idealize.ShloMosaic.StableHlo

/-- A trip leaves a buffer alone. -/
def TripKeeps (b : Ref sig .tc) : Prop := ∀ W : Valuation τ sig (Elt Ideal),
  afterL bodyI (after condOps W) (Proc.devRef .tc b) = W (Proc.devRef .tc b)

theorem keeps_v113 : TripKeeps main_v113 := fun W => by
  simp only [bodyI, afterL_cons, afterL_nil]; after_reads_simp
theorem keeps_v18 : TripKeeps main_v18 := fun W => by
  simp only [bodyI, afterL_cons, afterL_nil]; after_reads_simp
theorem keeps_arg0 : TripKeeps main_arg0 := fun W => by
  simp only [bodyI, afterL_cons, afterL_nil]; after_reads_simp
theorem keeps_arg1 : TripKeeps main_arg1 := fun W => by
  simp only [bodyI, afterL_cons, afterL_nil]; after_reads_simp
theorem keeps_arg2 : TripKeeps main_arg2 := fun W => by
  simp only [bodyI, afterL_cons, afterL_nil]; after_reads_simp

/-- The last test of the condition leaves a buffer alone. -/
def TestKeeps (b : Ref sig .tc) : Prop := ∀ W : Valuation τ sig (Elt Ideal),
  after condOps W (Proc.devRef .tc b) = W (Proc.devRef .tc b)

theorem test_v113 : TestKeeps main_v113 := fun W => by after_reads_simp
theorem test_v18 : TestKeeps main_v18 := fun W => by after_reads_simp
theorem test_arg0 : TestKeeps main_arg0 := fun W => by after_reads_simp
theorem test_arg1 : TestKeeps main_arg1 := fun W => by after_reads_simp
theorem test_arg2 : TestKeeps main_arg2 := fun W => by after_reads_simp
theorem test_out : TestKeeps main_v124_6 := fun W => by after_reads_simp

variable (m : (ℓ : Loc nD τ sig) → Buf (Elt Ideal) ℓ)

theorem atK_keeps {b : Ref sig .tc} (h : TripKeeps b) (c : Dev nD) : ∀ k,
    atK m k c (Proc.devRef .tc b) = entryContents preI m c (Proc.devRef .tc b)
  | 0 => rfl
  | k + 1 => (h (atK m k c)).trans (atK_keeps h c k)

/-- The buffers after the loop and its last test. -/
abbrev afterLoop (c : Dev nD) : Valuation τ sig (Elt Ideal) := after condOps (atK m 256 c)

theorem afterLoop_keeps {b : Ref sig .tc} (h : TripKeeps b) (h' : TestKeeps b) (c : Dev nD) :
    afterLoop m c (Proc.devRef .tc b) = entryContents preI m c (Proc.devRef .tc b) :=
  (h' _).trans (atK_keeps m h c 256)

/-! ## The arguments -/

section Pre
variable (E : Valuation τ sig (Elt Ideal))

theorem pre_arg0 : afterL preI E (Proc.devRef .tc main_arg0) = E (Proc.devRef .tc main_arg0) := by
  simp only [preI, afterL_cons, afterL_nil]; after_reads_simp
theorem pre_arg1 : afterL preI E (Proc.devRef .tc main_arg1) = E (Proc.devRef .tc main_arg1) := by
  simp only [preI, afterL_cons, afterL_nil]; after_reads_simp
theorem pre_arg2 : afterL preI E (Proc.devRef .tc main_arg2) = E (Proc.devRef .tc main_arg2) := by
  simp only [preI, afterL_cons, afterL_nil]; after_reads_simp
theorem post_arg0 : afterL postI E (Proc.devRef .tc main_arg0) = E (Proc.devRef .tc main_arg0) := by
  simp only [postI, afterL_cons, afterL_nil]; after_reads_simp
theorem post_arg1 : afterL postI E (Proc.devRef .tc main_arg1) = E (Proc.devRef .tc main_arg1) := by
  simp only [postI, afterL_cons, afterL_nil]; after_reads_simp
theorem post_arg2 : afterL postI E (Proc.devRef .tc main_arg2) = E (Proc.devRef .tc main_arg2) := by
  simp only [postI, afterL_cons, afterL_nil]; after_reads_simp

end Pre

theorem end_arg0 (c : Dev nD) : finalContents condOps preI bodyI postI 256 m c (Proc.devRef .tc main_arg0) = m (c.tc.loc main_arg0) :=
  (post_arg0 (afterLoop m c)).trans ((afterLoop_keeps m keeps_arg0 test_arg0 c).trans (pre_arg0 (launchContents m c)))
theorem end_arg1 (c : Dev nD) : finalContents condOps preI bodyI postI 256 m c (Proc.devRef .tc main_arg1) = m (c.tc.loc main_arg1) :=
  (post_arg1 (afterLoop m c)).trans ((afterLoop_keeps m keeps_arg1 test_arg1 c).trans (pre_arg1 (launchContents m c)))
theorem end_arg2 (c : Dev nD) : finalContents condOps preI bodyI postI 256 m c (Proc.devRef .tc main_arg2) = m (c.tc.loc main_arg2) :=
  (post_arg2 (afterLoop m c)).trans ((afterLoop_keeps m keeps_arg2 test_arg2 c).trans (pre_arg2 (launchContents m c)))

/-- The reference's run: the result's contents, the arguments unchanged. -/
theorem run_res (g : Dev nD → PrngReg) :
    θ_run (defs (F := Ideal)) (onTc (τ := τ) (main (F := Ideal))) ⟨m, fun _ => 0, g⟩ (fun r => ∀ c : Dev nD,
      r.2.mem (c.tc.loc main_v148) = finalContents condOps preI bodyI postI 256 m c (Proc.devRef .tc main_v148)
      ∧ r.2.mem (c.tc.loc main_arg0) = m (c.tc.loc main_arg0) ∧ r.2.mem (c.tc.loc main_arg1) = m (c.tc.loc main_arg1)
      ∧ r.2.mem (c.tc.loc main_arg2) = m (c.tc.loc main_arg2)) :=
  (θ_run _ _ _).mono (fun r h c => ⟨h c main_v148 rfl, (h c main_arg0 rfl).trans (end_arg0 m c), (h c main_arg1 rfl).trans (end_arg1 m c),
    (h c main_arg2 rfl).trans (end_arg2 m c)⟩) (run_fold m g)

/-- The reference's frame. -/
theorem frame (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run _ _ _).mono (fun r h => ⟨fun c => (h c).2, sem_eq_zero_of_no_sems (by decide) r.2⟩) (run_res m g)

end Cert.HgrnRefIdeal.Ref

end
-- ==== Proof.Layer.RefHeads.lean ====
/- The reference's preparation read at an index: the columns split into heads, the floors of the gates, the log gates and the
   keys of the two directions. -/
module

public import proofs.«01_k».proof.Proof.Layer.RefTerms
public import proofs.«01_k».proof.Proof.Layer.Spec

@[expose] public section

set_option maxRecDepth 65536

noncomputable section

namespace Cert.HgrnRefIdeal.Ref

open Cert.HgrnRefIdeal Cert.HgrnRefIdeal.Gen Cert.Layer
open Idealize.ShloMosaic hiding ix1 ix2 ix3 ix4 ix5
open Idealize.ShloMosaic.ValueIdx

/-! ## Columns and heads -/

theorem heads_apply (x : Arr S16x4096x512) (b : Fin 16) (h : Fin 4) (t : Fin 4096) (d : Fin 128) (j : Fin 512)
    (hj : j.val = h.val * 128 + d.val) : heads x (ix4 b h t d) = x (ix3 b t j) := by
  unfold heads
  rw [transpose_apply _ _ _ (ix4 b h t d) (ix4 b t h d) (fun a => by
    match a with
    | ⟨0, _⟩ => rfl
    | ⟨1, _⟩ => rfl
    | ⟨2, _⟩ => rfl
    | ⟨3, _⟩ => rfl)]
  exact shapeCast_apply x _ (ix4 b t h d) (ix3 b t j) (by
    rw [Shape.rowMajor_val_three, Shape.rowMajor_val_four]; simp [ix4, ix3]; omega)

/-- Head `h` of stream `c`. -/
def Ext4 (x : Arr S16x4x4096x128) (r : Fin 16 → ℕ → ℕ → ℕ → EReal) : Prop :=
  ∀ (b : Fin 16) (h : Fin 4) (t : Fin 4096) (d : Fin 128), (x (ix4 b h t d) : EReal) = r b h.val t.val d.val

/-- Every entry is a real. -/
def Rep4 (x : Arr S16x4x4096x128) (r : Fin 16 → ℕ → ℕ → ℕ → ℝ) : Prop :=
  Ext4 x fun b h t d => ((r b h t d : ℝ) : EReal)

theorem cut_col (X : Arr S16x4096x3584) (c o : ℕ) (ho : o = c * 512) (hc : c < 7) (hs : S16x4096x3584.Slices ![0, 0, o] S16x4096x512)
    (b : Fin 16) (h : Fin 4) (t : Fin 4096) (d : Fin 128) :
    (heads (extractStridedSlice S16x4096x512 ![0, 0, o] X hs) (ix4 b h t d) : EReal) = col X c h.val b t.val d.val := by
  have hj : h.val * 128 + d.val < 512 := by omega
  rw [heads_apply _ b h t d ⟨h.val * 128 + d.val, hj⟩ rfl]
  refine (extractStridedSlice_apply _ X hs _ (ix3 b t (⟨o + (h.val * 128 + d.val), by omega⟩ : Fin 3584)) (fun a => by
    match a with
    | ⟨0, _⟩ => exact (Nat.zero_add _).symm
    | ⟨1, _⟩ => exact (Nat.zero_add _).symm
    | ⟨2, _⟩ => rfl)).trans ?_
  unfold col
  refine congrArg X ?_
  congr 1
  · exact Fin.ext (Nat.mod_eq_of_lt t.isLt).symm
  · exact Fin.ext (by show o + (h.val * 128 + d.val) = (c * 512 + h.val * 128 + d.val) % 3584; rw [Nat.mod_eq_of_lt (by omega)]; omega)

theorem ext_cut0 (X : Arr S16x4096x3584) : Ext4 (heads (cut0 X)) fun b h => col X 0 h b := cut_col X 0 0 rfl (by decide) _
theorem ext_cut1 (X : Arr S16x4096x3584) : Ext4 (heads (cut1 X)) fun b h => col X 1 h b := cut_col X 1 512 rfl (by decide) _
theorem ext_cut2 (X : Arr S16x4096x3584) : Ext4 (heads (cut2 X)) fun b h => col X 2 h b := cut_col X 2 1024 rfl (by decide) _
theorem ext_cut3 (X : Arr S16x4096x3584) : Ext4 (heads (cut3 X)) fun b h => col X 3 h b := cut_col X 3 1536 rfl (by decide) _

/-- The output gate's column at an index. -/
theorem cut4_apply (X : Arr S16x4096x3584) (b : Fin 16) (t : Fin 4096) (j : Fin 512) :
    (cut4 X (ix3 b t j) : EReal) = col X 4 (j.val / 128) b t.val (j.val % 128) := by
  unfold cut4
  refine (extractStridedSlice_apply _ X _ _ (ix3 b t (⟨2048 + j.val, by omega⟩ : Fin 3584)) (fun a => by
    match a with
    | ⟨0, _⟩ => exact (Nat.zero_add _).symm
    | ⟨1, _⟩ => exact (Nat.zero_add _).symm
    | ⟨2, _⟩ => rfl)).trans ?_
  unfold col
  refine congrArg X ?_
  congr 1
  · exact Fin.ext (Nat.mod_eq_of_lt t.isLt).symm
  · exact Fin.ext (by show 2048 + j.val = (4 * 512 + j.val / 128 * 128 + j.val % 128) % 3584; rw [Nat.mod_eq_of_lt (by omega)]; omega)

/-! ## The floors -/

theorem ofBits_neg_inf : Ideal.ofBits .f32 0xFF800000#32 = ⊥ := by simp [Ideal.ofBits, Ideal.ieee]

section floors

variable {A : Arr S2x2x512} (hA : ∀ i, (A i : EReal) = (((A i : EReal).toReal : ℝ) : EReal))

/-- A logit as a real. -/
abbrev lr (A : Arr S2x2x512) (a r : Fin 2) (j : Fin 512) : ℝ := (A (ix3 a r j) : EReal).toReal

theorem reduces_mid : S2x2x512.Reduces [1] S2x512 := by decide

theorem lift_mid (a : Fin 2) (j : Fin 512) (k : Fin 2) : reduces_mid.lift (ix2 a j) k = ix3 a k j := funext fun x => by
  match x with
  | ⟨0, _⟩ => rfl
  | ⟨1, _⟩ => rfl
  | ⟨2, _⟩ => rfl

include hA in
theorem topL_apply (a : Fin 2) (j : Fin 512) : (topL A (ix2 a j) : EReal) = ((max (lr A a 0 j) (lr A a 1 j) : ℝ) : EReal) := by
  have h : (Host.reduce FloatOps.maximumf A (constant (F := Ideal) S_ .f32 0xFF800000#32) reducesTo_S2x2x512_S2x512_d1 h_S_ (ix2 a j) : Ideal .f32)
      = (max (A (ix3 a 0 j) : EReal) (A (ix3 a 1 j)) : EReal) := by
    refine (Host.reduce_eq_fold_single (max : EReal → EReal → EReal) A (fun _ => Ideal.ofBits .f32 0xFF800000#32) _ reduces_mid h_S_ (ix2 a j)).trans ?_
    have e : (A ∘ reduces_mid.lift (ix2 a j) : Fin 2 → EReal) = fun k : Fin 2 => (A (ix3 a k j) : EReal) := funext fun k => congrArg A (lift_mid a j k)
    show Finset.fold max (Ideal.ofBits .f32 0xFF800000#32) (A ∘ reduces_mid.lift (ix2 a j) : Fin 2 → EReal) (Finset.univ : Finset (Fin 2)) = _
    rw [e, ofBits_neg_inf, show (Finset.univ : Finset (Fin 2)) = {0, 1} from rfl, Finset.fold_insert (by decide), Finset.fold_singleton]
    simp
  refine (congrArg (max (Ideal.ofBits .f32 0xFF800000#32 : EReal)) h).trans ?_
  rw [ ofBits_neg_inf, bot_sup_eq, hA (ix3 a 0 j), hA (ix3 a 1 j), EReal.coe_strictMono.monotone.map_max]

theorem rep2_apply (x : Arr S2x512) (a r : Fin 2) (j : Fin 512) : rep2 x (ix3 a r j) = x (ix2 a j) := by
  unfold rep2
  rw [broadcastInDim_apply _ _ _ (ix3 a r j) (ix3 a (0 : Fin 1) j) (fun y => by
    match y with
    | ⟨0, _⟩ => rfl
    | ⟨1, _⟩ => rfl
    | ⟨2, _⟩ => rfl)]
  exact broadcastInDim_apply _ _ _ (ix3 a (0 : Fin 1) j) (ix2 a j) (fun y => by
    match y with
    | ⟨0, _⟩ => rfl
    | ⟨1, _⟩ => rfl)

include hA in
theorem expL_apply (a r : Fin 2) (j : Fin 512) :
    (expL A (ix3 a r j) : EReal) = ((Real.exp (lr A a r j - max (lr A a 0 j) (lr A a 1 j)) : ℝ) : EReal) := by
  show Ideal.exp ((A (ix3 a r j) : EReal) - rep2 (topL A) (ix3 a r j)) = _
  rw [rep2_apply, topL_apply hA, hA (ix3 a r j), ← EReal.coe_sub, Ideal.exp_coe]

include hA in
theorem smxL_apply (a : Fin 2) (j : Fin 512) : (smxL A (ix3 a 0 j) : EReal) = ((sm (lr A a 0 j) (lr A a 1 j) : ℝ) : EReal) := by
  have h : (Host.reduceAdd (expL A) (constant S_ .f32 0x00000000#32) reducesTo_S2x2x512_S2x512_d1 h_S_ (ix2 a j) : EReal)
      = (expL A (ix3 a 0 j) : EReal) + expL A (ix3 a 1 j) := by
    refine (Ideal.hostReduceAdd_single _ reduces_mid _ _ _).trans ?_
    show Ideal.ofBits .f32 0x00000000#32 + ∑ k : Fin 2, (expL A (reduces_mid.lift (ix2 a j) k) : EReal) = _
    rw [Ideal.ofBits_zero_f32, zero_add, Fin.sum_univ_two, lift_mid, lift_mid]
  show Ideal.div (expL A (ix3 a 0 j)) (rep2 (Host.reduceAdd (expL A) (constant S_ .f32 0x00000000#32) reducesTo_S2x2x512_S2x512_d1 h_S_) (ix3 a 0 j)) = _
  rw [rep2_apply, h, expL_apply hA, expL_apply hA, ← EReal.coe_add, Ideal.div_coe (by positivity), ← EReal.coe_mul]
  unfold sm; congr 1; ring

end floors

/-- A sum whose first terms are missing, read from the end of the missing part. -/
theorem sum_window {C i : ℕ} (hi : i < C) (f : ℕ → EReal) :
    (∑ n ∈ Finset.range C, if C - 1 ≤ i + n then f (i + n - (C - 1)) else 0) = ∑ s ∈ Finset.range (i + 1), f s := by
  have hC : C = (C - 1 - i) + (i + 1) := by omega
  rw [show Finset.range C = Finset.range ((C - 1 - i) + (i + 1)) from congrArg _ hC, Finset.sum_range_add,
    Finset.sum_eq_zero (s := Finset.range (C - 1 - i)) (fun n hn => if_neg (by have := Finset.mem_range.1 hn; omega)), zero_add]
  refine Finset.sum_congr rfl fun n hn => ?_
  have := Finset.mem_range.1 hn
  rw [if_pos (by omega)]
  exact congrArg f (by omega)

/-- A left fold of additions is the sum added to the start. -/
theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, ← List.ofFn_eq_map, List.sum_ofFn]

/-- The window's positions of the floors' running sum. -/
theorem win2 (n : Fin (⟨3, ![1, 2, 1]⟩ : Shape).numel) (hn : n.val < 2) :
    (⟨3, ![1, 2, 1]⟩ : Shape).rowMajor.symm n = ix3 (0 : Fin 1) (⟨n.val, hn⟩ : Fin 2) (0 : Fin 1) :=
  (Equiv.symm_apply_eq _).2 (Fin.ext (by rw [Shape.rowMajor_val_three]; simp [ix3]))

/-- The window's positions of the chunks' running sum. -/
theorem win16 (n : Fin (⟨5, ![1, 1, 1, 16, 1]⟩ : Shape).numel) (hn : n.val < 16) :
    (⟨5, ![1, 1, 1, 16, 1]⟩ : Shape).rowMajor.symm n = ix5 (0 : Fin 1) (0 : Fin 1) (0 : Fin 1) (⟨n.val, hn⟩ : Fin 16) (0 : Fin 1) :=
  (Equiv.symm_apply_eq _).2 (Fin.ext (by rw [Shape.rowMajor_val_five]; simp [ix5]))

theorem runL_apply (x : Arr S2x2x512) (a : Fin 2) (j : Fin 512) : runL x (ix3 a 0 j) = x (ix3 a 0 j) := by
  unfold runL Host.reduceWindowAdd
  rw [Ideal.hostReduceWindowAdd_def]
  unfold Ideal.hostReduceWindowAdd Host.reduceWindow
  dsimp only
  rw [foldl_sum]
  have hz : (broadcastInDim S_ ![] bcast_S_S_ (constant (F := Ideal) S_ .f32 0x00000000#32) (Shape.Idx.first h_S_) : Ideal .f32) = (0 : EReal) :=
    Ideal.ofBits_zero_f32
  rw [hz, zero_add]
  have hN : (⟨3, ![1, 2, 1]⟩ : Shape).numel = 2 := by decide
  let f : ℕ → EReal := fun s => x (ix3 a (⟨s % 2, Nat.mod_lt _ (by decide)⟩ : Fin 2) j)
  refine (Finset.sum_congr (g := fun n : Fin (⟨3, ![1, 2, 1]⟩ : Shape).numel => (if 2 - 1 ≤ 0 + n.val then f (0 + n.val - (2 - 1)) else 0 : EReal)) rfl fun n _ => ?_).trans ?_
  · have hn : n.val < 2 := by have := n.isLt; omega
    let w := (⟨3, ![1, 2, 1]⟩ : Shape).rowMajor.symm n
    have w0 : (w 0).val = 0 := congrArg (fun q => (q 0).val) (win2 n hn)
    have w1 : (w 1).val = n.val := congrArg (fun q => (q 1).val) (win2 n hn)
    have w2 : (w 2).val = 0 := congrArg (fun q => (q 2).val) (win2 n hn)
    by_cases h1 : 1 ≤ n.val
    · rw [if_pos (by omega), dif_pos (fun y => by
        match y with
        | ⟨0, _⟩ => exact ⟨Nat.zero_le _, by show a.val * 1 + (w 0).val - 0 < 2; omega⟩
        | ⟨1, _⟩ => exact ⟨by show 1 ≤ 0 * 1 + (w 1).val; omega, by show 0 * 1 + (w 1).val - 1 < 2; omega⟩
        | ⟨2, _⟩ => exact ⟨Nat.zero_le _, by show j.val * 1 + (w 2).val - 0 < 512; omega⟩)]
      refine congrArg x (funext fun y => Fin.ext ?_)
      match y with
      | ⟨0, _⟩ => show a.val * 1 + (w 0).val - 0 = a.val; omega
      | ⟨1, _⟩ => show 0 * 1 + (w 1).val - 1 = (0 + n.val - (2 - 1)) % 2; omega
      | ⟨2, _⟩ => show j.val * 1 + (w 2).val - 0 = j.val; omega
    · rw [if_neg (by omega), dif_neg (fun h => h1 (by have := (h (1 : Fin 3)).1; change 1 ≤ 0 * 1 + (w 1).val at this; omega))]
  · rw [Fin.sum_univ_eq_sum_range (fun n => (if 2 - 1 ≤ 0 + n then f (0 + n - (2 - 1)) else 0 : EReal)), hN, sum_window (by decide) f]
    simp [f]

/-- The running sum inside a chunk at an index. -/
theorem runC_apply (x : Arr S32x4x256x16x128) (a : Fin 32) (h : Fin 4) (c : Fin 256) (i : Fin 16) (d : Fin 128) :
    (runC x (ix5 a h c i d) : EReal)
      = ∑ s ∈ Finset.range (i.val + 1), (x (ix5 a h c (⟨s % 16, Nat.mod_lt _ (by decide)⟩ : Fin 16) d) : EReal) := by
  unfold runC Host.reduceWindowAdd
  rw [Ideal.hostReduceWindowAdd_def]
  unfold Ideal.hostReduceWindowAdd Host.reduceWindow
  dsimp only
  rw [foldl_sum]
  have hz : (broadcastInDim S_ ![] bcast_S_S_ (constant (F := Ideal) S_ .f32 0x00000000#32) (Shape.Idx.first h_S_) : Ideal .f32) = (0 : EReal) :=
    Ideal.ofBits_zero_f32
  rw [hz, zero_add]
  have hN : (⟨5, ![1, 1, 1, 16, 1]⟩ : Shape).numel = 16 := by decide
  let f : ℕ → EReal := fun s => x (ix5 a h c (⟨s % 16, Nat.mod_lt _ (by decide)⟩ : Fin 16) d)
  refine (Finset.sum_congr (g := fun n : Fin (⟨5, ![1, 1, 1, 16, 1]⟩ : Shape).numel => (if 16 - 1 ≤ i.val + n.val then f (i.val + n.val - (16 - 1)) else 0 : EReal)) rfl fun n _ => ?_).trans ?_
  · have hn : n.val < 16 := by have := n.isLt; omega
    let w := (⟨5, ![1, 1, 1, 16, 1]⟩ : Shape).rowMajor.symm n
    have w0 : (w 0).val = 0 := congrArg (fun q => (q 0).val) (win16 n hn)
    have w1 : (w 1).val = 0 := congrArg (fun q => (q 1).val) (win16 n hn)
    have w2 : (w 2).val = 0 := congrArg (fun q => (q 2).val) (win16 n hn)
    have w3 : (w 3).val = n.val := congrArg (fun q => (q 3).val) (win16 n hn)
    have w4 : (w 4).val = 0 := congrArg (fun q => (q 4).val) (win16 n hn)
    by_cases h1 : 15 ≤ i.val + n.val
    · rw [if_pos (by omega), dif_pos (fun y => by
        match y with
        | ⟨0, _⟩ => exact ⟨Nat.zero_le _, by show a.val * 1 + (w 0).val - 0 < 32; omega⟩
        | ⟨1, _⟩ => exact ⟨Nat.zero_le _, by show h.val * 1 + (w 1).val - 0 < 4; omega⟩
        | ⟨2, _⟩ => exact ⟨Nat.zero_le _, by show c.val * 1 + (w 2).val - 0 < 256; omega⟩
        | ⟨3, _⟩ => exact ⟨by show 15 ≤ i.val * 1 + (w 3).val; omega, by show i.val * 1 + (w 3).val - 15 < 16; omega⟩
        | ⟨4, _⟩ => exact ⟨Nat.zero_le _, by show d.val * 1 + (w 4).val - 0 < 128; omega⟩)]
      refine congrArg x (funext fun y => Fin.ext ?_)
      match y with
      | ⟨0, _⟩ => show a.val * 1 + (w 0).val - 0 = a.val; omega
      | ⟨1, _⟩ => show h.val * 1 + (w 1).val - 0 = h.val; omega
      | ⟨2, _⟩ => show c.val * 1 + (w 2).val - 0 = c.val; omega
      | ⟨3, _⟩ => show i.val * 1 + (w 3).val - 15 = (i.val + n.val - (16 - 1)) % 16; omega
      | ⟨4, _⟩ => show d.val * 1 + (w 4).val - 0 = d.val; omega
    · rw [if_neg (by omega), dif_neg (fun q => h1 (by have := (q (3 : Fin 5)).1; change 15 ≤ i.val * 1 + (w 3).val at this; omega))]
  · rw [Fin.sum_univ_eq_sum_range (fun n => (if 16 - 1 ≤ i.val + n then f (i.val + n - (16 - 1)) else 0 : EReal)), hN, sum_window i.isLt f]

/-! ## The floors by head, the log gates and the keys -/

theorem floorL_apply (x : Arr S2x2x512) (a : Fin 2) (j : Fin 512) : floorL x (ix2 a j) = x (ix3 a 0 j) := by
  unfold floorL
  rw [shapeCast_apply _ _ (ix2 a j) (ix3 a (0 : Fin 1) j) (by
    rw [Shape.rowMajor_val_three, Shape.rowMajor_val_two]; simp [ix2, ix3])]
  exact extractStridedSlice_apply _ x _ _ (ix3 a (0 : Fin 2) j) (fun y => by
    match y with
    | ⟨0, _⟩ => exact (Nat.zero_add _).symm
    | ⟨1, _⟩ => rfl
    | ⟨2, _⟩ => exact (Nat.zero_add _).symm)

/-- One direction's floors split by head. -/
theorem split_floor (x : Arr S2x512) (o : ℕ) (a : Fin 2) (ho : o = a.val) (hs : S2x512.Slices ![o, 0] S1x512) (h : Fin 4) (d : Fin 128) (j : Fin 512)
    (hj : j.val = h.val * 128 + d.val) :
    shapeCast S4x1x128 (shapeCast S512 (extractStridedSlice S1x512 ![o, 0] x hs) shapeCasts_S1x512_S512) shapeCasts_S512_S4x1x128
      (ix3 h (0 : Fin 1) d) = x (ix2 a j) := by
  rw [shapeCast_apply _ _ (ix3 h (0 : Fin 1) d) (ix1 j) (by
      rw [Shape.rowMajor_val_three, Shape.rowMajor_val_one]; simp [ix1, ix3]; omega),
    shapeCast_apply _ _ (ix1 j) (ix2 (0 : Fin 1) j) (by
      rw [Shape.rowMajor_val_two, Shape.rowMajor_val_one]; simp [ix1, ix2])]
  exact extractStridedSlice_apply _ x _ _ (ix2 a j) (fun y => by
    match y with
    | ⟨0, _⟩ => exact ho.symm
    | ⟨1, _⟩ => exact (Nat.zero_add _).symm)

/-- A [4,1,128] array of reals. -/
def RepG (x : Arr S4x1x128) (l : ℕ → ℕ → ℝ) : Prop := ∀ (h : Fin 4) (d : Fin 128), (x (ix3 h (0 : Fin 1) d) : EReal) = ((l h.val d.val : ℝ) : EReal)

theorem low_at {A : Arr S2x2x512} (hA : ∀ i, (A i : EReal) = (((A i : EReal).toReal : ℝ) : EReal)) (a : Fin 2) (h : Fin 4) (d : Fin 128) (j : Fin 512)
    (hj : j.val = h.val * 128 + d.val) : (floorL (runL (smxL A)) (ix2 a j) : EReal) = ((low A a h.val d.val : ℝ) : EReal) := by
  rw [floorL_apply, runL_apply, smxL_apply hA]
  have e : (⟨(h.val * 128 + d.val) % 512, Nat.mod_lt _ (by decide)⟩ : Fin 512) = j := Fin.ext (by
    show (h.val * 128 + d.val) % 512 = j.val; rw [Nat.mod_eq_of_lt (by omega), hj])
  unfold low lbl; rw [e]

theorem rep_floorF {A : Arr S2x2x512} (hA : ∀ i, (A i : EReal) = (((A i : EReal).toReal : ℝ) : EReal)) :
    RepG (floorF (floorL (runL (smxL A)))) (low A 0) := fun h d =>
  (split_floor _ 0 0 rfl _ h d ⟨h.val * 128 + d.val, by omega⟩ rfl).trans (low_at hA 0 h d _ rfl)

theorem rep_floorB {A : Arr S2x2x512} (hA : ∀ i, (A i : EReal) = (((A i : EReal).toReal : ℝ) : EReal)) :
    RepG (floorB (floorL (runL (smxL A)))) (low A 1) := fun h d =>
  (split_floor _ 1 1 rfl _ h d ⟨h.val * 128 + d.val, by omega⟩ rfl).trans (low_at hA 1 h d _ rfl)

theorem repG_apply (x : Arr S4x1x128) (b : Fin 16) (h : Fin 4) (t : Fin 4096) (d : Fin 128) : repG x (ix4 b h t d) = x (ix3 h (0 : Fin 1) d) := by
  unfold repG
  rw [broadcastInDim_apply _ _ _ (ix4 b h t d) (ix4 (0 : Fin 1) h (0 : Fin 1) d) (fun y => by
    match y with
    | ⟨0, _⟩ => rfl
    | ⟨1, _⟩ => rfl
    | ⟨2, _⟩ => rfl
    | ⟨3, _⟩ => rfl)]
  exact broadcastInDim_apply _ _ _ (ix4 (0 : Fin 1) h (0 : Fin 1) d) (ix3 h (0 : Fin 1) d) (fun y => by
    match y with
    | ⟨0, _⟩ => rfl
    | ⟨1, _⟩ => rfl
    | ⟨2, _⟩ => rfl)

theorem one_word : (Ideal.ofBits .f32 0x3F800000#32 : EReal) = ((1 : ℝ) : EReal) := by rw [Ideal.ofBits_one_f32]; rfl

theorem lgsG_apply (z : Arr S16x4x4096x128) (i : S16x4x4096x128.Idx) : (lgsG z i : EReal) = Ideal.logistic (z i) := by
  show Ideal.div (Ideal.ofBits .f32 0x3F800000#32) (Ideal.ofBits .f32 0x3F800000#32 + Ideal.exp (-(z i : EReal))) = _
  rw [Ideal.ofBits_one_f32]; rfl

section gates

variable {l : Arr S4x1x128} {lo : ℕ → ℕ → ℝ} {z : Arr S16x4x4096x128} {Z : Fin 16 → ℕ → ℕ → ℕ → EReal}

theorem rep_gate (hl : RepG l lo) (h01 : ∀ h d, 0 < lo h d ∧ lo h d < 1) (hz : Ext4 z Z) :
    Rep4 (gateG l z) fun b h => lgs (lo h) (Z b h) := fun b h t d => by
  show Ideal.log ((repG l (ix4 b h t d) : EReal) + (repG (restG l) (ix4 b h t d) : EReal) * lgsG z (ix4 b h t d)) = _
  rw [repG_apply, repG_apply, lgsG_apply, hz b h t d]
  show Ideal.log ((l (ix3 h (0 : Fin 1) d) : EReal) + ((Ideal.ofBits .f32 0x3F800000#32 : EReal) - (l (ix3 h (0 : Fin 1) d) : EReal)) * _) = _
  rw [hl h d, one_word]
  exact log_gate_real (h01 h.val d.val).1 (h01 h.val d.val).2 _

theorem rep_key (hl : RepG l lo) (hz : Ext4 z Z) : Rep4 (keyG l z) fun b h => kys (lo h) (Z b h) := fun b h t d => by
  show (repG (restG l) (ix4 b h t d) : EReal) * lgsG (Host.negf z) (ix4 b h t d) = _
  rw [repG_apply, lgsG_apply]
  show ((Ideal.ofBits .f32 0x3F800000#32 : EReal) - (l (ix3 h (0 : Fin 1) d) : EReal)) * Ideal.logistic (-(z (ix4 b h t d) : EReal)) = _
  rw [hl h d, one_word, hz b h t d]
  exact key_real _ _

end gates

end Cert.HgrnRefIdeal.Ref

end
-- ==== Proof.Layer.RefChunk.lean ====
/- The reference's chunked arrays read at an index: the stacked directions, the running sums inside the chunks, the keys
   scaled to the chunk's end, the masked scores and the attention inside the chunks. -/
module

public import proofs.«01_k».proof.Proof.Layer.RefHeads

@[expose] public section

set_option maxRecDepth 65536

noncomputable section

namespace Cert.HgrnRefIdeal.Ref

open Cert.HgrnRefIdeal Cert.HgrnRefIdeal.Gen Cert.Layer
open Idealize.ShloMosaic hiding ix1 ix2 ix3 ix4 ix5
open Idealize.ShloMosaic.ValueIdx

/-- A family of sequences, one per stacked batch and head. -/
abbrev Fam := Fin 32 → Fin 4 → ℕ → ℕ → ℝ

/-- Every entry of a chunked array is a real. -/
def CRep (x : Arr S32x4x256x16x128) (r : Fin 32 → Fin 4 → Fin 256 → ℕ → ℕ → ℝ) : Prop :=
  ∀ (a : Fin 32) (h : Fin 4) (c : Fin 256) (i : Fin 16) (d : Fin 128), (x (ix5 a h c i d) : EReal) = ((r a h c i.val d.val : ℝ) : EReal)

/-- A chunked array holding the sequences of a family. -/
def SRep (x : Arr S32x4x256x16x128) (r : Fam) : Prop := CRep x fun a h c => sh (r a h) (16 * c.val)

/-- Two families of sixteen stacked, the second reversed in time. -/
def stk (r s : Fin 16 → ℕ → ℕ → ℕ → ℝ) : Fam := fun a h =>
  if q : a.val < 16 then r ⟨a.val, q⟩ h.val else rev (s ⟨a.val - 16, by omega⟩ h.val)

theorem rep_stack {x y : Arr S16x4x4096x128} {r s : Fin 16 → ℕ → ℕ → ℕ → ℝ} (hx : Rep4 x r) (hy : Rep4 y s) :
    SRep (stack x y) (stk r s) := fun a h c i d => by
  have ht : 16 * c.val + i.val < 4096 := by omega
  unfold stack
  rw [shapeCast_apply _ _ (ix5 a h c i d) (ix4 a h (⟨16 * c.val + i.val, ht⟩ : Fin 4096) d) (by
    rw [Shape.rowMajor_val_four, Shape.rowMajor_val_five]; simp [ix4, ix5]; omega)]
  by_cases q : a.val < 16
  · refine (concatenate_pair_apply_left (t := S32x4x4096x128) (0 : Fin 4) x _ _ _ rfl (ix4 (⟨a.val, q⟩ : Fin 16) h (⟨16 * c.val + i.val, ht⟩ : Fin 4096) d) (fun b => by
      match b with
      | ⟨0, _⟩ => rfl
      | ⟨1, _⟩ => rfl
      | ⟨2, _⟩ => rfl
      | ⟨3, _⟩ => rfl)).trans ?_
    rw [hx]
    show _ = ((sh (stk r s a h) (16 * c.val) i.val d.val : ℝ) : EReal)
    unfold stk; rw [dif_pos q]; rfl
  · refine (concatenate_pair_apply_right (t := S32x4x4096x128) (s₂ := S16x4x4096x128) (0 : Fin 4) x _ _ _ rfl rfl (ix4 (⟨a.val - 16, by omega⟩ : Fin 16) h (⟨16 * c.val + i.val, ht⟩ : Fin 4096) d) (fun b => by
      match b with
      | ⟨0, _⟩ => exact fun h => absurd rfl h
      | ⟨1, _⟩ => exact fun _ => rfl
      | ⟨2, _⟩ => exact fun _ => rfl
      | ⟨3, _⟩ => exact fun _ => rfl) (by show a.val - 16 + 16 = a.val; omega)).trans ?_
    rw [Host.reverse_apply]
    have e : (Shape.Idx.norm fun b => if b ∈ ([2] : List (Fin 4)) then
          ((ix4 (⟨a.val - 16, by omega⟩ : Fin 16) h (⟨16 * c.val + i.val, ht⟩ : Fin 4096) d : S16x4x4096x128.Idx) b).rev
          else (ix4 (⟨a.val - 16, by omega⟩ : Fin 16) h (⟨16 * c.val + i.val, ht⟩ : Fin 4096) d : S16x4x4096x128.Idx) b : S16x4x4096x128.Idx)
        = ix4 (⟨a.val - 16, by omega⟩ : Fin 16) h (⟨4095 - (16 * c.val + i.val), by omega⟩ : Fin 4096) d := funext fun b => Fin.ext (by
      match b with
      | ⟨0, _⟩ => rfl
      | ⟨1, _⟩ => rfl
      | ⟨2, _⟩ => show 4096 - (16 * c.val + i.val + 1) = 4095 - (16 * c.val + i.val); omega
      | ⟨3, _⟩ => rfl)
    refine (congrArg y e).trans ?_
    rw [hy]
    show _ = ((sh (stk r s a h) (16 * c.val) i.val d.val : ℝ) : EReal)
    unfold stk; rw [dif_neg q]; rfl

/-! ## The chunks -/

section chunks

variable {q k v g : Arr S32x4x256x16x128} {Q K V L : Fam}

/-- The running sums of a chunk's log gates. -/
abbrev run (L : Fam) (a : Fin 32) (h : Fin 4) (c : Fin 256) (i d : ℕ) : ℝ := pre (sh (L a h) (16 * c.val)) (i + 1) d

theorem rep_run (hg : SRep g L) : CRep (runC g) (run L) := fun a h c i d => by
  rw [runC_apply]
  show _ = ((∑ s ∈ Finset.range (i.val + 1), sh (L a h) (16 * c.val) s d.val : ℝ) : EReal)
  rw [coe_sum]
  refine Finset.sum_congr rfl fun s hs => ?_
  rw [hg a h c (⟨s % 16, Nat.mod_lt _ (by decide)⟩ : Fin 16) d]
  have := Finset.mem_range.1 hs
  show ((sh (L a h) (16 * c.val) (s % 16) d.val : ℝ) : EReal) = _
  rw [Nat.mod_eq_of_lt (by omega)]

variable {B : Fin 32 → Fin 4 → Fin 256 → ℕ → ℕ → ℝ}

theorem lastC_apply (x : Arr S32x4x256x16x128) (a : Fin 32) (h : Fin 4) (c : Fin 256) (d : Fin 128) :
    lastC x (ix5 a h c (0 : Fin 1) d) = x (ix5 a h c (15 : Fin 16) d) :=
  extractStridedSlice_apply _ x _ _ (ix5 a h c (15 : Fin 16) d) (fun y => by
    match y with
    | ⟨0, _⟩ => exact (Nat.zero_add _).symm
    | ⟨1, _⟩ => exact (Nat.zero_add _).symm
    | ⟨2, _⟩ => exact (Nat.zero_add _).symm
    | ⟨3, _⟩ => rfl
    | ⟨4, _⟩ => exact (Nat.zero_add _).symm)

theorem rep_last {x : Arr S32x4x256x16x128} (hx : CRep x B) : CRep (repLast x) fun a h c _ d => B a h c 15 d := fun a h c i d => by
  unfold repLast
  rw [broadcastInDim_apply _ _ _ (ix5 a h c i d) (ix5 a h c (0 : Fin 1) d) (fun y => by
    match y with
    | ⟨0, _⟩ => rfl
    | ⟨1, _⟩ => rfl
    | ⟨2, _⟩ => rfl
    | ⟨3, _⟩ => rfl
    | ⟨4, _⟩ => rfl), lastC_apply, hx a h c (15 : Fin 16) d]
  rfl

variable (hq : SRep q Q) (hk : SRep k K) (hv : SRep v V) (hg : CRep g B)

include hk hg in
theorem rep_keyRel : CRep (keyRel k g) fun a h c i d => sh (K a h) (16 * c.val) i d * Real.exp (B a h c 15 d - B a h c i d) := fun a h c i d => by
  show (k (ix5 a h c i d) : EReal) * Ideal.exp ((repLast g (ix5 a h c i d) : EReal) - g (ix5 a h c i d)) = _
  rw [hk a h c i d, rep_last hg a h c i d, hg a h c i d, ← EReal.coe_sub, Ideal.exp_coe, ← EReal.coe_mul]

include hq hg in
theorem rep_queryRel : CRep (mulf q (Host.exp (subf g (repLast g)))) fun a h c i d => sh (Q a h) (16 * c.val) i d * Real.exp (B a h c i d - B a h c 15 d) :=
  fun a h c i d => by
  show (q (ix5 a h c i d) : EReal) * Ideal.exp ((g (ix5 a h c i d) : EReal) - repLast g (ix5 a h c i d)) = _
  rw [hq a h c i d, rep_last hg a h c i d, hg a h c i d, ← EReal.coe_sub, Ideal.exp_coe, ← EReal.coe_mul]

include hq hg in
theorem rep_queryExp : CRep (mulf q (Host.exp g)) fun a h c i d => sh (Q a h) (16 * c.val) i d * Real.exp (B a h c i d) :=
  fun a h c i d => by
  show (q (ix5 a h c i d) : EReal) * Ideal.exp (g (ix5 a h c i d) : EReal) = _
  rw [hq a h c i d, hg a h c i d, Ideal.exp_coe, ← EReal.coe_mul]

/-- The product of queries and keys over the features, chunk by chunk. -/
theorem dot_scores (x y : Arr S32x4x256x16x128) (a : Fin 32) (h : Fin 4) (c : Fin 256) (i s : Fin 16) :
    (Host.dotGeneral dot_S32x4x256x16x128_S32x4x256x16x128_S32x4x256x16x16_4_4_3_3_012_012 none x y (ix5 a h c i s) : EReal)
      = ∑ d : Fin 128, (x (ix5 a h c i d) : EReal) * y (ix5 a h c s d) := by
  let D := dot_S32x4x256x16x128_S32x4x256x16x128_S32x4x256x16x16_4_4_3_3_012_012
  refine (Ideal.dotGeneral_apply D none _ x y (ix5 a h c i s)).trans ?_
  rw [← Equiv.sum_comp (contrEquiv1 D 128 rfl rfl).symm]
  refine Finset.sum_congr rfl fun d _ => ?_
  have hd := contrEquiv1_symm_val D 128 rfl rfl d
  have el : D.lhsIdx (ix5 a h c i s) ((contrEquiv1 D 128 rfl rfl).symm d) = ix5 a h c i d := by
    funext b; apply Fin.ext
    match b with
    | ⟨0, _⟩ => rfl
    | ⟨1, _⟩ => rfl
    | ⟨2, _⟩ => rfl
    | ⟨3, _⟩ => rfl
    | ⟨4, _⟩ => exact hd
  have er : D.rhsIdx (ix5 a h c i s) ((contrEquiv1 D 128 rfl rfl).symm d) = ix5 a h c s d := by
    funext b; apply Fin.ext
    match b with
    | ⟨0, _⟩ => rfl
    | ⟨1, _⟩ => rfl
    | ⟨2, _⟩ => rfl
    | ⟨3, _⟩ => rfl
    | ⟨4, _⟩ => exact hd
  rw [el, er]

/-- The product of scores and values over the chunk's rows. -/
theorem dot_values (x : Arr S32x4x256x16x16) (y : Arr S32x4x256x16x128) (a : Fin 32) (h : Fin 4) (c : Fin 256) (i : Fin 16) (e : Fin 128) :
    (Host.dotGeneral dot_S32x4x256x16x16_S32x4x256x16x128_S32x4x256x16x128_4_3_3_4_012_012 none x y (ix5 a h c i e) : EReal)
      = ∑ s : Fin 16, (x (ix5 a h c i s) : EReal) * y (ix5 a h c s e) := by
  let D := dot_S32x4x256x16x16_S32x4x256x16x128_S32x4x256x16x128_4_3_3_4_012_012
  refine (Ideal.dotGeneral_apply D none _ x y (ix5 a h c i e)).trans ?_
  rw [← Equiv.sum_comp (contrEquiv1 D 16 rfl rfl).symm]
  refine Finset.sum_congr rfl fun s _ => ?_
  have hd := contrEquiv1_symm_val D 16 rfl rfl s
  have el : D.lhsIdx (ix5 a h c i e) ((contrEquiv1 D 16 rfl rfl).symm s) = ix5 a h c i s := by
    funext b; apply Fin.ext
    match b with
    | ⟨0, _⟩ => rfl
    | ⟨1, _⟩ => rfl
    | ⟨2, _⟩ => rfl
    | ⟨3, _⟩ => rfl
    | ⟨4, _⟩ => exact hd
  have er : D.rhsIdx (ix5 a h c i e) ((contrEquiv1 D 16 rfl rfl).symm s) = ix5 a h c s e := by
    funext b; apply Fin.ext
    match b with
    | ⟨0, _⟩ => rfl
    | ⟨1, _⟩ => rfl
    | ⟨2, _⟩ => rfl
    | ⟨3, _⟩ => exact hd
    | ⟨4, _⟩ => rfl
  rw [el, er]

include hq hk hg in
theorem score_apply (a : Fin 32) (h : Fin 4) (c : Fin 256) (i s : Fin 16) :
    (scoreC q k g (ix5 a h c i s) : EReal)
      = ((sco (sh (Q a h) (16 * c.val)) (sh (K a h) (16 * c.val)) (B a h c) i.val s.val : ℝ) : EReal) := by
  unfold scoreC sco
  rw [dot_scores, coe_sum_fin]
  refine Finset.sum_congr rfl fun d _ => ?_
  rw [rep_queryRel hq hg a h c i d, rep_keyRel hk hg a h c s d, ← EReal.coe_mul]
  refine congrArg _ ?_
  rw [show B a h c i.val d.val - B a h c s.val d.val = (B a h c i.val d.val - B a h c 15 d.val) + (B a h c 15 d.val - B a h c s.val d.val) by ring, Real.exp_add]
  ring

theorem triC_apply : ∀ i s : Fin 16, triC (ix2 i s) = if s.val ≤ i.val then 1#1 else 0#1 := by decide +kernel

include hq hk hv hg in
theorem rep_intra : CRep (intraC q k v g) fun a h c i e =>
    ∑ s ∈ Finset.range 16, if s ≤ i then sco (sh (Q a h) (16 * c.val)) (sh (K a h) (16 * c.val)) (B a h c) i s * sh (V a h) (16 * c.val) s e else 0 :=
  fun a h c i e => by
  unfold intraC
  rw [dot_values, coe_sum_fin]
  refine Finset.sum_congr rfl fun s _ => ?_
  have hm : (broadcastInDim S32x4x256x16x16 ![3, 4] bcast_S16x16_S32x4x256x16x16_3_4 triC (ix5 a h c i s)) = if s.val ≤ i.val then 1#1 else 0#1 :=
    (broadcastInDim_apply _ _ _ (ix5 a h c i s) (ix2 i s) (fun y => by
      match y with
      | ⟨0, _⟩ => rfl
      | ⟨1, _⟩ => rfl)).trans (triC_apply i s)
  rw [hv a h c s e]
  show ((if broadcastInDim S32x4x256x16x16 ![3, 4] bcast_S16x16_S32x4x256x16x16_3_4 triC (ix5 a h c i s) = 1#1 then
    (scoreC q k g (ix5 a h c i s) : EReal) else Ideal.ofBits .f32 0x00000000#32) : EReal) * _ = _
  rw [hm]
  by_cases hs : s.val ≤ i.val
  · rw [if_pos hs, if_pos rfl, if_pos hs, score_apply hq hk hg, ← EReal.coe_mul]
  · rw [if_neg hs, if_neg (by decide), if_neg hs, Ideal.ofBits_zero_f32, zero_mul]; rfl

/-! ## The chunk axis first -/

theorem chunkFirst_apply (x : Arr S32x4x256x16x128) (c : Fin 256) (a : Fin 32) (h : Fin 4) (i : Fin 16) (d : Fin 128) :
    chunkFirst x (ix5 c a h i d) = x (ix5 a h c i d) :=
  transpose_apply _ x _ (ix5 c a h i d) (ix5 a h c i d) (fun y => by
    match y with
    | ⟨0, _⟩ => rfl
    | ⟨1, _⟩ => rfl
    | ⟨2, _⟩ => rfl
    | ⟨3, _⟩ => rfl
    | ⟨4, _⟩ => rfl)

include hg in
theorem decay_apply (c : Fin 256) (a : Fin 32) (h : Fin 4) (d : Fin 128) :
    (decayC g (ix4 c a h d) : EReal) = ((Real.exp (B a h c 15 d.val) : ℝ) : EReal) := by
  unfold decayC
  rw [transpose_apply _ _ _ (ix4 c a h d) (ix4 a h c d) (fun y => by
    match y with
    | ⟨0, _⟩ => rfl
    | ⟨1, _⟩ => rfl
    | ⟨2, _⟩ => rfl
    | ⟨3, _⟩ => rfl)]
  show Ideal.exp (shapeCast S32x4x256x128 (lastC g) shapeCasts_S32x4x256x1x128_S32x4x256x128 (ix4 a h c d) : EReal) = _
  rw [shapeCast_apply _ _ (ix4 a h c d) (ix5 a h c (0 : Fin 1) d) (by
    rw [Shape.rowMajor_val_four, Shape.rowMajor_val_five]; simp [ix4, ix5]), lastC_apply, hg a h c (15 : Fin 16) d, Ideal.exp_coe]
  rfl

end chunks

end Cert.HgrnRefIdeal.Ref

end
-- ==== Proof.Layer.RefLoop.lean ====
/- The reference's loop over the chunks: before trip `k` the state is the recurrence's state after the first `k` chunks, and
   the first `k` chunks of the output hold the queries' products with the states before them. -/
module

public import proofs.«01_k».proof.Proof.Layer.RefChunk
public import Idealize.ShloMosaic.Lib.DynamicIndex

@[expose] public section

set_option maxRecDepth 65536

noncomputable section

namespace Cert.HgrnRefIdeal.Ref

open Cert.HgrnRefIdeal Cert.HgrnRefIdeal.Gen Cert.HgrnRefIdeal.Value Cert.Layer
open Idealize.ShloMosaic hiding ix1 ix2 ix3 ix4 ix5
open Idealize.ShloMosaic.TcCoe Idealize.ShloMosaic.StableHlo
open Idealize.ShloMosaic.ValueIdx

/-! ## The trip's operations read at an index -/

/-- The loop counter before trip `k`. -/
abbrev ctrAt (k : ℕ) : IVec S_ 32 := constantI S_ 32 (BitVec.ofNat 32 k)

/-- The start of a chunk's block, five axes. -/
abbrev start5 (x : IVec S_ 32) : Fin 5 → Int := fun k =>
  (((![x, constantI S_ 32 0#32, constantI S_ 32 0#32, constantI S_ 32 0#32, constantI S_ 32 0#32] :
    Fin 5 → (⟨S_, .i32⟩ : BufTy).Contents (Elt Ideal))) k (Shape.Idx.first h_S_)).toInt

/-- The start of a chunk's block, four axes. -/
abbrev start4 (x : IVec S_ 32) : Fin 4 → Int := fun k =>
  (((![x, constantI S_ 32 0#32, constantI S_ 32 0#32, constantI S_ 32 0#32] :
    Fin 4 → (⟨S_, .i32⟩ : BufTy).Contents (Elt Ideal))) k (Shape.Idx.first h_S_)).toInt

theorem toInt_ctr (k : Fin 256) : (BitVec.ofNat 32 k.val).toInt = (k.val : Int) := by
  rw [BitVec.toInt_eq_toNat_of_lt (by rw [BitVec.toNat_ofNat]; omega), BitVec.toNat_ofNat, Nat.mod_eq_of_lt (by omega)]

theorem start5_eq (k : Fin 256) (a : Fin 5) : start5 (ctrAt k.val) a = ((![k.val, 0, 0, 0, 0] : Fin 5 → ℕ) a : Int) := by
  match a with
  | ⟨0, _⟩ => exact toInt_ctr k
  | ⟨1, _⟩ => rfl
  | ⟨2, _⟩ => rfl
  | ⟨3, _⟩ => rfl
  | ⟨4, _⟩ => rfl

theorem start4_eq (k : Fin 256) (a : Fin 4) : start4 (ctrAt k.val) a = ((![k.val, 0, 0, 0] : Fin 4 → ℕ) a : Int) := by
  match a with
  | ⟨0, _⟩ => exact toInt_ctr k
  | ⟨1, _⟩ => rfl
  | ⟨2, _⟩ => rfl
  | ⟨3, _⟩ => rfl

theorem slices5 (k : Fin 256) : S256x32x4x16x128.Slices ![k.val, 0, 0, 0, 0] S1x32x4x16x128 := ⟨rfl, fun a => by
  match a with
  | ⟨0, _⟩ => show k.val + 1 ≤ 256; omega
  | ⟨1, _⟩ => show 0 + 32 ≤ 32; omega
  | ⟨2, _⟩ => show 0 + 4 ≤ 4; omega
  | ⟨3, _⟩ => show 0 + 16 ≤ 16; omega
  | ⟨4, _⟩ => show 0 + 128 ≤ 128; omega⟩

theorem slices4 (k : Fin 256) : S256x32x4x128.Slices ![k.val, 0, 0, 0] S1x32x4x128 := ⟨rfl, fun a => by
  match a with
  | ⟨0, _⟩ => show k.val + 1 ≤ 256; omega
  | ⟨1, _⟩ => show 0 + 32 ≤ 32; omega
  | ⟨2, _⟩ => show 0 + 4 ≤ 4; omega
  | ⟨3, _⟩ => show 0 + 128 ≤ 128; omega⟩

/-- The chunk at the counter. -/
def at5 (x : Arr S256x32x4x16x128) (n : IVec S_ 32) : Arr S32x4x16x128 :=
  shapeCast S32x4x16x128 (Host.dynamicSlice S1x32x4x16x128 x (start5 n) sliceFits_S256x32x4x16x128_S1x32x4x16x128) shapeCasts_S1x32x4x16x128_S32x4x16x128

/-- The chunk's decay at the counter. -/
def at4 (x : Arr S256x32x4x128) (n : IVec S_ 32) : Arr S32x4x128 :=
  shapeCast S32x4x128 (Host.dynamicSlice S1x32x4x128 x (start4 n) sliceFits_S256x32x4x128_S1x32x4x128) shapeCasts_S1x32x4x128_S32x4x128

theorem at5_apply (x : Arr S256x32x4x16x128) (k : Fin 256) (a : Fin 32) (h : Fin 4) (i : Fin 16) (d : Fin 128) :
    at5 x (ctrAt k.val) (ix4 a h i d) = x (ix5 k a h i d) := by
  unfold at5
  rw [Host.dynamicSlice_eq_extractStridedSlice _ x _ _ _ (slices5 k) (start5_eq k),
    shapeCast_apply _ _ (ix4 a h i d) (ix5 (0 : Fin 1) a h i d) (by
      rw [Shape.rowMajor_val_four, Shape.rowMajor_val_five]; simp [ix4, ix5])]
  exact extractStridedSlice_apply _ x _ _ (ix5 k a h i d) (fun y => by
    match y with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)

theorem at4_apply (x : Arr S256x32x4x128) (k : Fin 256) (a : Fin 32) (h : Fin 4) (d : Fin 128) :
    at4 x (ctrAt k.val) (ix3 a h d) = x (ix4 k a h d) := by
  unfold at4
  rw [Host.dynamicSlice_eq_extractStridedSlice _ x _ _ _ (slices4 k) (start4_eq k),
    shapeCast_apply _ _ (ix3 a h d) (ix4 (0 : Fin 1) a h d) (by
      rw [Shape.rowMajor_val_three, Shape.rowMajor_val_four]; simp [ix3, ix4])]
  exact extractStridedSlice_apply _ x _ _ (ix4 k a h d) (fun y => by
    match y with
    | ⟨0, _⟩ => rfl
    | ⟨1, _⟩ => exact (Nat.zero_add _).symm
    | ⟨2, _⟩ => exact (Nat.zero_add _).symm
    | ⟨3, _⟩ => exact (Nat.zero_add _).symm)

/-- The output with the chunk at the counter replaced. -/
def put5 (x : Arr S256x32x4x16x128) (y : Arr S32x4x16x128) (n : IVec S_ 32) : Arr S256x32x4x16x128 :=
  Host.dynamicUpdateSlice x (broadcastInDim S1x32x4x16x128 ![1, 2, 3, 4] bcast_S32x4x16x128_S1x32x4x16x128_1_2_3_4 y) (start5 n)
    updateFits_S256x32x4x16x128_S1x32x4x16x128

theorem put5_apply (x : Arr S256x32x4x16x128) (y : Arr S32x4x16x128) (k c : Fin 256) (a : Fin 32) (h : Fin 4) (i : Fin 16) (e : Fin 128) :
    put5 x y (ctrAt k.val) (ix5 c a h i e) = if c = k then y (ix4 a h i e) else x (ix5 c a h i e) := by
  unfold put5
  rw [Host.dynamicUpdateSlice_eq_updateSlice x _ _ _ ![k.val, 0, 0, 0, 0] (fun a => by
    rw [start5_eq k a]
    match a with
    | ⟨0, _⟩ => show (min (max (k.val : Int) 0) ((256 - 1 : ℕ) : Int)).toNat = k.val; omega
    | ⟨1, _⟩ => rfl
    | ⟨2, _⟩ => rfl
    | ⟨3, _⟩ => rfl
    | ⟨4, _⟩ => rfl) (slices5 k)]
  unfold updateSlice
  by_cases hc : c = k
  · subst hc
    rw [if_pos rfl, dif_pos (fun z => by
      match z with
      | ⟨0, _⟩ => exact ⟨le_refl _, Nat.lt_succ_self _⟩
      | ⟨1, _⟩ => exact ⟨Nat.zero_le _, by show a.val < 0 + 32; omega⟩
      | ⟨2, _⟩ => exact ⟨Nat.zero_le _, by show h.val < 0 + 4; omega⟩
      | ⟨3, _⟩ => exact ⟨Nat.zero_le _, by show i.val < 0 + 16; omega⟩
      | ⟨4, _⟩ => exact ⟨Nat.zero_le _, by show e.val < 0 + 128; omega⟩)]
    exact broadcastInDim_apply _ _ _ _ (ix4 a h i e) (fun z => by
      match z with
      | ⟨0, _⟩ => rfl
      | ⟨1, _⟩ => rfl
      | ⟨2, _⟩ => rfl
      | ⟨3, _⟩ => rfl)
  · rw [if_neg hc, dif_neg (fun q => hc (Fin.ext (by
      have h0 := q (0 : Fin 5)
      change k.val ≤ c.val ∧ c.val < k.val + 1 at h0
      omega)))]

/-- The queries' product with the state. -/
def interS (q : Arr S32x4x16x128) (s : Arr S32x4x128x128) : Arr S32x4x16x128 :=
  Host.dotGeneral dot_S32x4x16x128_S32x4x128x128_S32x4x16x128_3_2_2_3_01_01 none q s

theorem interS_apply (q : Arr S32x4x16x128) (s : Arr S32x4x128x128) (a : Fin 32) (h : Fin 4) (i : Fin 16) (e : Fin 128) :
    (interS q s (ix4 a h i e) : EReal) = ∑ d : Fin 128, (q (ix4 a h i d) : EReal) * s (ix4 a h d e) := by
  let D := dot_S32x4x16x128_S32x4x128x128_S32x4x16x128_3_2_2_3_01_01
  refine (Ideal.dotGeneral_apply D none _ q s (ix4 a h i e)).trans ?_
  rw [← Equiv.sum_comp (contrEquiv1 D 128 rfl rfl).symm]
  refine Finset.sum_congr rfl fun d _ => ?_
  have hd := contrEquiv1_symm_val D 128 rfl rfl d
  have el : D.lhsIdx (ix4 a h i e) ((contrEquiv1 D 128 rfl rfl).symm d) = ix4 a h i d := by
    funext b; apply Fin.ext
    match b with
    | ⟨0, _⟩ => rfl
    | ⟨1, _⟩ => rfl
    | ⟨2, _⟩ => rfl
    | ⟨3, _⟩ => exact hd
  have er : D.rhsIdx (ix4 a h i e) ((contrEquiv1 D 128 rfl rfl).symm d) = ix4 a h d e := by
    funext b; apply Fin.ext
    match b with
    | ⟨0, _⟩ => rfl
    | ⟨1, _⟩ => rfl
    | ⟨2, _⟩ => exact hd
    | ⟨3, _⟩ => rfl
  rw [el, er]

/-- The state decayed over the chunk, with the chunk's keys and values added. -/
def nextS (s : Arr S32x4x128x128) (w : Arr S32x4x128) (k v : Arr S32x4x16x128) : Arr S32x4x128x128 :=
  addf (mulf s (broadcastInDim S32x4x128x128 ![0, 1, 2, 3] bcast_S32x4x128x1_S32x4x128x128_0_1_2_3
      (broadcastInDim S32x4x128x1 ![0, 1, 2] bcast_S32x4x128_S32x4x128x1_0_1_2 w)))
    (Host.dotGeneral dot_S32x4x16x128_S32x4x16x128_S32x4x128x128_2_2_3_3_01_01 none k v)

theorem nextS_apply (s : Arr S32x4x128x128) (w : Arr S32x4x128) (k v : Arr S32x4x16x128) (a : Fin 32) (h : Fin 4) (d e : Fin 128) :
    (nextS s w k v (ix4 a h d e) : EReal)
      = (s (ix4 a h d e) : EReal) * w (ix3 a h d) + ∑ i : Fin 16, (k (ix4 a h i d) : EReal) * v (ix4 a h i e) := by
  have h1 : (broadcastInDim S32x4x128x128 ![0, 1, 2, 3] bcast_S32x4x128x1_S32x4x128x128_0_1_2_3
      (broadcastInDim S32x4x128x1 ![0, 1, 2] bcast_S32x4x128_S32x4x128x1_0_1_2 w) (ix4 a h d e)) = w (ix3 a h d) :=
    (broadcastInDim_apply _ _ _ (ix4 a h d e) (ix4 a h d (0 : Fin 1)) (fun z => by
      match z with
      | ⟨0, _⟩ => rfl
      | ⟨1, _⟩ => rfl
      | ⟨2, _⟩ => rfl
      | ⟨3, _⟩ => rfl)).trans (broadcastInDim_apply _ _ _ (ix4 a h d (0 : Fin 1)) (ix3 a h d) (fun z => by
      match z with
      | ⟨0, _⟩ => rfl
      | ⟨1, _⟩ => rfl
      | ⟨2, _⟩ => rfl))
  let D := dot_S32x4x16x128_S32x4x16x128_S32x4x128x128_2_2_3_3_01_01
  have h2 : (Host.dotGeneral D none k v (ix4 a h d e) : EReal) = ∑ i : Fin 16, (k (ix4 a h i d) : EReal) * v (ix4 a h i e) := by
    refine (Ideal.dotGeneral_apply D none _ k v (ix4 a h d e)).trans ?_
    rw [← Equiv.sum_comp (contrEquiv1 D 16 rfl rfl).symm]
    refine Finset.sum_congr rfl fun i _ => ?_
    have hd := contrEquiv1_symm_val D 16 rfl rfl i
    have el : D.lhsIdx (ix4 a h d e) ((contrEquiv1 D 16 rfl rfl).symm i) = ix4 a h i d := by
      funext b; apply Fin.ext
      match b with
      | ⟨0, _⟩ => rfl
      | ⟨1, _⟩ => rfl
      | ⟨2, _⟩ => exact hd
      | ⟨3, _⟩ => rfl
    have er : D.rhsIdx (ix4 a h d e) ((contrEquiv1 D 16 rfl rfl).symm i) = ix4 a h i e := by
      funext b; apply Fin.ext
      match b with
      | ⟨0, _⟩ => rfl
      | ⟨1, _⟩ => rfl
      | ⟨2, _⟩ => exact hd
      | ⟨3, _⟩ => rfl
    rw [el, er]
  show (s (ix4 a h d e) : EReal) * broadcastInDim S32x4x128x128 ![0, 1, 2, 3] bcast_S32x4x128x1_S32x4x128x128_0_1_2_3
      (broadcastInDim S32x4x128x1 ![0, 1, 2] bcast_S32x4x128_S32x4x128x1_0_1_2 w) (ix4 a h d e) + (Host.dotGeneral D none k v (ix4 a h d e) : EReal) = _
  rw [h1, h2]

/-! ## The loop's invariant -/

variable (Q K V L : Fam)

/-- What the carried buffers hold before trip `k`. -/
structure Inv (k : ℕ) (W : Valuation τ sig (Elt Ideal)) : Prop where
  ctr : W (Proc.devRef .tc main_v124_4) = ctrAt k
  rq : ∀ (c : Fin 256) (a : Fin 32) (h : Fin 4) (i : Fin 16) (d : Fin 128), (W (Proc.devRef .tc main_v124_0) (ix5 c a h i d) : EReal)
    = ((sh (Q a h) (16 * c.val) i.val d.val * Real.exp (run L a h c i.val d.val) : ℝ) : EReal)
  rk : ∀ (c : Fin 256) (a : Fin 32) (h : Fin 4) (i : Fin 16) (d : Fin 128), (W (Proc.devRef .tc main_v124_1) (ix5 c a h i d) : EReal)
    = ((sh (K a h) (16 * c.val) i.val d.val * Real.exp (run L a h c 15 d.val - run L a h c i.val d.val) : ℝ) : EReal)
  rv : ∀ (c : Fin 256) (a : Fin 32) (h : Fin 4) (i : Fin 16) (d : Fin 128), (W (Proc.devRef .tc main_v124_2) (ix5 c a h i d) : EReal)
    = ((sh (V a h) (16 * c.val) i.val d.val : ℝ) : EReal)
  rw : ∀ (c : Fin 256) (a : Fin 32) (h : Fin 4) (d : Fin 128), (W (Proc.devRef .tc main_v124_3) (ix4 c a h d) : EReal)
    = ((Real.exp (run L a h c 15 d.val) : ℝ) : EReal)
  rs : ∀ (a : Fin 32) (h : Fin 4) (d e : Fin 128), (W (Proc.devRef .tc main_v124_5) (ix4 a h d e) : EReal)
    = ((stt (K a h) (V a h) (L a h) (16 * k) e.val d.val : ℝ) : EReal)
  ro : ∀ (c : Fin 256) (a : Fin 32) (h : Fin 4) (i : Fin 16) (e : Fin 128), c.val < k → (W (Proc.devRef .tc main_v124_6) (ix5 c a h i e) : EReal)
    = ((∑ d ∈ Finset.range 128, sh (Q a h) (16 * c.val) i.val d * Real.exp (run L a h c i.val d) * stt (K a h) (V a h) (L a h) (16 * c.val) e.val d : ℝ) : EReal)

variable {Q K V L}

theorem step_state (W : Valuation τ sig (Elt Ideal)) : step_main_v124_5 W =
    nextS (W (Proc.devRef .tc main_v124_5)) (at4 (W (Proc.devRef .tc main_v124_3)) (W (Proc.devRef .tc main_v124_4)))
      (at5 (W (Proc.devRef .tc main_v124_1)) (W (Proc.devRef .tc main_v124_4))) (at5 (W (Proc.devRef .tc main_v124_2)) (W (Proc.devRef .tc main_v124_4))) := rfl

theorem step_out (W : Valuation τ sig (Elt Ideal)) : step_main_v124_6 W =
    put5 (W (Proc.devRef .tc main_v124_6)) (interS (at5 (W (Proc.devRef .tc main_v124_0)) (W (Proc.devRef .tc main_v124_4))) (W (Proc.devRef .tc main_v124_5)))
      (W (Proc.devRef .tc main_v124_4)) := by
  unfold step_main_v124_6 put5 interS at5
  exact id_eq _

theorem Inv.step {k : ℕ} {W : Valuation τ sig (Elt Ideal)} (hW : Inv Q K V L k W) (hk : k < 256) : Inv Q K V L (k + 1) (STEP W) where
  ctr := by
    rw [STEP_main_v124_4]
    show addi (W (Proc.devRef .tc main_v124_4)) (constantI S_ 32 1#32) = _
    rw [hW.ctr]
    funext j
    show BitVec.ofNat 32 k + 1#32 = BitVec.ofNat 32 (k + 1)
    rw [BitVec.ofNat_add]
  rq := by rw [STEP_main_v124_0]; exact hW.rq
  rk := by rw [STEP_main_v124_1]; exact hW.rk
  rv := by rw [STEP_main_v124_2]; exact hW.rv
  rw := by rw [STEP_main_v124_3]; exact hW.rw
  rs := fun a h d e => by
    rw [STEP_main_v124_5, step_state, nextS_apply, hW.ctr]
    have e4 := at4_apply (W (Proc.devRef .tc main_v124_3)) ⟨k, hk⟩ a h d
    rw [e4, hW.rs a h d e, hW.rw, ← EReal.coe_mul,
      show 16 * (k + 1) = 16 * k + 16 by ring, stt_step (K a h) (V a h) (L a h) (16 * k) 16 e.val d.val, EReal.coe_add, coe_sum_fin]
    congr 1
    refine Finset.sum_congr rfl fun i _ => ?_
    have ek := at5_apply (W (Proc.devRef .tc main_v124_1)) ⟨k, hk⟩ a h i d
    have ev := at5_apply (W (Proc.devRef .tc main_v124_2)) ⟨k, hk⟩ a h i e
    rw [ek, ev, hW.rk, hW.rv, ← EReal.coe_mul]
    exact congrArg _ (mul_comm _ _)
  ro := fun c a h i e hc => by
    rw [STEP_main_v124_6, step_out, hW.ctr]
    have ep := put5_apply (W (Proc.devRef .tc main_v124_6)) (interS (at5 (W (Proc.devRef .tc main_v124_0)) (ctrAt k)) (W (Proc.devRef .tc main_v124_5)))
      ⟨k, hk⟩ c a h i e
    rw [ep]
    by_cases h0 : c = ⟨k, hk⟩
    · subst h0
      rw [if_pos rfl]
      refine (interS_apply _ _ a h i e).trans ?_
      rw [coe_sum_fin]
      refine Finset.sum_congr rfl fun d _ => ?_
      have eq := at5_apply (W (Proc.devRef .tc main_v124_0)) ⟨k, hk⟩ a h i d
      rw [eq, hW.rq, hW.rs, ← EReal.coe_mul]
    · rw [if_neg h0]
      exact hW.ro c a h i e (by
        have : c.val ≠ k := fun q => h0 (Fin.ext q)
        omega)

theorem Inv.iterate {W : Valuation τ sig (Elt Ideal)} (hW : Inv Q K V L 0 W) : ∀ k, k ≤ 256 → Inv Q K V L k (STEP^[k] W)
  | 0, _ => hW
  | k + 1, h => by
    rw [Function.iterate_succ_apply']
    exact (Inv.iterate hW k (by omega)).step (by omega)

end Cert.HgrnRefIdeal.Ref

end
-- ==== Proof.Layer.RefOut.lean ====
/- The reference's operations after the loop read at an index: the two directions joined, each head normalised by its root
   mean square, and the gate. -/
module

public import proofs.«01_k».proof.Proof.Layer.RefLoop

@[expose] public section

set_option maxRecDepth 65536

noncomputable section

namespace Cert.HgrnRefIdeal.Ref

open Cert.HgrnRefIdeal Cert.HgrnRefIdeal.Gen Cert.Layer
open Idealize.ShloMosaic hiding ix1 ix2 ix3 ix4 ix5
open Idealize.ShloMosaic.ValueIdx

variable {o w : Arr S32x4x256x16x128} {O : Fam}

/-- Rows of the chunks put end to end. -/
theorem flat_apply (hx : CRep o fun a h c i e => O a h (16 * c.val + i) e) (a : Fin 32) (h : Fin 4) (t : Fin 4096) (e : Fin 128) :
    (shapeCast S32x4x4096x128 o shapeCasts_S32x4x256x16x128_S32x4x4096x128 (ix4 a h t e) : EReal) = ((O a h t.val e.val : ℝ) : EReal) := by
  rw [shapeCast_apply _ _ (ix4 a h t e) (ix5 a h (⟨t.val / 16, by omega⟩ : Fin 256) (⟨t.val % 16, by omega⟩ : Fin 16) e) (by
    rw [Shape.rowMajor_val_four, Shape.rowMajor_val_five]; simp [ix4, ix5]; omega), hx]
  show ((O a h (16 * (t.val / 16) + t.val % 16) e.val : ℝ) : EReal) = _
  rw [Nat.div_add_mod]

/-- An array reversed in time. -/
theorem reverse_rows (x : Arr S16x4x4096x128) (b : Fin 16) (h : Fin 4) (t : Fin 4096) (e : Fin 128) :
    Host.reverse [2] x (ix4 b h t e) = x (ix4 b h (⟨4095 - t.val, by omega⟩ : Fin 4096) e) := by
  rw [Host.reverse_apply]
  have ei : (Shape.Idx.norm fun z => if z ∈ ([2] : List (Fin 4)) then ((ix4 b h t e : S16x4x4096x128.Idx) z).rev
        else (ix4 b h t e : S16x4x4096x128.Idx) z : S16x4x4096x128.Idx)
      = ix4 b h (⟨4095 - t.val, by omega⟩ : Fin 4096) e := funext fun z => Fin.ext (by
    match z with
    | ⟨0, _⟩ => rfl
    | ⟨1, _⟩ => rfl
    | ⟨2, _⟩ => show 4096 - (t.val + 1) = 4095 - t.val; omega
    | ⟨3, _⟩ => rfl)
  exact congrArg x ei

/-- The two directions of a sequence added, the second read backwards. -/
theorem joinC_apply (hx : CRep (addf o w) fun a h c i e => O a h (16 * c.val + i) e) (b : Fin 16) (h : Fin 4) (t : Fin 4096) (e : Fin 128) :
    (joinC o w (ix4 b h t e) : EReal)
      = ((O ⟨b.val, by omega⟩ h t.val e.val + O ⟨16 + b.val, by omega⟩ h (4095 - t.val) e.val : ℝ) : EReal) := by
  have h1 : (extractStridedSlice S16x4x4096x128 ![0, 0, 0, 0] (shapeCast S32x4x4096x128 (addf o w) shapeCasts_S32x4x256x16x128_S32x4x4096x128)
      slices_S32x4x4096x128_S16x4x4096x128_0_0_0_0 (ix4 b h t e) : EReal) = ((O ⟨b.val, by omega⟩ h t.val e.val : ℝ) : EReal) :=
    (extractStridedSlice_apply _ _ _ _ (ix4 (⟨b.val, by omega⟩ : Fin 32) h t e) (fun y => by
      match y with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans (flat_apply hx _ h t e)
  have h2 : (Host.reverse [2] (extractStridedSlice S16x4x4096x128 ![16, 0, 0, 0] (shapeCast S32x4x4096x128 (addf o w) shapeCasts_S32x4x256x16x128_S32x4x4096x128)
      slices_S32x4x4096x128_S16x4x4096x128_16_0_0_0) (ix4 b h t e) : EReal) = ((O ⟨16 + b.val, by omega⟩ h (4095 - t.val) e.val : ℝ) : EReal) := by
    refine (reverse_rows _ b h t e).trans ?_
    exact (extractStridedSlice_apply _ _ _ _ (ix4 (⟨16 + b.val, by omega⟩ : Fin 32) h (⟨4095 - t.val, by omega⟩ : Fin 4096) e) (fun y => by
      match y with
      | ⟨0, _⟩ => rfl
      | ⟨1, _⟩ => exact (Nat.zero_add _).symm
      | ⟨2, _⟩ => exact (Nat.zero_add _).symm
      | ⟨3, _⟩ => exact (Nat.zero_add _).symm)).trans (flat_apply hx _ h _ e)
  unfold joinC
  refine (congrArg₂ (fun p q : EReal => p + q) h1 h2).trans ?_
  rw [← EReal.coe_add]

/-! ## The normalisation and the gate -/

variable {y : Arr S16x4x4096x128} {R : Fin 16 → ℕ → ℕ → ℕ → ℝ}

theorem reduces_last : S16x4x4096x128.Reduces [3] S16x4x4096 := by decide

theorem lift_last (b : Fin 16) (h : Fin 4) (t : Fin 4096) (k : Fin 128) : reduces_last.lift (ix3 b h t) k = ix4 b h t k := by
  funext z; apply Fin.ext
  match z with
  | ⟨0, _⟩ => rfl
  | ⟨1, _⟩ => rfl
  | ⟨2, _⟩ => rfl
  | ⟨3, _⟩ => rfl

theorem rootC_apply (hy : Rep4 y R) (b : Fin 16) (h : Fin 4) (t : Fin 4096) :
    (rootC y (ix4 b h t (0 : Fin 1)) : EReal) = Ideal.rsqrt (Ideal.div ((∑ k ∈ Finset.range 128, R b h.val t.val k * R b h.val t.val k : ℝ) : EReal) (Ideal.ofBits .f32 0x43000000#32)
      + Ideal.ofBits .f32 0x358637BD#32) := by
  have h1 : (broadcastInDim S16x4x4096x1 ![0, 1, 2] bcast_S16x4x4096_S16x4x4096x1_0_1_2
      (Host.reduceAdd (mulf y y) (constant S_ .f32 0x00000000#32) reducesTo_S16x4x4096x128_S16x4x4096_d3 h_S_) (ix4 b h t (0 : Fin 1)) : EReal)
      = ((∑ k ∈ Finset.range 128, R b h.val t.val k * R b h.val t.val k : ℝ) : EReal) := by
    refine (broadcastInDim_apply _ _ _ _ (ix3 b h t) (fun z => by
      match z with
      | ⟨0, _⟩ => rfl
      | ⟨1, _⟩ => rfl
      | ⟨2, _⟩ => rfl)).trans ?_
    refine (Ideal.hostReduceAdd_single _ reduces_last _ _ _).trans ?_
    show Ideal.ofBits .f32 0x00000000#32 + ∑ k : Fin 128, ((mulf y y) (reduces_last.lift (ix3 b h t) k) : EReal) = _
    rw [Ideal.ofBits_zero_f32, zero_add, coe_sum_fin]
    refine Finset.sum_congr rfl fun k _ => ?_
    rw [lift_last]
    show (y (ix4 b h t k) : EReal) * y (ix4 b h t k) = _
    rw [hy b h t k, ← EReal.coe_mul]
  show Ideal.rsqrt (Ideal.div (broadcastInDim S16x4x4096x1 ![0, 1, 2] bcast_S16x4x4096_S16x4x4096x1_0_1_2
      (Host.reduceAdd (mulf y y) (constant S_ .f32 0x00000000#32) reducesTo_S16x4x4096x128_S16x4x4096_d3 h_S_) (ix4 b h t (0 : Fin 1)) : EReal)
      (Ideal.ofBits .f32 0x43000000#32) + Ideal.ofBits .f32 0x358637BD#32) = _
  rw [h1]

theorem normC_apply (hy : Rep4 y R) (b : Fin 16) (t : Fin 4096) (j : Fin 512) :
    (normC y (ix3 b t j) : EReal) = ((R b (j.val / 128) t.val (j.val % 128) : ℝ) : EReal)
      * Ideal.rsqrt (Ideal.div ((∑ k ∈ Finset.range 128, R b (j.val / 128) t.val k * R b (j.val / 128) t.val k : ℝ) : EReal) (Ideal.ofBits .f32 0x43000000#32)
      + Ideal.ofBits .f32 0x358637BD#32) := by
  unfold normC
  rw [shapeCast_apply _ _ (ix3 b t j) (ix4 b t (⟨j.val / 128, by omega⟩ : Fin 4) (⟨j.val % 128, by omega⟩ : Fin 128)) (by
    rw [Shape.rowMajor_val_three, Shape.rowMajor_val_four]; simp [ix3, ix4]; omega)]
  refine (transpose_apply _ _ _ _ (ix4 b (⟨j.val / 128, by omega⟩ : Fin 4) t (⟨j.val % 128, by omega⟩ : Fin 128)) (fun z => by
    match z with
    | ⟨0, _⟩ => rfl
    | ⟨1, _⟩ => rfl
    | ⟨2, _⟩ => rfl
    | ⟨3, _⟩ => rfl)).trans ?_
  have hb := broadcastInDim_apply (t := S16x4x4096x128) ![0, 1, 2, 3] bcast_S16x4x4096x1_S16x4x4096x128_0_1_2_3 (rootC y)
    (ix4 b (⟨j.val / 128, by omega⟩ : Fin 4) t (⟨j.val % 128, by omega⟩ : Fin 128)) (ix4 b (⟨j.val / 128, by omega⟩ : Fin 4) t (0 : Fin 1)) (fun z => by
      match z with
      | ⟨0, _⟩ => rfl
      | ⟨1, _⟩ => rfl
      | ⟨2, _⟩ => rfl
      | ⟨3, _⟩ => rfl)
  show (y (ix4 b (⟨j.val / 128, by omega⟩ : Fin 4) t (⟨j.val % 128, by omega⟩ : Fin 128)) : EReal)
    * broadcastInDim S16x4x4096x128 ![0, 1, 2, 3] bcast_S16x4x4096x1_S16x4x4096x128_0_1_2_3 (rootC y)
    (ix4 b (⟨j.val / 128, by omega⟩ : Fin 4) t (⟨j.val % 128, by omega⟩ : Fin 128)) = _
  rw [hb, hy, rootC_apply hy]

theorem weight_apply (n : Arr S512) (b : Fin 16) (t : Fin 4096) (j : Fin 512) :
    (broadcastInDim S16x4096x512 ![0, 1, 2] bcast_S1x1x512_S16x4096x512_0_1_2 (broadcastInDim S1x1x512 ![2] bcast_S512_S1x1x512_2 n) (ix3 b t j) : EReal)
      = nrm n (j.val / 128) (j.val % 128) := by
  refine (broadcastInDim_apply _ _ _ _ (ix3 (0 : Fin 1) (0 : Fin 1) j) (fun z => by
    match z with
    | ⟨0, _⟩ => rfl
    | ⟨1, _⟩ => rfl
    | ⟨2, _⟩ => rfl)).trans ?_
  refine (broadcastInDim_apply _ _ _ _ (ix1 j) (fun z => by
    match z with
    | ⟨0, _⟩ => rfl)).trans ?_
  unfold nrm
  congr 2
  apply Fin.ext
  show j.val = (j.val / 128 * 128 + j.val % 128) % 512
  omega

theorem siluC_apply (g : Arr S16x4096x512) (i : S16x4096x512.Idx) : (siluC g i : EReal) = (g i : EReal) * Ideal.logistic (g i) := by
  show (g i : EReal) * Ideal.div (Ideal.ofBits .f32 0x3F800000#32) (Ideal.ofBits .f32 0x3F800000#32 + Ideal.exp (-(g i : EReal))) = _
  rw [one_word]; rfl

/-- The result at an index. -/
theorem resC_apply (hy : Rep4 y R) (n : Arr S512) (X : Arr S16x4096x3584) (b : Fin 16) (t : Fin 4096) (j : Fin 512) :
    (resC y n (cut4 X) (ix3 b t j) : EReal)
      = gated (R b (j.val / 128) t.val) (j.val % 128) (nrm n (j.val / 128) (j.val % 128)) (col X 4 (j.val / 128) b t.val (j.val % 128)) := by
  show (normC y (ix3 b t j) : EReal) * (broadcastInDim S16x4096x512 ![0, 1, 2] bcast_S1x1x512_S16x4096x512_0_1_2 (broadcastInDim S1x1x512 ![2] bcast_S512_S1x1x512_2 n) (ix3 b t j) : EReal)
    * (siluC (cut4 X) (ix3 b t j) : EReal) = _
  rw [normC_apply hy, weight_apply, siluC_apply, cut4_apply]
  rfl

end Cert.HgrnRefIdeal.Ref

end
-- ==== Proof.Layer.RefValue.lean ====
/- The reference's result: when the queries, the values and the logits are real it is the layer's result of the arguments. -/
module

public import proofs.«01_k».proof.Proof.Layer.RefKeep
public import proofs.«01_k».proof.Proof.Layer.RefOut

@[expose] public section

set_option maxRecDepth 65536

noncomputable section

namespace Cert.HgrnRefIdeal.Ref

open Cert.HgrnRefIdeal Cert.HgrnRefIdeal.Gen Cert.HgrnRefIdeal.Value Cert.Layer
open Idealize.ShloMosaic hiding ix1 ix2 ix3 ix4 ix5
open Idealize.ShloMosaic.TcCoe Idealize.ShloMosaic.StableHlo
open Idealize.ShloMosaic.ValueIdx

/-! ## The families -/

section Families
variable (X : Arr S16x4096x3584) (A : Arr S2x2x512)

/-- The queries, forward and backward. -/
abbrev famQ : Fam := stk (fun b h => colR X 0 h b) (fun b h => colR X 0 h b)
/-- The keys. -/
abbrev famK : Fam := stk (fun b h => kys (low A 0 h) (col X 1 h b)) (fun b h => kys (low A 1 h) (col X 2 h b))
/-- The values. -/
abbrev famV : Fam := stk (fun b h => colR X 3 h b) (fun b h => colR X 3 h b)
/-- The log gates. -/
abbrev famL : Fam := stk (fun b h => lgs (low A 0 h) (col X 1 h b)) (fun b h => lgs (low A 1 h) (col X 2 h b))
/-- The recurrences' rows. -/
abbrev famO : Fam := fun a h t e => att (famQ X a h) (famK X A a h) (famV X a h) (famL X A a h) t e

end Families

variable (E : Valuation τ sig (Elt Ideal))

/-- The buffers after the heads are cut and the gates and keys computed. -/
abbrev atHeads : Valuation τ sig (Elt Ideal) := after hostOps0_2 (afterL [hostOps0, hostOps0_1] E)
/-- The buffers after the two directions are stacked. -/
abbrev atStack : Valuation τ sig (Elt Ideal) := afterL stackI (atHeads E)

theorem preI_eq : afterL preI E = afterL chunkI (atStack E) := rfl

/-- The first argument. -/
abbrev aX : Arr S16x4096x3584 := E (Proc.devRef .tc main_arg0)
/-- The logits. -/
abbrev aL : Arr S2x2x512 := E (Proc.devRef .tc main_arg1)

variable {E} (hr : Real3 (aX E) (aL E))
include hr

theorem low_pos (dir : Fin 2) : ∀ h d, 0 < low (aL E) dir h d ∧ low (aL E) dir h d < 1 :=
  fun _ _ => ⟨sm_pos _ _, sm_lt _ _⟩

theorem stacked_q : SRep (atStack E (Proc.devRef .tc main_v95)) (famQ (aX E)) := by
  unfold atStack atHeads
  rw [read_stackQ, read_q, read_arg0]
  have h : Rep4 (heads (cut0 (aX E))) fun b h => colR (aX E) 0 h b := fun b h t d =>
    (ext_cut0 (aX E) b h t d).trans (hr.q h.val b t.val d.val h.isLt d.isLt)
  exact rep_stack h h

theorem stacked_v : SRep (atStack E (Proc.devRef .tc main_v97)) (famV (aX E)) := by
  unfold atStack atHeads
  rw [read_stackV, read_v, read_arg0]
  have h : Rep4 (heads (cut3 (aX E))) fun b h => colR (aX E) 3 h b := fun b h t d =>
    (ext_cut3 (aX E) b h t d).trans (hr.v h.val b t.val d.val h.isLt d.isLt)
  exact rep_stack h h

theorem stacked_k : SRep (atStack E (Proc.devRef .tc main_v96)) (famK (aX E) (aL E)) := by
  unfold atStack atHeads
  rw [read_stackK, read_keyF, read_keyB, read_arg0, read_floor]
  exact rep_stack (rep_key (rep_floorF hr.l) (ext_cut1 (aX E))) (rep_key (rep_floorB hr.l) (ext_cut2 (aX E)))

theorem stacked_l : SRep (atStack E (Proc.devRef .tc main_v98)) (famL (aX E) (aL E)) := by
  unfold atStack atHeads
  rw [read_stackG, read_gateF, read_gateB, read_arg0, read_floor]
  exact rep_stack (rep_gate (rep_floorF hr.l) (low_pos hr 0) (ext_cut1 (aX E))) (rep_gate (rep_floorB hr.l) (low_pos hr 1) (ext_cut2 (aX E)))

/-! ## The loop -/

theorem entry_inv : Inv (famQ (aX E)) (famK (aX E) (aL E)) (famV (aX E)) (famL (aX E) (aL E)) 0 (afterL chunkI (atStack E)) where
  ctr := read_c4 (atStack E)
  rq := fun c a h i d => by
    rw [read_c0, chunkFirst_apply]
    exact rep_queryExp (stacked_q hr) (rep_run (stacked_l hr)) a h c i d
  rk := fun c a h i d => by
    rw [read_c1, chunkFirst_apply]
    exact rep_keyRel (stacked_k hr) (rep_run (stacked_l hr)) a h c i d
  rv := fun c a h i d => by
    rw [read_c2, chunkFirst_apply]
    exact stacked_v hr a h c i d
  rw := fun c a h d => by
    rw [read_c3]
    exact decay_apply (rep_run (stacked_l hr)) c a h d
  rs := fun a h d e => by
    rw [read_c5, stt_zero]
    exact Ideal.ofBits_zero_f32
  ro := fun c a h i e hc => absurd hc (Nat.not_lt_zero _)

theorem entry_intra : CRep (afterL chunkI (atStack E) (Proc.devRef .tc main_v113)) fun a h c i e =>
    ∑ s ∈ Finset.range 16, if s ≤ i then sco (sh (famQ (aX E) a h) (16 * c.val)) (sh (famK (aX E) (aL E) a h) (16 * c.val)) (run (famL (aX E) (aL E)) a h c) i s
      * sh (famV (aX E) a h) (16 * c.val) s e else 0 := by
  rw [read_intra]
  exact rep_intra (stacked_q hr) (stacked_k hr) (stacked_v hr) (rep_run (stacked_l hr))

theorem entry_gate : afterL chunkI (atStack E) (Proc.devRef .tc main_v18) = cut4 (aX E) := by
  unfold atStack atHeads
  rw [keep_chunk_v18, keep_stack_v18, read_g, read_arg0]

omit hr in
/-- The chunks moved back behind the sequences. -/
theorem back_apply (x : Arr S256x32x4x16x128) (a : Fin 32) (h : Fin 4) (c : Fin 256) (i : Fin 16) (e : Fin 128) :
    transpose S32x4x256x16x128 [1, 2, 0, 3, 4] x transposes_S256x32x4x16x128_S32x4x256x16x128_1_2_0_3_4 (ix5 a h c i e) = x (ix5 c a h i e) :=
  transpose_apply _ x _ _ _ (fun y => by
    match y with
    | ⟨0, _⟩ => rfl
    | ⟨1, _⟩ => rfl
    | ⟨2, _⟩ => rfl
    | ⟨3, _⟩ => rfl
    | ⟨4, _⟩ => rfl)

/-- The chunks' rows after the loop. -/
theorem rows_rep {o : Arr S32x4x256x16x128} {W : Valuation τ sig (Elt Ideal)}
    (ho : o = afterL chunkI (atStack E) (Proc.devRef .tc main_v113))
    (hW : Inv (famQ (aX E)) (famK (aX E) (aL E)) (famV (aX E)) (famL (aX E) (aL E)) 256 W) :
    CRep (addf o (transpose S32x4x256x16x128 [1, 2, 0, 3, 4] (W (Proc.devRef .tc main_v124_6)) transposes_S256x32x4x16x128_S32x4x256x16x128_1_2_0_3_4))
      fun a h c i e => famO (aX E) (aL E) a h (16 * c.val + i) e := fun a h c i e => by
  have h1 := (congrFun ho (ix5 a h c i e)).trans (entry_intra hr a h c i e)
  have h2 := (back_apply (W (Proc.devRef .tc main_v124_6)) a h c i e).trans (hW.ro c a h i e c.isLt)
  refine (congrArg₂ (fun p q : EReal => p + q) h1 h2).trans ?_
  rw [← EReal.coe_add]
  refine congrArg (fun r : ℝ => (r : EReal)) ?_
  rw [add_comm]
  exact (att_step (famQ (aX E) a h) (famK (aX E) (aL E) a h) (famV (aX E) a h) (famL (aX E) (aL E) a h) (16 * c.val) 16 i.val e.val i.isLt).symm

omit hr in
theorem famO_fwd (X : Arr S16x4096x3584) (A : Arr S2x2x512) (b : Fin 16) (h : Fin 4) (t e : ℕ) :
    famO X A ⟨b.val, by omega⟩ h t e = recF X A h.val b t e := by
  unfold famO famQ famK famV famL stk recF
  simp only [dif_pos b.isLt]

omit hr in
theorem famO_bwd (X : Arr S16x4096x3584) (A : Arr S2x2x512) (b : Fin 16) (h : Fin 4) (t e : ℕ) :
    famO X A ⟨16 + b.val, by omega⟩ h (4095 - t) e = recB X A h.val b t e := by
  have hb : ¬ (16 + b.val < 16) := by omega
  have hf : (⟨16 + b.val - 16, by omega⟩ : Fin 16) = b := Fin.ext (Nat.add_sub_cancel_left 16 b.val)
  unfold famO famQ famK famV famL stk recB
  simp only [dif_neg hb, hf]

end Cert.HgrnRefIdeal.Ref

namespace Cert.HgrnRefIdeal.Ref

open Cert.HgrnRefIdeal Cert.HgrnRefIdeal.Gen Cert.HgrnRefIdeal.Value Cert.Layer
open Idealize.ShloMosaic hiding ix1 ix2 ix3 ix4 ix5
open Idealize.ShloMosaic.TcCoe Idealize.ShloMosaic.StableHlo
open Idealize.ShloMosaic.ValueIdx

variable (m : (ℓ : Loc nD τ sig) → Buf (Elt Ideal) ℓ) (c : Dev nD)

/-- The first argument's contents at the start. -/
abbrev argX : Arr S16x4096x3584 := m (c.tc.loc main_arg0)
/-- The logits at the start. -/
abbrev argL : Arr S2x2x512 := m (c.tc.loc main_arg1)
/-- The norm's weights at the start. -/
abbrev argN : Arr S512 := m (c.tc.loc main_arg2)

/-- The output buffer after the loop. -/
theorem afterLoop_out : afterLoop m c (Proc.devRef .tc main_v124_6) = (STEP^[256] (entryContents preI m c)) (Proc.devRef .tc main_v124_6) :=
  (test_out _).trans (atK_agree m c 256 main_v124_6 (by decide))

/-- The reference's result. -/
theorem result (hr : Real3 (argX m c) (argL m c)) :
    finalContents condOps preI bodyI postI 256 m c (Proc.devRef .tc main_v148) = layer (argX m c) (argL m c) (argN m c) := by
  have hr' : Real3 (aX (launchContents m c)) (aL (launchContents m c)) := hr
  have hI := (entry_inv hr').iterate 256 le_rfl
  have h113 := afterLoop_keeps m keeps_v113 test_v113 c
  have h18 : afterLoop m c (Proc.devRef .tc main_v18) = cut4 (argX m c) :=
    (afterLoop_keeps m keeps_v18 test_v18 c).trans (entry_gate hr')
  have hN : afterLoop m c (Proc.devRef .tc main_arg2) = argN m c :=
    (afterLoop_keeps m keeps_arg2 test_arg2 c).trans (pre_arg2 (launchContents m c))
  refine (read_res (afterLoop m c)).trans ?_
  rw [h18, hN, afterLoop_out]
  have hx := rows_rep hr' h113 hI
  have hy : Rep4 (joinC (afterLoop m c (Proc.devRef .tc main_v113))
      (transpose S32x4x256x16x128 [1, 2, 0, 3, 4] ((STEP^[256] (entryContents preI m c)) (Proc.devRef .tc main_v124_6)) transposes_S256x32x4x16x128_S32x4x256x16x128_1_2_0_3_4))
      fun b h t e => recF (argX m c) (argL m c) h b t e + recB (argX m c) (argL m c) h b t e := fun b h t e =>
    (joinC_apply hx b h t e).trans (by rw [famO_fwd, famO_bwd])
  funext i
  have hi : i = ix3 (i 0) (i 1) (i 2) := by
    funext z
    match z with
    | ⟨0, _⟩ => rfl
    | ⟨1, _⟩ => rfl
    | ⟨2, _⟩ => rfl
  refine (congrArg _ hi).trans ?_
  exact resC_apply hy (argN m c) (argX m c) (i 0) (i 1) (i 2)

end Cert.HgrnRefIdeal.Ref

end
-- ==== Proof.Layer.MixSpec.lean ====
/- The gated spatial mixing and the output product as a function of the ten argument arrays: the gated half's values are normalised
   group by group, mixed along each chunk of 128 tokens, multiplied by the gate, set beside the recurrence's output, multiplied with
   the output weights, added to the residual, and normalised. -/
module

public import Idealize.ShloMosaic.Lib.MatmulPlain
public import Idealize.ShloMosaic.Lib.ValueLayoutCasts

@[expose] public section

noncomputable section

namespace Cert.Mixing

open Idealize.ShloMosaic
open Idealize.ShloMosaic.ValueIdx

/-- The gated linear unit's tanh form, at a number. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The layer norm of a row at a column, with that column's weight and bias; `w` is the row's length as a number. -/
def lnorm {n : ℕ} (w : EReal) (f : Fin n → EReal) (g b : EReal) (j : Fin n) : EReal :=
  (f j - Ideal.div (∑ k, f k) w)
    * Ideal.rsqrt (Ideal.div (∑ k, (f k - Ideal.div (∑ k, f k) w) * (f k - Ideal.div (∑ k, f k) w)) w + Ideal.ofBits .f32 0x3727C5AC#32)
    * g + b

abbrev Rows (n : ℕ) := FVec Ideal ⟨3, ![16, 4096, n]⟩ .f32

variable (Y : Rows 512) (P : Rows 3584) (X : Rows 1024) (LG LB : FVec Ideal ⟨2, ![4, 128]⟩ .f32)
  (W : FVec Ideal ⟨3, ![4, 128, 128]⟩ .f32) (BS : FVec Ideal ⟨2, ![4, 128]⟩ .f32) (WO : FVec Ideal ⟨2, ![1024, 1024]⟩ .f32)
  (G B : FVec Ideal ⟨1, ![1024]⟩ .f32)

/-- The value at token `s`, group `g` and column `c`, through the unit. -/
def val (b : Fin 16) (s : Fin 4096) (g : Fin 4) (c : Fin 128) : EReal :=
  gelu (P (ix3 b s (⟨3072 + (128 * g.val + c.val), by omega⟩ : Fin 3584)))

/-- Token `q` of chunk `n`. -/
def tok (n : Fin 32) (q : Fin 128) : Fin 4096 := ⟨128 * n.val + q.val, by omega⟩

/-- The normalised value mixed along chunk `n`, at token `p` of it. -/
def mixed (b : Fin 16) (n : Fin 32) (p : Fin 128) (g : Fin 4) (c : Fin 128) : EReal :=
  (∑ q : Fin 128, (W (ix3 g p q) : EReal)
    * lnorm (Ideal.ofBits .f32 0x43000000#32) (val P b (tok n q) g) (LG (ix2 g c)) (LB (ix2 g c)) c) + (BS (ix2 g p) : EReal)

/-- The gated half of the mixed row. -/
def gatedHalf (b : Fin 16) (n : Fin 32) (p : Fin 128) (g : Fin 4) (c : Fin 128) : EReal :=
  gelu (P (ix3 b (tok n p) (⟨2560 + (128 * g.val + c.val), by omega⟩ : Fin 3584))) * mixed P LG LB W BS b n p g c

/-- The whole row: the recurrence's output, then the gated half. -/
def wide (b : Fin 16) (s : Fin 4096) (k : Fin 1024) : EReal :=
  if h : k.val < 512 then Y (ix3 b s (⟨k.val, h⟩ : Fin 512))
  else gatedHalf P LG LB W BS b ⟨s.val / 128, by omega⟩ ⟨s.val % 128, Nat.mod_lt _ (by decide)⟩
    ⟨(k.val - 512) / 128, by omega⟩ ⟨(k.val - 512) % 128, Nat.mod_lt _ (by decide)⟩

/-- The residual stream before its norm. -/
def stream (b : Fin 16) (s : Fin 4096) (d : Fin 1024) : EReal :=
  Ideal.ofBits .f32 0x3F9837F0#32 * (X (ix3 b s d) : EReal) + ∑ k : Fin 1024, wide Y P LG LB W BS b s k * (WO (ix2 k d) : EReal)

/-- The call's result. -/
def out : Rows 1024 := fun i =>
  lnorm (Ideal.ofBits .f32 0x44800000#32) (stream Y P X LG LB W BS WO (i 0) (i 1)) (G (ix1 (i 2))) (B (ix1 (i 2))) (i 2)

/-! ## The norm as a block computes it -/

section Block

variable {M N : ℕ} (w : Ideal .f32) (x : FVec Ideal ⟨2, ![M, N]⟩ .f32) (hr : (⟨2, ![M, N]⟩ : Shape).Reduces [1] ⟨1, ![M]⟩)
  (hc : (⟨1, ![M]⟩ : Shape).ShapeCasts ⟨2, ![M, 1]⟩) (hb : (⟨2, ![M, 1]⟩ : Shape).Broadcasts ⟨2, ![M, N]⟩)
  (hg : (⟨2, ![1, N]⟩ : Shape).Broadcasts ⟨2, ![M, N]⟩)

/-- The row means, as a column. -/
def means : FVec Ideal ⟨2, ![M, 1]⟩ .f32 :=
  divf (shapeCast ⟨2, ![M, 1]⟩ (multiReduction .add [1] ⟨1, ![M]⟩ x 0x00000000#32 hr (.inl rfl) rfl) hc) (broadcast ⟨2, ![M, 1]⟩ w)

theorem means_apply (i : Fin M) (u : Fin 1) : (means w x hr hc (ix2 i u) : EReal) = Ideal.div (∑ k : Fin N, (x (ix2 i k) : EReal)) w := by
  refine congrArg (fun z => Ideal.div z w) ((shapeCast_a_a1_apply (a := M) _ hc i u).trans
    ((Ideal.multiReduction_add_single _ _ _ _ _ _).trans (Finset.sum_congr rfl fun k _ => congrArg x (funext fun a => ?_))))
  match a with
  | ⟨0, _⟩ => rfl
  | ⟨1, _⟩ => rfl

theorem col_apply (y : FVec Ideal ⟨2, ![M, 1]⟩ .f32) (i : Fin M) (j : Fin N) (hM : M ≠ 1) :
    (broadcastTo ⟨2, ![M, N]⟩ y hb (ix2 i j) : EReal) = y (ix2 i (0 : Fin 1)) :=
  broadcastTo_apply _ _ _ (ix2 i (0 : Fin 1)) (fun a => by
    match a with
    | ⟨0, _⟩ => exact (if_neg hM).symm
    | ⟨1, _⟩ => rfl)

theorem row_apply (y : FVec Ideal ⟨2, ![1, N]⟩ .f32) (i : Fin M) (j : Fin N) (hN : N ≠ 1) :
    (broadcastTo ⟨2, ![M, N]⟩ y hg (ix2 i j) : EReal) = y (ix2 (0 : Fin 1) j) :=
  broadcastTo_apply _ _ _ (ix2 (0 : Fin 1) j) (fun a => by
    match a with
    | ⟨0, _⟩ => rfl
    | ⟨1, _⟩ => exact (if_neg hN).symm)

/-- The layer norm of a block's rows. -/
def norm (g b : FVec Ideal ⟨2, ![1, N]⟩ .f32) : FVec Ideal ⟨2, ![M, N]⟩ .f32 :=
  addf (mulf (mulf (subf x (broadcastTo ⟨2, ![M, N]⟩ (means w x hr hc) hb))
    (broadcastTo ⟨2, ![M, N]⟩ (rsqrt (addf (means w (mulf (subf x (broadcastTo ⟨2, ![M, N]⟩ (means w x hr hc) hb))
      (subf x (broadcastTo ⟨2, ![M, N]⟩ (means w x hr hc) hb))) hr hc)
      (broadcast ⟨2, ![M, 1]⟩ (Scalar.ofBits .f32 0x3727C5AC#32 : Ideal .f32)))) hb))
    (broadcastTo ⟨2, ![M, N]⟩ g hg)) (broadcastTo ⟨2, ![M, N]⟩ b hg)

theorem norm_apply (g b : FVec Ideal ⟨2, ![1, N]⟩ .f32) (hM : M ≠ 1) (hN : N ≠ 1) (i : Fin M) (j : Fin N) :
    (norm w x hr hc hb hg g b (ix2 i j) : EReal)
      = lnorm w (fun k => x (ix2 i k)) (g (ix2 (0 : Fin 1) j)) (b (ix2 (0 : Fin 1) j)) j := by
  have hd : ∀ k : Fin N, (subf x (broadcastTo ⟨2, ![M, N]⟩ (means w x hr hc) hb) (ix2 i k) : EReal)
      = x (ix2 i k) - Ideal.div (∑ k : Fin N, (x (ix2 i k) : EReal)) w := fun k =>
    congrArg (fun z => (x (ix2 i k) : EReal) - z) ((col_apply hb _ i k hM).trans (means_apply w x hr hc i 0))
  unfold norm lnorm
  refine congrArg₂ (· + ·) (congrArg₂ (· * ·) (congrArg₂ (· * ·) (hd j) ?_) (row_apply hg g i j hN)) (row_apply hg b i j hN)
  refine (col_apply hb _ i j hM).trans (congrArg (fun z => Ideal.rsqrt (z + _)) ((means_apply w _ hr hc i 0).trans ?_))
  exact congrArg (fun z => Ideal.div z w) (Finset.sum_congr rfl fun k _ => congrArg₂ (· * ·) (hd k) (hd k))

end Block

end Cert.Mixing

end
-- ==== Proof.Layer.MixPiece.lean ====
/- The mix call's body, one piece and one block at a time: the 128 × 128 piece of the gated half that the body stores for a chunk and
   a group, and the output block from the row of pieces. -/
module

public import proofs.«01_k».proof.Proof.Gen.MixIdeal.Value
public import proofs.«01_k».proof.Proof.Layer.MixSpec

@[expose] public section

noncomputable section

namespace Cert.MixIdeal.Body

open Cert.MixIdeal Cert.MixIdeal.Gen Cert.Mixing
open Idealize.ShloMosaic
open Idealize.ShloMosaic.ValueIdx

/-- The piece of the gated half of one chunk and group, from its value block, gate block, norm rows, mixing matrix and bias. -/
def piece (v u : Vec Ideal S1x128x128 .f32) (lg lb : Vec Ideal S1x128 .f32) (w : Vec Ideal S1x128x128 .bf16)
    (bs : Vec Ideal S1x128x128 .f32) : FVec Ideal S128x128 .bf16 :=
  k0_pay7 (k0_pay3 lg) (k0_pay4 lb) (k0_pay5 v) (k0_pay6 v) (Scalar.ofBits .f32 0x3727C5AC#32) w bs u

/-- A block through the unit. -/
def unit (v : Vec Ideal S1x128x128 .f32) : FVec Ideal S128x128 .f32 :=
  mulf (shapeCast S128x128 v shapeCasts_S1x128x128_S128x128 : FVec Ideal S128x128 .f32)
    (mulf (broadcast S128x128 (Scalar.ofBits .f32 0x3F000000#32 : Ideal .f32))
      (addf (broadcast S128x128 (Scalar.ofBits .f32 0x3F800000#32 : Ideal .f32))
        (tanh (mulf (broadcast S128x128 (Scalar.ofBits .f32 0x3F4C422A#32 : Ideal .f32))
          (addf (shapeCast S128x128 v shapeCasts_S1x128x128_S128x128 : FVec Ideal S128x128 .f32)
            (mulf (broadcast S128x128 (Scalar.ofBits .f32 0x3D372713#32 : Ideal .f32))
              (mulf (shapeCast S128x128 v shapeCasts_S1x128x128_S128x128 : FVec Ideal S128x128 .f32)
                (mulf (shapeCast S128x128 v shapeCasts_S1x128x128_S128x128 : FVec Ideal S128x128 .f32)
                  (shapeCast S128x128 v shapeCasts_S1x128x128_S128x128 : FVec Ideal S128x128 .f32)))))))))

theorem unit_apply (v : Vec Ideal S1x128x128 .f32) (p c : Fin 128) : (unit v (ix2 p c) : EReal) = gelu (v (ix3 (0 : Fin 1) p c)) :=
  congrArg gelu (shapeCast_1ab_ab_apply v shapeCasts_S1x128x128_S128x128 p c)

/-- The piece, read at a token of the chunk and a column of the group. -/
theorem piece_apply (v u : Vec Ideal S1x128x128 .f32) (lg lb : Vec Ideal S1x128 .f32) (w : Vec Ideal S1x128x128 .bf16)
    (bs : Vec Ideal S1x128x128 .f32) (p c : Fin 128) :
    (piece v u lg lb w bs (ix2 p c) : EReal) = gelu (u (ix3 (0 : Fin 1) p c))
      * ((∑ q : Fin 128, (w (ix3 (0 : Fin 1) p q) : EReal)
          * lnorm (Ideal.ofBits .f32 0x43000000#32) (fun k => gelu (v (ix3 (0 : Fin 1) q k))) (lg (ix2 (0 : Fin 1) c))
            (lb (ix2 (0 : Fin 1) c)) c) + (bs (ix3 (0 : Fin 1) p c) : EReal)) := by
  have hp : piece v u lg lb w bs = shapeCast S128x128 (truncf .bf16 (mulf (unit u)
      (addf (matmul dot_S128x128_S128x128_S128x128_1_0_0_1_n_n none (shapeCast S128x128 w shapeCasts_S1x128x128_S128x128)
        (truncf .bf16 (norm (M := 128) (N := 128) (Scalar.ofBits .f32 0x43000000#32) (unit v) reduces_S128x128_S128 shapeCasts_S128_S128x1
          broadcasts_S128x1_S128x128 broadcasts_S1x128_S128x128 (shapeCast S1x128 lg shapeCasts_S1x128_S1x128)
          (shapeCast S1x128 lb shapeCasts_S1x128_S1x128)) bitsLt_bf16_f32) (constant S128x128 .f32 0x00000000#32))
        (shapeCast S128x128 bs shapeCasts_S1x128x128_S128x128 : FVec Ideal S128x128 .f32))) bitsLt_bf16_f32)
      shapeCasts_S128x128_S128x128 := rfl
  rw [hp, shapeCast_self, shapeCast_self, shapeCast_self]
  refine congrArg₂ (· * ·) (unit_apply u p c) (congrArg₂ (· + ·) ?_ (shapeCast_1ab_ab_apply bs shapeCasts_S1x128x128_S128x128 p c))
  refine (Ideal.matmul_plain_apply (M := 128) (K := 128) (N := 128) (φ₁ := .bf16) (φ₂ := .bf16) none _ _ _ p c).trans ?_
  refine (congrArg (· + _) Idealize.ShloMosaic.Ideal.ofBits_zero_f32).trans ((zero_add _).trans ?_)
  refine Finset.sum_congr rfl fun q _ => congrArg₂ (· * ·) (shapeCast_1ab_ab_apply w shapeCasts_S1x128x128_S128x128 p q) ?_
  refine (norm_apply (M := 128) (N := 128) _ _ reduces_S128x128_S128 shapeCasts_S128_S128x1 broadcasts_S128x1_S128x128
    broadcasts_S1x128_S128x128 lg lb (by decide) (by decide) q c).trans ?_
  exact congrArg (fun f => lnorm _ f _ _ c) (funext fun k => unit_apply v q k)

/-- The output block from the wide rows, the output weights, the residual and the norm's weights. -/
def block (y : Vec Ideal S512x1024 .bf16) (wo : Vec Ideal S1024x1024 .bf16) (x : Vec Ideal S1x512x1024 .f32)
    (g b : Vec Ideal S1x1024 .f32) : FVec Ideal S1x512x1024 .f32 :=
  k0_pay1 (k0_pay80 (k0_pay78 y wo x) (k0_pay79 g) b)

theorem block_apply (y : Vec Ideal S512x1024 .bf16) (wo : Vec Ideal S1024x1024 .bf16) (x : Vec Ideal S1x512x1024 .f32)
    (g b : Vec Ideal S1x1024 .f32) (r : Fin 512) (d : Fin 1024) :
    (block y wo x g b (ix3 (0 : Fin 1) r d) : EReal) = lnorm (Ideal.ofBits .f32 0x44800000#32)
      (fun d => Ideal.ofBits .f32 0x3F9837F0#32 * (x (ix3 (0 : Fin 1) r d) : EReal)
        + ∑ k : Fin 1024, (y (ix2 r k) : EReal) * (wo (ix2 k d) : EReal))
      (g (ix2 (0 : Fin 1) d)) (b (ix2 (0 : Fin 1) d)) d := by
  have hs : ∀ d : Fin 1024, (k0_pay78 y wo x (ix2 r d) : EReal) = Ideal.ofBits .f32 0x3F9837F0#32 * (x (ix3 (0 : Fin 1) r d) : EReal)
      + ∑ k : Fin 1024, (y (ix2 r k) : EReal) * (wo (ix2 k d) : EReal) := fun d => by
    refine congrArg₂ (· + ·) (congrArg (_ * ·) (shapeCast_1ab_ab_apply x shapeCasts_S1x512x1024_S512x1024 r d)) ?_
    refine (Ideal.matmul_plain_apply (M := 512) (K := 1024) (N := 1024) (φ₁ := .bf16) (φ₂ := .bf16) none _ _ _ r d).trans ?_
    refine (congrArg (· + _) Idealize.ShloMosaic.Ideal.ofBits_zero_f32).trans ((zero_add _).trans ?_)
    rw [shapeCast_self]
  refine (shapeCast_ab_1ab_apply (k0_pay80 (k0_pay78 y wo x) (k0_pay79 g) b) shapeCasts_S512x1024_S1x512x1024 0 r d).trans ?_
  have hn : k0_pay80 (k0_pay78 y wo x) (k0_pay79 g) b = norm (M := 512) (N := 1024) (Scalar.ofBits .f32 0x44800000#32) (k0_pay78 y wo x)
      reduces_S512x1024_S512 shapeCasts_S512_S512x1 broadcasts_S512x1_S512x1024 broadcasts_S1x1024_S512x1024
      (shapeCast S1x1024 g shapeCasts_S1x1024_S1x1024) (shapeCast S1x1024 b shapeCasts_S1x1024_S1x1024) := rfl
  rw [hn, shapeCast_self, shapeCast_self]
  refine (norm_apply (M := 512) (N := 1024) _ _ reduces_S512x1024_S512 shapeCasts_S512_S512x1 broadcasts_S512x1_S512x1024
    broadcasts_S1x1024_S512x1024 g b (by decide) (by decide) r d).trans ?_
  exact congrArg (fun f => lnorm _ f _ _ d) (funext hs)

end Cert.MixIdeal.Body

end
-- ==== Proof.Layer.MixRow.lean ====
/- The row buffer of the mix call's body: the recurrence's rows in its left half, and the sixteen pieces in its right half, each at its
   chunk's rows and its group's columns. -/
module

public import proofs.«01_k».proof.Proof.Layer.MixPiece
public import Idealize.ShloMosaic.Lib.Pipeline.ValueKit.Tiles

@[expose] public section

set_option maxRecDepth 16384

noncomputable section

namespace Cert.MixIdeal.Body

open Cert.MixIdeal Cert.MixIdeal.Gen Cert.Mixing
open Idealize.ShloMosaic Idealize.ShloMosaic.TcCoe
open Idealize.ShloMosaic.ValueIdx

/-- The rectangle of the row buffer that holds the piece of chunk `n` and group `g`. -/
abbrev prect (n g : Fin 4) : Rect S512x1024 :=
  Rect.unit (s := S512x1024) ![128 * n.val, 512 + 128 * g.val] S128x128.size (fun a => by
    match a with
    | ⟨0, _⟩ => show 128 * n.val + 128 ≤ 512; omega
    | ⟨1, _⟩ => show 512 + 128 * g.val + 128 ≤ 1024; omega)

/-- The rectangle of a block of token rows at chunk `n` and group `g`. -/
abbrev trect (n g : Fin 4) : Rect S1x512x512 :=
  Rect.unit (s := S1x512x512) ![0, 128 * n.val, 128 * g.val] S1x128x128.size (fun a => by
    match a with
    | ⟨0, _⟩ => exact le_refl 1
    | ⟨1, _⟩ => show 128 * n.val + 128 ≤ 512; omega
    | ⟨2, _⟩ => show 128 * g.val + 128 ≤ 512; omega)

/-- The group's columns of a norm row. -/
abbrev lrect (g : Fin 4) : Rect S1x512 :=
  Rect.unit (s := S1x512) ![0, 128 * g.val] S1x128.size (fun a => by
    match a with
    | ⟨0, _⟩ => exact le_refl 1
    | ⟨1, _⟩ => show 128 * g.val + 128 ≤ 512; omega)

/-- The group's matrix. -/
abbrev wrect (g : Fin 4) : Rect S4x128x128 :=
  Rect.unit (s := S4x128x128) ![g.val, 0, 0] S1x128x128.size (fun a => by
    match a with
    | ⟨0, _⟩ => show g.val + 1 ≤ 4; omega
    | ⟨1, _⟩ => exact le_refl 128
    | ⟨2, _⟩ => exact le_refl 128)

/-- The piece of chunk `n` and group `g`, from the whole blocks. -/
def pieceAt (x1 x2 : Vec Ideal S1x512x512 .f32) (x4 x5 : Vec Ideal S1x512 .f32) (x6 : Vec Ideal S4x128x128 .bf16)
    (x7 : Vec Ideal S4x128x128 .f32) (n g : Fin 4) : FVec Ideal S128x128 .bf16 :=
  piece (View.ld x2 (trect n g)) (View.ld x1 (trect n g)) (View.ld x4 (lrect g)) (View.ld x5 (lrect g)) (View.ld x6 (wrect g))
    (View.ld x7 (wrect g))

/-- The chunks and groups, last stored first. -/
def order : List (Fin 4 × Fin 4) :=
  [(3, 3), (3, 2), (3, 1), (3, 0), (2, 3), (2, 2), (2, 1), (2, 0), (1, 3), (1, 2), (1, 1), (1, 0), (0, 3), (0, 2), (0, 1), (0, 0)]

/-- Pieces at their rectangles. -/
def placed (f : Fin 4 → Fin 4 → FVec Ideal S128x128 .bf16) (l : List (Fin 4 × Fin 4)) : List (View.Piece (Elt Ideal) S512x1024 .bf16) :=
  l.map fun q => ⟨prect q.1 q.2, f q.1 q.2⟩

/-- The left half of the row buffer. -/
abbrev yrect : Rect S512x1024 := Rect.unit (s := S512x1024) ![0, 0] S512x512.size inb_S512x1024_S512x512_0_0

/-- The recurrence's rows as the body stores them. -/
def rows (x0 : Vec Ideal S1x512x512 .f32) : FVec Ideal S512x512 .bf16 :=
  k0_pay2 (View.ld x0 (Rect.unit (s := S1x512x512) ![0, 0, 0] S1x512x512.size inb_S1x512x512_S1x512x512_0_0_0))

theorem rows_apply (x0 : Vec Ideal S1x512x512 .f32) (r k : Fin 512) : (rows x0 (ix2 r k) : EReal) = x0 (ix3 (0 : Fin 1) r k) := by
  unfold rows k0_pay2
  rw [View.ld_unit_zero (by decide)]
  refine (congrFun (shapeCast_self _ _) _).trans ?_
  exact shapeCast_1ab_ab_apply x0 shapeCasts_S1x512x512_S512x512 r k

/-- The recurrence's rows at the left half. -/
def left (x0 : Vec Ideal S1x512x512 .f32) : View.Piece (Elt Ideal) S512x1024 .bf16 :=
  ⟨yrect, rows x0⟩

/-- What the body's stores leave in the row buffer, last first. -/
def stored (x0 x1 x2 : Vec Ideal S1x512x512 .f32) (x4 x5 : Vec Ideal S1x512 .f32) (x6 : Vec Ideal S4x128x128 .bf16)
    (x7 : Vec Ideal S4x128x128 .f32) : List (View.Piece (Elt Ideal) S512x1024 .bf16) :=
  placed (pieceAt x1 x2 x4 x5 x6 x7) order ++ [left x0]

section

variable (f : Fin 4 → Fin 4 → FVec Ideal S128x128 .bf16) (T : List (View.Piece (Elt Ideal) S512x1024 .bf16))

theorem not_mem_prect (n g : Fin 4) (y : S512x1024.Idx)
    (h : ¬(128 * n.val ≤ (y 0).val ∧ (y 0).val < 128 * n.val + 128 ∧ 512 + 128 * g.val ≤ (y 1).val ∧ (y 1).val < 512 + 128 * g.val + 128)) :
    y ∉ (prect n g).set := fun hm => h (by
  have hm := Rect.mem_set_unit.mp hm
  have h0 : 128 * n.val ≤ (y 0).val ∧ (y 0).val < 128 * n.val + 128 := hm 0
  have h1 : 512 + 128 * g.val ≤ (y 1).val ∧ (y 1).val < 512 + 128 * g.val + 128 := hm 1
  exact ⟨h0.1, h0.2, h1.1, h1.2⟩)

/-- A piece at the head of the list. -/
theorem placed_cons (q : Fin 4 × Fin 4) (l : List (Fin 4 × Fin 4)) :
    placed f (q :: l) ++ T = (⟨prect q.1 q.2, f q.1 q.2⟩ : View.Piece (Elt Ideal) S512x1024 .bf16) :: (placed f l ++ T) := rfl

/-- Off the right half the pieces are not seen. -/
theorem canon_left (y : S512x1024.Idx) (hy : (y 1).val < 512) (l : List (Fin 4 × Fin 4)) :
    View.canon (placed f l ++ T) y = View.canon T y := by
  induction l with
  | nil => rfl
  | cons q l ih =>
    rw [placed_cons, View.canon_cons_of_not_mem, ih]
    exact not_mem_prect q.1 q.2 y (by omega)

/-- On the rectangle of a listed chunk and group, that piece is seen. -/
theorem canon_right (n g : Fin 4) (z : (prect n g).shape.Idx) (l : List (Fin 4 × Fin 4)) (h : (n, g) ∈ l) :
    View.canon (placed f l ++ T) ((prect n g).emb z) = f n g z := by
  induction l with
  | nil => exact absurd h List.not_mem_nil
  | cons q l ih =>
    rw [placed_cons]
    by_cases hq : q = (n, g)
    · subst hq
      exact View.canon_cons_emb (prect n g) (f n g) (placed f l ++ T) z
    · rw [View.canon_cons_of_not_mem, ih ((List.mem_cons.mp h).resolve_left fun e => hq e.symm)]
      refine not_mem_prect q.1 q.2 _ fun hm => hq ?_
      have e0 : (((prect n g).emb z) 0).val = 128 * n.val + (z 0).val := Rect.idx_unit_val _ _ _ z 0
      have e1 : (((prect n g).emb z) 1).val = 512 + 128 * g.val + (z 1).val := Rect.idx_unit_val _ _ _ z 1
      have z0 : (z 0).val < 128 := (z 0).isLt
      have z1 : (z 1).val < 128 := (z 1).isLt
      rw [e0, e1] at hm
      exact Prod.ext (Fin.ext (by show q.1.val = n.val; omega)) (Fin.ext (by show q.2.val = g.val; omega))

end

variable (x0 x1 x2 : Vec Ideal S1x512x512 .f32) (x4 x5 : Vec Ideal S1x512 .f32) (x6 : Vec Ideal S4x128x128 .bf16)
  (x7 : Vec Ideal S4x128x128 .f32)

/-- The left half of the row buffer. -/
theorem stored_left (r : Fin 512) (k : Fin 1024) (hk : k.val < 512) :
    (View.canon (stored x0 x1 x2 x4 x5 x6 x7) (ix2 r k) : EReal) = x0 (ix3 (0 : Fin 1) r (⟨k.val, hk⟩ : Fin 512)) := by
  refine (canon_left _ _ (ix2 r k) hk order).trans ?_
  have e0 : ((yrect.emb (ix2 r (⟨k.val, hk⟩ : Fin 512))) 0).val = 0 + r.val := Rect.idx_unit_val _ _ _ _ 0
  have e1 : ((yrect.emb (ix2 r (⟨k.val, hk⟩ : Fin 512))) 1).val = 0 + k.val := Rect.idx_unit_val _ _ _ _ 1
  have he : (ix2 r k : S512x1024.Idx) = yrect.emb (ix2 r (⟨k.val, hk⟩ : Fin 512)) := funext fun a => Fin.ext (by
    match a with
    | ⟨0, _⟩ => exact (e0.trans (Nat.zero_add _)).symm
    | ⟨1, _⟩ => exact (e1.trans (Nat.zero_add _)).symm)
  unfold left
  rw [he, View.canon_cons_emb]
  exact rows_apply x0 r ⟨k.val, hk⟩

/-- The right half of the row buffer. -/
theorem stored_right (n g : Fin 4) (p c : Fin 128) :
    (View.canon (stored x0 x1 x2 x4 x5 x6 x7)
        (ix2 (⟨128 * n.val + p.val, by omega⟩ : Fin 512) (⟨512 + 128 * g.val + c.val, by omega⟩ : Fin 1024)) : EReal)
      = pieceAt x1 x2 x4 x5 x6 x7 n g (ix2 p c) := by
  have e0 : (((prect n g).emb (ix2 p c)) 0).val = 128 * n.val + p.val := Rect.idx_unit_val _ _ _ _ 0
  have e1 : (((prect n g).emb (ix2 p c)) 1).val = 512 + 128 * g.val + c.val := Rect.idx_unit_val _ _ _ _ 1
  have he : (ix2 (⟨128 * n.val + p.val, by omega⟩ : Fin 512) (⟨512 + 128 * g.val + c.val, by omega⟩ : Fin 1024) : S512x1024.Idx)
      = (prect n g).emb (ix2 p c) := funext fun a => Fin.ext (by
    match a with
    | ⟨0, _⟩ => exact e0.symm
    | ⟨1, _⟩ => exact e1.symm)
  rw [he]
  refine canon_right _ _ n g (ix2 p c) order ?_
  clear he e0 e1
  revert n g
  decide

end Cert.MixIdeal.Body

end
-- ==== Proof.Layer.MixRun.lean ====
/- The run of the mix call's body: its stores into the row buffer are the listed pieces, and its one store into the output block is the
   block of that row buffer. -/
module

public import proofs.«01_k».proof.Proof.Layer.MixRow

@[expose] public section

set_option maxRecDepth 16384

noncomputable section

namespace Cert.MixIdeal.Body

open Cert.MixIdeal Cert.MixIdeal.Gen Cert.Mixing
open Idealize.ShloMosaic Idealize.ShloMosaic.TcCoe
open Idealize.ShloMosaic.ValueIdx

variable (c : Dev nD) (i : grid0.Coords)
  (arg2 : Memref sig .tc .vmem S1x512x512 .f32) (harg2 : arg2.IsWhole) (arg3 : Memref sig .tc .vmem S1x512x512 .f32) (harg3 : arg3.IsWhole)
  (arg4 : Memref sig .tc .vmem S1x512x512 .f32) (harg4 : arg4.IsWhole) (arg5 : Memref sig .tc .vmem S1x512x1024 .f32) (harg5 : arg5.IsWhole)
  (arg6 : Memref sig .tc .vmem S1x512 .f32) (harg6 : arg6.IsWhole) (arg7 : Memref sig .tc .vmem S1x512 .f32) (harg7 : arg7.IsWhole) (arg8 :
  Memref sig .tc .vmem S4x128x128 .bf16) (harg8 : arg8.IsWhole) (arg9 : Memref sig .tc .vmem S4x128x128 .f32) (harg9 : arg9.IsWhole) (arg10
  : Memref sig .tc .vmem S1024x1024 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x512x1024 .f32) (harg13 :
  arg13.IsWhole) (arg14 : Memref sig .tc .vmem S512x1024 .bf16) (harg14 : arg14.IsWhole)
  (x0 : Vec Ideal S1x512x512 .f32) (x1 : Vec Ideal S1x512x512 .f32) (x2 : Vec Ideal S1x512x512 .f32) (x3 : Vec Ideal S1x512x1024 .f32) (x4 :
  Vec Ideal S1x512 .f32) (x5 : Vec Ideal S1x512 .f32) (x6 : Vec Ideal S4x128x128 .bf16) (x7 : Vec Ideal S4x128x128 .f32) (x8 : Vec Ideal
  S1024x1024 .bf16) (x9 : Vec Ideal S1x1024 .f32) (x10 : Vec Ideal S1x1024 .f32)

/-- The stores into the row buffer. -/
theorem row_eq : (kernelRun0_A (F := Ideal) c i
      arg2 harg2 arg3 harg3 arg4 harg4 arg5 harg5 arg6 harg6 arg7 harg7 arg8 harg8 arg9 harg9 arg10 harg10 arg11 harg11 arg12 harg12 arg13
      harg13 arg14 harg14 x0 x1 x2 x3 x4 x5 x6 x7 x8 x9 x10).2.1
    = stored x0 x1 x2 x4 x5 x6 x7 := by
  have h : (kernelRun0_A (F := Ideal) c i
      arg2 harg2 arg3 harg3 arg4 harg4 arg5 harg5 arg6 harg6 arg7 harg7 arg8 harg8 arg9 harg9 arg10 harg10 arg11 harg11 arg12 harg12 arg13
      harg13 arg14 harg14 x0 x1 x2 x3 x4 x5 x6 x7 x8 x9 x10).2.1
    = stored (arg2.view.read (Elt Ideal) (harg2.unread x0)) (arg3.view.read (Elt Ideal) (harg3.unread x1)) (arg4.view.read (Elt Ideal) (harg4.unread x2)) (arg6.view.read (Elt Ideal) (harg6.unread x4)) (arg7.view.read (Elt Ideal) (harg7.unread x5)) (arg8.view.read (Elt Ideal) (harg8.unread x6)) (arg9.view.read (Elt Ideal) (harg9.unread x7)) := rfl
  rw [h]
  simp only [harg2.read_unread, harg3.read_unread, harg4.read_unread, harg6.read_unread, harg7.read_unread, harg8.read_unread, harg9.read_unread]

/-- The body's output block. -/
theorem out_eq : (out0_A_11 (F := Ideal) c i
      arg2 harg2 arg3 harg3 arg4 harg4 arg5 harg5 arg6 harg6 arg7 harg7 arg8 harg8 arg9 harg9 arg10 harg10 arg11 harg11 arg12 harg12 arg13
      harg13 arg14 harg14 x0 x1 x2 x3 x4 x5 x6 x7 x8 x9 x10 : Vec Ideal S1x512x1024 .f32)
    = block (View.canon (stored x0 x1 x2 x4 x5 x6 x7)) x8 x3 x9 x10 := by
  have h : (kernelRun0_A (F := Ideal) c i
      arg2 harg2 arg3 harg3 arg4 harg4 arg5 harg5 arg6 harg6 arg7 harg7 arg8 harg8 arg9 harg9 arg10 harg10 arg11 harg11 arg12 harg12 arg13
      harg13 arg14 harg14 x0 x1 x2 x3 x4 x5 x6 x7 x8 x9 x10).1
    = [⟨Rect.unit (s := S1x512x1024) ![0, 0, 0] S1x512x1024.size inb_S1x512x1024_S1x512x1024_0_0_0,
      block (arg14.view.readCov (kernelRun0_A (F := Ideal) c i
        arg2 harg2 arg3 harg3 arg4 harg4 arg5 harg5 arg6 harg6 arg7 harg7 arg8 harg8 arg9 harg9 arg10 harg10 arg11 harg11 arg12 harg12 arg13
        harg13 arg14 harg14 x0 x1 x2 x3 x4 x5 x6 x7 x8 x9 x10).2.1
          (Rect.unit (s := S512x1024) ![0, 0] S512x1024.size inb_S512x1024_S512x1024_0_0).toLoadRect)
        (View.ld (arg10.view.read (Elt Ideal) (harg10.unread x8)) (Rect.unit (s := S1024x1024) ![0, 0] S1024x1024.size inb_S1024x1024_S1024x1024_0_0))
        (View.ld (arg5.view.read (Elt Ideal) (harg5.unread x3)) (Rect.unit (s := S1x512x1024) ![0, 0, 0] S1x512x1024.size inb_S1x512x1024_S1x512x1024_0_0_0))
        (View.ld (arg11.view.read (Elt Ideal) (harg11.unread x9)) (Rect.unit (s := S1x1024) ![0, 0] S1x1024.size inb_S1x1024_S1x1024_0_0))
        (View.ld (arg12.view.read (Elt Ideal) (harg12.unread x10)) (Rect.unit (s := S1x1024) ![0, 0] S1x1024.size inb_S1x1024_S1x1024_0_0))⟩] := rfl
  have hc : arg14.view.readCov (stored x0 x1 x2 x4 x5 x6 x7)
      (Rect.unit (s := S512x1024) ![0, 0] S512x1024.size inb_S512x1024_S512x1024_0_0).toLoadRect
      = View.canon (stored x0 x1 x2 x4 x5 x6 x7) := by
    refine (View.readCov_eq_canon' _ _ _).trans ?_
    exact View.ld_unit_zero (S := S512x1024) (by decide) inb_S512x1024_S512x1024_0_0 (View.canon (stored x0 x1 x2 x4 x5 x6 x7))
  unfold out0_A_11
  rw [View.read_writes_junk_eq_canon, h, row_eq, hc]
  refine (View.canon_unit_zero (by decide) _ _).trans ?_
  rw [View.ld_unit_zero (by decide), View.ld_unit_zero (by decide), View.ld_unit_zero (by decide), View.ld_unit_zero (by decide)]
  simp only [harg10.read_unread, harg5.read_unread, harg11.read_unread, harg12.read_unread]

end Cert.MixIdeal.Body

end
-- ==== Proof.Layer.MixFinal.lean ====
/- The mix call's output array: each grid point's block is 512 token rows of one sequence, so the array is the mixing's result. -/
module

public import proofs.«01_k».proof.Proof.Layer.MixRun
public import Idealize.ShloMosaic.Lib.StableHlo.RunRead

@[expose] public section

noncomputable section

namespace Cert.MixIdeal.Body

open Cert.MixIdeal Cert.MixIdeal.Gen Cert.Mixing
open Idealize.ShloMosaic Idealize.ShloMosaic.TcCoe
open Idealize.ShloMosaic.ValueIdx
open Idealize.SL.Sem

variable (m : (ℓ : Loc nD τ sig) → Buf (Elt Ideal) ℓ) (ρ : Dev nD → PrngReg)

/-- Where each row window's block sits at grid point `t`: sequence `t / 8`, row block `t % 8`, the stream's columns. -/
theorem idx_rows : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 5)
    ∧ (win0_2.index t 0 = t.val / 8 ∧ win0_2.index t 1 = t.val % 8 ∧ win0_2.index t 2 = 6)
    ∧ (win0_3.index t 0 = t.val / 8 ∧ win0_3.index t 1 = t.val % 8 ∧ win0_3.index t 2 = 0)
    ∧ (win0_11.index t 0 = t.val / 8 ∧ win0_11.index t 1 = t.val % 8 ∧ win0_11.index t 2 = 0) :=
  (by decide +kernel : ∀ t : Fin grid0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 5)
    ∧ (win0_2.index t 0 = t.val / 8 ∧ win0_2.index t 1 = t.val % 8 ∧ win0_2.index t 2 = 6)
    ∧ (win0_3.index t 0 = t.val / 8 ∧ win0_3.index t 1 = t.val % 8 ∧ win0_3.index t 2 = 0)
    ∧ (win0_11.index t 0 = t.val / 8 ∧ win0_11.index t 1 = t.val % 8 ∧ win0_11.index t 2 = 0))

/-- The parameters' windows sit at the origin. -/
theorem idx_params : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0) ∧ (win0_9.index t 0 = 0 ∧ win0_9.index t 1 = 0)
    ∧ (win0_10.index t 0 = 0 ∧ win0_10.index t 1 = 0) :=
  (by decide +kernel : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0) ∧ (win0_9.index t 0 = 0 ∧ win0_9.index t 1 = 0)
    ∧ (win0_10.index t 0 = 0 ∧ win0_10.index t 1 = 0))

theorem lt128 (t : Fin cfg0.N) : t.val < 128 := by have h := t.isLt; have hN : cfg0.N = 128 := N_0; omega

/-- The sequence of a grid point. -/
def seqOf (t : Fin cfg0.N) : Fin 16 := ⟨t.val / 8, by have := lt128 t; omega⟩
/-- A token row of a grid point. -/
def rowOf (t : Fin cfg0.N) (r : Fin 512) : Fin 4096 := ⟨t.val % 8 * 512 + r.val, by omega⟩

abbrev aY (c : Dev nD) : Rows 512 := m ((c : Thread nD τ).loc main_arg0)
abbrev aP (c : Dev nD) : Rows 3584 := m ((c : Thread nD τ).loc main_arg1)
abbrev aX (c : Dev nD) : Rows 1024 := m ((c : Thread nD τ).loc main_arg2)
abbrev aLG (c : Dev nD) : FVec Ideal ⟨2, ![4, 128]⟩ .f32 := m ((c : Thread nD τ).loc main_arg3)
abbrev aLB (c : Dev nD) : FVec Ideal ⟨2, ![4, 128]⟩ .f32 := m ((c : Thread nD τ).loc main_arg4)
abbrev aW (c : Dev nD) : FVec Ideal ⟨3, ![4, 128, 128]⟩ .f32 := m ((c : Thread nD τ).loc main_arg5)
abbrev aBS (c : Dev nD) : FVec Ideal ⟨2, ![4, 128]⟩ .f32 := m ((c : Thread nD τ).loc main_arg6)
abbrev aWO (c : Dev nD) : FVec Ideal ⟨2, ![1024, 1024]⟩ .f32 := m ((c : Thread nD τ).loc main_arg7)
abbrev aG (c : Dev nD) : FVec Ideal ⟨1, ![1024]⟩ .f32 := m ((c : Thread nD τ).loc main_arg8)
abbrev aB (c : Dev nD) : FVec Ideal ⟨1, ![1024]⟩ .f32 := m ((c : Thread nD τ).loc main_arg9)

/-- An entry of an array of token rows at a place given by its coordinates. -/
theorem at_rows {n : ℕ} (A : Rows n) (t : Fin cfg0.N) (r : Fin 512) (k : Fin n) (i : (⟨3, ![16, 4096, n]⟩ : Shape).Idx)
    (h0 : (i 0).val = t.val / 8) (h1 : (i 1).val = t.val % 8 * 512 + r.val) (h2 : (i 2).val = k.val) :
    (A i : EReal) = A (ix3 (seqOf t) (rowOf t r) k) :=
  congrArg A (funext fun a => Fin.ext (by
    match a with
    | ⟨0, _⟩ => exact h0
    | ⟨1, _⟩ => exact h1
    | ⟨2, _⟩ => exact h2))

theorem blk_0 (c : Dev nD) (t : Fin cfg0.N) (r k : Fin 512) :
    (iblk m c 0 t (ix3 (0 : Fin 1) r k) : EReal) = aY m c (ix3 (seqOf t) (rowOf t r) k) := by
  obtain ⟨⟨h0, h1, h2⟩, -⟩ := idx_rows t
  unfold iblk; rw [View.read_apply]
  show V m c main_arg0 _ = _
  rw [V_main_arg0]
  refine at_rows (aY m c) t r k _ ?_ ?_ ?_
  · show win0_0.index t 0 * 1 + 1 * 0 = _; rw [h0]; omega
  · show win0_0.index t 1 * 512 + 1 * r.val = _; rw [h1]; omega
  · show win0_0.index t 2 * 512 + 1 * k.val = _; rw [h2]; omega

theorem blk_1 (c : Dev nD) (t : Fin cfg0.N) (r k : Fin 512) :
    (iblk m c 1 t (ix3 (0 : Fin 1) r k) : EReal) = aP m c (ix3 (seqOf t) (rowOf t r) (⟨2560 + k.val, by omega⟩ : Fin 3584)) := by
  obtain ⟨-, ⟨h0, h1, h2⟩, -⟩ := idx_rows t
  unfold iblk; rw [View.read_apply]
  show V m c main_arg1 _ = _
  rw [V_main_arg1]
  refine at_rows (aP m c) t r ⟨2560 + k.val, by omega⟩ _ ?_ ?_ ?_
  · show win0_1.index t 0 * 1 + 1 * 0 = _; rw [h0]; omega
  · show win0_1.index t 1 * 512 + 1 * r.val = _; rw [h1]; omega
  · show win0_1.index t 2 * 512 + 1 * k.val = 2560 + k.val; rw [h2]; omega

theorem blk_2 (c : Dev nD) (t : Fin cfg0.N) (r k : Fin 512) :
    (iblk m c 2 t (ix3 (0 : Fin 1) r k) : EReal) = aP m c (ix3 (seqOf t) (rowOf t r) (⟨3072 + k.val, by omega⟩ : Fin 3584)) := by
  obtain ⟨-, -, ⟨h0, h1, h2⟩, -⟩ := idx_rows t
  unfold iblk; rw [View.read_apply]
  show V m c main_arg1 _ = _
  rw [V_main_arg1]
  refine at_rows (aP m c) t r ⟨3072 + k.val, by omega⟩ _ ?_ ?_ ?_
  · show win0_2.index t 0 * 1 + 1 * 0 = _; rw [h0]; omega
  · show win0_2.index t 1 * 512 + 1 * r.val = _; rw [h1]; omega
  · show win0_2.index t 2 * 512 + 1 * k.val = 3072 + k.val; rw [h2]; omega

theorem blk_3 (c : Dev nD) (t : Fin cfg0.N) (r : Fin 512) (k : Fin 1024) :
    (iblk m c 3 t (ix3 (0 : Fin 1) r k) : EReal) = aX m c (ix3 (seqOf t) (rowOf t r) k) := by
  obtain ⟨-, -, -, ⟨h0, h1, h2⟩, -⟩ := idx_rows t
  unfold iblk; rw [View.read_apply]
  show V m c main_arg2 _ = _
  rw [V_main_arg2]
  refine at_rows (aX m c) t r k _ ?_ ?_ ?_
  · show win0_3.index t 0 * 1 + 1 * 0 = _; rw [h0]; omega
  · show win0_3.index t 1 * 512 + 1 * r.val = _; rw [h1]; omega
  · show win0_3.index t 2 * 1024 + 1 * k.val = _; rw [h2]; omega

theorem V_v2 (c : Dev nD) : V m c main_v2 = shapeCast S1x512 (aLG m c) shapeCasts_S4x128_S1x512 := by
  unfold V
  after_reads_simp
  try rfl

theorem V_v3 (c : Dev nD) : V m c main_v3 = shapeCast S1x512 (aLB m c) shapeCasts_S4x128_S1x512 := by
  unfold V
  after_reads_simp
  try rfl

theorem V_v4 (c : Dev nD) : V m c main_v4 = truncf .bf16 (aW m c) bitsLt_bf16_f32 := by
  unfold V
  after_reads_simp
  try rfl

theorem V_v5 (c : Dev nD) : V m c main_v5 = truncf .bf16 (aWO m c) bitsLt_bf16_f32 := by
  unfold V
  after_reads_simp
  try rfl

theorem V_v6 (c : Dev nD) : V m c main_v6 = shapeCast S1x1024 (aG m c) shapeCasts_S1024_S1x1024 := by
  unfold V
  after_reads_simp
  try rfl

theorem V_v7 (c : Dev nD) : V m c main_v7 = shapeCast S1x1024 (aB m c) shapeCasts_S1024_S1x1024 := by
  unfold V
  after_reads_simp
  try rfl

theorem V_v1 (c : Dev nD) : V m c main_v1 = broadcastInDim S4x128x128 ![0, 1, 2] bcast_S4x128x1_S4x128x128_0_1_2
    (broadcastInDim S4x128x1 ![0, 1] bcast_S4x128_S4x128x1_0_1 (aBS m c)) := by
  unfold V
  after_reads_simp
  try rfl

/-- A parameter of four groups, laid out as one row, at a group's column. -/
theorem flat_apply (A : FVec Ideal ⟨2, ![4, 128]⟩ .f32) (g : Fin 4) (d : Fin 128) :
    (shapeCast S1x512 A shapeCasts_S4x128_S1x512 (ix2 (0 : Fin 1) (⟨128 * g.val + d.val, by omega⟩ : Fin 512)) : EReal) = A (ix2 g d) :=
  shapeCast_apply _ _ _ _ (by
    rw [Shape.rowMajor_val_two, Shape.rowMajor_val_two]
    simp [ix2]
    omega)

/-- A parameter of the model's width as one row, at a column. -/
theorem line_apply (A : FVec Ideal ⟨1, ![1024]⟩ .f32) (d : Fin 1024) :
    (shapeCast S1x1024 A shapeCasts_S1024_S1x1024 (ix2 (0 : Fin 1) d) : EReal) = A (ix1 d) :=
  shapeCast_apply _ _ _ _ (by
    rw [Shape.rowMajor_val_one, Shape.rowMajor_val_two]
    simp [ix2, ix1])

/-- The bias, repeated along the columns. -/
theorem bias_apply (A : FVec Ideal ⟨2, ![4, 128]⟩ .f32) (g : Fin 4) (p d : Fin 128) :
    (broadcastInDim S4x128x128 ![0, 1, 2] bcast_S4x128x1_S4x128x128_0_1_2
      (broadcastInDim S4x128x1 ![0, 1] bcast_S4x128_S4x128x1_0_1 A) (ix3 g p d) : EReal) = A (ix2 g p) :=
  (broadcastInDim_apply _ _ _ (ix3 g p d) (ix3 g p (0 : Fin 1)) (fun z => by
    match z with
    | ⟨0, _⟩ => rfl
    | ⟨1, _⟩ => rfl
    | ⟨2, _⟩ => rfl)).trans (broadcastInDim_apply _ _ _ (ix3 g p (0 : Fin 1)) (ix2 g p) (fun z => by
    match z with
    | ⟨0, _⟩ => rfl
    | ⟨1, _⟩ => rfl))

theorem blk_4 (c : Dev nD) (t : Fin cfg0.N) : (iblk m c 4 t : Vec Ideal S1x512 .f32) = shapeCast S1x512 (aLG m c) shapeCasts_S4x128_S1x512 := by
  obtain ⟨⟨h0, h1⟩, -⟩ := idx_params t
  funext j
  unfold iblk; rw [View.read_apply]
  show V m c main_v2 _ = _
  rw [V_v2]
  refine congrArg _ (funext fun a => Fin.ext ?_)
  match a with
  | ⟨0, _⟩ => show win0_4.index t 0 * 1 + 1 * (j 0).val = (j 0).val; rw [h0]; omega
  | ⟨1, _⟩ => show win0_4.index t 1 * 512 + 1 * (j 1).val = (j 1).val; rw [h1]; omega

theorem blk_5 (c : Dev nD) (t : Fin cfg0.N) : (iblk m c 5 t : Vec Ideal S1x512 .f32) = shapeCast S1x512 (aLB m c) shapeCasts_S4x128_S1x512 := by
  obtain ⟨-, ⟨h0, h1⟩, -⟩ := idx_params t
  funext j
  unfold iblk; rw [View.read_apply]
  show V m c main_v3 _ = _
  rw [V_v3]
  refine congrArg _ (funext fun a => Fin.ext ?_)
  match a with
  | ⟨0, _⟩ => show win0_5.index t 0 * 1 + 1 * (j 0).val = (j 0).val; rw [h0]; omega
  | ⟨1, _⟩ => show win0_5.index t 1 * 512 + 1 * (j 1).val = (j 1).val; rw [h1]; omega

theorem blk_6 (c : Dev nD) (t : Fin cfg0.N) (j : S4x128x128.Idx) : (iblk m c 6 t j : EReal) = aW m c j := by
  obtain ⟨-, -, ⟨h0, h1, h2⟩, -⟩ := idx_params t
  unfold iblk; rw [View.read_apply]
  show V m c main_v4 _ = _
  rw [V_v4]
  refine congrArg (aW m c) (funext fun a => Fin.ext ?_)
  match a with
  | ⟨0, _⟩ => show win0_6.index t 0 * 4 + 1 * (j 0).val = (j 0).val; rw [h0]; omega
  | ⟨1, _⟩ => show win0_6.index t 1 * 128 + 1 * (j 1).val = (j 1).val; rw [h1]; omega
  | ⟨2, _⟩ => show win0_6.index t 2 * 128 + 1 * (j 2).val = (j 2).val; rw [h2]; omega

theorem blk_7 (c : Dev nD) (t : Fin cfg0.N) (g : Fin 4) (p d : Fin 128) : (iblk m c 7 t (ix3 g p d) : EReal) = aBS m c (ix2 g p) := by
  obtain ⟨-, -, -, ⟨h0, h1, h2⟩, -⟩ := idx_params t
  unfold iblk; rw [View.read_apply]
  show V m c main_v1 _ = _
  rw [V_v1]
  refine (congrArg _ (funext fun a => Fin.ext ?_)).trans (bias_apply (aBS m c) g p d)
  match a with
  | ⟨0, _⟩ => show win0_7.index t 0 * 4 + 1 * g.val = g.val; rw [h0]; omega
  | ⟨1, _⟩ => show win0_7.index t 1 * 128 + 1 * p.val = p.val; rw [h1]; omega
  | ⟨2, _⟩ => show win0_7.index t 2 * 128 + 1 * d.val = d.val; rw [h2]; omega

theorem blk_8 (c : Dev nD) (t : Fin cfg0.N) (j : S1024x1024.Idx) : (iblk m c 8 t j : EReal) = aWO m c j := by
  obtain ⟨-, -, -, -, ⟨h0, h1⟩, -⟩ := idx_params t
  unfold iblk; rw [View.read_apply]
  show V m c main_v5 _ = _
  rw [V_v5]
  refine congrArg (aWO m c) (funext fun a => Fin.ext ?_)
  match a with
  | ⟨0, _⟩ => show win0_8.index t 0 * 1024 + 1 * (j 0).val = (j 0).val; rw [h0]; omega
  | ⟨1, _⟩ => show win0_8.index t 1 * 1024 + 1 * (j 1).val = (j 1).val; rw [h1]; omega

theorem blk_9 (c : Dev nD) (t : Fin cfg0.N) (d : Fin 1024) : (iblk m c 9 t (ix2 (0 : Fin 1) d) : EReal) = aG m c (ix1 d) := by
  obtain ⟨-, -, -, -, -, ⟨h0, h1⟩, -⟩ := idx_params t
  unfold iblk; rw [View.read_apply]
  show V m c main_v6 _ = _
  rw [V_v6]
  refine (congrArg _ (funext fun a => Fin.ext ?_)).trans (line_apply (aG m c) d)
  match a with
  | ⟨0, _⟩ => show win0_9.index t 0 * 1 + 1 * 0 = 0; rw [h0]
  | ⟨1, _⟩ => show win0_9.index t 1 * 1024 + 1 * d.val = d.val; rw [h1]; omega

theorem blk_10 (c : Dev nD) (t : Fin cfg0.N) (d : Fin 1024) : (iblk m c 10 t (ix2 (0 : Fin 1) d) : EReal) = aB m c (ix1 d) := by
  obtain ⟨-, -, -, -, -, -, h0, h1⟩ := idx_params t
  unfold iblk; rw [View.read_apply]
  show V m c main_v7 _ = _
  rw [V_v7]
  refine (congrArg _ (funext fun a => Fin.ext ?_)).trans (line_apply (aB m c) d)
  match a with
  | ⟨0, _⟩ => show win0_10.index t 0 * 1 + 1 * 0 = 0; rw [h0]
  | ⟨1, _⟩ => show win0_10.index t 1 * 1024 + 1 * d.val = d.val; rw [h1]; omega

/-! ## Loads of a chunk and a group -/

theorem ld_t {x : Vec Ideal S1x512x512 .f32} (n g : Fin 4) (q k : Fin 128) :
    View.ld x (trect n g) (ix3 (0 : Fin 1) q k)
      = x (ix3 (0 : Fin 1) (⟨128 * n.val + q.val, by omega⟩ : Fin 512) (⟨128 * g.val + k.val, by omega⟩ : Fin 512)) :=
  congrArg x (funext fun a => Fin.ext (by
    match a with
    | ⟨0, _⟩ => rfl
    | ⟨1, _⟩ => show 128 * n.val + 1 * q.val = 128 * n.val + q.val; omega
    | ⟨2, _⟩ => show 128 * g.val + 1 * k.val = 128 * g.val + k.val; omega))

theorem ld_l {x : Vec Ideal S1x512 .f32} (g : Fin 4) (k : Fin 128) :
    View.ld x (lrect g) (ix2 (0 : Fin 1) k) = x (ix2 (0 : Fin 1) (⟨128 * g.val + k.val, by omega⟩ : Fin 512)) :=
  congrArg x (funext fun a => Fin.ext (by
    match a with
    | ⟨0, _⟩ => rfl
    | ⟨1, _⟩ => show 128 * g.val + 1 * k.val = 128 * g.val + k.val; omega))

theorem ld_w {e : EltTy} {x : Vec Ideal S4x128x128 e} (g : Fin 4) (p q : Fin 128) :
    View.ld x (wrect g) (ix3 (0 : Fin 1) p q) = x (ix3 g p q) :=
  congrArg x (funext fun a => Fin.ext (by
    match a with
    | ⟨0, _⟩ => show g.val + 1 * 0 = g.val; omega
    | ⟨1, _⟩ => show 0 + 1 * p.val = p.val; omega
    | ⟨2, _⟩ => show 0 + 1 * q.val = q.val; omega))

/-- The chunk of the sequence that a grid point's chunk is. -/
def chunkOf (t : Fin cfg0.N) (n : Fin 4) : Fin 32 := ⟨t.val % 8 * 4 + n.val, by omega⟩

theorem row_tok (t : Fin cfg0.N) (n : Fin 4) (q : Fin 128) :
    rowOf t (⟨128 * n.val + q.val, by omega⟩ : Fin 512) = tok (chunkOf t n) q :=
  Fin.ext (by show t.val % 8 * 512 + (128 * n.val + q.val) = 128 * (t.val % 8 * 4 + n.val) + q.val; omega)

/-- A piece of a grid point is the gated half at its chunk and group. -/
theorem pieceAt_apply (c : Dev nD) (t : Fin cfg0.N) (n g : Fin 4) (p d : Fin 128) :
    (pieceAt (iblk m c 1 t) (iblk m c 2 t) (iblk m c 4 t) (iblk m c 5 t) (iblk m c 6 t) (iblk m c 7 t) n g (ix2 p d) : EReal)
      = gatedHalf (aP m c) (aLG m c) (aLB m c) (aW m c) (aBS m c) (seqOf t) (chunkOf t n) p g d := by
  refine (piece_apply _ _ _ _ _ _ p d).trans ?_
  rw [ld_t n g p d, ld_l g d, ld_l g d, ld_w g p d, blk_1, blk_4, blk_5, flat_apply, flat_apply, blk_7, row_tok]
  unfold gatedHalf mixed
  refine congrArg (gelu _ * ·) (congrArg (· + _) (Finset.sum_congr rfl fun q _ => ?_))
  rw [ld_w g p q, blk_6]
  refine congrArg (_ * ·) (congrArg (fun f => lnorm _ f _ _ d) (funext fun k => ?_))
  rw [ld_t n g q k, blk_2, row_tok]
  rfl

/-- The row buffer of a grid point, at a row and a column. -/
theorem stored_apply (c : Dev nD) (t : Fin cfg0.N) (r : Fin 512) (k : Fin 1024) :
    (View.canon (stored (iblk m c 0 t) (iblk m c 1 t) (iblk m c 2 t) (iblk m c 4 t) (iblk m c 5 t) (iblk m c 6 t) (iblk m c 7 t))
        (ix2 r k) : EReal)
      = wide (aY m c) (aP m c) (aLG m c) (aLB m c) (aW m c) (aBS m c) (seqOf t) (rowOf t r) k := by
  have hr := r.isLt
  have hk := k.isLt
  unfold wide
  by_cases h : k.val < 512
  · rw [dif_pos h, stored_left _ _ _ _ _ _ _ r k h, blk_0]
  · rw [dif_neg h]
    have h1 : r = (⟨128 * (⟨r.val / 128, by omega⟩ : Fin 4).val + (⟨r.val % 128, by omega⟩ : Fin 128).val, by omega⟩ : Fin 512) :=
      Fin.ext (by show r.val = 128 * (r.val / 128) + r.val % 128; omega)
    have h2 : k = (⟨512 + 128 * (⟨(k.val - 512) / 128, by omega⟩ : Fin 4).val + (⟨(k.val - 512) % 128, by omega⟩ : Fin 128).val, by
        show 512 + 128 * ((k.val - 512) / 128) + (k.val - 512) % 128 < 1024; omega⟩ : Fin 1024) :=
      Fin.ext (by show k.val = 512 + 128 * ((k.val - 512) / 128) + (k.val - 512) % 128; omega)
    refine (congrArg _ (congrArg₂ ix2 h1 h2)).trans ((stored_right _ _ _ _ _ _ _ _ _ _ _).trans ((pieceAt_apply m c t _ _ _ _).trans ?_))
    refine congrArg₂ (fun a b => gatedHalf _ _ _ _ _ (seqOf t) a b _ _) (Fin.ext ?_) (Fin.ext ?_)
    · show t.val % 8 * 4 + r.val / 128 = (t.val % 8 * 512 + r.val) / 128; omega
    · show r.val % 128 = (t.val % 8 * 512 + r.val) % 128; omega

/-- The block a grid point leaves, at a row and a column. -/
theorem block_at (c : Dev nD) (t : Fin cfg0.N) (r : Fin 512) (d : Fin 1024) :
    (block (View.canon (stored (iblk m c 0 t) (iblk m c 1 t) (iblk m c 2 t) (iblk m c 4 t) (iblk m c 5 t) (iblk m c 6 t) (iblk m c 7 t)))
        (iblk m c 8 t) (iblk m c 3 t) (iblk m c 9 t) (iblk m c 10 t) (ix3 (0 : Fin 1) r d) : EReal)
      = Mixing.out (aY m c) (aP m c) (aX m c) (aLG m c) (aLB m c) (aW m c) (aBS m c) (aWO m c) (aG m c) (aB m c)
        (ix3 (seqOf t) (rowOf t r) d) := by
  refine (block_apply _ _ _ _ _ r d).trans ?_
  rw [blk_9, blk_10]
  show _ = lnorm _ (stream (aY m c) (aP m c) (aX m c) (aLG m c) (aLB m c) (aW m c) (aBS m c) (aWO m c) (seqOf t) (rowOf t r)) (aG m c (ix1 d))
    (aB m c (ix1 d)) d
  refine congrArg (fun f => lnorm _ f _ _ d) (funext fun e => ?_)
  unfold stream
  rw [blk_3]
  refine congrArg (_ + ·) (Finset.sum_congr rfl fun k _ => ?_)
  rw [stored_apply, blk_8]

/-- A result block read through the output window: the array at the block's place. -/
theorem read_out (t : Fin cfg0.N) (Z : Rows 1024) (r : Fin 512) (d : Fin 1024) :
    (((cfg0.win 11).blk t).view.read (Elt Ideal) Z : Vec Ideal S1x512x1024 .f32) (ix3 (0 : Fin 1) r d)
      = Z (ix3 (seqOf t) (rowOf t r) d) := by
  obtain ⟨-, -, -, -, h0, h1, h2⟩ := idx_rows t
  rw [View.read_apply]
  refine at_rows Z t r d _ ?_ ?_ ?_
  · show win0_11.index t 0 * 1 + 1 * 0 = _; rw [h0]; omega
  · show win0_11.index t 1 * 512 + 1 * r.val = _; rw [h1]; omega
  · show win0_11.index t 2 * 1024 + 1 * d.val = _; rw [h2]; omega

theorem eta3 (j : S1x512x1024.Idx) : j = ix3 (0 : Fin 1) (j 1) (j 2) := funext fun a => by
  match a with
  | ⟨0, _⟩ => exact Subsingleton.elim (α := Fin 1) _ _
  | ⟨1, _⟩ => rfl
  | ⟨2, _⟩ => rfl

/-- A block that agrees with an array at its place is the block the window reads of it. -/
theorem cut_eq (t : Fin cfg0.N) (X : Vec Ideal S1x512x1024 .f32) (Z : Rows 1024) (h : ∀ (r : Fin 512) (d : Fin 1024),
      X (ix3 (0 : Fin 1) r d) = Z (ix3 (seqOf t) (rowOf t r) d)) :
    (cfg0.win 11).cut (grid0.coords t) X = ((cfg0.win 11).blk t).view.read (Elt Ideal) Z := by
  refine funext fun (j : S1x512x1024.Idx) => ?_
  rw [eta3 j]
  exact (h (j 1) (j 2)).trans (read_out t Z (j 1) (j 2)).symm

theorem flushed_eq (c : Dev nD) (t : Fin cfg0.N) (_ : (cfg0.win 11).flush t = true) :
    (dats m 0 c).flushed 11 t = ((cfg0.win 11).blk t).view.read (Elt Ideal)
      (Mixing.out (aY m c) (aP m c) (aX m c) (aLG m c) (aLB m c) (aW m c) (aBS m c) (aWO m c) (aG m c) (aB m c)) := by
  rw [Value.flushed11_A, out_eq]
  exact cut_eq t _ _ fun r d => block_at m c t r d

/-- The call's result array. -/
theorem final (c : Dev nD) : (dats m 0 c).arrAt 11 cfg0.N
    = Mixing.out (aY m c) (aP m c) (aX m c) (aLG m c) (aLB m c) (aW m c) (aBS m c) (aWO m c) (aG m c) (aB m c) :=
  (dats m 0 c).arrAt_eq_of_cover 11 _ (flushed_eq m c) fun i => by
    have h0' : (i 0 : Nat) < 16 := (i 0).isLt
    have h1' : (i 1 : Nat) < 4096 := (i 1).isLt
    have h2' : (i 2 : Nat) < 1024 := (i 2).isLt
    have hN : cfg0.N = 128 := N_0
    refine ⟨⟨(i 0 : Nat) * 8 + (i 1 : Nat) / 512, by rw [hN]; omega⟩, flush0_11 _, ?_⟩
    generalize ht : (⟨(i 0 : Nat) * 8 + (i 1 : Nat) / 512, _⟩ : Fin cfg0.N) = t
    have htv : t.val = (i 0 : Nat) * 8 + (i 1 : Nat) / 512 := by rw [← ht]
    obtain ⟨-, -, -, -, h0, h1, h2⟩ := idx_rows t
    show i ∈ ((View.whole main_v8).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [h0]; omega
    | ⟨1, _⟩ => show win0_11.index t 1 * 512 ≤ (i 1 : Nat) ∧ (i 1 : Nat) < win0_11.index t 1 * 512 + 512
                rw [h1]; omega
    | ⟨2, _⟩ => show win0_11.index t 2 * 1024 ≤ (i 2 : Nat) ∧ (i 2 : Nat) < win0_11.index t 2 * 1024 + 1024
                rw [h2]; omega

end Cert.MixIdeal.Body

end
-- ==== Proof.Layer.MixRef.lean ====
/- The plain mixing's result, read one stage at a time: it is the array `out` of its arguments. -/
module

public import proofs.«01_k».proof.Proof.Layer.MixSpec
public import proofs.«01_k».proof.Proof.Gen.MixRefIdeal.Read

@[expose] public section

set_option maxRecDepth 65536

noncomputable section

namespace Cert.MixRefIdeal.Stages

open Cert.MixRefIdeal Cert.MixRefIdeal.Gen Cert.MixRefIdeal.Read Cert.Mixing
open Idealize.ShloMosaic
open Idealize.ShloMosaic.ValueIdx

variable (Y : Rows 512) (P : Rows 3584) (X : Rows 1024) (LG LB : FVec Ideal ⟨2, ![4, 128]⟩ .f32)
  (W : FVec Ideal ⟨3, ![4, 128, 128]⟩ .f32) (BS : FVec Ideal ⟨2, ![4, 128]⟩ .f32) (WO : FVec Ideal ⟨2, ![1024, 1024]⟩ .f32)
  (G B : FVec Ideal ⟨1, ![1024]⟩ .f32)

/-! ## The two streams through the unit -/

theorem unit_eq (z : EReal) : z * (Ideal.ofBits .f32 0x3F000000#32 * (Ideal.ofBits .f32 0x3F800000#32
    + Ideal.tanh (Ideal.ofBits .f32 0x3F4C422A#32 * (z + Ideal.ofBits .f32 0x3D372713#32 * (z * z * z))))) = gelu z := by
  unfold gelu
  rw [mul_comm (z * z) z]

theorem gate_apply (i : S16x4096x512.Idx) : (val_main_v14 (F := Ideal) P i : EReal) = gelu (val_main_v0 (F := Ideal) P i) := by
  simp only [val_main_v14_apply, val_main_v13_apply, val_main_v12_apply, val_main_cst_2_apply, val_main_v11_apply, val_main_v10_apply,
    val_main_cst_1_apply, val_main_v9_apply, val_main_v8_apply, val_main_v7_apply, val_main_cst_0_apply, val_main_v6_apply,
    val_main_v5_apply, val_main_v4_apply, val_main_cst_apply, val_main_v3_apply, val_main_v2_apply]
  exact unit_eq _

theorem value_apply (i : S16x4096x512.Idx) : (val_main_v27 (F := Ideal) P i : EReal) = gelu (val_main_v1 (F := Ideal) P i) := by
  simp only [val_main_v27_apply, val_main_v26_apply, val_main_v25_apply, val_main_cst_6_apply, val_main_v24_apply, val_main_v23_apply,
    val_main_cst_5_apply, val_main_v22_apply, val_main_v21_apply, val_main_v20_apply, val_main_cst_4_apply, val_main_v19_apply,
    val_main_v18_apply, val_main_v17_apply, val_main_cst_3_apply, val_main_v16_apply, val_main_v15_apply]
  exact unit_eq _

/-- The value stream split into chunks and groups. -/
theorem split_apply (b : Fin 16) (n : Fin 32) (q : Fin 128) (g : Fin 4) (k : Fin 128) :
    (val_main_v28 (F := Ideal) P (ix5 b n q g k) : EReal) = val P b (tok n q) g k := by
  rw [val_main_v28_apply, value_apply, val_main_v1_apply]
  unfold val
  refine congrArg gelu (congrArg P (funext fun a => Fin.ext ?_))
  match a with
  | ⟨0, _⟩ =>
    show ((((b.val * 32 + n.val) * 128 + q.val) * 4 + g.val) * 128 + k.val) / 2097152 = b.val
    omega
  | ⟨1, _⟩ =>
    show ((((b.val * 32 + n.val) * 128 + q.val) * 4 + g.val) * 128 + k.val) / 512 % 4096 = 128 * n.val + q.val
    omega
  | ⟨2, _⟩ =>
    show 3072 + ((((b.val * 32 + n.val) * 128 + q.val) * 4 + g.val) * 128 + k.val) % 512 = 3072 + (128 * g.val + k.val)
    omega

/-! ## The norm of a group's row -/

/-- The entries of the row of an entry. -/
def row (i : S16x32x128x4x128.Idx) (k : Fin 128) : S16x32x128x4x128.Idx := ix5 (i 0) (i 1) (i 2) (i 3) k

theorem row_row (i : S16x32x128x4x128.Idx) (k : Fin 128) : row (row i k) = row i := rfl

theorem row_idx (i : S16x32x128x4x128.Idx) (k : Fin 128) : idx_main_v29 (idx_main_v30 (idx_main_v33 i)) k = row i k :=
  funext fun a => by
    match a with
    | ⟨0, _⟩ => rfl
    | ⟨1, _⟩ => rfl
    | ⟨2, _⟩ => rfl
    | ⟨3, _⟩ => rfl
    | ⟨4, _⟩ => rfl

theorem row_idx' (i : S16x32x128x4x128.Idx) (k : Fin 128) : idx_main_v36 (idx_main_v37 (idx_main_v45 i)) k = row i k :=
  row_idx i k

/-- The mean of an entry's row. -/
theorem mean_apply (i : S16x32x128x4x128.Idx) : (val_main_v32 (F := Ideal) P (idx_main_v33 i) : EReal)
    = Ideal.div (∑ k, (val_main_v28 (F := Ideal) P (row i k) : EReal)) (Ideal.ofBits .f32 0x43000000#32) := by
  rw [val_main_v32_apply, val_main_v31_apply, val_main_cst_8_apply, val_main_v30_apply, val_main_v29_apply, val_main_cst_7_apply]
  refine congrArg (fun z => Ideal.div z _) ((congrArg (· + _) Idealize.ShloMosaic.Ideal.ofBits_zero_f32).trans ((zero_add _).trans ?_))
  exact Finset.sum_congr rfl fun k _ => congrArg _ (row_idx i k)

theorem centred_apply (i : S16x32x128x4x128.Idx) : (val_main_v34 (F := Ideal) P i : EReal) = val_main_v28 (F := Ideal) P i
    - Ideal.div (∑ k, (val_main_v28 (F := Ideal) P (row i k) : EReal)) (Ideal.ofBits .f32 0x43000000#32) := by
  rw [val_main_v34_apply, val_main_v33_apply]
  exact congrArg (fun z : EReal => (val_main_v28 (F := Ideal) P i : EReal) - z) (mean_apply P i)

theorem centred_apply' (i : S16x32x128x4x128.Idx) : (val_main_v41 (F := Ideal) P i : EReal) = val_main_v28 (F := Ideal) P i
    - Ideal.div (∑ k, (val_main_v28 (F := Ideal) P (row i k) : EReal)) (Ideal.ofBits .f32 0x43000000#32) := by
  rw [val_main_v41_apply, val_main_v40_apply]
  exact congrArg (fun z : EReal => (val_main_v28 (F := Ideal) P i : EReal) - z) (mean_apply P i)

theorem scale_apply (i : S16x32x128x4x128.Idx) : (val_main_v45 (F := Ideal) P i : EReal)
    = Ideal.rsqrt (Ideal.div (∑ k, (val_main_v34 (F := Ideal) P (row i k) : EReal) * (val_main_v34 (F := Ideal) P (row i k) : EReal))
      (Ideal.ofBits .f32 0x43000000#32) + Ideal.ofBits .f32 0x3727C5AC#32) := by
  rw [val_main_v45_apply, val_main_v44_apply, val_main_v43_apply, val_main_v42_apply, val_main_cst_11_apply, val_main_v39_apply,
    val_main_v38_apply, val_main_cst_10_apply, val_main_v37_apply, val_main_v36_apply, val_main_cst_9_apply]
  refine congrArg (fun z => Ideal.rsqrt (Ideal.div z _ + _))
    ((congrArg (· + _) Idealize.ShloMosaic.Ideal.ofBits_zero_f32).trans ((zero_add _).trans ?_))
  refine Finset.sum_congr rfl fun k _ => ?_
  rw [row_idx' i k, val_main_v35_apply]
  rfl

/-- The normalised value at an entry. -/
theorem normed_apply (b : Fin 16) (n : Fin 32) (q : Fin 128) (g : Fin 4) (c : Fin 128) :
    (val_main_v52 (F := Ideal) P LG LB (ix5 b n q g c) : EReal)
      = lnorm (Ideal.ofBits .f32 0x43000000#32) (val P b (tok n q) g) (LG (ix2 g c)) (LB (ix2 g c)) c := by
  have hv : ∀ k, (val_main_v28 (F := Ideal) P (row (ix5 b n q g c) k) : EReal) = val P b (tok n q) g k := fun k => split_apply P b n q g k
  have hd : ∀ k, (val_main_v34 (F := Ideal) P (row (ix5 b n q g c) k) : EReal) = val P b (tok n q) g k
      - Ideal.div (∑ k, val P b (tok n q) g k) (Ideal.ofBits .f32 0x43000000#32) := fun k => by
    rw [centred_apply, row_row, hv k]
    simp only [hv]
  have hc : (val_main_v41 (F := Ideal) P (ix5 b n q g c) : EReal) = val P b (tok n q) g c
      - Ideal.div (∑ k, val P b (tok n q) g k) (Ideal.ofBits .f32 0x43000000#32) :=
    (centred_apply' P (ix5 b n q g c)).trans ((centred_apply P (ix5 b n q g c)).symm.trans (hd c))
  have hs := scale_apply P (ix5 b n q g c)
  simp only [hd] at hs
  rw [val_main_v52_apply, val_main_v51_apply, val_main_v50_apply, val_main_v49_apply, val_main_v48_apply, val_main_v47_apply,
    val_main_v46_apply]
  unfold lnorm
  refine congrArg₂ (fun a z : EReal => a + z) (congrArg₂ (fun a z : EReal => a * z) (congrArg₂ (fun a z : EReal => a * z) hc hs)
    (congrArg LG (funext fun a => ?_))) (congrArg LB (funext fun a => ?_))
  · match a with
    | ⟨0, _⟩ => rfl
    | ⟨1, _⟩ => rfl
  · match a with
    | ⟨0, _⟩ => rfl
    | ⟨1, _⟩ => rfl

/-! ## The mixing along a chunk, and the gated half -/

theorem lidx53 (b : Fin 16) (n : Fin 32) (p : Fin 128) (g : Fin 4) (c q : Fin 128) :
    lidx_main_v53 (idx_main_v54 (ix5 b n p g c)) q = ix5 b n q g c := funext fun a => by
  match a with
  | ⟨0, _⟩ => rfl
  | ⟨1, _⟩ => rfl
  | ⟨2, _⟩ => rfl
  | ⟨3, _⟩ => rfl
  | ⟨4, _⟩ => rfl

theorem ridx53 (b : Fin 16) (n : Fin 32) (p : Fin 128) (g : Fin 4) (c q : Fin 128) :
    ridx_main_v53 (idx_main_v54 (ix5 b n p g c)) q = ix3 g p q := funext fun a => by
  match a with
  | ⟨0, _⟩ => rfl
  | ⟨1, _⟩ => rfl
  | ⟨2, _⟩ => rfl

theorem mixed_apply (b : Fin 16) (n : Fin 32) (p : Fin 128) (g : Fin 4) (c : Fin 128) :
    (val_main_v59 (F := Ideal) P LG LB W BS (ix5 b n p g c) : EReal) = mixed P LG LB W BS b n p g c := by
  rw [val_main_v59_apply, val_main_v58_apply, val_main_v57_apply, val_main_v56_apply, val_main_v55_apply, val_main_v54_apply,
    val_main_v53_apply]
  unfold mixed
  refine congrArg₂ (fun a z : EReal => a + z) (Finset.sum_congr rfl fun q _ => ?_) (congrArg BS (funext fun a => ?_))
  · rw [lidx53, ridx53, normed_apply]
    exact mul_comm _ _
  · match a with
    | ⟨0, _⟩ => rfl
    | ⟨1, _⟩ => rfl

/-- A token's chunk and its place in the chunk. -/
theorem gated_apply (b : Fin 16) (s : Fin 4096) (k : Fin 512) :
    (val_main_v61 (F := Ideal) P LG LB W BS (ix3 b s k) : EReal)
      = gatedHalf P LG LB W BS b ⟨s.val / 128, by omega⟩ ⟨s.val % 128, Nat.mod_lt _ (by decide)⟩
        ⟨k.val / 128, by omega⟩ ⟨k.val % 128, Nat.mod_lt _ (by decide)⟩ := by
  have hi : idx_main_v60 (ix3 b s k) = ix5 b (⟨s.val / 128, by omega⟩ : Fin 32) (⟨s.val % 128, Nat.mod_lt _ (by decide)⟩ : Fin 128)
      (⟨k.val / 128, by omega⟩ : Fin 4) (⟨k.val % 128, Nat.mod_lt _ (by decide)⟩ : Fin 128) := funext fun a => Fin.ext (by
    match a with
    | ⟨0, _⟩ => show ((b.val * 4096 + s.val) * 512 + k.val) / 2097152 = b.val; omega
    | ⟨1, _⟩ => show ((b.val * 4096 + s.val) * 512 + k.val) / 65536 % 32 = s.val / 128; omega
    | ⟨2, _⟩ => show ((b.val * 4096 + s.val) * 512 + k.val) / 512 % 128 = s.val % 128; omega
    | ⟨3, _⟩ => show ((b.val * 4096 + s.val) * 512 + k.val) / 128 % 4 = k.val / 128; omega
    | ⟨4, _⟩ => show ((b.val * 4096 + s.val) * 512 + k.val) % 128 = k.val % 128; omega)
  rw [val_main_v61_apply, val_main_v60_apply, hi, gate_apply, mixed_apply, val_main_v0_apply]
  unfold gatedHalf
  refine congrArg (fun z : EReal => gelu z * mixed P LG LB W BS b _ _ _ _) (congrArg P (funext fun a => Fin.ext ?_))
  match a with
  | ⟨0, _⟩ => rfl
  | ⟨1, _⟩ => show s.val = 128 * (s.val / 128) + s.val % 128; omega
  | ⟨2, _⟩ => show 2560 + k.val = 2560 + (128 * (k.val / 128) + k.val % 128); omega

/-- The joined row. -/
theorem wide_apply (b : Fin 16) (s : Fin 4096) (k : Fin 1024) :
    (val_main_v62 (F := Ideal) Y P LG LB W BS (ix3 b s k) : EReal) = wide Y P LG LB W BS b s k := by
  unfold val_main_v62 wide
  by_cases h : k.val < 512
  · rw [dif_pos h]
    exact concatenate_pair_apply_left (t := S16x4096x1024) (2 : Fin 3) Y _ _ _ rfl (ix3 b s (⟨k.val, h⟩ : Fin 512)) (fun a => by
      match a with
      | ⟨0, _⟩ => rfl
      | ⟨1, _⟩ => rfl
      | ⟨2, _⟩ => rfl)
  · rw [dif_neg h]
    refine (concatenate_pair_apply_right (t := S16x4096x1024) (s₂ := S16x4096x512) (2 : Fin 3) Y _ _ _ rfl rfl
      (ix3 b s (⟨k.val - 512, by omega⟩ : Fin 512)) (fun a => by
        match a with
        | ⟨0, _⟩ => exact fun _ => rfl
        | ⟨1, _⟩ => exact fun _ => rfl
        | ⟨2, _⟩ => exact fun h => absurd rfl h) (by show k.val - 512 + 512 = k.val; omega)).trans ?_
    exact gated_apply P LG LB W BS b s _

/-- The residual stream. -/
theorem stream_apply (b : Fin 16) (s : Fin 4096) (d : Fin 1024) :
    (val_main_v66 (F := Ideal) Y P X LG LB W BS WO (ix3 b s d) : EReal) = stream Y P X LG LB W BS WO b s d := by
  rw [val_main_v66_apply, val_main_v65_apply, val_main_v64_apply, val_main_cst_12_apply, val_main_v63_apply]
  unfold stream
  refine congrArg (fun z : EReal => Ideal.ofBits .f32 0x3F9837F0#32 * (X (ix3 b s d) : EReal) + z) (Finset.sum_congr rfl fun k _ => ?_)
  refine congrArg₂ (fun a z : EReal => a * z) (Eq.trans (congrArg _ (funext fun a => ?_)) (wide_apply Y P LG LB W BS b s k))
    (congrArg WO (funext fun a => ?_))
  · match a with
    | ⟨0, _⟩ => rfl
    | ⟨1, _⟩ => rfl
    | ⟨2, _⟩ => rfl
  · match a with
    | ⟨0, _⟩ => rfl
    | ⟨1, _⟩ => rfl

/-! ## The last norm -/

theorem line_idx (b : Fin 16) (s : Fin 4096) (d k : Fin 1024) : idx_main_v67 (idx_main_v68 (idx_main_v71 (ix3 b s d))) k = ix3 b s k :=
  funext fun a => by
    match a with
    | ⟨0, _⟩ => rfl
    | ⟨1, _⟩ => rfl
    | ⟨2, _⟩ => rfl

theorem mean_out (b : Fin 16) (s : Fin 4096) (d : Fin 1024) :
    (val_main_v70 (F := Ideal) Y P X LG LB W BS WO (idx_main_v71 (ix3 b s d)) : EReal)
      = Ideal.div (∑ k, stream Y P X LG LB W BS WO b s k) (Ideal.ofBits .f32 0x44800000#32) := by
  rw [val_main_v70_apply, val_main_v69_apply, val_main_cst_14_apply, val_main_v68_apply, val_main_v67_apply, val_main_cst_13_apply]
  refine congrArg (fun z => Ideal.div z _) ((congrArg (· + _) Idealize.ShloMosaic.Ideal.ofBits_zero_f32).trans ((zero_add _).trans ?_))
  refine Finset.sum_congr rfl fun k _ => ?_
  rw [line_idx b s d k, stream_apply]

theorem centred_out (b : Fin 16) (s : Fin 4096) (d : Fin 1024) :
    (val_main_v72 (F := Ideal) Y P X LG LB W BS WO (ix3 b s d) : EReal) = stream Y P X LG LB W BS WO b s d
      - Ideal.div (∑ k, stream Y P X LG LB W BS WO b s k) (Ideal.ofBits .f32 0x44800000#32) := by
  rw [val_main_v72_apply, val_main_v71_apply, stream_apply]
  exact congrArg (fun z : EReal => stream Y P X LG LB W BS WO b s d - z) (mean_out Y P X LG LB W BS WO b s d)

theorem centred_out' (b : Fin 16) (s : Fin 4096) (d : Fin 1024) :
    (val_main_v79 (F := Ideal) Y P X LG LB W BS WO (ix3 b s d) : EReal) = stream Y P X LG LB W BS WO b s d
      - Ideal.div (∑ k, stream Y P X LG LB W BS WO b s k) (Ideal.ofBits .f32 0x44800000#32) := by
  rw [val_main_v79_apply, val_main_v78_apply, stream_apply]
  exact congrArg (fun z : EReal => stream Y P X LG LB W BS WO b s d - z) (mean_out Y P X LG LB W BS WO b s d)

theorem scale_out (b : Fin 16) (s : Fin 4096) (d : Fin 1024) :
    (val_main_v83 (F := Ideal) Y P X LG LB W BS WO (ix3 b s d) : EReal)
      = Ideal.rsqrt (Ideal.div (∑ k, (stream Y P X LG LB W BS WO b s k
          - Ideal.div (∑ k, stream Y P X LG LB W BS WO b s k) (Ideal.ofBits .f32 0x44800000#32))
        * (stream Y P X LG LB W BS WO b s k
          - Ideal.div (∑ k, stream Y P X LG LB W BS WO b s k) (Ideal.ofBits .f32 0x44800000#32)))
        (Ideal.ofBits .f32 0x44800000#32) + Ideal.ofBits .f32 0x3727C5AC#32) := by
  rw [val_main_v83_apply, val_main_v82_apply, val_main_v81_apply, val_main_v80_apply, val_main_cst_17_apply, val_main_v77_apply,
    val_main_v76_apply, val_main_cst_16_apply, val_main_v75_apply, val_main_v74_apply, val_main_cst_15_apply]
  refine congrArg (fun z => Ideal.rsqrt (Ideal.div z _ + _))
    ((congrArg (· + _) Idealize.ShloMosaic.Ideal.ofBits_zero_f32).trans ((zero_add _).trans ?_))
  refine Finset.sum_congr rfl fun k _ => ?_
  have hi : idx_main_v74 (idx_main_v75 (idx_main_v83 (ix3 b s d))) k = ix3 b s k := line_idx b s d k
  rw [hi, val_main_v73_apply]
  exact congrArg₂ (fun a z : EReal => a * z) (centred_out Y P X LG LB W BS WO b s k) (centred_out Y P X LG LB W BS WO b s k)

/-- The plain mixing's result at a place. -/
theorem result_apply (b : Fin 16) (s : Fin 4096) (d : Fin 1024) :
    (val_main_v90 (F := Ideal) Y P X LG LB W BS WO G B (ix3 b s d) : EReal) = Mixing.out Y P X LG LB W BS WO G B (ix3 b s d) := by
  rw [val_main_v90_apply, val_main_v89_apply, val_main_v88_apply, val_main_v87_apply, val_main_v86_apply, val_main_v85_apply,
    val_main_v84_apply]
  show _ = lnorm (Ideal.ofBits .f32 0x44800000#32) (stream Y P X LG LB W BS WO b s) (G (ix1 d)) (B (ix1 d)) d
  unfold lnorm
  refine congrArg₂ (fun a z : EReal => a + z) (congrArg₂ (fun a z : EReal => a * z) (congrArg₂ (fun a z : EReal => a * z)
    (centred_out' Y P X LG LB W BS WO b s d) (scale_out Y P X LG LB W BS WO b s d))
    (congrArg G (funext fun a => ?_))) (congrArg B (funext fun a => ?_))
  · match a with
    | ⟨0, _⟩ => rfl
  · match a with
    | ⟨0, _⟩ => rfl

theorem eta (i : S16x4096x1024.Idx) : i = ix3 (i 0) (i 1) (i 2) := funext fun a => by
  match a with
  | ⟨0, _⟩ => rfl
  | ⟨1, _⟩ => rfl
  | ⟨2, _⟩ => rfl

/-- The plain mixing's result. -/
theorem result : (val_main_v90 (F := Ideal) Y P X LG LB W BS WO G B : Rows 1024) = Mixing.out Y P X LG LB W BS WO G B := by
  refine funext fun (i : S16x4096x1024.Idx) => ?_
  refine (congrArg _ (eta i)).trans ((result_apply Y P X LG LB W BS WO G B (i 0) (i 1) (i 2)).trans ?_)
  exact congrArg _ (eta i).symm

end Cert.MixRefIdeal.Stages

end
-- ==== Proof.Layer.NormSpec.lean ====
/- The last call in closed form: the residual sum of a token row with its tiles, and the layer norm of it. -/
module

public import proofs.«01_k».proof.Proof.Layer.MixSpec

@[expose] public section

noncomputable section

namespace Cert.LastNorm

open Cert.Mixing
open Idealize.ShloMosaic
open Idealize.ShloMosaic.ValueIdx

variable (H : FVec Ideal ⟨2, ![65536, 1024]⟩ .f32) (T : FVec Ideal ⟨3, ![65536, 8, 128]⟩ .f32) (G B : FVec Ideal ⟨1, ![1024]⟩ .f32)

/-- The residual stream at a token and a column. -/
def stream (s : Fin 65536) (d : Fin 1024) : EReal :=
  Ideal.ofBits .f32 0x3F9837F0#32 * (H (ix2 s d) : EReal)
    + (T (ix3 s (⟨d.val / 128, by omega⟩ : Fin 8) (⟨d.val % 128, Nat.mod_lt _ (by decide)⟩ : Fin 128)) : EReal)

/-- The result at a token and a column. -/
def entry (s : Fin 65536) (d : Fin 1024) : EReal :=
  lnorm (Ideal.ofBits .f32 0x44800000#32) (stream H T s) (G (ix1 d)) (B (ix1 d)) d

/-- The result. -/
def out : FVec Ideal ⟨2, ![65536, 1024]⟩ .f32 := fun i => entry H T G B (i 0) (i 1)

end Cert.LastNorm

end
-- ==== Proof.Layer.NormFinal.lean ====
/- The last call's output array: each grid point's block is 512 token rows. -/
module

public import proofs.«01_k».proof.Proof.Layer.NormSpec
public import proofs.«01_k».proof.Proof.Gen.NormIdeal.Value
public import Idealize.ShloMosaic.Lib.StableHlo.RunRead
public import Idealize.ShloMosaic.Lib.Pipeline.Value
public import Idealize.ShloMosaic.Lib.ValueIdx
public import Idealize.ShloMosaic.Lib.Pipeline.ValueKit.Tiles
public import Idealize.ShloMosaic.PureOps.Ideal.Laws

@[expose] public section

set_option maxRecDepth 16384

noncomputable section

namespace Cert.NormIdeal.Body

open Cert.NormIdeal Cert.NormIdeal.Gen Cert.Mixing Cert.LastNorm
open Idealize.ShloMosaic Idealize.ShloMosaic.TcCoe
open Idealize.ShloMosaic.ValueIdx
open Idealize.SL.Sem

/-! ## The block -/

/-- The columns of a tile, and the rows of the tiles that hold them. -/
abbrev colRect (c : Fin 8) : Rect S512x1024 := Rect.unit ![0, 128 * c.val] S512x128.size (fun a => by
  match a with
  | ⟨0, _⟩ => show 0 + 512 ≤ 512; omega
  | ⟨1, _⟩ => show 128 * c.val + 128 ≤ 1024; omega)
abbrev tileRect (c : Fin 8) : LoadRect S4096x128 := ⟨![c.val, 0], S512x128.size, ![8, 1], fun a => by
  match a with
  | ⟨0, _⟩ => exact Or.inr (by show c.val + 8 * (512 - 1) < 4096; omega)
  | ⟨1, _⟩ => exact Or.inr (by show 0 + 1 * (128 - 1) < 128; omega)⟩

/-- One tile's columns of the residual stream. -/
def part (x : Vec Ideal S512x1024 .f32) (f : Vec Ideal S4096x128 .f32) (c : Fin 8) : FVec Ideal S512x128 .f32 :=
  addf (mulf (broadcast S512x128 (Scalar.ofBits .f32 0x3F9837F0#32 : Ideal .f32)) (View.ld x (colRect c)))
    (shapeCast S512x128 (fun j => f ((tileRect c).idx j)) shapeCasts_S512x128_S512x128)

/-- The residual stream of a block. -/
def parts (x : Vec Ideal S512x1024 .f32) (f : Vec Ideal S4096x128 .f32) : FVec Ideal S512x1024 .f32 :=
  concatenate S512x1024 1 [⟨S512x128, part x f 0⟩, ⟨S512x128, part x f 1⟩, ⟨S512x128, part x f 2⟩, ⟨S512x128, part x f 3⟩,
    ⟨S512x128, part x f 4⟩, ⟨S512x128, part x f 5⟩, ⟨S512x128, part x f 6⟩, ⟨S512x128, part x f 7⟩]
    concatenates_S512x128_S512x128_S512x128_S512x128_S512x128_S512x128_S512x128_S512x128_S512x1024_d1

/-- The block. -/
def block (x : Vec Ideal S512x1024 .f32) (f : Vec Ideal S4096x128 .f32) (g b : Vec Ideal S1x1024 .f32) : FVec Ideal S512x1024 .f32 :=
  norm (M := 512) (N := 1024) (Scalar.ofBits .f32 0x44800000#32) (parts x f)
    reduces_S512x1024_S512 shapeCasts_S512_S512x1 broadcasts_S512x1_S512x1024 broadcasts_S1x1024_S512x1024
    (shapeCast S1x1024 g shapeCasts_S1x1024_S1x1024) (shapeCast S1x1024 b shapeCasts_S1x1024_S1x1024)

theorem part_apply (x : Vec Ideal S512x1024 .f32) (f : Vec Ideal S4096x128 .f32) (c : Fin 8) (r : Fin 512) (k : Fin 128) :
    (part x f c (ix2 r k) : EReal) = Ideal.ofBits .f32 0x3F9837F0#32 * (x (ix2 r (⟨128 * c.val + k.val, by omega⟩ : Fin 1024)) : EReal)
      + (f (ix2 (⟨8 * r.val + c.val, by omega⟩ : Fin 4096) k) : EReal) := by
  unfold part
  rw [shapeCast_self]
  refine congrArg₂ (fun a z : EReal => Ideal.ofBits .f32 0x3F9837F0#32 * a + z) (congrArg x (funext fun a => Fin.ext ?_))
    (congrArg f (funext fun a => Fin.ext ?_))
  · match a with
    | ⟨0, _⟩ => show 0 + 1 * r.val = r.val; omega
    | ⟨1, _⟩ => show 128 * c.val + 1 * k.val = 128 * c.val + k.val; omega
  · match a with
    | ⟨0, _⟩ => show c.val + 8 * r.val = 8 * r.val + c.val; omega
    | ⟨1, _⟩ => show 0 + 1 * k.val = k.val; omega

theorem parts_apply (x : Vec Ideal S512x1024 .f32) (f : Vec Ideal S4096x128 .f32) (r : Fin 512) (d : Fin 1024) :
    (parts x f (ix2 r d) : EReal) = Ideal.ofBits .f32 0x3F9837F0#32 * (x (ix2 r d) : EReal)
      + (f (ix2 (⟨8 * r.val + d.val / 128, by omega⟩ : Fin 4096) (⟨d.val % 128, Nat.mod_lt _ (by decide)⟩ : Fin 128)) : EReal) := by
  refine Eq.trans (concatenate_ofFn_apply (t := S512x1024) (s₁ := S512x128) (1 : Fin 2) (part x f)
    concatenates_S512x128_S512x128_S512x128_S512x128_S512x128_S512x128_S512x128_S512x128_S512x1024_d1 rfl 128 rfl (ix2 r d)
    (⟨d.val / 128, by omega⟩ : Fin 8) rfl (ix2 r (⟨d.val % 128, Nat.mod_lt _ (by decide)⟩ : Fin 128)) rfl (fun a => by
      match a with
      | ⟨0, _⟩ => exact fun _ => rfl
      | ⟨1, _⟩ => exact fun h => absurd rfl h)) ?_
  refine (part_apply x f _ r _).trans ?_
  refine congrArg (fun z : EReal => Ideal.ofBits .f32 0x3F9837F0#32 * z + _) (congrArg x (congrArg (ix2 r) (Fin.ext ?_)))
  show 128 * (d.val / 128) + d.val % 128 = d.val
  omega

theorem block_apply (x : Vec Ideal S512x1024 .f32) (f : Vec Ideal S4096x128 .f32) (g b : Vec Ideal S1x1024 .f32) (r : Fin 512) (d : Fin 1024) :
    (block x f g b (ix2 r d) : EReal) = lnorm (Ideal.ofBits .f32 0x44800000#32) (fun d => parts x f (ix2 r d))
      (g (ix2 (0 : Fin 1) d)) (b (ix2 (0 : Fin 1) d)) d := by
  unfold block
  rw [shapeCast_self, shapeCast_self]
  exact norm_apply (M := 512) (N := 1024) _ _ reduces_S512x1024_S512 shapeCasts_S512_S512x1 broadcasts_S512x1_S512x1024
    broadcasts_S1x1024_S512x1024 g b (by decide) (by decide) r d

section Run

variable (c : Dev nD) (i : grid0.Coords)
  (arg1 : Memref sig .tc .vmem S512x1024 .f32) (harg1 : arg1.IsWhole) (arg2 : Memref sig .tc .vmem S4096x128 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S512x1024 .f32) (harg5 : arg5.IsWhole)
  (x0 : Vec Ideal S512x1024 .f32) (x1 : Vec Ideal S4096x128 .f32) (x2 : Vec Ideal S1x1024 .f32) (x3 : Vec Ideal S1x1024 .f32)

theorem out_eq : (out0_A_4 (F := Ideal) c i arg1 harg1 arg2 harg2 arg3 harg3 arg4 harg4 arg5 harg5 x0 x1 x2 x3 : Vec Ideal S512x1024 .f32)
    = block x0 x1 x2 x3 := by
  have h : (kernelRun0_A (F := Ideal) c i arg1 harg1 arg2 harg2 arg3 harg3 arg4 harg4 arg5 harg5 x0 x1 x2 x3).1
    = [⟨Rect.unit (s := S512x1024) ![0, 0] S512x1024.size inb_S512x1024_S512x1024_0_0,
      block (arg1.view.read (Elt Ideal) (harg1.unread x0)) (arg2.view.read (Elt Ideal) (harg2.unread x1))
        (View.ld (arg3.view.read (Elt Ideal) (harg3.unread x2)) (Rect.unit (s := S1x1024) ![0, 0] S1x1024.size inb_S1x1024_S1x1024_0_0))
        (View.ld (arg4.view.read (Elt Ideal) (harg4.unread x3)) (Rect.unit (s := S1x1024) ![0, 0] S1x1024.size inb_S1x1024_S1x1024_0_0))⟩] := rfl
  unfold out0_A_4
  rw [View.read_writes_junk_eq_canon, h]
  refine (View.canon_unit_zero (by decide) _ _).trans ?_
  rw [View.ld_unit_zero (by decide), View.ld_unit_zero (by decide)]
  simp only [harg1.read_unread, harg2.read_unread, harg3.read_unread, harg4.read_unread]

end Run

/-! ## The windows -/

variable (m : (ℓ : Loc nD τ sig) → Buf (Elt Ideal) ℓ) (ρ : Dev nD → PrngReg)

theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0))

theorem lt128 (t : Fin cfg0.N) : t.val < 128 := by have h := t.isLt; have hN : cfg0.N = 128 := N_0; omega

/-- A token of a grid point. -/
def rowOf (t : Fin cfg0.N) (r : Fin 512) : Fin 65536 := ⟨t.val * 512 + r.val, by have := lt128 t; omega⟩

abbrev aH (c : Dev nD) : FVec Ideal ⟨2, ![65536, 1024]⟩ .f32 := m ((c : Thread nD τ).loc main_arg0)
abbrev aT (c : Dev nD) : FVec Ideal ⟨3, ![65536, 8, 128]⟩ .f32 := m ((c : Thread nD τ).loc main_arg1)
abbrev aG (c : Dev nD) : FVec Ideal ⟨1, ![1024]⟩ .f32 := m ((c : Thread nD τ).loc main_arg2)
abbrev aB (c : Dev nD) : FVec Ideal ⟨1, ![1024]⟩ .f32 := m ((c : Thread nD τ).loc main_arg3)

theorem V_v0 (c : Dev nD) : V m c main_v0 = shapeCast S524288x128 (aT m c) shapeCasts_S65536x8x128_S524288x128 := by
  unfold V
  after_reads_simp
  try rfl

theorem V_v1 (c : Dev nD) : V m c main_v1 = shapeCast S1x1024 (aG m c) shapeCasts_S1024_S1x1024 := by
  unfold V
  after_reads_simp
  try rfl

theorem V_v2 (c : Dev nD) : V m c main_v2 = shapeCast S1x1024 (aB m c) shapeCasts_S1024_S1x1024 := by
  unfold V
  after_reads_simp
  try rfl

/-- A parameter of the model's width as one row, at a column. -/
theorem line_apply (A : FVec Ideal ⟨1, ![1024]⟩ .f32) (d : Fin 1024) :
    (shapeCast S1x1024 A shapeCasts_S1024_S1x1024 (ix2 (0 : Fin 1) d) : EReal) = A (ix1 d) :=
  shapeCast_apply _ _ _ _ (by
    rw [Shape.rowMajor_val_one, Shape.rowMajor_val_two]
    simp [ix2, ix1])

theorem blk_0 (c : Dev nD) (t : Fin cfg0.N) (r : Fin 512) (d : Fin 1024) :
    (iblk m c 0 t (ix2 r d) : EReal) = aH m c (ix2 (rowOf t r) d) := by
  obtain ⟨⟨h0, h1⟩, -⟩ := idx_facts t
  unfold iblk; rw [View.read_apply]
  show V m c main_arg0 _ = _
  rw [V_main_arg0]
  refine congrArg (aH m c) (funext fun a => Fin.ext ?_)
  match a with
  | ⟨0, _⟩ => show win0_0.index t 0 * 512 + 1 * r.val = t.val * 512 + r.val; rw [h0]; omega
  | ⟨1, _⟩ => show win0_0.index t 1 * 1024 + 1 * d.val = d.val; rw [h1]; omega

theorem blk_1 (c : Dev nD) (t : Fin cfg0.N) (r : Fin 512) (e : Fin 8) (k : Fin 128) :
    (iblk m c 1 t (ix2 (⟨8 * r.val + e.val, by omega⟩ : Fin 4096) k) : EReal) = aT m c (ix3 (rowOf t r) e k) := by
  obtain ⟨-, ⟨h0, h1⟩, -⟩ := idx_facts t
  have ht := lt128 t
  unfold iblk; rw [View.read_apply]
  show V m c main_v0 _ = _
  rw [V_v0]
  refine (congrArg _ (funext fun a => Fin.ext ?_)).trans (shapeCast_apply _ _
    (ix2 (⟨t.val * 4096 + (8 * r.val + e.val), by omega⟩ : Fin 524288) k) (ix3 (rowOf t r) e k) ?_)
  · match a with
    | ⟨0, _⟩ => show win0_1.index t 0 * 4096 + 1 * (8 * r.val + e.val) = t.val * 4096 + (8 * r.val + e.val); rw [h0]; omega
    | ⟨1, _⟩ => show win0_1.index t 1 * 128 + 1 * k.val = k.val; rw [h1]; omega
  · rw [Shape.rowMajor_val_three, Shape.rowMajor_val_two]
    show ((t.val * 512 + r.val) * 8 + e.val) * 128 + k.val = (t.val * 4096 + (8 * r.val + e.val)) * 128 + k.val
    omega

theorem blk_2 (c : Dev nD) (t : Fin cfg0.N) (d : Fin 1024) : (iblk m c 2 t (ix2 (0 : Fin 1) d) : EReal) = aG m c (ix1 d) := by
  obtain ⟨-, -, ⟨h0, h1⟩, -⟩ := idx_facts t
  unfold iblk; rw [View.read_apply]
  show V m c main_v1 _ = _
  rw [V_v1]
  refine (congrArg _ (funext fun a => Fin.ext ?_)).trans (line_apply (aG m c) d)
  match a with
  | ⟨0, _⟩ => show win0_2.index t 0 * 1 + 1 * 0 = 0; rw [h0]
  | ⟨1, _⟩ => show win0_2.index t 1 * 1024 + 1 * d.val = d.val; rw [h1]; omega

theorem blk_3 (c : Dev nD) (t : Fin cfg0.N) (d : Fin 1024) : (iblk m c 3 t (ix2 (0 : Fin 1) d) : EReal) = aB m c (ix1 d) := by
  obtain ⟨-, -, -, ⟨h0, h1⟩, -⟩ := idx_facts t
  unfold iblk; rw [View.read_apply]
  show V m c main_v2 _ = _
  rw [V_v2]
  refine (congrArg _ (funext fun a => Fin.ext ?_)).trans (line_apply (aB m c) d)
  match a with
  | ⟨0, _⟩ => show win0_3.index t 0 * 1 + 1 * 0 = 0; rw [h0]
  | ⟨1, _⟩ => show win0_3.index t 1 * 1024 + 1 * d.val = d.val; rw [h1]; omega

theorem block_at (c : Dev nD) (t : Fin cfg0.N) (r : Fin 512) (d : Fin 1024) :
    (block (iblk m c 0 t) (iblk m c 1 t) (iblk m c 2 t) (iblk m c 3 t) (ix2 r d) : EReal)
      = entry (aH m c) (aT m c) (aG m c) (aB m c) (rowOf t r) d := by
  refine (block_apply _ _ _ _ r d).trans ?_
  rw [blk_2, blk_3]
  unfold entry
  refine congrArg (fun f => lnorm _ f _ _ d) (funext fun e => ?_)
  refine (parts_apply _ _ r e).trans ?_
  unfold LastNorm.stream
  rw [blk_0 m c t r e, blk_1 m c t r (⟨e.val / 128, by omega⟩ : Fin 8) (⟨e.val % 128, Nat.mod_lt _ (by decide)⟩ : Fin 128)]

theorem read_out (t : Fin cfg0.N) (Z : FVec Ideal ⟨2, ![65536, 1024]⟩ .f32) (r : Fin 512) (d : Fin 1024) :
    (((cfg0.win 4).blk t).view.read (Elt Ideal) Z : Vec Ideal S512x1024 .f32) (ix2 r d) = Z (ix2 (rowOf t r) d) := by
  obtain ⟨-, -, -, -, h0, h1⟩ := idx_facts t
  rw [View.read_apply]
  refine congrArg Z (funext fun a => Fin.ext ?_)
  match a with
  | ⟨0, _⟩ => show win0_4.index t 0 * 512 + 1 * r.val = t.val * 512 + r.val; rw [h0]; omega
  | ⟨1, _⟩ => show win0_4.index t 1 * 1024 + 1 * d.val = d.val; rw [h1]; omega

theorem eta2 (j : S512x1024.Idx) : j = ix2 (j 0) (j 1) := funext fun a => by
  match a with
  | ⟨0, _⟩ => rfl
  | ⟨1, _⟩ => rfl

theorem cut_eq (t : Fin cfg0.N) (X : Vec Ideal S512x1024 .f32) (Z : FVec Ideal ⟨2, ![65536, 1024]⟩ .f32)
    (h : ∀ (r : Fin 512) (d : Fin 1024), X (ix2 r d) = Z (ix2 (rowOf t r) d)) :
    (cfg0.win 4).cut (grid0.coords t) X = ((cfg0.win 4).blk t).view.read (Elt Ideal) Z := by
  refine funext fun (j : S512x1024.Idx) => ?_
  rw [eta2 j]
  exact (h (j 0) (j 1)).trans (read_out t Z (j 0) (j 1)).symm

theorem flushed_eq (c : Dev nD) (t : Fin cfg0.N) (_ : (cfg0.win 4).flush t = true) :
    (dats m 0 c).flushed 4 t = ((cfg0.win 4).blk t).view.read (Elt Ideal) (LastNorm.out (aH m c) (aT m c) (aG m c) (aB m c)) := by
  rw [Value.flushed4_A, out_eq]
  exact cut_eq t _ _ fun r d => block_at m c t r d

/-- The call's result array. -/
theorem final (c : Dev nD) : (dats m 0 c).arrAt 4 cfg0.N = LastNorm.out (aH m c) (aT m c) (aG m c) (aB m c) :=
  (dats m 0 c).arrAt_eq_of_cover 4 _ (flushed_eq m c) fun i => by
    have h0' : (i 0 : Nat) < 65536 := (i 0).isLt
    have h1' : (i 1 : Nat) < 1024 := (i 1).isLt
    have hN : cfg0.N = 128 := N_0
    refine ⟨⟨(i 0 : Nat) / 512, by rw [hN]; omega⟩, flush0_4 _, ?_⟩
    generalize ht : (⟨(i 0 : Nat) / 512, _⟩ : Fin cfg0.N) = t
    have htv : t.val = (i 0 : Nat) / 512 := by rw [← ht]
    obtain ⟨-, -, -, -, h0, h1⟩ := idx_facts t
    show i ∈ ((View.whole main_v3).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [h0]; omega
    | ⟨1, _⟩ => show win0_4.index t 1 * 1024 ≤ (i 1 : Nat) ∧ (i 1 : Nat) < win0_4.index t 1 * 1024 + 1024
                rw [h1]; omega

end Cert.NormIdeal.Body

end
-- ==== Proof.Layer.NormRef.lean ====
/- The plain last norm's result, read one stage at a time: it is the array `out` of its arguments. -/
module

public import proofs.«01_k».proof.Proof.Layer.NormSpec
public import proofs.«01_k».proof.Proof.Gen.NormRefIdeal.Read

@[expose] public section

noncomputable section

namespace Cert.NormRefIdeal.Stages

open Cert.NormRefIdeal Cert.NormRefIdeal.Gen Cert.NormRefIdeal.Read Cert.LastNorm
open Idealize.ShloMosaic
open Idealize.ShloMosaic.ValueIdx

variable (H : FVec Ideal ⟨2, ![65536, 1024]⟩ .f32) (T : FVec Ideal ⟨3, ![65536, 8, 128]⟩ .f32) (G B : FVec Ideal ⟨1, ![1024]⟩ .f32)

theorem tile_idx (s : Fin 65536) (d : Fin 1024) : idx_main_v2 (ix2 s d)
    = ix3 s (⟨d.val / 128, by omega⟩ : Fin 8) (⟨d.val % 128, Nat.mod_lt _ (by decide)⟩ : Fin 128) :=
  funext fun a => Fin.ext (by
    match a with
    | ⟨0, _⟩ => show (s.val * 1024 + d.val) / 1024 = s.val; omega
    | ⟨1, _⟩ => show (s.val * 1024 + d.val) / 128 % 8 = d.val / 128; omega
    | ⟨2, _⟩ => show (s.val * 1024 + d.val) % 128 = d.val % 128; omega)

theorem stream_apply (s : Fin 65536) (d : Fin 1024) : (val_main_v3 (F := Ideal) H T (ix2 s d) : EReal) = stream H T s d := by
  rw [val_main_v3_apply, val_main_v1_apply, val_main_v0_apply, val_main_cst_apply, val_main_v2_apply, tile_idx]
  rfl

theorem line_idx (s : Fin 65536) (d k : Fin 1024) : idx_main_v4 (idx_main_v5 (idx_main_v8 (ix2 s d))) k = ix2 s k :=
  funext fun a => by
    match a with
    | ⟨0, _⟩ => rfl
    | ⟨1, _⟩ => rfl

/-- The mean of a token's row. -/
abbrev mean (s : Fin 65536) : EReal := Ideal.div (∑ k, stream H T s k) (Ideal.ofBits .f32 0x44800000#32)

theorem mean_apply (s : Fin 65536) (d : Fin 1024) : (val_main_v7 (F := Ideal) H T (idx_main_v8 (ix2 s d)) : EReal) = mean H T s := by
  rw [val_main_v7_apply, val_main_v6_apply, val_main_cst_1_apply, val_main_v5_apply, val_main_v4_apply, val_main_cst_0_apply]
  refine congrArg (fun z => Ideal.div z _) ((congrArg (· + _) Idealize.ShloMosaic.Ideal.ofBits_zero_f32).trans ((zero_add _).trans ?_))
  refine Finset.sum_congr rfl fun k _ => ?_
  rw [line_idx s d k, stream_apply]

theorem centred (s : Fin 65536) (d : Fin 1024) :
    (val_main_v9 (F := Ideal) H T (ix2 s d) : EReal) = stream H T s d - mean H T s := by
  rw [val_main_v9_apply, val_main_v8_apply, stream_apply]
  exact congrArg (fun z : EReal => stream H T s d - z) (mean_apply H T s d)

theorem centred' (s : Fin 65536) (d : Fin 1024) :
    (val_main_v16 (F := Ideal) H T (ix2 s d) : EReal) = stream H T s d - mean H T s := by
  rw [val_main_v16_apply, val_main_v15_apply, stream_apply]
  exact congrArg (fun z : EReal => stream H T s d - z) (mean_apply H T s d)

theorem scale (s : Fin 65536) (d : Fin 1024) :
    (val_main_v20 (F := Ideal) H T (ix2 s d) : EReal)
      = Ideal.rsqrt (Ideal.div (∑ k, (stream H T s k - mean H T s) * (stream H T s k - mean H T s))
        (Ideal.ofBits .f32 0x44800000#32) + Ideal.ofBits .f32 0x3727C5AC#32) := by
  rw [val_main_v20_apply, val_main_v19_apply, val_main_v18_apply, val_main_v17_apply, val_main_cst_4_apply, val_main_v14_apply,
    val_main_v13_apply, val_main_cst_3_apply, val_main_v12_apply, val_main_v11_apply, val_main_cst_2_apply]
  refine congrArg (fun z => Ideal.rsqrt (Ideal.div z _ + _))
    ((congrArg (· + _) Idealize.ShloMosaic.Ideal.ofBits_zero_f32).trans ((zero_add _).trans ?_))
  refine Finset.sum_congr rfl fun k _ => ?_
  have hi : idx_main_v11 (idx_main_v12 (idx_main_v20 (ix2 s d))) k = ix2 s k := line_idx s d k
  rw [hi, val_main_v10_apply]
  exact congrArg₂ (fun a z : EReal => a * z) (centred H T s k) (centred H T s k)

/-- The plain last norm's result at a place. -/
theorem result_apply (s : Fin 65536) (d : Fin 1024) :
    (val_main_v27 (F := Ideal) H T G B (ix2 s d) : EReal) = LastNorm.out H T G B (ix2 s d) := by
  rw [val_main_v27_apply, val_main_v26_apply, val_main_v25_apply, val_main_v24_apply, val_main_v23_apply, val_main_v22_apply,
    val_main_v21_apply]
  show _ = Mixing.lnorm (Ideal.ofBits .f32 0x44800000#32) (stream H T s) (G (ix1 d)) (B (ix1 d)) d
  unfold Mixing.lnorm
  refine congrArg₂ (fun a z : EReal => a + z) (congrArg₂ (fun a z : EReal => a * z) (congrArg₂ (fun a z : EReal => a * z)
    (centred' H T s d) (scale H T s d)) (congrArg G (funext fun a => ?_))) (congrArg B (funext fun a => ?_))
  · match a with
    | ⟨0, _⟩ => rfl
  · match a with
    | ⟨0, _⟩ => rfl

theorem eta (i : S65536x1024.Idx) : i = ix2 (i 0) (i 1) := funext fun a => by
  match a with
  | ⟨0, _⟩ => rfl
  | ⟨1, _⟩ => rfl

/-- The plain last norm's result. -/
theorem result : (val_main_v27 (F := Ideal) H T G B : FVec Ideal ⟨2, ![65536, 1024]⟩ .f32) = LastNorm.out H T G B := by
  refine funext fun (i : S65536x1024.Idx) => ?_
  refine (congrArg _ (eta i)).trans ((result_apply H T G B (i 0) (i 1)).trans ?_)
  exact congrArg _ (eta i).symm

end Cert.NormRefIdeal.Stages

end
-- ==== Proof.Layer.RouteMath.lean ====
/- Choosing the greatest by repeated maximum: the picks are the stable sort's first positions, and of all pairs of two sorted
   lists only the pairs near the corner can be chosen. -/
module

public import Idealize.ShloMosaic.Lib.SortFacts
public import Idealize.ShloMosaic.PureOps.Ideal.Laws

@[expose] public section

noncomputable section

namespace Cert.Picks

open Idealize.ShloMosaic

variable {n : ℕ}

/-- `p` is chosen before `q`: the greater value, and of equal values the lower order number. -/
def before (x o : Fin n → EReal) (p q : Fin n) : Prop := x q < x p ∨ (x p = x q ∧ o p < o q)

theorem before_trans {x o : Fin n → EReal} {p q r : Fin n} (h : before x o p q) (h' : before x o q r) : before x o p r := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- The first `k` choices. -/
structure IsTop (x o : Fin n → EReal) (k : ℕ) (σ : ℕ → Fin n) : Prop where
  new : ∀ r < k, ∀ j < r, σ j ≠ σ r
  best : ∀ r < k, ∀ p, (∀ j < r, σ j ≠ p) → ¬ before x o p (σ r)

theorem IsTop.unique {x o : Fin n → EReal} (ho : Function.Injective o) {k : ℕ} {σ τ : ℕ → Fin n} (hσ : IsTop x o k σ)
    (hτ : IsTop x o k τ) : ∀ r < k, σ r = τ r := by
  intro r
  induction r using Nat.strong_induction_on with
  | _ r ih =>
    intro hr
    have h1 := hτ.best r hr (σ r) fun j hj => by rw [← ih j hj (hj.trans hr)]; exact hσ.new r hr j hj
    have h2 := hσ.best r hr (τ r) fun j hj => by rw [ih j hj (hj.trans hr)]; exact hτ.new r hr j hj
    unfold before at h1 h2
    push Not at h1 h2
    have e : x (σ r) = x (τ r) := le_antisymm h1.1 h2.1
    exact ho (le_antisymm (h2.2 e.symm) (h1.2 e))

theorem IsTop.mono {x o : Fin n → EReal} {k k' : ℕ} (hk : k' ≤ k) {σ : ℕ → Fin n} (h : IsTop x o k σ) : IsTop x o k' σ :=
  ⟨fun r hr => h.new r (hr.trans_le hk), fun r hr => h.best r (hr.trans_le hk)⟩

theorem IsTop.sorted {x o : Fin n → EReal} {k : ℕ} {σ : ℕ → Fin n} (h : IsTop x o k σ) {i j : ℕ} (hij : i ≤ j) (hj : j < k) :
    x (σ j) ≤ x (σ i) := by
  rcases hij.eq_or_lt with rfl | hij
  · exact le_rfl
  · have := h.best i (hij.trans hj) (σ j) fun t ht => h.new j hj t (ht.trans hij)
    unfold before at this
    push Not at this
    exact this.1

/-! ## Repeated maximum -/

/-- The greatest value. -/
def mx (t : Fin n → EReal) : EReal := (Finset.univ : Finset (Fin n)).fold max ⊥ t

/-- The lowest order number of a place that holds the greatest value. -/
def mn (big : EReal) (o t : Fin n → EReal) : EReal :=
  (Finset.univ : Finset (Fin n)).fold min ⊤ fun p => if t p = mx t then o p else big

/-- The values after the place is struck out. -/
def nxt (big : EReal) (o t : Fin n → EReal) (p : Fin n) : EReal := if o p = mn big o t then ⊥ else t p

/-- The values after `r` rounds. -/
def st (big : EReal) (o s : Fin n → EReal) : ℕ → Fin n → EReal
  | 0 => s
  | r + 1 => nxt big o (st big o s r)

theorem round {big : EReal} {o t : Fin n → EReal} (ho : ∀ p, o p < big) (ht : ∃ p, t p ≠ ⊥) :
    ∃ p, t p = mx t ∧ o p = mn big o t ∧ t p ≠ ⊥ ∧ ∀ q, t q ≤ t p ∧ (t q = t p → o p ≤ o q) := by
  obtain ⟨p2, hp2⟩ := ht
  obtain ⟨p1, -, h1⟩ := Finset.exists_max_image Finset.univ t ⟨p2, Finset.mem_univ p2⟩
  have hm : mx t = t p1 := le_antisymm (Finset.fold_max_le _ |>.2 ⟨bot_le, fun q hq => h1 q hq⟩)
    (Finset.le_fold_max _ |>.2 (Or.inr ⟨p1, Finset.mem_univ p1, le_rfl⟩))
  obtain ⟨p, hp, h2⟩ := Finset.exists_min_image (Finset.univ.filter fun q => t q = t p1) o ⟨p1, by simp⟩
  have ep : t p = t p1 := (Finset.mem_filter.1 hp).2
  have hn : mn big o t = o p := by
    unfold mn
    refine le_antisymm (Finset.fold_min_le _ |>.2 (Or.inr ⟨p, Finset.mem_univ p, ?_⟩)) (Finset.le_fold_min _ |>.2 ⟨le_top, fun q _ => ?_⟩)
    · rw [if_pos (ep.trans hm.symm)]
    · by_cases e : t q = mx t
      · rw [if_pos e]; exact h2 q (Finset.mem_filter.2 ⟨Finset.mem_univ q, e.trans hm⟩)
      · rw [if_neg e]; exact (ho p).le
  refine ⟨p, ep.trans hm.symm, hn.symm, ?_, fun q => ⟨ep ▸ h1 q (Finset.mem_univ q), fun e => h2 q (Finset.mem_filter.2 ⟨Finset.mem_univ q, e.trans ep⟩)⟩⟩
  rw [ep]
  exact fun e => hp2 (le_bot_iff.1 (e ▸ h1 p2 (Finset.mem_univ p2)))

/-- The rounds pick the first choices. -/
theorem rounds (hn : 0 < n) {big : EReal} {o s : Fin n → EReal} (hinj : Function.Injective o) (ho : ∀ p, o p < big) (hs : ∀ p, s p ≠ ⊥) :
    ∃ σ : ℕ → Fin n, IsTop s o n σ ∧ ∀ r < n, mx (st big o s r) = s (σ r) ∧ mn big o (st big o s r) = o (σ r) := by
  classical
  let σ : ℕ → Fin n := fun r => if h : ∃ p, o p = mn big o (st big o s r) then h.choose else ⟨0, hn⟩
  have hσ : ∀ r p, o p = mn big o (st big o s r) → σ r = p := fun r p h => by
    have hex : ∃ p, o p = mn big o (st big o s r) := ⟨p, h⟩
    have : σ r = hex.choose := dif_pos hex
    rw [this]
    exact hinj (hex.choose_spec.trans h.symm)
  have step : ∀ r, r < n → (∀ p, st big o s r p = if ∃ j < r, σ j = p then ⊥ else s p) →
      (∀ j < r, σ j ≠ σ r) ∧ (∀ p, (∀ j < r, σ j ≠ p) → ¬ before s o p (σ r)) ∧ mx (st big o s r) = s (σ r)
        ∧ mn big o (st big o s r) = o (σ r) := by
    intro r hr hst
    have hfresh : ∃ p, ∀ j < r, σ j ≠ p := by
      by_contra hcon
      push Not at hcon
      have hsub : (Finset.univ : Finset (Fin n)) ⊆ (Finset.range r).image σ := fun p _ => by
        obtain ⟨j, hj, e⟩ := hcon p
        exact Finset.mem_image.2 ⟨j, Finset.mem_range.2 hj, e⟩
      have h1 := (Finset.card_le_card hsub).trans Finset.card_image_le
      rw [Finset.card_univ, Fintype.card_fin, Finset.card_range] at h1
      omega
    have hof : ∀ p, (∀ j < r, σ j ≠ p) → st big o s r p = s p := fun p hp => by
      rw [hst p, if_neg (by push Not; exact hp)]
    obtain ⟨f, hf⟩ := hfresh
    obtain ⟨p, e1, e2, e3, e4⟩ := round (t := st big o s r) ho ⟨f, by rw [hof f hf]; exact hs f⟩
    have ep : σ r = p := hσ r p e2
    have hnew : ∀ j < r, σ j ≠ p := fun j hj e => e3 (by rw [hst p, if_pos ⟨j, hj, e⟩])
    rw [ep]
    refine ⟨hnew, fun q hq => ?_, by rw [← e1, hof p hnew], e2.symm⟩
    have h4 := e4 q
    rw [hof q hq, hof p hnew] at h4
    unfold before
    push Not
    exact ⟨h4.1, fun e => h4.2 e⟩
  have hst : ∀ r, r ≤ n → ∀ p, st big o s r p = if ∃ j < r, σ j = p then ⊥ else s p := by
    intro r
    induction r with
    | zero => intro _ p; rw [if_neg (by rintro ⟨j, hj, -⟩; omega)]; rfl
    | succ r ih =>
      intro hr p
      obtain ⟨-, -, -, e⟩ := step r (by omega) (ih (by omega))
      show nxt big o (st big o s r) p = _
      unfold nxt
      rw [e, ih (by omega) p]
      by_cases hp : o p = o (σ r)
      · rw [if_pos hp, if_pos ⟨r, by omega, (hinj hp).symm⟩]
      · rw [if_neg hp]
        by_cases hq : ∃ j < r, σ j = p
        · obtain ⟨j, hj, e⟩ := hq
          rw [if_pos ⟨j, hj, e⟩, if_pos ⟨j, by omega, e⟩]
        · rw [if_neg hq, if_neg]
          rintro ⟨j, hj, e'⟩
          rcases (Nat.lt_succ_iff_lt_or_eq.1 hj) with h | rfl
          · exact hq ⟨j, h, e'⟩
          · exact hp (by rw [e'])
  refine ⟨σ, ⟨fun r hr => (step r hr (hst r hr.le)).1, fun r hr => (step r hr (hst r hr.le)).2.1⟩,
    fun r hr => (step r hr (hst r hr.le)).2.2⟩

/-! ## The sort -/

/-- The order number of a place is its position. -/
def pos (p : Fin n) : EReal := ((p.val : ℝ) : EReal)

theorem pos_lt {p q : Fin n} : pos p < pos q ↔ p < q := by unfold pos; rw [EReal.coe_lt_coe_iff, Nat.cast_lt]; rfl

theorem pos_injective : Function.Injective (pos (n := n)) := fun p q h => by
  unfold pos at h
  exact Fin.ext (by exact_mod_cast EReal.coe_injective h)

/-- The greater value sorts first. -/
def gt (x : Fin n → EReal) (p q : Fin n) : Bool := Ideal.cmp .ogt (x p) (x q) == 1#1

/-- The place that the stable sort puts at a position. -/
def srt (x : Fin n → EReal) : Fin n → Fin n := sortedFrom (gt x)

open Classical in
theorem stable_eq (x : Fin n → EReal) : ∀ l : List (Fin n), l.Pairwise (· < ·) →
    stableSort (gt x) l = stableSort (fun p q => decide (before x pos p q)) l
  | [], _ => rfl
  | a :: l, h => by
    rw [List.pairwise_cons] at h
    unfold stableSort
    rw [stable_eq x l h.2]
    refine insertBefore_congr _ _ a _ fun b hb => ?_
    have hb' : a < b := h.1 b ((perm_stableSort _ l).mem_iff.mp hb)
    have hno : ¬ pos b < pos a := fun hc => absurd (pos_lt.1 hc) (not_lt.2 hb'.le)
    by_cases hx : x a < x b
    · have : before x pos b a := Or.inl hx
      simp [gt, Ideal.cmp, hx, this]
    · have : ¬ before x pos b a := by rintro (h | ⟨-, h⟩); exacts [hx h, hno h]
      simp [gt, Ideal.cmp, hx, this]

/-- The stable sort's first positions are the first choices. -/
theorem sort_isTop (hn : 0 < n) (x : Fin n → EReal) :
    IsTop x pos n fun r => if h : r < n then srt x ⟨r, h⟩ else ⟨0, hn⟩ := by
  classical
  have hs : ∀ i : Fin n, srt x i = sortedFrom (fun p q => decide (before x pos p q)) i := fun i => by
    unfold srt sortedFrom sortPositions
    rw [List.get_of_eq (stable_eq x _ (List.pairwise_lt_finRange n))]
    rfl
  have hirr : ∀ p q : Fin n, before x pos p q → ¬ before x pos q p := by
    intro p q h h'
    rcases before_trans h h' with h | ⟨-, h⟩
    · exact lt_irrefl _ h
    · exact lt_irrefl _ h
  refine ⟨fun r hr j hj => ?_, fun r hr p hp => ?_⟩
  · simp only [hr, hj.trans hr, dif_pos]
    exact fun e => absurd (congrArg Fin.val (sortedFrom_injective _ e)) (by simp; omega)
  · simp only [hr, dif_pos]
    obtain ⟨i, hi⟩ := sortedFrom_surjective (gt x) p
    have hi : srt x i = p := hi
    have hge : r ≤ i.val := by
      by_contra hc
      have := hp i.val (by omega)
      simp only [i.isLt, dif_pos] at this
      exact this hi
    subst hi
    rcases hge.eq_or_lt with e | hlt
    · have : (⟨r, hr⟩ : Fin n) = i := Fin.ext e
      rw [this]
      exact fun h => hirr _ _ h h
    · have := sortedFrom_noInversion (fun p q => decide (before x pos p q)) (fun p q => decide (before x pos p q))
        (fun a b h => decide_eq_false (hirr a b (of_decide_eq_true h))) (fun _ _ h => h)
        (fun a b c hab hbc => decide_eq_false (by
          have hab := of_decide_eq_false hab
          have hbc := of_decide_eq_false hbc
          unfold before at hab hbc ⊢
          push Not at hab hbc ⊢
          exact ⟨hab.1.trans hbc.1, fun e => by
            have h1 : x a = x b := le_antisymm hab.1 (e ▸ hbc.1)
            exact (hbc.2 (h1.symm.trans e)).trans (hab.2 h1)⟩)) ⟨r, hr⟩ i hlt
      rw [hs i, hs ⟨r, hr⟩]
      exact of_decide_eq_false this

/-! ## Choosing among fewer places -/

/-- If a place outside the kept ones comes after `k` kept places, the first `k` choices are made among the kept ones. -/
theorem pruned {m k : ℕ} {c : Fin n → EReal} {π : Fin m → Fin n} (hπ : Function.Injective π) {o : Fin m → EReal}
    (ho : ∀ i j, o i < o j ↔ π i < π j) {σ : ℕ → Fin m} (h : IsTop (fun i => c (π i)) o k σ)
    (hout : ∀ p, (∀ i, π i ≠ p) → ∃ w : Fin k → Fin m, Function.Injective w ∧ ∀ i, before c pos (π (w i)) p) :
    IsTop c pos k fun r => π (σ r) := by
  classical
  have hb : ∀ i j, before c pos (π i) (π j) ↔ before (fun i => c (π i)) o i j := fun i j => by
    unfold before
    rw [pos_lt, ho]
  refine ⟨fun r hr j hj e => h.new r hr j hj (hπ e), fun r hr p hp hbef => ?_⟩
  by_cases hin : ∃ i, π i = p
  · obtain ⟨i, rfl⟩ := hin
    exact h.best r hr i (fun j hj e => hp j hj (by rw [e])) ((hb _ _).1 hbef)
  · push Not at hin
    obtain ⟨w, hw, hwb⟩ := hout p hin
    have hsub : Finset.univ.image w ⊆ (Finset.range r).image σ := fun q hq => by
      obtain ⟨i, -, rfl⟩ := Finset.mem_image.1 hq
      by_contra hc
      exact h.best r hr (w i) (fun j hj e => hc (Finset.mem_image.2 ⟨j, Finset.mem_range.2 hj, e⟩))
        ((hb _ _).1 (before_trans (hwb i) hbef))
    have h1 := (Finset.card_le_card hsub).trans Finset.card_image_le
    rw [Finset.card_image_of_injective _ hw, Finset.card_univ, Fintype.card_fin, Finset.card_range] at h1
    omega

/-! ## Pairs of two sorted lists -/

/-- The first list's place of a kept pair. -/
def pa (j : Fin 80) : Fin 16 :=
  if j.val < 16 then 0 else if h : j.val < 72 then ⟨j.val / 8 - 1, by omega⟩ else ⟨j.val - 64, by omega⟩

/-- The second list's place of a kept pair. -/
def pb (j : Fin 80) : Fin 16 :=
  if h : j.val < 16 then ⟨j.val, h⟩ else if j.val < 72 then ⟨j.val % 8, by omega⟩ else 0

/-- A kept pair among all pairs. -/
def pp (j : Fin 80) : Fin 256 := ⟨16 * (pa j).val + (pb j).val, by have := (pa j).isLt; have := (pb j).isLt; omega⟩

theorem pp_injective : Function.Injective pp := by decide +kernel

/-- The values of all pairs. -/
def pairs (v1 v2 : Fin 16 → EReal) (p : Fin 256) : EReal := v1 ⟨p.val / 16, by omega⟩ + v2 ⟨p.val % 16, by omega⟩

theorem pairs_pp (v1 v2 : Fin 16 → EReal) (j : Fin 80) : pairs v1 v2 (pp j) = v1 (pa j) + v2 (pb j) := by
  have h1 := (pa j).isLt
  have h2 := (pb j).isLt
  unfold pairs pp
  congr 2 <;> exact Fin.ext (by simp only; omega)

/-- Sixteen kept pairs that come before a pair that is not kept. -/
def wit (p : Fin 256) (i : Fin 16) : Fin 80 :=
  if p.val / 16 < 8 then (if i.val < 8 then ⟨i.val, by omega⟩ else ⟨i.val + 8, by omega⟩)
  else if i.val % 2 = 0 then (if i.val < 2 then 0 else ⟨8 + 8 * (i.val / 2), by omega⟩)
  else (if i.val < 2 then 1 else ⟨9 + 8 * (i.val / 2), by omega⟩)

theorem wit_spec : ∀ p : Fin 256, (∃ j, pp j = p) ∨ (Function.Injective (wit p) ∧
    ∀ i, (pa (wit p i)).val ≤ p.val / 16 ∧ (pb (wit p i)).val ≤ p.val % 16 ∧ pp (wit p i) < p) := by
  decide +kernel

theorem pairs_out {v1 v2 : Fin 16 → EReal} (h1 : Antitone v1) (h2 : Antitone v2) (p : Fin 256) (hp : ∀ i, pp i ≠ p) :
    ∃ w : Fin 16 → Fin 80, Function.Injective w ∧ ∀ i, before (pairs v1 v2) pos (pp (w i)) p := by
  rcases wit_spec p with ⟨j, hj⟩ | ⟨hw, h⟩
  · exact absurd hj (hp j)
  · refine ⟨wit p, hw, fun i => ?_⟩
    obtain ⟨ha, hb, hlt⟩ := h i
    have hle : pairs v1 v2 p ≤ pairs v1 v2 (pp (wit p i)) := by
      rw [pairs_pp]
      exact add_le_add (h1 (Fin.mk_le_mk.2 ha)) (h2 (Fin.mk_le_mk.2 hb))
    rcases hle.lt_or_eq with e | e
    · exact Or.inl e
    · exact Or.inr ⟨e.symm, pos_lt.2 hlt⟩

/-! ## One token's choice -/

/-- The place of the sort that is the `r`-th choice. -/
def top {k : ℕ} (hk : k ≤ n) (x : Fin n → EReal) (r : Fin k) : Fin n := srt x (r.castLE hk)

theorem top_eq {k : ℕ} (hk : k ≤ n) (x : Fin n → EReal) (r : Fin k) : top hk x r = srt x (r.castLE hk) := rfl

/-- Rounds with an injective order that agrees with the positions give the sort's first places. -/
theorem rounds_top {k : ℕ} (hk : k ≤ n) (h0 : 0 < k) {big : EReal} {s : Fin n → EReal} (hb : ∀ p : Fin n, pos p < big)
    (hs : ∀ p, s p ≠ ⊥) (r : Fin k) :
    mx (st big pos s r.val) = s (top hk s r) ∧ mn big pos (st big pos s r.val) = pos (top hk s r) := by
  have hn : 0 < n := h0.trans_le hk
  obtain ⟨σ, h1, h2⟩ := rounds hn (o := pos) pos_injective hb hs
  have hr : r.val < n := r.isLt.trans_le hk
  have e := h1.unique pos_injective (sort_isTop hn s) r.val hr
  simp only [hr, dif_pos] at e
  have := h2 r.val hr
  rw [e] at this
  exact this

theorem top_antitone {k : ℕ} (hk : k ≤ n) (x : Fin n → EReal) : Antitone fun r : Fin k => x (top hk x r) := by
  intro i j hij
  have hn : 0 < n := (Nat.zero_le _).trans_lt (j.isLt.trans_le hk)
  have := (sort_isTop hn x).sorted (i := i.val) (j := j.val) hij (j.isLt.trans_le hk)
  simp only [j.isLt.trans_le hk, i.isLt.trans_le hk, dif_pos] at this
  exact this

/-- The order number of a kept pair: its place among all pairs, above the code it carries. -/
def key (e : Fin 256 → Fin 16384) (j : Fin 80) : EReal := ((((pp j).val * 16384 + (e (pp j)).val : ℕ) : ℝ) : EReal)

theorem key_lt (e : Fin 256 → Fin 16384) (i j : Fin 80) : key e i < key e j ↔ pp i < pp j := by
  unfold key
  rw [EReal.coe_lt_coe_iff, Nat.cast_lt, Fin.lt_def]
  have := (e (pp i)).isLt
  have := (e (pp j)).isLt
  constructor
  · intro h; by_contra hc
    rcases (not_lt.1 hc).lt_or_eq with h' | h'
    · omega
    · have h' : pp j = pp i := Fin.ext h'
      rw [h'] at h; omega
  · intro h; omega

theorem key_injective (e : Fin 256 → Fin 16384) : Function.Injective (key e) := fun i j h => by
  apply pp_injective
  rcases lt_trichotomy (pp i) (pp j) with h' | h' | h'
  · exact absurd h ((key_lt e i j).2 h').ne
  · exact h'
  · exact absurd h ((key_lt e j i).2 h').ne'

theorem key_lt_big (e : Fin 256 → Fin 16384) {big : EReal} (hb : ((4194304 : ℝ) : EReal) ≤ big) (j : Fin 80) : key e j < big := by
  refine lt_of_lt_of_le (EReal.coe_lt_coe_iff.2 ?_) hb
  have : (pp j).val * 16384 + (e (pp j)).val < 4194304 := by have := (e (pp j)).isLt; have := (pp j).isLt; omega
  exact_mod_cast this

/-- The rounds over the kept pairs give the first sixteen of all the pairs: each one's value, and its key. -/
theorem pairs_top {v1 v2 : Fin 16 → EReal} (h1 : Antitone v1) (h2 : Antitone v2) (e : Fin 256 → Fin 16384) {big : EReal}
    (hb : ((4194304 : ℝ) : EReal) ≤ big) (hs : ∀ a b, v1 a + v2 b ≠ ⊥) (r : Fin 16) :
    mx (st big (key e) (fun j => pairs v1 v2 (pp j)) r.val) = pairs v1 v2 (top (by omega) (pairs v1 v2) r)
      ∧ mn big (key e) (st big (key e) (fun j => pairs v1 v2 (pp j)) r.val)
        = ((((top (by omega : 16 ≤ 256) (pairs v1 v2) r).val * 16384 + (e (top (by omega : 16 ≤ 256) (pairs v1 v2) r)).val : ℕ) : ℝ) : EReal) := by
  obtain ⟨σ, t1, t2⟩ := rounds (n := 80) (by omega) (key_injective e) (key_lt_big e hb) (s := fun j => pairs v1 v2 (pp j))
    fun j => by rw [pairs_pp]; exact hs _ _
  have t3 := pruned (c := pairs v1 v2) pp_injective (key_lt e) (t1.mono (k' := 16) (by omega)) (pairs_out h1 h2)
  have h256 : (0 : ℕ) < 256 := by omega
  have e' := t3.unique pos_injective ((sort_isTop h256 (pairs v1 v2)).mono (k' := 16) (by omega)) r.val r.isLt
  have hr : r.val < 256 := by omega
  simp only [hr, dif_pos] at e'
  have := t2 r.val (by omega)
  have e'' : pp (σ r.val) = top (by omega) (pairs v1 v2) r := e'
  refine ⟨by rw [this.1, e''], ?_⟩
  rw [this.2]
  unfold key
  rw [e'']

attribute [irreducible] srt top

end Cert.Picks

end
-- ==== Proof.Layer.RouteRows.lean ====
/- The routing block's vectors, one token per lane: rounds of maximum down the rows, the kept pairs, the gates and the addresses. -/
module

public import proofs.«01_k».proof.Proof.Layer.RouteMath
public import Idealize.ShloMosaic.Lib.ValueIdx
public import Idealize.ShloMosaic.Lib.ValueIdxRank1
public import Idealize.ShloMosaic.Lib.Pipeline.Value

@[expose] public section

noncomputable section

namespace Cert.Picks

open Idealize.ShloMosaic
open Idealize.ShloMosaic.ValueIdx

/-- `n` rows of 256 lanes. -/
abbrev Rows (n : ℕ) : Shape := ⟨2, ![n, 256]⟩
/-- One entry per lane. -/
abbrev Lane : Shape := ⟨1, ![256]⟩

variable {n : ℕ}

theorem casts : Lane.ShapeCasts (Rows 1) := by decide

/-- One entry per lane as a row. -/
def vrow (v : FVec Ideal Lane .f32) : FVec Ideal (Rows 1) .f32 := shapeCast (Rows 1) v casts

theorem vrow_apply (v : FVec Ideal Lane .f32) (t : Fin 256) : vrow v (ix2 (0 : Fin 1) t) = v (ix1 t) :=
  shapeCast_apply _ _ _ _ (by rw [Shape.rowMajor_val_one, Shape.rowMajor_val_two]; simp [ix2, ix1])

theorem row_down {φ : FTy} (v : FVec Ideal (Rows 1) φ) (hb : (Rows 1).Broadcasts (Rows n)) (p : Fin n) (t : Fin 256) :
    broadcastTo (Rows n) v hb (ix2 p t) = v (ix2 (0 : Fin 1) t) :=
  broadcastTo_apply _ _ _ _ fun a => by
    match a with
    | ⟨0, _⟩ => rfl
    | ⟨1, _⟩ => rfl

/-- The greatest of each lane. -/
def vmx (hr : (Rows n).Reduces [0] Lane) (s : FVec Ideal (Rows n) .f32) : FVec Ideal (Rows 1) .f32 :=
  vrow (multiReduction .maximumf [0] Lane s 0xFF800000#32 hr (.inl rfl) rfl)

/-- The order number each lane picks. -/
def vmn (hr : (Rows n).Reduces [0] Lane) (hb : (Rows 1).Broadcasts (Rows n)) (o s : FVec Ideal (Rows n) .f32) : FVec Ideal (Rows 1) .f32 :=
  vrow (multiReduction .minimumf [0] Lane (select (cmpf .oeq s (broadcastTo (Rows n) (vmx hr s) hb)) o
    (broadcast (Rows n) (Scalar.ofBits .f32 0x4E800000#32))) 0x7F800000#32 hr (.inl rfl) rfl)

/-- What is left after the pick. -/
def vnxt (hr : (Rows n).Reduces [0] Lane) (hb : (Rows 1).Broadcasts (Rows n)) (o s : FVec Ideal (Rows n) .f32) : FVec Ideal (Rows n) .f32 :=
  select (cmpf .oeq o (broadcastTo (Rows n) (vmn hr hb o s) hb)) (broadcast (Rows n) (Scalar.ofBits .f32 0xFF800000#32)) s

/-- What is left after `r` rounds. -/
def vst (hr : (Rows n).Reduces [0] Lane) (hb : (Rows 1).Broadcasts (Rows n)) (o s : FVec Ideal (Rows n) .f32) : ℕ → FVec Ideal (Rows n) .f32
  | 0 => s
  | r + 1 => vnxt hr hb o (vst hr hb o s r)

/-- The bound above every order number. -/
def big : EReal := Ideal.ofBits .f32 0x4E800000#32

theorem ninf : Ideal.ofBits .f32 0xFF800000#32 = ⊥ := by simp [Ideal.ofBits, Ideal.ieee]
theorem pinf : Ideal.ofBits .f32 0x7F800000#32 = ⊤ := by simp [Ideal.ofBits, Ideal.ieee]

theorem big_eq : big = ((1073741824 : ℝ) : EReal) := by
  unfold big
  simp [Ideal.ofBits, Ideal.ieee, -EReal.coe_mul]; norm_num

theorem lift_row (hr : (Rows n).Reduces [0] Lane) (t : Fin 256) (k : Fin n) : hr.lift (ix1 t) k = ix2 k t := funext fun a => by
  match a with
  | ⟨0, _⟩ => rfl
  | ⟨1, _⟩ => rfl

/-- A lane's column. -/
def col (s : FVec Ideal (Rows n) .f32) (t : Fin 256) (p : Fin n) : EReal := s (ix2 p t)

theorem vmx_apply (hr : (Rows n).Reduces [0] Lane) (s : FVec Ideal (Rows n) .f32) (t : Fin 256) :
    (vmx hr s (ix2 (0 : Fin 1) t) : EReal) = mx (col s t) := by
  unfold vmx
  rw [vrow_apply]
  refine (Ideal.multiReduction_maximumf_single _ _ _ _ _ _).trans ?_
  show Finset.fold max (Ideal.ofBits .f32 0xFF800000#32) _ _ = _
  rw [ninf]
  unfold mx
  exact congrArg (fun f => Finset.fold max ⊥ f Finset.univ) (funext fun k => congrArg s (lift_row hr t k))

theorem sel_oeq (x y a b : EReal) : Scalar.select (Ideal.cmp .oeq x y) a b = if x = y then a else b := by
  by_cases h : x = y <;> simp [Ideal.cmp, h, Scalar.select]

theorem vmn_apply (hr : (Rows n).Reduces [0] Lane) (hb : (Rows 1).Broadcasts (Rows n)) (o s : FVec Ideal (Rows n) .f32) (t : Fin 256) :
    (vmn hr hb o s (ix2 (0 : Fin 1) t) : EReal) = mn big (col o t) (col s t) := by
  unfold vmn
  rw [vrow_apply]
  refine (multiReduction_minimumf_eq_fold (F := Ideal) (φ := .f32) _ _ _ _ _ _).trans ?_
  refine (hr.fold_filter_drop_single _ _ _ _).trans ?_
  show Finset.fold min (Ideal.ofBits .f32 0x7F800000#32) _ _ = _
  rw [pinf]
  unfold mn
  refine congrArg (fun f => Finset.fold min ⊤ f Finset.univ) (funext fun (k : Fin n) => ?_)
  have e : hr.lift (ix1 t) k = ix2 k t := lift_row hr t k
  show Scalar.select (Ideal.cmp .oeq (s (hr.lift (ix1 t) k)) (broadcastTo (Rows n) (vmx hr s) hb (hr.lift (ix1 t) k))) (o (hr.lift (ix1 t) k)) big = _
  rw [e, row_down, vmx_apply, sel_oeq]
  rfl

theorem vnxt_col (hr : (Rows n).Reduces [0] Lane) (hb : (Rows 1).Broadcasts (Rows n)) (o s : FVec Ideal (Rows n) .f32) (t : Fin 256) :
    col (vnxt hr hb o s) t = nxt big (col o t) (col s t) := by
  funext p
  show Scalar.select (Ideal.cmp .oeq (o (ix2 p t)) (broadcastTo (Rows n) (vmn hr hb o s) hb (ix2 p t))) (Ideal.ofBits .f32 0xFF800000#32) (s (ix2 p t)) = _
  rw [row_down, vmn_apply, sel_oeq, ninf]
  rfl

theorem vst_col (hr : (Rows n).Reduces [0] Lane) (hb : (Rows 1).Broadcasts (Rows n)) (o s : FVec Ideal (Rows n) .f32) (t : Fin 256) :
    ∀ r, col (vst hr hb o s r) t = st big (col o t) (col s t) r
  | 0 => rfl
  | r + 1 => by
    show col (vnxt hr hb o (vst hr hb o s r)) t = nxt big (col o t) (st big (col o t) (col s t) r)
    rw [vnxt_col, vst_col hr hb o s t r]

/-! ## Stacks of rows -/

theorem cat16 : Shape.Concatenates [Rows 1, Rows 1, Rows 1, Rows 1, Rows 1, Rows 1, Rows 1, Rows 1, Rows 1, Rows 1, Rows 1, Rows 1, Rows 1,
    Rows 1, Rows 1, Rows 1] (Rows 16) 0 := by decide

/-- Sixteen rows. -/
def stack (f : ℕ → FVec Ideal (Rows 1) .f32) : FVec Ideal (Rows 16) .f32 :=
  concatenate (Rows 16) 0 [⟨Rows 1, f 0⟩, ⟨Rows 1, f 1⟩, ⟨Rows 1, f 2⟩, ⟨Rows 1, f 3⟩, ⟨Rows 1, f 4⟩, ⟨Rows 1, f 5⟩, ⟨Rows 1, f 6⟩,
    ⟨Rows 1, f 7⟩, ⟨Rows 1, f 8⟩, ⟨Rows 1, f 9⟩, ⟨Rows 1, f 10⟩, ⟨Rows 1, f 11⟩, ⟨Rows 1, f 12⟩, ⟨Rows 1, f 13⟩, ⟨Rows 1, f 14⟩,
    ⟨Rows 1, f 15⟩] cat16

theorem stack_apply (f : ℕ → FVec Ideal (Rows 1) .f32) (r : Fin 16) (t : Fin 256) : stack f (ix2 r t) = f r.val (ix2 (0 : Fin 1) t) := by
  unfold stack
  exact concatenate_ofFn_apply (t := Rows 16) (s₁ := Rows 1) (0 : Fin 2) (fun i : Fin 16 => f i.val) cat16 rfl 1 rfl (ix2 r t) r
    (Nat.div_one _) (ix2 (0 : Fin 1) t) (Nat.mod_one _).symm (fun a => by
      match a with
      | ⟨0, _⟩ => exact fun h => absurd rfl h
      | ⟨1, _⟩ => exact fun _ => rfl)

/-- The sixteen greatest, in order. -/
def vvals (hr : (Rows n).Reduces [0] Lane) (hb : (Rows 1).Broadcasts (Rows n)) (o s : FVec Ideal (Rows n) .f32) : FVec Ideal (Rows 16) .f32 :=
  stack fun r => vmx hr (vst hr hb o s r)

/-- Their order numbers. -/
def vpicks (hr : (Rows n).Reduces [0] Lane) (hb : (Rows 1).Broadcasts (Rows n)) (o s : FVec Ideal (Rows n) .f32) : FVec Ideal (Rows 16) .f32 :=
  stack fun r => vmn hr hb o (vst hr hb o s r)

theorem vvals_apply (hr : (Rows n).Reduces [0] Lane) (hb : (Rows 1).Broadcasts (Rows n)) (o s : FVec Ideal (Rows n) .f32) (r : Fin 16)
    (t : Fin 256) : (vvals hr hb o s (ix2 r t) : EReal) = mx (st big (col o t) (col s t) r.val) := by
  unfold vvals
  rw [stack_apply, vmx_apply, vst_col]

theorem vpicks_apply (hr : (Rows n).Reduces [0] Lane) (hb : (Rows 1).Broadcasts (Rows n)) (o s : FVec Ideal (Rows n) .f32) (r : Fin 16)
    (t : Fin 256) : (vpicks hr hb o s (ix2 r t) : EReal) = mn big (col o t) (st big (col o t) (col s t) r.val) := by
  unfold vpicks
  rw [stack_apply, vmn_apply, vst_col]

end Cert.Picks

end
-- ==== Proof.Layer.RouteHead.lean ====
/- One head's choice in the routing block: the kept pairs' sums and keys, the sixteen chosen pairs, their gates and their addresses. -/
module

public import proofs.«01_k».proof.Proof.Layer.RouteRows

@[expose] public section

noncomputable section

namespace Cert.Picks

open Idealize.ShloMosaic
open Idealize.ShloMosaic.ValueIdx

/-! ## What is chosen -/

/-- The values of all pairs of the two sorted lists. -/
def best (S1 S2 : Fin 128 → EReal) : Fin 256 → EReal :=
  pairs (fun r => S1 (top (by omega : 16 ≤ 128) S1 r)) fun r => S2 (top (by omega : 16 ≤ 128) S2 r)

/-- The expert of a pair. -/
def code (S1 S2 : Fin 128 → EReal) (p : Fin 256) : Fin 16384 :=
  ⟨(top (by omega : 16 ≤ 128) S1 ⟨p.val / 16, by omega⟩).val * 128 + (top (by omega : 16 ≤ 128) S2 ⟨p.val % 16, by omega⟩).val, by omega⟩

/-- The `r`-th pair chosen. -/
def chosen (S1 S2 : Fin 128 → EReal) (r : Fin 16) : Fin 256 := top (by omega : 16 ≤ 256) (best S1 S2) r

/-- Its expert's first row in the table. -/
def addr (S1 S2 : Fin 128 → EReal) (r : Fin 16) : BitVec 32 := BitVec.ofNat 32 ((code S1 S2 (chosen S1 S2 r)).val * 4 + 4096)

/-- Its gate. -/
def weight (S1 S2 : Fin 128 → EReal) (r : Fin 16) : EReal :=
  Ideal.div (Ideal.exp (best S1 S2 (chosen S1 S2 r) - best S1 S2 (chosen S1 S2 0)))
    (∑ k : Fin 16, Ideal.exp (best S1 S2 (chosen S1 S2 k) - best S1 S2 (chosen S1 S2 0)))

/-! ## The block's vectors -/

theorem red128 : (Rows 128).Reduces [0] Lane := by decide
theorem red80 : (Rows 80).Reduces [0] Lane := by decide
theorem red16 : (Rows 16).Reduces [0] Lane := by decide
theorem bc128 : (Rows 1).Broadcasts (Rows 128) := by decide
theorem bc80 : (Rows 1).Broadcasts (Rows 80) := by decide
theorem bc16 : (Rows 1).Broadcasts (Rows 16) := by decide
theorem bc8 : (Rows 1).Broadcasts (Rows 8) := by decide
theorem iot128 : (Rows 128).Iotas .tc 32 [0] := by decide
theorem iot8 : (Rows 8).Iotas .tc 32 [0] := by decide

/-- Each row's number, 128 rows. -/
def rowId : FVec Ideal (Rows 128) .f32 := sitofp .f32 (iota .tc (Rows 128) 32 [0] iot128)
/-- Each row's number, eight rows. -/
def rowId8 : FVec Ideal (Rows 8) .f32 := sitofp .f32 (iota .tc (Rows 8) 32 [0] iot8)

theorem col_rowId (t : Fin 256) : col rowId t = pos := by
  funext p
  show (((BitVec.ofNat 32 (0 * 128 + p.val)).toInt : ℝ) : EReal) = ((p.val : ℝ) : EReal)
  rw [Nat.zero_mul, Nat.zero_add]
  have : (BitVec.ofNat 32 p.val).toInt = (p.val : ℤ) := by
    have := p.isLt
    rw [BitVec.toInt_eq_toNat_of_lt (by simp; omega)]
    simp; omega
  rw [this]; norm_cast

theorem rowId8_apply (q : Fin 8) (t : Fin 256) : (rowId8 (ix2 q t) : EReal) = ((q.val : ℝ) : EReal) := by
  show (((BitVec.ofNat 32 (0 * 8 + q.val)).toInt : ℝ) : EReal) = ((q.val : ℝ) : EReal)
  rw [Nat.zero_mul, Nat.zero_add]
  have : (BitVec.ofNat 32 q.val).toInt = (q.val : ℤ) := by
    have := q.isLt
    rw [BitVec.toInt_eq_toNat_of_lt (by simp; omega)]
    simp; omega
  rw [this]; norm_cast

/-- One row. -/
def rowAt (v : FVec Ideal (Rows 16) .f32) (a : ℕ) (h : (Rows 16).Slices ![a, 0] (Rows 1) := by decide) : FVec Ideal (Rows 1) .f32 :=
  extractStridedSlice (Rows 1) ![a, 0] v h

/-- Eight rows. -/
def eightAt (v : FVec Ideal (Rows 16) .f32) (a : ℕ) (h : (Rows 16).Slices ![a, 0] (Rows 8) := by decide) : FVec Ideal (Rows 8) .f32 :=
  extractStridedSlice (Rows 8) ![a, 0] v h

theorem rowAt_apply (v : FVec Ideal (Rows 16) .f32) (a : Fin 16) (h : (Rows 16).Slices ![a.val, 0] (Rows 1)) (t : Fin 256) :
    rowAt v a.val h (ix2 (0 : Fin 1) t) = v (ix2 a t) :=
  extractStridedSlice_apply _ _ _ _ _ fun x => by
    match x with
    | ⟨0, _⟩ => rfl
    | ⟨1, _⟩ => exact (Nat.zero_add _).symm

theorem eightAt_apply (v : FVec Ideal (Rows 16) .f32) (a : ℕ) (h : (Rows 16).Slices ![a, 0] (Rows 8)) (q : Fin 8) (t : Fin 256)
    (p : Fin 16) (hp : p.val = a + q.val) : eightAt v a h (ix2 q t) = v (ix2 p t) :=
  extractStridedSlice_apply _ _ _ _ _ fun x => by
    match x with
    | ⟨0, _⟩ => exact hp
    | ⟨1, _⟩ => exact (Nat.zero_add _).symm

/-- The sums of one row against eight. -/
def sumP (v1 v2 : FVec Ideal (Rows 16) .f32) (a b : ℕ) (ha : (Rows 16).Slices ![a, 0] (Rows 1) := by decide)
    (hb : (Rows 16).Slices ![b, 0] (Rows 8) := by decide) : FVec Ideal (Rows 8) .f32 :=
  addf (broadcastTo (Rows 8) (rowAt v1 a ha) bc8) (eightAt v2 b hb)

/-- Their keys. -/
def keyP (i1 i2 : FVec Ideal (Rows 16) .f32) (w : BitVec 32) (a b : ℕ) (ha : (Rows 16).Slices ![a, 0] (Rows 1) := by decide)
    (hb : (Rows 16).Slices ![b, 0] (Rows 8) := by decide) : FVec Ideal (Rows 8) .f32 :=
  addf (mulf (addf (broadcast (Rows 8) (Scalar.ofBits .f32 w)) rowId8) (broadcast (Rows 8) (Scalar.ofBits .f32 0x46800000#32)))
    (addf (broadcastTo (Rows 8) (mulf (rowAt i1 a ha) (broadcast (Rows 1) (Scalar.ofBits .f32 0x43000000#32))) bc8) (eightAt i2 b hb))

theorem cat10 : Shape.Concatenates [Rows 8, Rows 8, Rows 8, Rows 8, Rows 8, Rows 8, Rows 8, Rows 8, Rows 8, Rows 8] (Rows 80) 0 := by decide

/-- Ten blocks of eight rows. -/
def pile (f0 f1 f2 f3 f4 f5 f6 f7 f8 f9 : FVec Ideal (Rows 8) .f32) : FVec Ideal (Rows 80) .f32 :=
  concatenate (Rows 80) 0 [⟨Rows 8, f0⟩, ⟨Rows 8, f1⟩, ⟨Rows 8, f2⟩, ⟨Rows 8, f3⟩, ⟨Rows 8, f4⟩, ⟨Rows 8, f5⟩, ⟨Rows 8, f6⟩, ⟨Rows 8, f7⟩,
    ⟨Rows 8, f8⟩, ⟨Rows 8, f9⟩] cat10

theorem pile_apply (f0 f1 f2 f3 f4 f5 f6 f7 f8 f9 : FVec Ideal (Rows 8) .f32) (i : Fin 10) (q : Fin 8) (t : Fin 256) :
    pile f0 f1 f2 f3 f4 f5 f6 f7 f8 f9 (ix2 (⟨8 * i.val + q.val, by omega⟩ : Fin 80) t)
      = (![f0, f1, f2, f3, f4, f5, f6, f7, f8, f9] i : FVec Ideal (Rows 8) .f32) (ix2 q t) := by
  unfold pile
  exact concatenate_ofFn_apply (t := Rows 80) (s₁ := Rows 8) (0 : Fin 2) (![f0, f1, f2, f3, f4, f5, f6, f7, f8, f9]) cat10 rfl 8 rfl _ i
    (by show (8 * i.val + q.val) / 8 = i.val; omega) (ix2 q t) (by show q.val = (8 * i.val + q.val) % 8; omega) (fun a => by
      match a with
      | ⟨0, _⟩ => exact fun h => absurd rfl h
      | ⟨1, _⟩ => exact fun _ => rfl)

/-- The kept pairs' sums. -/
def sumsV (v1 v2 : FVec Ideal (Rows 16) .f32) : FVec Ideal (Rows 80) .f32 :=
  pile (sumP v1 v2 0 0) (sumP v1 v2 0 8) (sumP v1 v2 1 0) (sumP v1 v2 2 0) (sumP v1 v2 3 0) (sumP v1 v2 4 0) (sumP v1 v2 5 0)
    (sumP v1 v2 6 0) (sumP v1 v2 7 0) (addf (eightAt v1 8) (broadcastTo (Rows 8) (rowAt v2 0) bc8))

/-- The kept pairs' keys. -/
def keysV (i1 i2 : FVec Ideal (Rows 16) .f32) : FVec Ideal (Rows 80) .f32 :=
  pile (keyP i1 i2 0x00000000#32 0 0) (keyP i1 i2 0x41000000#32 0 8) (keyP i1 i2 0x41800000#32 1 0) (keyP i1 i2 0x42000000#32 2 0)
    (keyP i1 i2 0x42400000#32 3 0) (keyP i1 i2 0x42800000#32 4 0) (keyP i1 i2 0x42A00000#32 5 0) (keyP i1 i2 0x42C00000#32 6 0)
    (keyP i1 i2 0x42E00000#32 7 0)
    (addf (mulf (addf (broadcast (Rows 8) (Scalar.ofBits .f32 0x41000000#32)) rowId8) (broadcast (Rows 8) (Scalar.ofBits .f32 0x48800000#32)))
      (addf (mulf (eightAt i1 8) (broadcast (Rows 8) (Scalar.ofBits .f32 0x43000000#32))) (broadcastTo (Rows 8) (rowAt i2 0) bc8)))

/-- The chosen pairs' values. -/
def topV (s1 s2 : FVec Ideal (Rows 128) .f32) : FVec Ideal (Rows 16) .f32 :=
  vvals red80 bc80 (keysV (vpicks red128 bc128 rowId s1) (vpicks red128 bc128 rowId s2))
    (sumsV (vvals red128 bc128 rowId s1) (vvals red128 bc128 rowId s2))

/-- The chosen pairs' keys. -/
def pickV (s1 s2 : FVec Ideal (Rows 128) .f32) : FVec Ideal (Rows 16) .f32 :=
  vpicks red80 bc80 (keysV (vpicks red128 bc128 rowId s1) (vpicks red128 bc128 rowId s2))
    (sumsV (vvals red128 bc128 rowId s1) (vvals red128 bc128 rowId s2))

/-- The exponentials against the greatest. -/
def expV (v : FVec Ideal (Rows 16) .f32) : FVec Ideal (Rows 16) .f32 := exp (subf v (broadcastTo (Rows 16) (rowAt v 0) bc16))

/-- The gates. -/
def gateV (v : FVec Ideal (Rows 16) .f32) : FVec Ideal (Rows 16) .f32 :=
  divf (expV v) (broadcastTo (Rows 16) (vrow (multiReduction .add [0] Lane (expV v) 0x00000000#32 red16 (.inl rfl) rfl)) bc16)

/-- The addresses. -/
def addrV (v : FVec Ideal (Rows 16) .f32) : IVec (Rows 16) 32 :=
  addi (muli (andi (fptosi 32 v) (broadcast (Rows 16) 16383#32)) (broadcast (Rows 16) 4#32)) (broadcast (Rows 16) 4096#32)

/-! ## Their entries -/

theorem sumP_apply (v1 v2 : FVec Ideal (Rows 16) .f32) (a : Fin 16) (b : ℕ) (ha hb) (q : Fin 8) (t : Fin 256) (p : Fin 16)
    (hp : p.val = b + q.val) : (sumP v1 v2 a.val b ha hb (ix2 q t) : EReal) = v1 (ix2 a t) + v2 (ix2 p t) := by
  show (broadcastTo (Rows 8) (rowAt v1 a.val ha) bc8 (ix2 q t) : EReal) + eightAt v2 b hb (ix2 q t) = _
  rw [row_down, rowAt_apply, eightAt_apply v2 b hb q t p hp]

/-- The block and the row of a kept pair. -/
theorem split80 (j : Fin 80) : ∃ (i : Fin 10) (q : Fin 8), j = ⟨8 * i.val + q.val, by omega⟩ :=
  ⟨⟨j.val / 8, by omega⟩, ⟨j.val % 8, by omega⟩, Fin.ext (by simp only; omega)⟩

theorem pa_row : ∀ (a : Fin 7) (q : Fin 8), (pa ⟨8 * (a.val + 2) + q.val, by omega⟩).val = a.val + 1 ∧ (pb ⟨8 * (a.val + 2) + q.val, by omega⟩).val = q.val := by
  decide +kernel

theorem pa_ends : ∀ (q : Fin 8), (pa ⟨q.val, by omega⟩ = 0 ∧ (pb ⟨q.val, by omega⟩).val = q.val) ∧ (pa ⟨8 + q.val, by omega⟩ = 0 ∧ (pb ⟨8 + q.val, by omega⟩).val = 8 + q.val)
    ∧ ((pa ⟨72 + q.val, by omega⟩).val = 8 + q.val ∧ pb ⟨72 + q.val, by omega⟩ = 0) := by
  decide +kernel

theorem w_16384 : Ideal.ofBits .f32 0x46800000#32 = ((16384 : ℝ) : EReal) := by simp [Ideal.ofBits, Ideal.ieee, -EReal.coe_mul]; norm_num
theorem w_262144 : Ideal.ofBits .f32 0x48800000#32 = ((262144 : ℝ) : EReal) := by simp [Ideal.ofBits, Ideal.ieee, -EReal.coe_mul]; norm_num
theorem w_128 : Ideal.ofBits .f32 0x43000000#32 = ((128 : ℝ) : EReal) := by simp [Ideal.ofBits, Ideal.ieee, -EReal.coe_mul]; norm_num
theorem w_0 : Ideal.ofBits .f32 0x00000000#32 = (((0 : ℕ) : ℝ) : EReal) := by simp [Ideal.ofBits, Ideal.ieee, -EReal.coe_mul]
theorem w_8 : Ideal.ofBits .f32 0x41000000#32 = (((8 : ℕ) : ℝ) : EReal) := by simp [Ideal.ofBits, Ideal.ieee, -EReal.coe_mul]; norm_num
theorem w_16 : Ideal.ofBits .f32 0x41800000#32 = (((16 : ℕ) : ℝ) : EReal) := by simp [Ideal.ofBits, Ideal.ieee, -EReal.coe_mul]; norm_num
theorem w_32 : Ideal.ofBits .f32 0x42000000#32 = (((32 : ℕ) : ℝ) : EReal) := by simp [Ideal.ofBits, Ideal.ieee, -EReal.coe_mul]; norm_num
theorem w_48 : Ideal.ofBits .f32 0x42400000#32 = (((48 : ℕ) : ℝ) : EReal) := by simp [Ideal.ofBits, Ideal.ieee, -EReal.coe_mul]; norm_num
theorem w_64 : Ideal.ofBits .f32 0x42800000#32 = (((64 : ℕ) : ℝ) : EReal) := by simp [Ideal.ofBits, Ideal.ieee, -EReal.coe_mul]; norm_num
theorem w_80 : Ideal.ofBits .f32 0x42A00000#32 = (((80 : ℕ) : ℝ) : EReal) := by simp [Ideal.ofBits, Ideal.ieee, -EReal.coe_mul]; norm_num
theorem w_96 : Ideal.ofBits .f32 0x42C00000#32 = (((96 : ℕ) : ℝ) : EReal) := by simp [Ideal.ofBits, Ideal.ieee, -EReal.coe_mul]; norm_num
theorem w_112 : Ideal.ofBits .f32 0x42E00000#32 = (((112 : ℕ) : ℝ) : EReal) := by simp [Ideal.ofBits, Ideal.ieee, -EReal.coe_mul]; norm_num

theorem keyP_apply (i1 i2 : FVec Ideal (Rows 16) .f32) {w : BitVec 32} {c : ℕ} (hw : Ideal.ofBits .f32 w = ((c : ℝ) : EReal)) (a : Fin 16)
    (b : ℕ) (ha hb) (q : Fin 8) (t : Fin 256) (p : Fin 16) (hp : p.val = b + q.val) {A B : ℕ} (hA : (i1 (ix2 a t) : EReal) = ((A : ℝ) : EReal))
    (hB : (i2 (ix2 p t) : EReal) = ((B : ℝ) : EReal)) :
    (keyP i1 i2 w a.val b ha hb (ix2 q t) : EReal) = ((((c + q.val) * 16384 + (A * 128 + B) : ℕ) : ℝ) : EReal) := by
  show (Ideal.ofBits .f32 w + rowId8 (ix2 q t)) * Ideal.ofBits .f32 0x46800000#32
    + (broadcastTo (Rows 8) (mulf (rowAt i1 a.val ha) (broadcast (Rows 1) (Scalar.ofBits .f32 0x43000000#32))) bc8 (ix2 q t) + eightAt i2 b hb (ix2 q t)) = _
  rw [row_down, eightAt_apply i2 b hb q t p hp, rowId8_apply, hw, w_16384, hB]
  show _ + ((rowAt i1 a.val ha (ix2 (0 : Fin 1) t) : EReal) * Ideal.ofBits .f32 0x43000000#32 + _) = _
  rw [rowAt_apply, hA, w_128]
  push_cast
  norm_cast

theorem sums_apply (v1 v2 : FVec Ideal (Rows 16) .f32) (j : Fin 80) (t : Fin 256) :
    (sumsV v1 v2 (ix2 j t) : EReal) = v1 (ix2 (pa j) t) + v2 (ix2 (pb j) t) := by
  obtain ⟨i, q, rfl⟩ := split80 j
  unfold sumsV
  rw [pile_apply]
  have mid : ∀ (a : Fin 7) (a' : Fin 16) (h : a'.val = a.val + 1) (hj : 8 * (a.val + 2) + q.val < 80) (ha hb),
      (sumP v1 v2 a'.val 0 ha hb (ix2 q t) : EReal) = v1 (ix2 (pa ⟨8 * (a.val + 2) + q.val, hj⟩) t) + v2 (ix2 (pb ⟨8 * (a.val + 2) + q.val, hj⟩) t) := by
    intro a a' h hj ha hb
    obtain ⟨e1, e2⟩ := pa_row a q
    rw [sumP_apply v1 v2 a' 0 ha hb q t (pb ⟨8 * (a.val + 2) + q.val, hj⟩) (by rw [e2, Nat.zero_add]),
      show pa ⟨8 * (a.val + 2) + q.val, hj⟩ = a' from Fin.ext (e1.trans h.symm)]
  obtain ⟨⟨e1, e2⟩, ⟨e3, e4⟩, e5, e6⟩ := pa_ends q
  fin_cases i
  · have ez : (⟨8 * 0 + q.val, by omega⟩ : Fin 80) = ⟨q.val, by omega⟩ := Fin.ext (by simp only; omega)
    show (sumP v1 v2 (0 : Fin 16).val 0 _ _ (ix2 q t) : EReal) = v1 (ix2 (pa ⟨8 * 0 + q.val, _⟩) t) + v2 (ix2 (pb ⟨8 * 0 + q.val, _⟩) t)
    rw [ez, e1, sumP_apply v1 v2 0 0 _ _ q t (pb ⟨q.val, _⟩) (by rw [e2, Nat.zero_add])]
  · show (sumP v1 v2 (0 : Fin 16).val 8 _ _ (ix2 q t) : EReal) = v1 (ix2 (pa ⟨8 + q.val, by omega⟩) t) + v2 (ix2 (pb ⟨8 + q.val, by omega⟩) t)
    rw [e3, sumP_apply v1 v2 0 8 _ _ q t (pb ⟨8 + q.val, _⟩) e4]
  · exact mid 0 1 rfl _ _ _
  · exact mid 1 2 rfl _ _ _
  · exact mid 2 3 rfl _ _ _
  · exact mid 3 4 rfl _ _ _
  · exact mid 4 5 rfl _ _ _
  · exact mid 5 6 rfl _ _ _
  · exact mid 6 7 rfl _ _ _
  · show (eightAt v1 8 _ (ix2 q t) : EReal) + broadcastTo (Rows 8) (rowAt v2 (0 : Fin 16).val _) bc8 (ix2 q t)
      = v1 (ix2 (pa ⟨72 + q.val, by omega⟩) t) + v2 (ix2 (pb ⟨72 + q.val, by omega⟩) t)
    rw [e6, row_down, rowAt_apply, eightAt_apply v1 8 _ q t (pa ⟨72 + q.val, _⟩) e5]

theorem keys_apply (i1 i2 : FVec Ideal (Rows 16) .f32) (t : Fin 256) {I1 I2 : Fin 16 → ℕ} (h1 : ∀ r, (i1 (ix2 r t) : EReal) = ((I1 r : ℝ) : EReal))
    (h2 : ∀ r, (i2 (ix2 r t) : EReal) = ((I2 r : ℝ) : EReal)) (j : Fin 80) :
    (keysV i1 i2 (ix2 j t) : EReal) = ((((pp j).val * 16384 + (I1 (pa j) * 128 + I2 (pb j)) : ℕ) : ℝ) : EReal) := by
  obtain ⟨i, q, rfl⟩ := split80 j
  unfold keysV
  rw [pile_apply]
  have mid : ∀ (a : Fin 7) (a' : Fin 16) (w : BitVec 32) (h : a'.val = a.val + 1)
      (hw : Ideal.ofBits .f32 w = ((((a.val + 1) * 16 : ℕ) : ℝ) : EReal)) (hj : 8 * (a.val + 2) + q.val < 80) (ha hb),
      (keyP i1 i2 w a'.val 0 ha hb (ix2 q t) : EReal) = ((((pp ⟨8 * (a.val + 2) + q.val, hj⟩).val * 16384
        + (I1 (pa ⟨8 * (a.val + 2) + q.val, hj⟩) * 128 + I2 (pb ⟨8 * (a.val + 2) + q.val, hj⟩)) : ℕ) : ℝ) : EReal) := by
    intro a a' w h hw hj ha hb
    obtain ⟨e1, e2⟩ := pa_row a q
    rw [keyP_apply i1 i2 hw a' 0 ha hb q t (pb ⟨8 * (a.val + 2) + q.val, hj⟩) (by rw [e2, Nat.zero_add]) (h1 a') (h2 _),
      show pa ⟨8 * (a.val + 2) + q.val, hj⟩ = a' from Fin.ext (e1.trans h.symm)]
    congr 4
    show _ = 16 * _ + _
    rw [e1, e2]; omega
  obtain ⟨⟨e1, e2⟩, ⟨e3, e4⟩, e5, e6⟩ := pa_ends q
  fin_cases i
  · have ez : (⟨8 * 0 + q.val, by omega⟩ : Fin 80) = ⟨q.val, by omega⟩ := Fin.ext (by simp only; omega)
    show (keyP i1 i2 0x00000000#32 (0 : Fin 16).val 0 _ _ (ix2 q t) : EReal) = ((((pp ⟨8 * 0 + q.val, _⟩).val * 16384
        + (I1 (pa ⟨8 * 0 + q.val, _⟩) * 128 + I2 (pb ⟨8 * 0 + q.val, _⟩)) : ℕ) : ℝ) : EReal)
    rw [ez, e1, keyP_apply i1 i2 w_0 0 0 _ _ q t (pb ⟨q.val, _⟩) (by rw [e2, Nat.zero_add]) (h1 0) (h2 _)]
    congr 4
    show _ = 16 * _ + _
    rw [e1, e2]; simp
  · show (keyP i1 i2 0x41000000#32 (0 : Fin 16).val 8 _ _ (ix2 q t) : EReal) = ((((pp ⟨8 + q.val, by omega⟩).val * 16384
        + (I1 (pa ⟨8 + q.val, by omega⟩) * 128 + I2 (pb ⟨8 + q.val, by omega⟩)) : ℕ) : ℝ) : EReal)
    rw [e3, keyP_apply i1 i2 w_8 0 8 _ _ q t (pb ⟨8 + q.val, _⟩) e4 (h1 0) (h2 _)]
    congr 4
    show _ = 16 * _ + _
    rw [e3, e4]; simp
  · exact mid 0 1 _ rfl w_16 _ _ _
  · exact mid 1 2 _ rfl w_32 _ _ _
  · exact mid 2 3 _ rfl w_48 _ _ _
  · exact mid 3 4 _ rfl w_64 _ _ _
  · exact mid 4 5 _ rfl w_80 _ _ _
  · exact mid 5 6 _ rfl w_96 _ _ _
  · exact mid 6 7 _ rfl w_112 _ _ _
  · show (Ideal.ofBits .f32 0x41000000#32 + rowId8 (ix2 q t)) * Ideal.ofBits .f32 0x48800000#32
      + ((eightAt i1 8 _ (ix2 q t) : EReal) * Ideal.ofBits .f32 0x43000000#32 + broadcastTo (Rows 8) (rowAt i2 (0 : Fin 16).val _) bc8 (ix2 q t))
      = ((((pp ⟨72 + q.val, by omega⟩).val * 16384 + (I1 (pa ⟨72 + q.val, by omega⟩) * 128 + I2 (pb ⟨72 + q.val, by omega⟩)) : ℕ) : ℝ) : EReal)
    rw [e6, row_down, rowAt_apply, eightAt_apply i1 8 _ q t (pa ⟨72 + q.val, _⟩) e5, rowId8_apply, w_8, w_262144, w_128, h1, h2]
    have : (pp ⟨72 + q.val, by omega⟩).val * 16384 = (8 + q.val) * 262144 := by
      show (16 * _ + _) * 16384 = _
      rw [e5, e6]; simp; omega
    rw [this]
    push_cast
    norm_cast

/-! ## The choice of one lane -/

theorem best_pp (S1 S2 : Fin 128 → EReal) (j : Fin 80) :
    best S1 S2 (pp j) = S1 (top (by omega : 16 ≤ 128) S1 (pa j)) + S2 (top (by omega : 16 ≤ 128) S2 (pb j)) := pairs_pp _ _ j

theorem code_of (S1 S2 : Fin 128 → EReal) (p : Fin 256) (a b : Fin 16) (ha : p.val / 16 = a.val) (hb : p.val % 16 = b.val) :
    (code S1 S2 p).val = (top (by omega : 16 ≤ 128) S1 a).val * 128 + (top (by omega : 16 ≤ 128) S2 b).val := by
  have e1 : a = ⟨p.val / 16, by omega⟩ := Fin.ext ha.symm
  have e2 : b = ⟨p.val % 16, by omega⟩ := Fin.ext hb.symm
  rw [e1, e2]
  rfl

theorem pp_val (j : Fin 80) : (pp j).val = 16 * (pa j).val + (pb j).val := rfl

theorem code_pp (S1 S2 : Fin 128 → EReal) (j : Fin 80) :
    (code S1 S2 (pp j)).val = (top (by omega : 16 ≤ 128) S1 (pa j)).val * 128 + (top (by omega : 16 ≤ 128) S2 (pb j)).val := by
  have h := pp_val j
  have h1 := (pa j).isLt
  have h2 := (pb j).isLt
  generalize pa j = a at *
  generalize pb j = b at *
  generalize pp j = p at *
  exact code_of S1 S2 p a b (by omega) (by omega)

section Lane

variable (s1 s2 : FVec Ideal (Rows 128) .f32) (t : Fin 256) (hs1 : ∀ p, col s1 t p ≠ ⊥) (hs2 : ∀ p, col s2 t p ≠ ⊥)

theorem pos_big (p : Fin 128) : pos p < big := by
  rw [big_eq]
  unfold pos
  have := p.isLt
  rw [EReal.coe_lt_coe_iff]
  have : (p.val : ℝ) < 128 := by exact_mod_cast this
  linarith

include hs1 in
theorem vals1 (r : Fin 16) : (vvals red128 bc128 rowId s1 (ix2 r t) : EReal) = col s1 t (top (by omega : 16 ≤ 128) (col s1 t) r) := by
  rw [vvals_apply, col_rowId]
  exact (rounds_top (by omega) (by omega) pos_big hs1 r).1

include hs1 in
theorem picks1 (r : Fin 16) : (vpicks red128 bc128 rowId s1 (ix2 r t) : EReal) = (((top (by omega : 16 ≤ 128) (col s1 t) r).val : ℝ) : EReal) := by
  rw [vpicks_apply, col_rowId]
  exact (rounds_top (by omega) (by omega) pos_big hs1 r).2

include hs1 hs2 in
theorem cand_col : col (sumsV (vvals red128 bc128 rowId s1) (vvals red128 bc128 rowId s2)) t = fun j => best (col s1 t) (col s2 t) (pp j) := by
  funext j
  show (sumsV (vvals red128 bc128 rowId s1) (vvals red128 bc128 rowId s2) (ix2 j t) : EReal) = _
  rw [sums_apply, vals1 s1 t hs1, vals1 s2 t hs2]
  exact (best_pp _ _ j).symm

include hs1 hs2 in
theorem keys_col : col (keysV (vpicks red128 bc128 rowId s1) (vpicks red128 bc128 rowId s2)) t = key (code (col s1 t) (col s2 t)) := by
  funext j
  refine (keys_apply _ _ t (picks1 s1 t hs1) (picks1 s2 t hs2) j).trans ?_
  unfold key
  rw [code_pp]

include hs1 hs2 in
theorem choice (r : Fin 16) : (topV s1 s2 (ix2 r t) : EReal) = best (col s1 t) (col s2 t) (chosen (col s1 t) (col s2 t) r)
    ∧ (pickV s1 s2 (ix2 r t) : EReal) = ((((chosen (col s1 t) (col s2 t) r).val * 16384
      + (code (col s1 t) (col s2 t) (chosen (col s1 t) (col s2 t) r)).val : ℕ) : ℝ) : EReal) := by
  unfold topV pickV
  rw [vvals_apply, vpicks_apply, keys_col s1 s2 t hs1 hs2, cand_col s1 s2 t hs1 hs2]
  refine pairs_top (top_antitone (by omega) _) (top_antitone (by omega) _) _ ?_ ?_ r
  · rw [big_eq, EReal.coe_le_coe_iff]; norm_num
  · intro a b h
    rcases EReal.add_eq_bot_iff.1 h with h | h
    · exact hs1 _ h
    · exact hs2 _ h

include hs1 hs2 in
theorem gate_apply (r : Fin 16) : (gateV (topV s1 s2) (ix2 r t) : EReal) = weight (col s1 t) (col s2 t) r := by
  have he : ∀ k : Fin 16, (expV (topV s1 s2) (ix2 k t) : EReal) = Ideal.exp (best (col s1 t) (col s2 t) (chosen (col s1 t) (col s2 t) k)
      - best (col s1 t) (col s2 t) (chosen (col s1 t) (col s2 t) 0)) := fun k => by
    show Ideal.exp ((topV s1 s2 (ix2 k t) : EReal) - broadcastTo (Rows 16) (rowAt (topV s1 s2) (0 : Fin 16).val _) bc16 (ix2 k t)) = _
    rw [row_down, rowAt_apply, (choice s1 s2 t hs1 hs2 k).1, (choice s1 s2 t hs1 hs2 0).1]
  show Ideal.div (expV (topV s1 s2) (ix2 r t)) (broadcastTo (Rows 16) (vrow (multiReduction .add [0] Lane (expV (topV s1 s2)) 0x00000000#32 red16 (.inl rfl) rfl)) bc16 (ix2 r t)) = _
  rw [row_down, vrow_apply, he]
  refine congrArg (Ideal.div _) ?_
  refine (Ideal.multiReduction_add_single _ _ _ _ _ _).trans (Finset.sum_congr rfl fun (k : Fin 16) _ => ?_)
  have e : red16.lift (ix1 t) k = ix2 k t := lift_row red16 t k
  rw [e]
  exact he k

theorem low14 (a b : ℕ) (ha : a < 256) (hb : b < 16384) :
    IntOp.addi (IntOp.muli (IntOp.andi (Ideal.fptosi 32 (((a * 16384 + b : ℕ) : ℝ) : EReal)) 16383#32) 4#32) 4096#32 = BitVec.ofNat 32 (b * 4 + 4096) := by
  have h : Ideal.fptosi 32 (((a * 16384 + b : ℕ) : ℝ) : EReal) = BitVec.ofNat 32 (a * 16384 + b) := by
    rw [Ideal.fptosi, Ideal.toIntClamped_coe, if_pos (Nat.cast_nonneg _), Int.floor_natCast, min_eq_right (by norm_num; omega), max_eq_right (by norm_num; omega)]
    exact BitVec.ofInt_natCast _ _
  rw [h]
  have h2 : IntOp.andi (BitVec.ofNat 32 (a * 16384 + b)) 16383#32 = BitVec.ofNat 32 b := by
    apply BitVec.eq_of_toNat_eq
    show (BitVec.ofNat 32 (a * 16384 + b) &&& 16383#32).toNat = _
    rw [BitVec.toNat_and, BitVec.toNat_ofNat, BitVec.toNat_ofNat, BitVec.toNat_ofNat]
    rw [Nat.mod_eq_of_lt (show a * 16384 + b < 2 ^ 32 by omega), show 16383 % 2 ^ 32 = 2 ^ 14 - 1 by norm_num, Nat.and_two_pow_sub_one_eq_mod]
    omega
  rw [h2]
  show BitVec.ofNat 32 b * BitVec.ofNat 32 4 + BitVec.ofNat 32 4096 = _
  rw [← BitVec.ofNat_mul, ← BitVec.ofNat_add]

include hs1 hs2 in
theorem addr_apply (r : Fin 16) : addrV (pickV s1 s2) (ix2 r t) = addr (col s1 t) (col s2 t) r := by
  show IntOp.addi (IntOp.muli (IntOp.andi (Ideal.fptosi 32 (pickV s1 s2 (ix2 r t))) 16383#32) 4#32) 4096#32 = _
  rw [(choice s1 s2 t hs1 hs2 r).2, low14 _ _ (Fin.isLt _) (Fin.isLt _)]
  rfl

end Lane

end Cert.Picks

end
-- ==== Proof.Layer.RouteBody.lean ====
/- The routing block's two outputs as the heads' choices. -/
module

public import proofs.«01_k».proof.Proof.Gen.RouteIdeal.Value
public import proofs.«01_k».proof.Proof.Layer.RouteHead

@[expose] public section

noncomputable section

namespace Cert.RouteIdeal.Body

open Cert.RouteIdeal Cert.RouteIdeal.Gen Cert.Picks
open Idealize.ShloMosaic Idealize.ShloMosaic.TcCoe
open Idealize.ShloMosaic.ValueIdx

variable (x0 : Vec Ideal S256x1024 .f32) (x1 : Vec Ideal S1024x2048 .bf16) (x2 x3 : Vec Ideal S8x128x128 .bf16)

/-- The block's queries. -/
def queryV : FVec Ideal S256x2048 .bf16 :=
  truncf .bf16 (matmul dot_S256x1024_S1024x2048_S256x2048_1_0_0_1_n_n none (truncf .bf16 (View.ld x0 r0_0) bitsLt_bf16_f32)
    (shapeCast S1024x2048 (View.ld x1 r0_1) shapeCasts_S1024x2048_S1024x2048 : FVec Ideal S1024x2048 .bf16) (constant S256x2048 .f32 0x00000000#32)) bitsLt_bf16_f32

/-- A key table's scores against the queries' columns from `o` on. -/
def keyScore (kb : Vec Ideal S1x128x128 .bf16) (o : ℕ) (h : S256x2048.Slices ![0, o] S256x128 := by decide) : FVec Ideal S128x256 .f32 :=
  matmul dot_S128x128_S256x128_S128x256_1_1_0_0_n_n none (shapeCast S128x128 kb shapeCasts_S1x128x128_S128x128 : FVec Ideal S128x128 .bf16)
    (extractStridedSlice S256x128 ![0, o] (queryV x0 x1) h) (constant S128x256 .f32 0x00000000#32)

/-- The addresses of all heads' choices. -/
def addrs : IVec S128x256 32 :=
  concatenate S128x256 0 [⟨S16x256, addrV (pickV (keyScore x0 x1 (View.ld x2 r0_2) 0) (keyScore x0 x1 (View.ld x3 r0_2) 128))⟩,
    ⟨S16x256, addrV (pickV (keyScore x0 x1 (View.ld x2 r0_3) 256) (keyScore x0 x1 (View.ld x3 r0_3) 384))⟩,
    ⟨S16x256, addrV (pickV (keyScore x0 x1 (View.ld x2 r0_4) 512) (keyScore x0 x1 (View.ld x3 r0_4) 640))⟩,
    ⟨S16x256, addrV (pickV (keyScore x0 x1 (View.ld x2 r0_5) 768) (keyScore x0 x1 (View.ld x3 r0_5) 896))⟩,
    ⟨S16x256, addrV (pickV (keyScore x0 x1 (View.ld x2 r0_6) 1024) (keyScore x0 x1 (View.ld x3 r0_6) 1152))⟩,
    ⟨S16x256, addrV (pickV (keyScore x0 x1 (View.ld x2 r0_7) 1280) (keyScore x0 x1 (View.ld x3 r0_7) 1408))⟩,
    ⟨S16x256, addrV (pickV (keyScore x0 x1 (View.ld x2 r0_8) 1536) (keyScore x0 x1 (View.ld x3 r0_8) 1664))⟩,
    ⟨S16x256, addrV (pickV (keyScore x0 x1 (View.ld x2 r0_9) 1792) (keyScore x0 x1 (View.ld x3 r0_9) 1920))⟩] concatenates_S16x256_S16x256_S16x256_S16x256_S16x256_S16x256_S16x256_S16x256_S128x256_d0

/-- The gates of all heads' choices. -/
def gates : FVec Ideal S128x256 .f32 :=
  concatenate S128x256 0 [⟨S16x256, gateV (topV (keyScore x0 x1 (View.ld x2 r0_2) 0) (keyScore x0 x1 (View.ld x3 r0_2) 128))⟩,
    ⟨S16x256, gateV (topV (keyScore x0 x1 (View.ld x2 r0_3) 256) (keyScore x0 x1 (View.ld x3 r0_3) 384))⟩,
    ⟨S16x256, gateV (topV (keyScore x0 x1 (View.ld x2 r0_4) 512) (keyScore x0 x1 (View.ld x3 r0_4) 640))⟩,
    ⟨S16x256, gateV (topV (keyScore x0 x1 (View.ld x2 r0_5) 768) (keyScore x0 x1 (View.ld x3 r0_5) 896))⟩,
    ⟨S16x256, gateV (topV (keyScore x0 x1 (View.ld x2 r0_6) 1024) (keyScore x0 x1 (View.ld x3 r0_6) 1152))⟩,
    ⟨S16x256, gateV (topV (keyScore x0 x1 (View.ld x2 r0_7) 1280) (keyScore x0 x1 (View.ld x3 r0_7) 1408))⟩,
    ⟨S16x256, gateV (topV (keyScore x0 x1 (View.ld x2 r0_8) 1536) (keyScore x0 x1 (View.ld x3 r0_8) 1664))⟩,
    ⟨S16x256, gateV (topV (keyScore x0 x1 (View.ld x2 r0_9) 1792) (keyScore x0 x1 (View.ld x3 r0_9) 1920))⟩] concatenates_S16x256_S16x256_S16x256_S16x256_S16x256_S16x256_S16x256_S16x256_S128x256_d0

theorem out4_eq : (out0_4 (F := Ideal) x0 x1 x2 x3 : Vec Ideal S2x128x128 .i32) = View.canon
    [⟨r0_11, shapeCast S1x128x128 (extractStridedSlice S128x128 ![0, 128] (addrs x0 x1 x2 x3) slices_S128x256_o0_128_S128x128) shapeCasts_S128x128_S1x128x128⟩,
     ⟨r0_10, shapeCast S1x128x128 (extractStridedSlice S128x128 ![0, 0] (addrs x0 x1 x2 x3) slices_S128x256_o0_0_S128x128) shapeCasts_S128x128_S1x128x128⟩] := by
  sl_kernel_rfl

theorem out5_eq : (out0_5 (F := Ideal) x0 x1 x2 x3 : Vec Ideal S2x128x128 .f32) = View.canon
    [⟨r0_11, shapeCast S1x128x128 (extractStridedSlice S128x128 ![0, 128] (gates x0 x1 x2 x3) slices_S128x256_o0_128_S128x128) shapeCasts_S128x128_S1x128x128⟩,
     ⟨r0_10, shapeCast S1x128x128 (extractStridedSlice S128x128 ![0, 0] (gates x0 x1 x2 x3) slices_S128x256_o0_0_S128x128) shapeCasts_S128x128_S1x128x128⟩] := by
  sl_kernel_rfl

end Cert.RouteIdeal.Body

end
-- ==== Proof.Layer.RouteSpec.lean ====
/- The routing as a function of its four argument arrays: a token's queries, the scores of the two key tables, the sixteen best sums of
   every head, the expert addresses they stand for, and the gates. -/
module

public import proofs.«01_k».proof.Proof.Layer.RouteHead
public import proofs.«01_k».proof.Proof.Layer.Pre
public import proofs.«01_k».proof.Pre_finite_route
public import Idealize.ShloMosaic.Lib.ReduceAll

@[expose] public section

noncomputable section

namespace Cert.Routing

open Idealize.ShloMosaic hiding ix1 ix2 ix3
open Idealize.ShloMosaic.ValueIdx

abbrev ArgH := FVec Ideal ⟨2, ![65536, 1024]⟩ .f32
abbrev ArgW := FVec Ideal ⟨2, ![1024, 2048]⟩ .f32
abbrev ArgK := FVec Ideal ⟨3, ![8, 128, 128]⟩ .f32

variable (H : ArgH) (W : ArgW) (K1 K2 : ArgK)

/-- A token's query entry. -/
def query (n : Fin 65536) (c : Fin 2048) : EReal := ∑ e : Fin 1024, (H (ix2 n e) : EReal) * W (ix2 e c)

/-- The query column of a head's half at a position. -/
def qcol (h : Fin 8) (half : Fin 2) (d : Fin 128) : Fin 2048 := ⟨256 * h.val + 128 * half.val + d.val, by omega⟩

/-- A key's score for a token and a head; `half` says which half of the head's query meets the table. -/
def score (K : ArgK) (half : Fin 2) (n : Fin 65536) (h : Fin 8) (p : Fin 128) : EReal :=
  ∑ d : Fin 128, (K (ix3 h p d) : EReal) * query H W n (qcol h half d)

/-- A token's expert addresses, head after head. -/
def addrAt (n : Fin 65536) (s : Fin 128) : BitVec 32 :=
  Picks.addr (score H W K1 0 n ⟨s.val / 16, by omega⟩) (score H W K2 1 n ⟨s.val / 16, by omega⟩) ⟨s.val % 16, Nat.mod_lt _ (by decide)⟩

/-- A token's gates, head after head. -/
def gateAt (n : Fin 65536) (s : Fin 128) : EReal :=
  Picks.weight (score H W K1 0 n ⟨s.val / 16, by omega⟩) (score H W K2 1 n ⟨s.val / 16, by omega⟩) ⟨s.val % 16, Nat.mod_lt _ (by decide)⟩

/-- The token at a lane of a tile of 128. -/
def tok (g : Fin 512) (l : Fin 128) : Fin 65536 := ⟨128 * g.val + l.val, by omega⟩

/-- The addresses in tiles of 128 tokens, a token per lane. -/
def addrs : IVec ⟨3, ![512, 128, 128]⟩ 32 := fun i => addrAt H W K1 K2 (tok (i 0) (i 2)) (i 1)
/-- The gates in tiles of 128 tokens, a token per lane. -/
def gates : FVec Ideal ⟨3, ![512, 128, 128]⟩ .f32 := fun i => gateAt H W K1 K2 (tok (i 0) (i 2)) (i 1)

/-! ## Real arguments give real scores -/

/-- A real number, not an infinity. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem real_sum {n : ℕ} (f : Fin n → EReal) (h : ∀ k, Real' (f k)) : Real' (∑ k, f k) :=
  Finset.sum_induction f Real' (fun x y hx hy => by
    obtain ⟨a, rfl⟩ := hx
    obtain ⟨b, rfl⟩ := hy
    exact ⟨a + b, (EReal.coe_add a b).symm⟩) ⟨0, rfl⟩ fun k _ => h k

theorem Real'.ne_bot {x : EReal} (hx : Real' x) : x ≠ ⊥ := by
  obtain ⟨a, rfl⟩ := hx
  exact EReal.coe_ne_bot a

variable {H W K1 K2}

/-- Every entry of the arguments is real. -/
def AllReal (H : ArgH) (W : ArgW) (K1 K2 : ArgK) : Prop :=
  (∀ i, Real' (H i)) ∧ (∀ i, Real' (W i)) ∧ (∀ i, Real' (K1 i)) ∧ ∀ i, Real' (K2 i)

theorem score_ne_bot {K : ArgK} (hH : ∀ i, Real' (H i)) (hW : ∀ i, Real' (W i)) (hK : ∀ i, Real' (K i)) (half : Fin 2) (n : Fin 65536)
    (h : Fin 8) (p : Fin 128) : score H W K half n h p ≠ ⊥ :=
  (real_sum _ fun d => (hK _).mul (real_sum _ fun e => (hH _).mul (hW _))).ne_bot

/-! ## The precondition -/

open Cert.Pre_finite_route Cert.Pre_finite_route.Facts

instance preFacts : Cert.Pre_finite_route.Facts := by constructor <;> decide

instance : Subsingleton S_.Idx := ⟨fun a b => funext fun x => x.elim0⟩

theorem real_of_all {s : Shape} {dims : List (Fin s.rank)} (x : FVec Ideal s .f32) (hb : S_.BroadcastsInDim s (![] : Fin 0 → Fin s.rank))
    (hr : s.ReducesTo dims S_) (h : Host.reduce IntOp.andi (cmpf .olt (Host.absf x) (broadcastInDim s ![] hb
      (constant (F := Ideal) S_ .f32 0x7F800000#32))) (constantI S_ 1 1#1) hr h_S_ (fun a => a.elim0) = 1#1) (i : s.Idx) : Real' (x i) :=
  ⟨_, Cert.Layer.real_of_abs (x i) (Host.reduce_andi_all _ _ hr h_S_ _ h i)⟩

theorem all_real (h : fn (F := Ideal) H W K1 K2 = fun _ => 1#1) : AllReal H W K1 K2 := by
  have h := congrFun h (fun a => a.elim0)
  obtain ⟨h, h4⟩ := IntOp.andi_eq_one.1 h
  obtain ⟨h, h3⟩ := IntOp.andi_eq_one.1 h
  obtain ⟨h1, h2⟩ := IntOp.andi_eq_one.1 h
  exact ⟨real_of_all H _ _ h1, real_of_all W _ _ h2, real_of_all K1 _ _ h3, real_of_all K2 _ _ h4⟩

end Cert.Routing

end
-- ==== Proof.Layer.RouteFinal.lean ====
/- The routing call's two output arrays: each grid point's block is two tiles of 128 tokens, so the arrays are the routing's results. -/
module

public import proofs.«01_k».proof.Proof.Layer.RouteBody
public import proofs.«01_k».proof.Proof.Layer.RouteSpec
public import Idealize.ShloMosaic.Lib.StableHlo.RunRead
public import Idealize.ShloMosaic.Lib.MatmulPlain

@[expose] public section

noncomputable section

namespace Cert.RouteIdeal.Body

open Cert.RouteIdeal Cert.RouteIdeal.Gen Cert.Picks
open Idealize.ShloMosaic hiding ix1 ix2 ix3
open Idealize.ShloMosaic.TcCoe
open Idealize.ShloMosaic.ValueIdx
open Idealize.SL.Sem

section Block

variable (x0 : Vec Ideal S256x1024 .f32) (x1 : Vec Ideal S1024x2048 .bf16) (x2 x3 : Vec Ideal S8x128x128 .bf16)

theorem queryV_apply (r : Fin 256) (c : Fin 2048) :
    (queryV x0 x1 (ix2 r c) : EReal) = ∑ e : Fin 1024, (x0 (ix2 r e) : EReal) * x1 (ix2 e c) := by
  have e0 : View.ld x0 r0_0 = x0 := View.ld_unit_zero (S := S256x1024) (by decide) inb_S256x1024_S256x1024_0_0 x0
  have e1 : View.ld x1 r0_1 = x1 := View.ld_unit_zero (S := S1024x2048) (by decide) inb_S1024x2048_S1024x2048_0_0 x1
  have e2 : (shapeCast S1024x2048 x1 shapeCasts_S1024x2048_S1024x2048 : FVec Ideal S1024x2048 .bf16) = x1 := shapeCast_self _ _
  unfold queryV
  rw [e0, e1, e2]
  refine (Ideal.matmul_plain_apply (M := 256) (K := 1024) (N := 2048) (φ₁ := .bf16) (φ₂ := .bf16) none _ _ _ r c).trans ?_
  rw [constant_apply, Ideal.ofBits_zero_f32, zero_add]
  rfl

theorem keyScore_apply (kb : Vec Ideal S1x128x128 .bf16) (o : ℕ) (ho : o + 128 ≤ 2048) (h : S256x2048.Slices ![0, o] S256x128)
    (p : Fin 128) (t : Fin 256) :
    (keyScore x0 x1 kb o h (ix2 p t) : EReal)
      = ∑ d : Fin 128, (kb (ix3 (0 : Fin 1) p d) : EReal) * queryV x0 x1 (ix2 t (⟨o + d.val, by omega⟩ : Fin 2048)) := by
  unfold keyScore
  refine (Ideal.matmul_transposedRhs_apply (M := 128) (K := 128) (N := 256) (φ₁ := .bf16) (φ₂ := .bf16) none _ _ _ p t).trans ?_
  rw [constant_apply, Ideal.ofBits_zero_f32, zero_add]
  refine Finset.sum_congr rfl fun d _ => ?_
  rw [shapeCast_apply _ _ (ix2 p d) (ix3 (0 : Fin 1) p d) (by
      rw [Shape.rowMajor_val_three, Shape.rowMajor_val_two]; simp [ix3, ix2]),
    extractStridedSlice_apply _ _ h (ix2 t d) (ix2 t (⟨o + d.val, by omega⟩ : Fin 2048)) (fun a => by
      match a with
      | ⟨0, _⟩ => exact (Nat.zero_add _).symm
      | ⟨1, _⟩ => rfl)]

/-- A head's slab of a key table. -/
abbrev hrect (h : Fin 8) : Rect S8x128x128 := Rect.unit (s := S8x128x128) ![h.val, 0, 0] S1x128x128.size (fun a => by
  match a with
  | ⟨0, _⟩ => show h.val + 1 ≤ 8; omega
  | ⟨1, _⟩ => show 0 + 128 ≤ 128; omega
  | ⟨2, _⟩ => show 0 + 128 ≤ 128; omega)

theorem ld_h (x : Vec Ideal S8x128x128 .bf16) (h : Fin 8) (p d : Fin 128) : View.ld x (hrect h) (ix3 (0 : Fin 1) p d) = x (ix3 h p d) :=
  congrArg x (funext fun a => Fin.ext (by
    match a with
    | ⟨0, _⟩ => show h.val + 1 * 0 = h.val; omega
    | ⟨1, _⟩ => show 0 + 1 * p.val = p.val; omega
    | ⟨2, _⟩ => show 0 + 1 * d.val = d.val; omega))

theorem half_slices (h : Fin 8) (half : Fin 2) : S256x2048.Slices ![0, 256 * h.val + 128 * half.val] S256x128 := by
  revert h half; decide

/-- A head's scores of one key table. -/
def headS (x : Vec Ideal S8x128x128 .bf16) (half : Fin 2) (h : Fin 8) : FVec Ideal S128x256 .f32 :=
  keyScore x0 x1 (View.ld x (hrect h)) (256 * h.val + 128 * half.val) (half_slices h half)

theorem headS_apply (x : Vec Ideal S8x128x128 .bf16) (half : Fin 2) (h : Fin 8) (p : Fin 128) (t : Fin 256) :
    (headS x0 x1 x half h (ix2 p t) : EReal)
      = ∑ d : Fin 128, (x (ix3 h p d) : EReal) * ∑ e : Fin 1024, (x0 (ix2 t e) : EReal) * x1 (ix2 e (Routing.qcol h half d)) := by
  refine (keyScore_apply x0 x1 _ _ (by omega) _ p t).trans (Finset.sum_congr rfl fun d _ => ?_)
  rw [ld_h, queryV_apply]
  rfl

theorem addrs_apply (h : Fin 8) (r : Fin 16) (t : Fin 256) :
    addrs x0 x1 x2 x3 (ix2 (⟨16 * h.val + r.val, by omega⟩ : Fin 128) t)
      = addrV (pickV (headS x0 x1 x2 0 h) (headS x0 x1 x3 1 h)) (ix2 r t) := by
  unfold addrs
  exact concatenate_ofFn_apply (t := S128x256) (s₁ := S16x256) (0 : Fin 2)
    (fun h : Fin 8 => addrV (pickV (headS x0 x1 x2 0 h) (headS x0 x1 x3 1 h))) _ rfl 16 rfl (ix2 (⟨16 * h.val + r.val, by omega⟩ : Fin 128) t) h
    (by show (16 * h.val + r.val) / 16 = h.val; omega) (ix2 r t) (by show r.val = (16 * h.val + r.val) % 16; omega) (fun a => by
      match a with
      | ⟨0, _⟩ => exact fun h => absurd rfl h
      | ⟨1, _⟩ => exact fun _ => rfl)

theorem gates_apply (h : Fin 8) (r : Fin 16) (t : Fin 256) :
    (gates x0 x1 x2 x3 (ix2 (⟨16 * h.val + r.val, by omega⟩ : Fin 128) t) : EReal)
      = gateV (topV (headS x0 x1 x2 0 h) (headS x0 x1 x3 1 h)) (ix2 r t) := by
  unfold gates
  exact concatenate_ofFn_apply (t := S128x256) (s₁ := S16x256) (0 : Fin 2)
    (fun h : Fin 8 => gateV (topV (headS x0 x1 x2 0 h) (headS x0 x1 x3 1 h))) _ rfl 16 rfl (ix2 (⟨16 * h.val + r.val, by omega⟩ : Fin 128) t) h
    (by show (16 * h.val + r.val) / 16 = h.val; omega) (ix2 r t) (by show r.val = (16 * h.val + r.val) % 16; omega) (fun a => by
      match a with
      | ⟨0, _⟩ => exact fun h => absurd rfl h
      | ⟨1, _⟩ => exact fun _ => rfl)

end Block

theorem low_not_mem (s l : Fin 128) : (ix3 (0 : Fin 2) s l : S2x128x128.Idx) ∉ r0_11.set := by
  rw [Rect.mem_set_unit]
  intro hc
  have h : 1 ≤ 0 := (hc 0).1
  omega

theorem low_emb (s l : Fin 128) : (ix3 (0 : Fin 2) s l : S2x128x128.Idx) = r0_10.emb (ix3 (0 : Fin 1) s l) := funext fun a => Fin.ext (by
  match a with
  | ⟨0, _⟩ => rfl
  | ⟨1, _⟩ => show s.val = 0 + 1 * s.val; omega
  | ⟨2, _⟩ => show l.val = 0 + 1 * l.val; omega)

theorem high_emb (s l : Fin 128) : (ix3 (1 : Fin 2) s l : S2x128x128.Idx) = r0_11.emb (ix3 (0 : Fin 1) s l) := funext fun a => Fin.ext (by
  match a with
  | ⟨0, _⟩ => rfl
  | ⟨1, _⟩ => show s.val = 0 + 1 * s.val; omega
  | ⟨2, _⟩ => show l.val = 0 + 1 * l.val; omega)

theorem canon_low {e : EltTy} (A B : Vec Ideal S1x128x128 e) (s l : Fin 128) :
    View.canon (Val := Elt Ideal) [⟨r0_11, B⟩, ⟨r0_10, A⟩] (ix3 (0 : Fin 2) s l) = A (ix3 (0 : Fin 1) s l) := by
  refine (View.canon_cons_of_not_mem (Val := Elt Ideal) (⟨r0_11, B⟩ : View.Piece (Elt Ideal) S2x128x128 e) [⟨r0_10, A⟩]
    (y := ix3 (0 : Fin 2) s l) (low_not_mem s l)).trans ?_
  rw [low_emb]
  exact View.canon_cons_emb r0_10 A [] _

theorem canon_high {e : EltTy} (A B : Vec Ideal S1x128x128 e) (s l : Fin 128) :
    View.canon (Val := Elt Ideal) [⟨r0_11, B⟩, ⟨r0_10, A⟩] (ix3 (1 : Fin 2) s l) = B (ix3 (0 : Fin 1) s l) := by
  rw [high_emb]
  exact View.canon_cons_emb r0_11 B _ _

theorem tile_piece {e : EltTy} (X : Vec Ideal S128x256 e) (s l : Fin 128) (o : ℕ) (ho : o + 128 ≤ 256) (hs : S128x256.Slices ![0, o] S128x128) :
    shapeCast S1x128x128 (extractStridedSlice S128x128 ![0, o] X hs) shapeCasts_S128x128_S1x128x128 (ix3 (0 : Fin 1) s l)
      = X (ix2 s (⟨o + l.val, by omega⟩ : Fin 256)) := by
  rw [shapeCast_apply _ _ (ix3 (0 : Fin 1) s l) (ix2 s l) (by
      rw [Shape.rowMajor_val_three, Shape.rowMajor_val_two]; simp [ix3, ix2]),
    extractStridedSlice_apply _ _ hs (ix2 s l) (ix2 s (⟨o + l.val, by omega⟩ : Fin 256)) (fun a => by
      match a with
      | ⟨0, _⟩ => exact (Nat.zero_add _).symm
      | ⟨1, _⟩ => rfl)]

/-- Two tiles laid side by side along the tokens, split into the block's two tiles. -/
theorem tiles_apply {e : EltTy} (X : Vec Ideal S128x256 e) (g : Fin 2) (s l : Fin 128) :
    (View.canon (s := S2x128x128) (Val := Elt Ideal) (e := e)
      [⟨r0_11, shapeCast S1x128x128 (extractStridedSlice S128x128 ![0, 128] X slices_S128x256_o0_128_S128x128) shapeCasts_S128x128_S1x128x128⟩,
       ⟨r0_10, shapeCast S1x128x128 (extractStridedSlice S128x128 ![0, 0] X slices_S128x256_o0_0_S128x128) shapeCasts_S128x128_S1x128x128⟩])
      (ix3 g s l) = X (ix2 s (⟨128 * g.val + l.val, by omega⟩ : Fin 256)) := by
  match g with
  | ⟨0, _⟩ =>
    refine (canon_low _ _ s l).trans ((tile_piece X s l 0 (by omega) _).trans (congrArg (fun z => X (ix2 s z)) (Fin.ext ?_)))
    show 0 + l.val = 128 * 0 + l.val
    omega
  | ⟨1, _⟩ => exact (canon_high _ _ s l).trans (tile_piece X s l 128 (by omega) _)

/-! ## The windows -/

variable (m : (ℓ : Loc nD τ sig) → Buf (Elt Ideal) ℓ) (ρ : Dev nD → PrngReg)

theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0))

theorem lt256 (t : Fin cfg0.N) : t.val < 256 := by have h := t.isLt; have hN : cfg0.N = 256 := N_0; omega

/-- A token of a grid point. -/
def rowOf (t : Fin cfg0.N) (r : Fin 256) : Fin 65536 := ⟨t.val * 256 + r.val, by have := lt256 t; omega⟩
/-- A tile of a grid point. -/
def tileOf (t : Fin cfg0.N) (g : Fin 2) : Fin 512 := ⟨t.val * 2 + g.val, by have := lt256 t; omega⟩

abbrev aH (c : Dev nD) : Routing.ArgH := m ((c : Thread nD τ).loc main_arg0)
abbrev aW (c : Dev nD) : Routing.ArgW := m ((c : Thread nD τ).loc main_arg1)
abbrev aK1 (c : Dev nD) : Routing.ArgK := m ((c : Thread nD τ).loc main_arg2)
abbrev aK2 (c : Dev nD) : Routing.ArgK := m ((c : Thread nD τ).loc main_arg3)

theorem V_v0 (c : Dev nD) : V m c main_v0 = truncf .bf16 (aW m c) bitsLt_bf16_f32 := by
  unfold V
  after_reads_simp
  try rfl

theorem V_v1 (c : Dev nD) : V m c main_v1 = truncf .bf16 (aK1 m c) bitsLt_bf16_f32 := by
  unfold V
  after_reads_simp
  try rfl

theorem V_v2 (c : Dev nD) : V m c main_v2 = truncf .bf16 (aK2 m c) bitsLt_bf16_f32 := by
  unfold V
  after_reads_simp
  try rfl

theorem blk_0 (c : Dev nD) (t : Fin cfg0.N) (r : Fin 256) (d : Fin 1024) :
    (iblk m c 0 t (ix2 r d) : EReal) = aH m c (ix2 (rowOf t r) d) := by
  obtain ⟨⟨h0, h1⟩, -⟩ := idx_facts t
  unfold iblk; rw [View.read_apply]
  show V m c main_arg0 _ = _
  rw [V_main_arg0]
  refine congrArg (aH m c) (funext fun a => Fin.ext ?_)
  match a with
  | ⟨0, _⟩ => show win0_0.index t 0 * 256 + 1 * r.val = t.val * 256 + r.val; rw [h0]; omega
  | ⟨1, _⟩ => show win0_0.index t 1 * 1024 + 1 * d.val = d.val; rw [h1]; omega

theorem blk_1 (c : Dev nD) (t : Fin cfg0.N) (j : S1024x2048.Idx) : (iblk m c 1 t j : EReal) = aW m c j := by
  obtain ⟨-, ⟨h0, h1⟩, -⟩ := idx_facts t
  unfold iblk; rw [View.read_apply]
  show V m c main_v0 _ = _
  rw [V_v0]
  refine congrArg (aW m c) (funext fun a => Fin.ext ?_)
  match a with
  | ⟨0, _⟩ => show win0_1.index t 0 * 1024 + 1 * (j 0).val = (j 0).val; rw [h0]; omega
  | ⟨1, _⟩ => show win0_1.index t 1 * 2048 + 1 * (j 1).val = (j 1).val; rw [h1]; omega

theorem blk_2 (c : Dev nD) (t : Fin cfg0.N) (j : S8x128x128.Idx) : (iblk m c 2 t j : EReal) = aK1 m c j := by
  obtain ⟨-, -, ⟨h0, h1, h2⟩, -⟩ := idx_facts t
  unfold iblk; rw [View.read_apply]
  show V m c main_v1 _ = _
  rw [V_v1]
  refine congrArg (aK1 m c) (funext fun a => Fin.ext ?_)
  match a with
  | ⟨0, _⟩ => show win0_2.index t 0 * 8 + 1 * (j 0).val = (j 0).val; rw [h0]; omega
  | ⟨1, _⟩ => show win0_2.index t 1 * 128 + 1 * (j 1).val = (j 1).val; rw [h1]; omega
  | ⟨2, _⟩ => show win0_2.index t 2 * 128 + 1 * (j 2).val = (j 2).val; rw [h2]; omega

theorem blk_3 (c : Dev nD) (t : Fin cfg0.N) (j : S8x128x128.Idx) : (iblk m c 3 t j : EReal) = aK2 m c j := by
  obtain ⟨-, -, -, ⟨h0, h1, h2⟩, -⟩ := idx_facts t
  unfold iblk; rw [View.read_apply]
  show V m c main_v2 _ = _
  rw [V_v2]
  refine congrArg (aK2 m c) (funext fun a => Fin.ext ?_)
  match a with
  | ⟨0, _⟩ => show win0_3.index t 0 * 8 + 1 * (j 0).val = (j 0).val; rw [h0]; omega
  | ⟨1, _⟩ => show win0_3.index t 1 * 128 + 1 * (j 1).val = (j 1).val; rw [h1]; omega
  | ⟨2, _⟩ => show win0_3.index t 2 * 128 + 1 * (j 2).val = (j 2).val; rw [h2]; omega

/-- The scores of a grid point's first key table, a token's column. -/
theorem head1 (c : Dev nD) (t : Fin cfg0.N) (h : Fin 8) (r : Fin 256) :
    col (headS (iblk m c 0 t) (iblk m c 1 t) (iblk m c 2 t) 0 h) r = Routing.score (aH m c) (aW m c) (aK1 m c) 0 (rowOf t r) h := by
  funext p
  refine (headS_apply _ _ _ 0 h p r).trans (Finset.sum_congr rfl fun d _ => ?_)
  rw [blk_2]
  refine congrArg (_ * ·) (Finset.sum_congr rfl fun e _ => ?_)
  rw [blk_0, blk_1]

/-- The scores of a grid point's second key table, a token's column. -/
theorem head2 (c : Dev nD) (t : Fin cfg0.N) (h : Fin 8) (r : Fin 256) :
    col (headS (iblk m c 0 t) (iblk m c 1 t) (iblk m c 3 t) 1 h) r = Routing.score (aH m c) (aW m c) (aK2 m c) 1 (rowOf t r) h := by
  funext p
  refine (headS_apply _ _ _ 1 h p r).trans (Finset.sum_congr rfl fun d _ => ?_)
  rw [blk_3]
  refine congrArg (_ * ·) (Finset.sum_congr rfl fun e _ => ?_)
  rw [blk_0, blk_1]

theorem split_slot (s : Fin 128) : s = (⟨16 * (⟨s.val / 16, by omega⟩ : Fin 8).val + (⟨s.val % 16, Nat.mod_lt _ (by decide)⟩ : Fin 16).val, by
    show 16 * (s.val / 16) + s.val % 16 < 128; omega⟩ : Fin 128) := Fin.ext (by show s.val = 16 * (s.val / 16) + s.val % 16; omega)

section Real

variable (hr : ∀ c, Routing.AllReal (aH m c) (aW m c) (aK1 m c) (aK2 m c))

include hr

theorem addrs_at (c : Dev nD) (t : Fin cfg0.N) (s : Fin 128) (r : Fin 256) :
    addrs (iblk m c 0 t) (iblk m c 1 t) (iblk m c 2 t) (iblk m c 3 t) (ix2 s r)
      = Routing.addrAt (aH m c) (aW m c) (aK1 m c) (aK2 m c) (rowOf t r) s := by
  obtain ⟨hH, hW, hK1, hK2⟩ := hr c
  refine (congrArg (fun z => addrs _ _ _ _ (ix2 z r)) (split_slot s)).trans ((addrs_apply _ _ _ _ _ _ r).trans ?_)
  rw [addr_apply _ _ r (fun p => by rw [head1]; exact Routing.score_ne_bot hH hW hK1 _ _ _ _)
    (fun p => by rw [head2]; exact Routing.score_ne_bot hH hW hK2 _ _ _ _), head1, head2]
  rfl

theorem gates_at (c : Dev nD) (t : Fin cfg0.N) (s : Fin 128) (r : Fin 256) :
    (gates (iblk m c 0 t) (iblk m c 1 t) (iblk m c 2 t) (iblk m c 3 t) (ix2 s r) : EReal)
      = Routing.gateAt (aH m c) (aW m c) (aK1 m c) (aK2 m c) (rowOf t r) s := by
  obtain ⟨hH, hW, hK1, hK2⟩ := hr c
  refine (congrArg (fun z => gates _ _ _ _ (ix2 z r)) (split_slot s)).trans ((gates_apply _ _ _ _ _ _ r).trans ?_)
  rw [gate_apply _ _ r (fun p => by rw [head1]; exact Routing.score_ne_bot hH hW hK1 _ _ _ _)
    (fun p => by rw [head2]; exact Routing.score_ne_bot hH hW hK2 _ _ _ _), head1, head2]
  rfl

omit hr in
theorem row_tok (t : Fin cfg0.N) (g : Fin 2) (l : Fin 128) :
    rowOf t (⟨128 * g.val + l.val, by omega⟩ : Fin 256) = Routing.tok (tileOf t g) l :=
  Fin.ext (by show t.val * 256 + (128 * g.val + l.val) = 128 * (t.val * 2 + g.val) + l.val; omega)

omit hr in
theorem eta3 (j : S2x128x128.Idx) : j = ix3 (j 0) (j 1) (j 2) := funext fun a => by
  match a with
  | ⟨0, _⟩ => rfl
  | ⟨1, _⟩ => rfl
  | ⟨2, _⟩ => rfl

omit hr in
/-- A block that agrees with an array at its place is the block the first output window reads of it. -/
theorem cut4 (t : Fin cfg0.N) (X : Vec Ideal S2x128x128 .i32) (Z : IVec ⟨3, ![512, 128, 128]⟩ 32)
    (h : ∀ (g : Fin 2) (s l : Fin 128), X (ix3 g s l) = Z (ix3 (tileOf t g) s l)) :
    (cfg0.win 4).cut (grid0.coords t) X = ((cfg0.win 4).blk t).view.read (Elt Ideal) Z := by
  obtain ⟨-, -, -, -, ⟨h0, h1, h2⟩, -⟩ := idx_facts t
  refine funext fun (j : S2x128x128.Idx) => ?_
  rw [View.read_apply]
  refine (congrArg X (eta3 j)).trans ((h (j 0) (j 1) (j 2)).trans (congrArg Z (funext fun a => Fin.ext ?_)))
  match a with
  | ⟨0, _⟩ => show t.val * 2 + (j 0).val = win0_4.index t 0 * 2 + 1 * (j 0).val; rw [h0]; omega
  | ⟨1, _⟩ => show (j 1).val = win0_4.index t 1 * 128 + 1 * (j 1).val; rw [h1]; omega
  | ⟨2, _⟩ => show (j 2).val = win0_4.index t 2 * 128 + 1 * (j 2).val; rw [h2]; omega

omit hr in
/-- A block that agrees with an array at its place is the block the second output window reads of it. -/
theorem cut5 (t : Fin cfg0.N) (X : Vec Ideal S2x128x128 .f32) (Z : FVec Ideal ⟨3, ![512, 128, 128]⟩ .f32)
    (h : ∀ (g : Fin 2) (s l : Fin 128), X (ix3 g s l) = Z (ix3 (tileOf t g) s l)) :
    (cfg0.win 5).cut (grid0.coords t) X = ((cfg0.win 5).blk t).view.read (Elt Ideal) Z := by
  obtain ⟨-, -, -, -, -, h0, h1, h2⟩ := idx_facts t
  refine funext fun (j : S2x128x128.Idx) => ?_
  rw [View.read_apply]
  refine (congrArg X (eta3 j)).trans ((h (j 0) (j 1) (j 2)).trans (congrArg Z (funext fun a => Fin.ext ?_)))
  match a with
  | ⟨0, _⟩ => show t.val * 2 + (j 0).val = win0_5.index t 0 * 2 + 1 * (j 0).val; rw [h0]; omega
  | ⟨1, _⟩ => show (j 1).val = win0_5.index t 1 * 128 + 1 * (j 1).val; rw [h1]; omega
  | ⟨2, _⟩ => show (j 2).val = win0_5.index t 2 * 128 + 1 * (j 2).val; rw [h2]; omega

theorem flushed4_eq (c : Dev nD) (t : Fin cfg0.N) (_ : (cfg0.win 4).flush t = true) :
    (dats m 0 c).flushed 4 t = ((cfg0.win 4).blk t).view.read (Elt Ideal) (Routing.addrs (aH m c) (aW m c) (aK1 m c) (aK2 m c)) := by
  rw [Value.flushed4, out4_eq]
  refine cut4 t _ _ fun g s l => ?_
  rw [tiles_apply, addrs_at m hr, row_tok]
  rfl

theorem flushed5_eq (c : Dev nD) (t : Fin cfg0.N) (_ : (cfg0.win 5).flush t = true) :
    (dats m 0 c).flushed 5 t = ((cfg0.win 5).blk t).view.read (Elt Ideal) (Routing.gates (aH m c) (aW m c) (aK1 m c) (aK2 m c)) := by
  rw [Value.flushed5, out5_eq]
  refine cut5 t _ _ fun g s l => ?_
  rw [tiles_apply, gates_at m hr, row_tok]
  rfl

/-- The call's address array. -/
theorem final4 (c : Dev nD) : (dats m 0 c).arrAt 4 cfg0.N = Routing.addrs (aH m c) (aW m c) (aK1 m c) (aK2 m c) :=
  (dats m 0 c).arrAt_eq_of_cover 4 _ (flushed4_eq m hr c) fun i => by
    have h0' : (i 0 : Nat) < 512 := (i 0).isLt
    have h1' : (i 1 : Nat) < 128 := (i 1).isLt
    have h2' : (i 2 : Nat) < 128 := (i 2).isLt
    have hN : cfg0.N = 256 := N_0
    refine ⟨⟨(i 0 : Nat) / 2, by rw [hN]; omega⟩, flush0_4 _, ?_⟩
    generalize ht : (⟨(i 0 : Nat) / 2, _⟩ : Fin cfg0.N) = t
    have htv : t.val = (i 0 : Nat) / 2 := by rw [← ht]
    obtain ⟨-, -, -, -, ⟨h0, h1, h2⟩, -⟩ := idx_facts t
    show i ∈ ((View.whole main_v3_0).slice (win0_4.rect t)).set
    rw [View.set_slice_whole, Rect.mem_set_unit]
    intro a
    match a with
    | ⟨0, _⟩ => show win0_4.index t 0 * 2 ≤ (i 0 : Nat) ∧ (i 0 : Nat) < win0_4.index t 0 * 2 + 2
                rw [h0]; omega
    | ⟨1, _⟩ => show win0_4.index t 1 * 128 ≤ (i 1 : Nat) ∧ (i 1 : Nat) < win0_4.index t 1 * 128 + 128
                rw [h1]; omega
    | ⟨2, _⟩ => show win0_4.index t 2 * 128 ≤ (i 2 : Nat) ∧ (i 2 : Nat) < win0_4.index t 2 * 128 + 128
                rw [h2]; omega

/-- The call's gate array. -/
theorem final5 (c : Dev nD) : (dats m 0 c).arrAt 5 cfg0.N = Routing.gates (aH m c) (aW m c) (aK1 m c) (aK2 m c) :=
  (dats m 0 c).arrAt_eq_of_cover 5 _ (flushed5_eq m hr c) fun i => by
    have h0' : (i 0 : Nat) < 512 := (i 0).isLt
    have h1' : (i 1 : Nat) < 128 := (i 1).isLt
    have h2' : (i 2 : Nat) < 128 := (i 2).isLt
    have hN : cfg0.N = 256 := N_0
    refine ⟨⟨(i 0 : Nat) / 2, by rw [hN]; omega⟩, flush0_5 _, ?_⟩
    generalize ht : (⟨(i 0 : Nat) / 2, _⟩ : Fin cfg0.N) = t
    have htv : t.val = (i 0 : Nat) / 2 := by rw [← ht]
    obtain ⟨-, -, -, -, -, h0, h1, h2⟩ := idx_facts t
    show i ∈ ((View.whole main_v3_1).slice (win0_5.rect t)).set
    rw [View.set_slice_whole, Rect.mem_set_unit]
    intro a
    match a with
    | ⟨0, _⟩ => show win0_5.index t 0 * 2 ≤ (i 0 : Nat) ∧ (i 0 : Nat) < win0_5.index t 0 * 2 + 2
                rw [h0]; omega
    | ⟨1, _⟩ => show win0_5.index t 1 * 128 ≤ (i 1 : Nat) ∧ (i 1 : Nat) < win0_5.index t 1 * 128 + 128
                rw [h1]; omega
    | ⟨2, _⟩ => show win0_5.index t 2 * 128 ≤ (i 2 : Nat) ∧ (i 2 : Nat) < win0_5.index t 2 * 128 + 128
                rw [h2]; omega

end Real

end Cert.RouteIdeal.Body

end
-- ==== Proof.Layer.RouteTop.lean ====
/- A selection of the greatest entries along the last axis of a three-axis array, read at one entry, and the two
   halves' key scores of the plain routing. -/
module

public import proofs.«01_k».proof.Proof.Layer.RouteSpec
public import proofs.«01_k».proof.Proof.Gen.RouteRefIdeal.Read

@[expose] public section

set_option maxRecDepth 65536

noncomputable section

namespace Cert.RouteRefIdeal.Stages

open Cert.RouteRefIdeal Cert.RouteRefIdeal.Gen Cert.RouteRefIdeal.Read Cert.Routing Cert.Picks
open Idealize.ShloMosaic hiding ix1 ix2 ix3
open Idealize.ShloMosaic.ValueIdx

/-! ## The selection -/

theorem along_last {A B N : ℕ} (a : Fin A) (b : Fin B) (q p : Fin N) :
    (ix3 a b q : (⟨3, ![A, B, N]⟩ : Shape).Idx).along 2 p = ix3 a b p := funext fun c => by
  match c with
  | ⟨0, _⟩ => rfl
  | ⟨1, _⟩ => rfl
  | ⟨2, _⟩ => rfl

/-- The whole sorted array's entry `q` is the one whose place is sorted to `q`. -/
theorem sorted_at {A B N : ℕ} {β : Type} (x : FVec Ideal ⟨3, ![A, B, N]⟩ .f32) (y : (⟨3, ![A, B, N]⟩ : Shape).Idx → β)
    (a : Fin A) (b : Fin B) (q : Fin N) :
    (Host.sort2 ⟨3, ![A, B, N]⟩ 2 (fun l r => FloatOps.cmpfTotal (F := Ideal) (φ := .f32) .gt l.1 r.1) x y).1 (ix3 a b q)
        = x (ix3 a b (srt (fun p => x (ix3 a b p)) q))
      ∧ (Host.sort2 ⟨3, ![A, B, N]⟩ 2 (fun l r => FloatOps.cmpfTotal (F := Ideal) (φ := .f32) .gt l.1 r.1) x y).2 (ix3 a b q)
        = y (ix3 a b (srt (fun p => x (ix3 a b p)) q)) := by
  have e : (sortedFrom (fun k k' : Fin N => FloatOps.cmpfTotal (F := Ideal) (φ := .f32) .gt
      (x ((ix3 a b q : (⟨3, ![A, B, N]⟩ : Shape).Idx).along 2 k)) (x ((ix3 a b q : (⟨3, ![A, B, N]⟩ : Shape).Idx).along 2 k')) == 1#1) q)
      = srt (fun p => x (ix3 a b p)) q := by
    unfold srt
    congr 1
    funext k k'
    rw [along_last, along_last]
    rfl
  have e' : (ix3 a b q : (⟨3, ![A, B, N]⟩ : Shape).Idx).along 2 (sortedFrom (fun k k' : Fin N => FloatOps.cmpfTotal (F := Ideal) (φ := .f32) .gt
      (x ((ix3 a b q : (⟨3, ![A, B, N]⟩ : Shape).Idx).along 2 k)) (x ((ix3 a b q : (⟨3, ![A, B, N]⟩ : Shape).Idx).along 2 k')) == 1#1) q)
      = ix3 a b (srt (fun p => x (ix3 a b p)) q) :=
    (along_last a b q _).trans (congrArg (ix3 a b) e)
  unfold Host.sort2
  rw [dif_pos (show 2 < 3 by decide)]
  exact ⟨congrArg x e', congrArg y e'⟩

theorem kept_at {A B N K : ℕ} {β : Type} (hk : K ≤ N) (x : (⟨3, ![A, B, N]⟩ : Shape).Idx → β)
    (h : (⟨3, ![A, B, N]⟩ : Shape).Slices (fun _ => 0) ⟨3, ![A, B, K]⟩) (a : Fin A) (b : Fin B) (r : Fin K) :
    extractStridedSlice ⟨3, ![A, B, K]⟩ (fun _ => 0) x h (ix3 a b r) = x (ix3 a b (r.castLE hk)) :=
  extractStridedSlice_apply _ _ h _ _ fun c => by
    match c with
    | ⟨0, _⟩ => exact (Nat.zero_add _).symm
    | ⟨1, _⟩ => exact (Nat.zero_add _).symm
    | ⟨2, _⟩ => exact (Nat.zero_add _).symm

theorem topK_value {A B N K : ℕ} (hk : K ≤ N) (x : FVec Ideal ⟨3, ![A, B, N]⟩ .f32)
    (h : (⟨3, ![A, B, N]⟩ : Shape).Slices (fun _ => 0) ⟨3, ![A, B, K]⟩) (a : Fin A) (b : Fin B) (r : Fin K) :
    (Host.topK ⟨3, ![A, B, K]⟩ 2 (FloatOps.cmpfTotal (F := Ideal) (φ := .f32) .gt) x h).1 (ix3 a b r)
      = x (ix3 a b (top hk (fun p => x (ix3 a b p)) r)) := by
  unfold Host.topK
  dsimp only
  rw [kept_at hk, (sorted_at x _ a b _).1, top_eq]

theorem topK_index {A B N K : ℕ} (hk : K ≤ N) (x : FVec Ideal ⟨3, ![A, B, N]⟩ .f32)
    (h : (⟨3, ![A, B, N]⟩ : Shape).Slices (fun _ => 0) ⟨3, ![A, B, K]⟩) (a : Fin A) (b : Fin B) (r : Fin K) :
    (Host.topK ⟨3, ![A, B, K]⟩ 2 (FloatOps.cmpfTotal (F := Ideal) (φ := .f32) .gt) x h).2 (ix3 a b r)
      = BitVec.ofNat 32 (top hk (fun p => x (ix3 a b p)) r).val := by
  unfold Host.topK
  dsimp only
  rw [kept_at hk, (sorted_at x _ a b _).2, top_eq, dif_pos (show 2 < 3 by decide)]
  rfl

/-! ## The key scores -/

variable (H : ArgH) (W : ArgW) (K1 K2 : ArgK)

theorem lowCol (n : Fin 65536) (h : Fin 8) (d : Fin 128) :
    idx_main_v1 (idx_main_v2 (idx_main_v3 (ix3 n h d))) = ix2 n (qcol h 0 d) := funext fun a => Fin.ext (by
  have h1 := n.isLt
  have h2 := h.isLt
  have h3 := d.isLt
  match a with
  | ⟨0, _⟩ =>
    show (((((n.val * 8 + h.val) * 128 + d.val) / 1024 * 8 + ((n.val * 8 + h.val) * 128 + d.val) / 128 % 8) * 2 + 0) * 128
      + ((n.val * 8 + h.val) * 128 + d.val) % 128) / 2048 = n.val
    omega
  | ⟨1, _⟩ =>
    show (((((n.val * 8 + h.val) * 128 + d.val) / 1024 * 8 + ((n.val * 8 + h.val) * 128 + d.val) / 128 % 8) * 2 + 0) * 128
      + ((n.val * 8 + h.val) * 128 + d.val) % 128) % 2048 = 256 * h.val + 128 * 0 + d.val
    omega)

theorem highCol (n : Fin 65536) (h : Fin 8) (d : Fin 128) :
    idx_main_v1 (idx_main_v6 (idx_main_v7 (ix3 n h d))) = ix2 n (qcol h 1 d) := funext fun a => Fin.ext (by
  have h1 := n.isLt
  have h2 := h.isLt
  have h3 := d.isLt
  match a with
  | ⟨0, _⟩ =>
    show (((((n.val * 8 + h.val) * 128 + d.val) / 1024 * 8 + ((n.val * 8 + h.val) * 128 + d.val) / 128 % 8) * 2 + (1 + 0)) * 128
      + ((n.val * 8 + h.val) * 128 + d.val) % 128) / 2048 = n.val
    omega
  | ⟨1, _⟩ =>
    show (((((n.val * 8 + h.val) * 128 + d.val) / 1024 * 8 + ((n.val * 8 + h.val) * 128 + d.val) / 128 % 8) * 2 + (1 + 0)) * 128
      + ((n.val * 8 + h.val) * 128 + d.val) % 128) % 2048 = 256 * h.val + 128 * 1 + d.val
    omega)

theorem v0_at (n : Fin 65536) (c : Fin 2048) : val_main_v0 (F := Ideal) H W (ix2 n c) = query H W n c := by
  rw [val_main_v0_apply]
  unfold query
  refine Finset.sum_congr rfl fun k _ => ?_
  have e1 : lidx_main_v0 (ix2 n c) k = ix2 n k := funext fun a => Fin.ext (by
    match a with
    | ⟨0, _⟩ => rfl
    | ⟨1, _⟩ => rfl)
  have e2 : ridx_main_v0 (ix2 n c) k = ix2 k c := funext fun a => Fin.ext (by
    match a with
    | ⟨0, _⟩ => rfl
    | ⟨1, _⟩ => rfl)
  rw [e1, e2]

theorem v3_at (n : Fin 65536) (h : Fin 8) (d : Fin 128) :
    val_main_v3 (F := Ideal) H W (ix3 n h d) = query H W n (qcol h 0 d) := by
  rw [val_main_v3_apply, val_main_v2_apply, val_main_v1_apply, lowCol, v0_at]

theorem v7_at (n : Fin 65536) (h : Fin 8) (d : Fin 128) :
    val_main_v7 (F := Ideal) H W (ix3 n h d) = query H W n (qcol h 1 d) := by
  rw [val_main_v7_apply, val_main_v6_apply, val_main_v1_apply, highCol, v0_at]

/-- The first half's scores. -/
theorem v5_at (n : Fin 65536) (h : Fin 8) (p : Fin 128) :
    val_main_v5 (F := Ideal) H W K1 (ix3 n h p) = score H W K1 0 n h p := by
  rw [val_main_v5_apply, val_main_v4_apply]
  unfold score
  refine Finset.sum_congr rfl fun k _ => ?_
  have e1 : lidx_main_v4 (idx_main_v5 (ix3 n h p)) k = ix3 h p k := funext fun a => Fin.ext (by
    match a with
    | ⟨0, _⟩ => rfl
    | ⟨1, _⟩ => rfl
    | ⟨2, _⟩ => rfl)
  have e2 : ridx_main_v4 (idx_main_v5 (ix3 n h p)) k = ix3 n h k := funext fun a => Fin.ext (by
    match a with
    | ⟨0, _⟩ => rfl
    | ⟨1, _⟩ => rfl
    | ⟨2, _⟩ => rfl)
  rw [e1, e2, v3_at]

/-- The second half's scores. -/
theorem v9_at (n : Fin 65536) (h : Fin 8) (p : Fin 128) :
    val_main_v9 (F := Ideal) H W K2 (ix3 n h p) = score H W K2 1 n h p := by
  rw [val_main_v9_apply, val_main_v8_apply]
  unfold score
  refine Finset.sum_congr rfl fun k _ => ?_
  have e1 : lidx_main_v8 (idx_main_v9 (ix3 n h p)) k = ix3 h p k := funext fun a => Fin.ext (by
    match a with
    | ⟨0, _⟩ => rfl
    | ⟨1, _⟩ => rfl
    | ⟨2, _⟩ => rfl)
  have e2 : ridx_main_v8 (idx_main_v9 (ix3 n h p)) k = ix3 n h k := funext fun a => Fin.ext (by
    match a with
    | ⟨0, _⟩ => rfl
    | ⟨1, _⟩ => rfl
    | ⟨2, _⟩ => rfl)
  rw [e1, e2, v7_at]

end Cert.RouteRefIdeal.Stages
-- ==== Proof.Layer.RouteGather.lean ====
/- The plain routing's reading of one list at the places of another, along the last axis. -/
module

public import proofs.«01_k».proof.Proof.Layer.RouteTop

@[expose] public section

set_option maxRecDepth 65536

noncomputable section

namespace Cert.RouteRefIdeal.Stages

open Cert.RouteRefIdeal Cert.RouteRefIdeal.Gen Cert.RouteRefIdeal.Read Cert.Routing Cert.Picks
open Idealize.ShloMosaic hiding ix1 ix2 ix3
open Idealize.ShloMosaic.ValueIdx

/-- The place list's index for the entry `(n, h, r)`. -/
abbrev at4 (n : Fin 65536) (h : Fin 8) (r : Fin 16) : S65536x8x16x1.Idx := fun a => match a with
  | ⟨0, _⟩ => n
  | ⟨1, _⟩ => h
  | ⟨2, _⟩ => r
  | ⟨3, _⟩ => ⟨0, Nat.one_pos⟩

theorem small : ∀ q : Fin 256, min (BitVec.ofNat 32 q.val).toInt.toNat 255 = q.val := by decide +kernel

theorem gather_at (x : IVec S65536x8x256 32) (idx : IVec S65536x8x16x1 32) (n : Fin 65536) (h : Fin 8) (r : Fin 16) (q : Fin 256)
    (hq : idx (at4 n h r) = BitVec.ofNat 32 q.val) :
    Host.gather gather_S65536x8x256_S65536x8x16x1_S65536x8x16_n_2_01_01_2_3_111 x idx (ix3 n h r) = x (ix3 n h q) := by
  unfold Host.gather
  congr 1
  funext a
  refine Fin.ext ?_
  show gather_S65536x8x256_S65536x8x16x1_S65536x8x16_n_2_01_01_2_3_111.start (ix3 n h r) idx a
    + gather_S65536x8x256_S65536x8x16x1_S65536x8x16_n_2_01_01_2_3_111.batchCoord (ix3 n h r) a
    + gather_S65536x8x256_S65536x8x16x1_S65536x8x16_n_2_01_01_2_3_111.offCoord (ix3 n h r) a = _
  have m0 : (0 : Fin 3) ∈ gather_S65536x8x256_S65536x8x16x1_S65536x8x16_n_2_01_01_2_3_111.operandBatchingDims :=
    show (0 : Fin 3) ∈ [(0 : Fin 3), 1] by decide
  have m1 : (1 : Fin 3) ∈ gather_S65536x8x256_S65536x8x16x1_S65536x8x16_n_2_01_01_2_3_111.operandBatchingDims :=
    show (1 : Fin 3) ∈ [(0 : Fin 3), 1] by decide
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => absurd (show (2 : Fin 3) ∈ [(0 : Fin 3), 1] from h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S65536x8x256_S65536x8x16x1_S65536x8x16_n_2_01_01_2_3_111.startIndexMap from List.mem_singleton.mpr rfl)]
    have hsi : gather_S65536x8x256_S65536x8x16x1_S65536x8x16_n_2_01_01_2_3_111.siIdx (ix3 n h r)
        ⟨List.idxOf (2 : Fin 3) gather_S65536x8x256_S65536x8x16x1_S65536x8x16_n_2_01_01_2_3_111.startIndexMap,
        List.idxOf_lt_length_iff.2 (List.mem_singleton.mpr rfl)⟩ = at4 n h r := by
      funext b; refine Fin.ext ?_
      match b with
      | ⟨0, _⟩ => rfl
      | ⟨1, _⟩ => rfl
      | ⟨2, _⟩ => rfl
      | ⟨3, _⟩ => rfl
    rw [hsi, hq]
    show min (BitVec.ofNat 32 q.val).toInt.toNat 255 = q.val
    exact small q

end Cert.RouteRefIdeal.Stages
-- ==== Proof.Layer.RoutePick.lean ====
/- The plain routing's stages after the scores: the pairs of the two short lists, their experts, the sixteen chosen
   ones, and the softmax over their values. -/
module

public import proofs.«01_k».proof.Proof.Layer.RouteGather

@[expose] public section

set_option maxRecDepth 65536

noncomputable section

namespace Cert.RouteRefIdeal.Stages

open Cert.RouteRefIdeal Cert.RouteRefIdeal.Gen Cert.RouteRefIdeal.Read Cert.Routing Cert.Picks
open Idealize.ShloMosaic hiding ix1 ix2 ix3
open Idealize.ShloMosaic.ValueIdx

variable (H : ArgH) (W : ArgW) (K1 K2 : ArgK)

/-! ## The two short lists -/

theorem scores1 (n : Fin 65536) (h : Fin 8) :
    (fun p => val_main_v5 (F := Ideal) H W K1 (ix3 n h p)) = score H W K1 0 n h := funext fun p => v5_at H W K1 n h p

theorem scores2 (n : Fin 65536) (h : Fin 8) :
    (fun p => val_main_v9 (F := Ideal) H W K2 (ix3 n h p)) = score H W K2 1 n h := funext fun p => v9_at H W K2 n h p

theorem values_at (n : Fin 65536) (h : Fin 8) (r : Fin 16) : val_main_values (F := Ideal) H W K1 (ix3 n h r)
    = score H W K1 0 n h (top (by omega : 16 ≤ 128) (score H W K1 0 n h) r) := by
  unfold val_main_values
  refine (topK_value (by omega : 16 ≤ 128) _ _ n h r).trans ?_
  rw [v5_at, scores1]

theorem indices_at (n : Fin 65536) (h : Fin 8) (r : Fin 16) : val_main_indices (F := Ideal) H W K1 (ix3 n h r)
    = BitVec.ofNat 32 (top (by omega : 16 ≤ 128) (score H W K1 0 n h) r).val := by
  unfold val_main_indices
  refine (topK_index (by omega : 16 ≤ 128) _ _ n h r).trans ?_
  rw [scores1]

theorem values_0_at (n : Fin 65536) (h : Fin 8) (r : Fin 16) : val_main_values_0 (F := Ideal) H W K2 (ix3 n h r)
    = score H W K2 1 n h (top (by omega : 16 ≤ 128) (score H W K2 1 n h) r) := by
  unfold val_main_values_0
  refine (topK_value (by omega : 16 ≤ 128) _ _ n h r).trans ?_
  rw [v9_at, scores2]

theorem indices_1_at (n : Fin 65536) (h : Fin 8) (r : Fin 16) : val_main_indices_1 (F := Ideal) H W K2 (ix3 n h r)
    = BitVec.ofNat 32 (top (by omega : 16 ≤ 128) (score H W K2 1 n h) r).val := by
  unfold val_main_indices_1
  refine (topK_index (by omega : 16 ≤ 128) _ _ n h r).trans ?_
  rw [scores2]

/-! ## Their pairs -/

theorem pair1 (n : Fin 65536) (h : Fin 8) (p : Fin 256) :
    idx_main_v10 (idx_main_v12 (idx_main_v15 (ix3 n h p))) = ix3 n h ⟨p.val / 16, by omega⟩ := funext fun a => Fin.ext (by
  have h1 := n.isLt
  have h2 := h.isLt
  have h3 := p.isLt
  match a with
  | ⟨0, _⟩ => show ((n.val * 8 + h.val) * 256 + p.val) / 2048 = n.val; omega
  | ⟨1, _⟩ => show ((n.val * 8 + h.val) * 256 + p.val) / 256 % 8 = h.val; omega
  | ⟨2, _⟩ => show ((n.val * 8 + h.val) * 256 + p.val) / 16 % 16 = p.val / 16; omega)

theorem pair2 (n : Fin 65536) (h : Fin 8) (p : Fin 256) :
    idx_main_v11 (idx_main_v13 (idx_main_v15 (ix3 n h p))) = ix3 n h ⟨p.val % 16, by omega⟩ := funext fun a => Fin.ext (by
  have h1 := n.isLt
  have h2 := h.isLt
  have h3 := p.isLt
  match a with
  | ⟨0, _⟩ => show ((n.val * 8 + h.val) * 256 + p.val) / 2048 = n.val; omega
  | ⟨1, _⟩ => show ((n.val * 8 + h.val) * 256 + p.val) / 256 % 8 = h.val; omega
  | ⟨2, _⟩ => show ((n.val * 8 + h.val) * 256 + p.val) % 16 = p.val % 16; omega)

theorem pair1' (n : Fin 65536) (h : Fin 8) (p : Fin 256) :
    idx_main_v16 (idx_main_v20 (idx_main_v23 (ix3 n h p))) = ix3 n h ⟨p.val / 16, by omega⟩ := pair1 n h p

theorem pair2' (n : Fin 65536) (h : Fin 8) (p : Fin 256) :
    idx_main_v19 (idx_main_v21 (idx_main_v23 (ix3 n h p))) = ix3 n h ⟨p.val % 16, by omega⟩ := pair2 n h p

theorem v15_at (n : Fin 65536) (h : Fin 8) (p : Fin 256) : val_main_v15 (F := Ideal) H W K1 K2 (ix3 n h p)
    = best (score H W K1 0 n h) (score H W K2 1 n h) p := by
  rw [val_main_v15_apply, val_main_v14_apply, val_main_v12_apply, val_main_v10_apply, val_main_v13_apply, val_main_v11_apply,
    pair1, pair2, values_at, values_0_at]
  rfl

theorem word (a b : ℕ) : IntOp.addi (IntOp.muli (BitVec.ofNat 32 a) 128#32) (BitVec.ofNat 32 b) = BitVec.ofNat 32 (a * 128 + b) := by
  show BitVec.ofNat 32 a * 128#32 + BitVec.ofNat 32 b = _
  rw [BitVec.ofNat_add, BitVec.ofNat_mul]

theorem v23_at (n : Fin 65536) (h : Fin 8) (p : Fin 256) : val_main_v23 (F := Ideal) H W K1 K2 (ix3 n h p)
    = BitVec.ofNat 32 (code (score H W K1 0 n h) (score H W K2 1 n h) p).val := by
  rw [val_main_v23_apply, val_main_v22_apply, val_main_v20_apply, val_main_v18_apply, val_main_v16_apply, val_main_v17_apply,
    val_main_c_apply, val_main_v21_apply, val_main_v19_apply, pair1', pair2', indices_at, indices_1_at, word]
  rfl

/-! ## The sixteen chosen -/

theorem pairsOf (n : Fin 65536) (h : Fin 8) : (fun p => val_main_v15 (F := Ideal) H W K1 K2 (ix3 n h p))
    = best (score H W K1 0 n h) (score H W K2 1 n h) := funext fun p => v15_at H W K1 K2 n h p

theorem values_2_at (n : Fin 65536) (h : Fin 8) (r : Fin 16) : val_main_values_2 (F := Ideal) H W K1 K2 (ix3 n h r)
    = best (score H W K1 0 n h) (score H W K2 1 n h) (chosen (score H W K1 0 n h) (score H W K2 1 n h) r) := by
  unfold val_main_values_2
  refine (topK_value (by omega : 16 ≤ 256) _ _ n h r).trans ?_
  rw [v15_at, pairsOf]
  rfl

theorem indices_3_at (n : Fin 65536) (h : Fin 8) (r : Fin 16) : val_main_indices_3 (F := Ideal) H W K1 K2 (ix3 n h r)
    = BitVec.ofNat 32 (chosen (score H W K1 0 n h) (score H W K2 1 n h) r).val := by
  unfold val_main_indices_3
  refine (topK_index (by omega : 16 ≤ 256) _ _ n h r).trans ?_
  rw [pairsOf]
  rfl

theorem not_negative : ∀ q : Fin 256, IntOp.cmpi .slt (BitVec.ofNat 32 q.val) 0#32 = 0#1 := by decide +kernel

theorem inside : ∀ q : Fin 256, IntOp.andi (IntOp.cmpi .sge (BitVec.ofNat 32 q.val) 0#32) (IntOp.cmpi .sle (BitVec.ofNat 32 q.val) 255#32) = 1#1 := by
  decide +kernel

theorem place_at (n : Fin 65536) (h : Fin 8) (r : Fin 16) : val_main_call0_v4 (F := Ideal) H W K1 K2 (ix3 n h r)
    = BitVec.ofNat 32 (chosen (score H W K1 0 n h) (score H W K2 1 n h) r).val := by
  rw [val_main_call0_v4_apply, val_main_call0_v1_apply, indices_3_at, val_main_call0_v0_apply, val_main_call0_c_apply, not_negative]
  rfl

theorem places_at (n : Fin 65536) (h : Fin 8) (r : Fin 16) : val_main_call0_v5 (F := Ideal) H W K1 K2 (at4 n h r)
    = BitVec.ofNat 32 (chosen (score H W K1 0 n h) (score H W K2 1 n h) r).val := by
  have e : idx_main_call0_v5 (at4 n h r) = ix3 n h r := funext fun a => Fin.ext (by
    have h1 := n.isLt
    have h2 := h.isLt
    have h3 := r.isLt
    match a with
    | ⟨0, _⟩ => show (((n.val * 8 + h.val) * 16 + r.val) * 1 + 0) / 128 = n.val; omega
    | ⟨1, _⟩ => show (((n.val * 8 + h.val) * 16 + r.val) * 1 + 0) / 16 % 8 = h.val; omega
    | ⟨2, _⟩ => show (((n.val * 8 + h.val) * 16 + r.val) * 1 + 0) % 16 = r.val; omega)
  rw [val_main_call0_v5_apply, e, place_at]

theorem eta4 (i : S65536x8x16x1.Idx) : i = at4 (i 0) (i 1) (i 2) := funext fun a => by
  match a with
  | ⟨0, _⟩ => rfl
  | ⟨1, _⟩ => rfl
  | ⟨2, _⟩ => rfl
  | ⟨3, _⟩ => exact Fin.ext (by have h : (i 3).val < 1 := (i 3).isLt; show (i 3).val = 0; omega)

theorem mask_one (n : Fin 65536) (h : Fin 8) (r : Fin 16) : val_main_call0_v11 (F := Ideal) H W K1 K2 (at4 n h r) = 1#1 := by
  rw [val_main_call0_v11_apply, val_main_call0_v7_apply, val_main_call0_v10_apply, places_at, val_main_call0_v6_apply,
    val_main_call0_c_2_apply, val_main_call0_v9_apply, val_main_call0_v8_apply, val_main_call0_c_1_apply, inside]

theorem mask_all (i : S65536x8x16x1.Idx) : val_main_call0_v11 (F := Ideal) H W K1 K2 i = 1#1 :=
  (congrArg (val_main_call0_v11 (F := Ideal) H W K1 K2) (eta4 i)).trans (mask_one H W K1 K2 (i 0) (i 1) (i 2))

theorem mask_at (j : S65536x8x16.Idx) : val_main_call0_v12 (F := Ideal) H W K1 K2 j = 1#1 := by
  unfold val_main_call0_v12
  exact Host.reduce_andi_one _ _ _ _ j (val_main_call0_c_3_apply _) (mask_all H W K1 K2)

/-- The chosen experts. -/
theorem v24_at (n : Fin 65536) (h : Fin 8) (r : Fin 16) : val_main_v24 (F := Ideal) H W K1 K2 (ix3 n h r)
    = BitVec.ofNat 32 (code (score H W K1 0 n h) (score H W K2 1 n h) (chosen (score H W K1 0 n h) (score H W K2 1 n h) r)).val := by
  have e : val_main_call0_v13 (F := Ideal) H W K1 K2 (ix3 n h r)
      = BitVec.ofNat 32 (code (score H W K1 0 n h) (score H W K2 1 n h) (chosen (score H W K1 0 n h) (score H W K2 1 n h) r)).val := by
    unfold val_main_call0_v13
    rw [gather_at _ _ n h r _ (places_at H W K1 K2 n h r), v23_at]
  rw [val_main_v24_apply, mask_at, e]
  rfl

end Cert.RouteRefIdeal.Stages
-- ==== Proof.Layer.RouteRef.lean ====
/- The plain routing's two results: they are the arrays `addrs` and `gates` of its arguments. -/
module

public import proofs.«01_k».proof.Proof.Layer.RoutePick

@[expose] public section

set_option maxRecDepth 65536

noncomputable section

namespace Cert.RouteRefIdeal.Stages

open Cert.RouteRefIdeal Cert.RouteRefIdeal.Gen Cert.RouteRefIdeal.Read Cert.Routing Cert.Picks
open Idealize.ShloMosaic hiding ix1 ix2 ix3
open Idealize.ShloMosaic.ValueIdx

variable (H : ArgH) (W : ArgW) (K1 K2 : ArgK)

/-! ## The softmax -/

theorem lowest : Ideal.ofBits .f32 0xFF800000#32 = ⊥ := by simp [Ideal.ofBits, Ideal.ieee]

/-- The greatest entry of a list that never rises is its first one. -/
theorem fold_first {n : ℕ} (t : Fin (n + 1) → EReal) (ht : Antitone t) : (Finset.univ : Finset (Fin (n + 1))).fold max ⊥ t = t 0 :=
  le_antisymm ((Finset.fold_max_le (t 0)).mpr ⟨bot_le, fun k _ => ht (Fin.zero_le k)⟩)
    ((Finset.le_fold_max (t 0)).mpr (Or.inr ⟨0, Finset.mem_univ 0, le_rfl⟩))

theorem reduces_last : S65536x8x16.Reduces [2] S65536x8 := by decide

theorem lift_last (n : Fin 65536) (h : Fin 8) (k : Fin 16) : reduces_last.lift (ix2 n h) k = ix3 n h k := funext fun x => by
  match x with
  | ⟨0, _⟩ => rfl
  | ⟨1, _⟩ => rfl
  | ⟨2, _⟩ => rfl

theorem v26_at (n : Fin 65536) (h : Fin 8) : val_main_v26 (F := Ideal) H W K1 K2 (ix2 n h)
    = best (score H W K1 0 n h) (score H W K2 1 n h) (chosen (score H W K1 0 n h) (score H W K2 1 n h) 0) := by
  have e : (val_main_values_2 (F := Ideal) H W K1 K2 ∘ reduces_last.lift (ix2 n h) : Fin 16 → EReal)
      = fun k => best (score H W K1 0 n h) (score H W K2 1 n h) (chosen (score H W K1 0 n h) (score H W K2 1 n h) k) :=
    funext fun k => (congrArg (val_main_values_2 (F := Ideal) H W K1 K2) (lift_last n h k)).trans (values_2_at H W K1 K2 n h k)
  unfold val_main_v26
  generalize val_main_values_2 (F := Ideal) H W K1 K2 = y at e
  refine (Host.reduce_eq_fold_single (max : EReal → EReal → EReal) y (fun _ => Ideal.ofBits .f32 0xFF800000#32) _ reduces_last h_S_ (ix2 n h)).trans ?_
  show Finset.fold max (Ideal.ofBits .f32 0xFF800000#32) (y ∘ reduces_last.lift (ix2 n h) : Fin 16 → EReal) (Finset.univ : Finset (Fin 16)) = _
  rw [e, lowest]
  exact fold_first _ (top_antitone (by omega : 16 ≤ 256) (best (score H W K1 0 n h) (score H W K2 1 n h)))

theorem v30_at (n : Fin 65536) (h : Fin 8) (r : Fin 16) : val_main_v30 (F := Ideal) H W K1 K2 (ix3 n h r)
    = best (score H W K1 0 n h) (score H W K2 1 n h) (chosen (score H W K1 0 n h) (score H W K2 1 n h) 0) := by
  have e : idx_main_v29 (idx_main_v30 (ix3 n h r)) = ix2 n h := funext fun a => by
    match a with
    | ⟨0, _⟩ => rfl
    | ⟨1, _⟩ => rfl
  rw [val_main_v30_apply, val_main_v29_apply, e, val_main_v28_apply, v26_at, val_main_v27_apply, val_main_cst_4_apply]
  show max (Ideal.ofBits .f32 0xFF800000#32) _ = _
  rw [lowest]
  exact max_eq_right bot_le

theorem v32_at (n : Fin 65536) (h : Fin 8) (r : Fin 16) : val_main_v32 (F := Ideal) H W K1 K2 (ix3 n h r)
    = Ideal.exp (best (score H W K1 0 n h) (score H W K2 1 n h) (chosen (score H W K1 0 n h) (score H W K2 1 n h) r)
      - best (score H W K1 0 n h) (score H W K2 1 n h) (chosen (score H W K1 0 n h) (score H W K2 1 n h) 0)) := by
  rw [val_main_v32_apply, val_main_v31_apply, values_2_at, v30_at]
  rfl

theorem v35_at (n : Fin 65536) (h : Fin 8) (r : Fin 16) : val_main_v35 (F := Ideal) H W K1 K2 (ix3 n h r)
    = ∑ k : Fin 16, Ideal.exp (best (score H W K1 0 n h) (score H W K2 1 n h) (chosen (score H W K1 0 n h) (score H W K2 1 n h) k)
      - best (score H W K1 0 n h) (score H W K2 1 n h) (chosen (score H W K1 0 n h) (score H W K2 1 n h) 0)) := by
  have e : idx_main_v34 (idx_main_v35 (ix3 n h r)) = ix2 n h := funext fun a => by
    match a with
    | ⟨0, _⟩ => rfl
    | ⟨1, _⟩ => rfl
  have ek (k : Fin 16) : idx_main_v33 (ix2 n h) k = ix3 n h k := funext fun a => by
    match a with
    | ⟨0, _⟩ => rfl
    | ⟨1, _⟩ => rfl
    | ⟨2, _⟩ => rfl
  rw [val_main_v35_apply, val_main_v34_apply, e, val_main_v33_apply, val_main_cst_5_apply]
  show Ideal.ofBits .f32 0x00000000#32 + _ = _
  rw [Ideal.ofBits_zero_f32, zero_add]
  refine Finset.sum_congr rfl fun k _ => ?_
  rw [ek, v32_at]

/-- The gates. -/
theorem v36_at (n : Fin 65536) (h : Fin 8) (r : Fin 16) : val_main_v36 (F := Ideal) H W K1 K2 (ix3 n h r)
    = weight (score H W K1 0 n h) (score H W K2 1 n h) r := by
  rw [val_main_v36_apply, v32_at, v35_at]
  rfl

/-! ## The results -/

theorem spread (n : Fin 65536) (s : Fin 128) : idx_main_v25 (ix2 n s) = ix3 n (⟨s.val / 16, by omega⟩ : Fin 8) (⟨s.val % 16, Nat.mod_lt _ (by decide)⟩ : Fin 16) :=
  funext fun a => Fin.ext (by
    have h1 := n.isLt
    have h2 := s.isLt
    match a with
    | ⟨0, _⟩ => show (n.val * 128 + s.val) / 128 = n.val; omega
    | ⟨1, _⟩ => show (n.val * 128 + s.val) / 16 % 8 = s.val / 16; omega
    | ⟨2, _⟩ => show (n.val * 128 + s.val) % 16 = s.val % 16; omega)

theorem tiled (g : Fin 512) (s l : Fin 128) : idx_main_v42 (idx_main_v43 (ix3 g s l)) = ix2 (tok g l) s := funext fun a => Fin.ext (by
  have h1 := g.isLt
  have h2 := s.isLt
  have h3 := l.isLt
  match a with
  | ⟨0, _⟩ => show ((g.val * 128 + l.val) * 128 + s.val) / 128 = 128 * g.val + l.val; omega
  | ⟨1, _⟩ => show ((g.val * 128 + l.val) * 128 + s.val) % 128 = s.val; omega)

theorem spread' (n : Fin 65536) (s : Fin 128) : idx_main_v37 (ix2 n s) = ix3 n (⟨s.val / 16, by omega⟩ : Fin 8) (⟨s.val % 16, Nat.mod_lt _ (by decide)⟩ : Fin 16) :=
  spread n s

theorem tiled' (g : Fin 512) (s l : Fin 128) : idx_main_v44 (idx_main_v45 (ix3 g s l)) = ix2 (tok g l) s := tiled g s l

theorem row (a : ℕ) : IntOp.addi (IntOp.muli (BitVec.ofNat 32 a) 4#32) 4096#32 = BitVec.ofNat 32 (a * 4 + 4096) := by
  show BitVec.ofNat 32 a * 4#32 + 4096#32 = _
  rw [BitVec.ofNat_add, BitVec.ofNat_mul]

theorem v43_at (g : Fin 512) (s l : Fin 128) : val_main_v43 (F := Ideal) H W K1 K2 (ix3 g s l) = addrAt H W K1 K2 (tok g l) s := by
  rw [val_main_v43_apply, val_main_v42_apply, tiled, val_main_v41_apply, val_main_v39_apply, val_main_v25_apply, spread, v24_at,
    val_main_v38_apply, val_main_c_6_apply, val_main_v40_apply, val_main_c_7_apply, row]
  rfl

theorem v45_at (g : Fin 512) (s l : Fin 128) : val_main_v45 (F := Ideal) H W K1 K2 (ix3 g s l) = gateAt H W K1 K2 (tok g l) s := by
  rw [val_main_v45_apply, val_main_v44_apply, tiled', val_main_v37_apply, spread', v36_at]
  rfl

theorem eta3 (i : S512x128x128.Idx) : i = ix3 (i 0) (i 1) (i 2) := funext fun a => by
  match a with
  | ⟨0, _⟩ => rfl
  | ⟨1, _⟩ => rfl
  | ⟨2, _⟩ => rfl

/-- The addresses. -/
theorem result_addrs : val_main_v43 (F := Ideal) H W K1 K2 = addrs H W K1 K2 := funext fun i =>
  (congrArg (val_main_v43 (F := Ideal) H W K1 K2) (eta3 i)).trans (v43_at H W K1 K2 (i 0) (i 1) (i 2))

/-- The gates. -/
theorem result_gates : val_main_v45 (F := Ideal) H W K1 K2 = gates H W K1 K2 := funext fun i =>
  (congrArg (val_main_v45 (F := Ideal) H W K1 K2) (eta3 i)).trans (v45_at H W K1 K2 (i 0) (i 1) (i 2))

end Cert.RouteRefIdeal.Stages
-- ==== Proof.lean ====
/- The claims about the recurrence call, the projection call, the mixing call, the last norm and the routing call, assembled. -/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.Hgrn.Loops
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnIdeal.Loops
public import proofs.«01_k».proof.Proof.Gen.HgrnRefIdeal
public import proofs.«01_k».proof.Proof.Gen.HgrnRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.RouteIdeal.Value
public import proofs.«01_k».proof.Proof.Gen.RouteRefIdeal.Run
public import proofs.«01_k».proof.Proof.Gen.RouteRefIdeal.Read
public import proofs.«01_k».proof.Proof.Layer.ProjValue
public import proofs.«01_k».proof.Proof.Layer.Pre
public import proofs.«01_k».proof.Proof.Layer.Final
public import proofs.«01_k».proof.Proof.Layer.FrameBits
public import proofs.«01_k».proof.Proof.Layer.RefValue
public import proofs.«01_k».proof.Proof.Layer.MixFinal
public import proofs.«01_k».proof.Proof.Layer.MixRef
public import proofs.«01_k».proof.Proof.Layer.NormFinal
public import proofs.«01_k».proof.Proof.Layer.NormRef
public import proofs.«01_k».proof.Proof.Layer.RouteFinal
public import proofs.«01_k».proof.Proof.Layer.RouteRef
public import Idealize.ShloMosaic.Adequacy
public import Idealize.ShloMosaic.Init

@[expose] public section

noncomputable section

namespace Cert.Proof

open Idealize.ShloMosaic Idealize.SL.Sem Cert.Proj

/-- The projection call and the plain product end with the same array. -/
theorem algebraic_proj [Cert.ProjIdeal.Facts] [Cert.ProjRefIdeal.Facts] : Cert.algebraic_ProjIdeal_ProjRefIdeal := by
  intro m g m' g' _ hagree
  refine ⟨fun c => Cert.ProjIdeal.Product.prod (m (c.tc.loc Cert.ProjIdeal.main_arg0)) (m (c.tc.loc Cert.ProjIdeal.main_arg1)), ?_, ?_⟩
  · exact (θ_run _ _ _).mono (fun r h c => ⟨(h c).1.trans (Cert.ProjIdeal.Product.final m c), (h c).2⟩)
      (Cert.ProjIdeal.Value.run_blocks m g)
  · refine (θ_run _ _ _).mono (fun r h c => ⟨(h c).1.trans ?_, (h c).2⟩) (Cert.ProjRefIdeal.Value.run m' g')
    rw [(hagree c).1, (hagree c).2]
    exact Cert.ProjIdeal.Product.ref_eq _ _

/-- The recurrence call and the chunked recurrence end with the same array. -/
theorem algebraic_hgrn : Cert.algebraic_HgrnIdeal_HgrnRefIdeal_pre_finite_inputs
    (hHgrnIdeal := Cert.HgrnIdeal.Gen.facts) (hHgrnRefIdeal := Cert.HgrnRefIdeal.Gen.facts) (hPre_finite_inputs := Cert.Layer.preFacts) := by
  intro m g m' g' hpre hagree
  have hr : ∀ c : Dev Cert.HgrnIdeal.nD, Cert.Layer.Real3 (Cert.HgrnIdeal.Body.argX m c) (Cert.HgrnIdeal.Body.argL m c) := fun c =>
    Cert.Layer.real3_of_pre (hpre c)
  refine ⟨fun c => Cert.Layer.layer (Cert.HgrnIdeal.Body.argX m c) (Cert.HgrnIdeal.Body.argL m c) (Cert.HgrnIdeal.Body.argN m c), ?_, ?_⟩
  · refine (θ_run _ _ _).mono (fun r h c => ⟨?_, h.2.1 c⟩) (θ_run_and (Cert.HgrnIdeal.Body.run_main m g) (Cert.HgrnIdeal.Body.frame m g))
    exact ((h.1.1 c).1 7).trans (Cert.HgrnIdeal.Body.final (m := m) (hr c))
  · refine (θ_run _ _ _).mono (fun r h c => ⟨(h c).1.trans ?_, (h c).2⟩) (Cert.HgrnRefIdeal.Ref.run_res m' g')
    obtain ⟨h0, h1, h2⟩ := hagree c
    have e0 : Cert.HgrnRefIdeal.Ref.argX m' c = Cert.HgrnIdeal.Body.argX m c := h0
    have e1 : Cert.HgrnRefIdeal.Ref.argL m' c = Cert.HgrnIdeal.Body.argL m c := h1
    have e2 : Cert.HgrnRefIdeal.Ref.argN m' c = Cert.HgrnIdeal.Body.argN m c := h2
    have hr' : Cert.Layer.Real3 (Cert.HgrnRefIdeal.Ref.argX m' c) (Cert.HgrnRefIdeal.Ref.argL m' c) := by rw [e0, e1]; exact hr c
    refine (Cert.HgrnRefIdeal.Ref.result m' c hr').trans ?_
    rw [e0, e1, e2]

/-- The mixing call and the plain mixing end with the same array. -/
theorem algebraic_mix [Cert.MixIdeal.Facts] [Cert.MixRefIdeal.Facts] : Cert.algebraic_MixIdeal_MixRefIdeal := by
  intro m g m' g' _ hagree
  refine ⟨fun c => Cert.Mixing.out (Cert.MixIdeal.Body.aY m c) (Cert.MixIdeal.Body.aP m c) (Cert.MixIdeal.Body.aX m c)
    (Cert.MixIdeal.Body.aLG m c) (Cert.MixIdeal.Body.aLB m c) (Cert.MixIdeal.Body.aW m c) (Cert.MixIdeal.Body.aBS m c)
    (Cert.MixIdeal.Body.aWO m c) (Cert.MixIdeal.Body.aG m c) (Cert.MixIdeal.Body.aB m c), ?_, ?_⟩
  · exact (θ_run _ _ _).mono (fun r h c => ⟨(h c).1.trans (Cert.MixIdeal.Body.final m c), (h c).2⟩)
      (Cert.MixIdeal.Value.run_blocks m g)
  · refine (θ_run _ _ _).mono (fun r h c => ⟨(h c).1.trans ?_, (h c).2⟩) (Cert.MixRefIdeal.Value.run m' g')
    obtain ⟨h0, h1, h2, h3, h4, h5, h6, h7, h8, h9⟩ := hagree c
    refine (Cert.MixRefIdeal.Read.val_main_v90_eq m' c).trans ?_
    rw [h0, h1, h2, h3, h4, h5, h6, h7, h8, h9]
    exact Cert.MixRefIdeal.Stages.result _ _ _ _ _ _ _ _ _ _

/-- The last norm's call and the plain norm end with the same array. -/
theorem algebraic_norm [Cert.NormIdeal.Facts] [Cert.NormRefIdeal.Facts] : Cert.algebraic_NormIdeal_NormRefIdeal := by
  intro m g m' g' _ hagree
  refine ⟨fun c => Cert.LastNorm.out (Cert.NormIdeal.Body.aH m c) (Cert.NormIdeal.Body.aT m c) (Cert.NormIdeal.Body.aG m c)
    (Cert.NormIdeal.Body.aB m c), ?_, ?_⟩
  · exact (θ_run _ _ _).mono (fun r h c => ⟨(h c).1.trans (Cert.NormIdeal.Body.final m c), (h c).2⟩)
      (Cert.NormIdeal.Value.run_blocks m g)
  · refine (θ_run _ _ _).mono (fun r h c => ⟨(h c).1.trans ?_, (h c).2⟩) (Cert.NormRefIdeal.Value.run m' g')
    obtain ⟨h0, h1, h2, h3⟩ := hagree c
    rw [h0, h1, h2, h3]
    exact (Cert.NormRefIdeal.Read.val_main_v27_eq _ _ _ _).trans (Cert.NormRefIdeal.Stages.result _ _ _ _)

/-- On finite arguments the routing call and the plain routing end with the same addresses and the same gates. -/
theorem algebraic_route : Cert.algebraic_RouteIdeal_RouteRefIdeal_pre_finite_route
    (hRouteIdeal := Cert.RouteIdeal.Gen.facts) (hRouteRefIdeal := Cert.RouteRefIdeal.Gen.facts) (hPre_finite_route := Cert.Routing.preFacts) := by
  intro m g m' g' hpre hagree
  have hr : ∀ c : Dev Cert.RouteIdeal.nD, Cert.Routing.AllReal (Cert.RouteIdeal.Body.aH m c) (Cert.RouteIdeal.Body.aW m c)
      (Cert.RouteIdeal.Body.aK1 m c) (Cert.RouteIdeal.Body.aK2 m c) := fun c => Cert.Routing.all_real (hpre c)
  refine ⟨fun c => Cert.Routing.addrs (Cert.RouteIdeal.Body.aH m c) (Cert.RouteIdeal.Body.aW m c) (Cert.RouteIdeal.Body.aK1 m c) (Cert.RouteIdeal.Body.aK2 m c),
    fun c => Cert.Routing.gates (Cert.RouteIdeal.Body.aH m c) (Cert.RouteIdeal.Body.aW m c) (Cert.RouteIdeal.Body.aK1 m c) (Cert.RouteIdeal.Body.aK2 m c), ?_, ?_⟩
  · exact (θ_run _ _ _).mono (fun r h c => ⟨(h c).1.trans (Cert.RouteIdeal.Body.final4 m hr c),
      (h c).2.1.trans (Cert.RouteIdeal.Body.final5 m hr c), (h c).2.2⟩) (Cert.RouteIdeal.Value.run_blocks m g)
  · refine (θ_run _ _ _).mono (fun r h c => ⟨(h c).1.trans ?_, (h c).2.1.trans ?_, (h c).2.2⟩) (Cert.RouteRefIdeal.Value.run m' g')
    · obtain ⟨h0, h1, h2, h3⟩ := hagree c
      refine (Cert.RouteRefIdeal.Read.val_main_v43_eq m' c).trans ?_
      rw [h0, h1, h2, h3]
      exact Cert.RouteRefIdeal.Stages.result_addrs _ _ _ _
    · obtain ⟨h0, h1, h2, h3⟩ := hagree c
      refine (Cert.RouteRefIdeal.Read.val_main_v45_eq m' c).trans ?_
      rw [h0, h1, h2, h3]
      exact Cert.RouteRefIdeal.Stages.result_gates _ _ _ _

theorem claim : Cert.Claim := ⟨Cert.Hgrn.Gen.facts, Cert.HgrnIdeal.Gen.facts, Cert.HgrnRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Norm.Gen.facts, Cert.NormIdeal.Gen.facts, Cert.NormRefIdeal.Gen.facts,
  Cert.Route.Gen.facts, Cert.RouteIdeal.Gen.facts, Cert.RouteRefIdeal.Gen.facts, Cert.Layer.preFacts, Cert.Routing.preFacts,
  fun m ρ _ => Cert.HgrnFrame.frame m ρ,
  fun m ρ _ => Cert.HgrnIdeal.Body.frame m ρ, fun m ρ _ => Cert.HgrnIdeal.Body.frame m ρ,
  fun m ρ _ => Cert.HgrnRefIdeal.Ref.frame m ρ, fun m ρ _ => Cert.HgrnRefIdeal.Ref.frame m ρ,
  fun m ρ _ => Cert.Proj.Gen.frame m ρ, fun m ρ _ => Cert.ProjIdeal.Gen.frame m ρ,
  fun m ρ _ => (θ_run _ _ _).mono (fun r h => ⟨fun c => (h c).2, sem_eq_zero_of_no_sems (by decide) r.2⟩) (Cert.ProjRefIdeal.Value.run m ρ),
  fun m ρ _ => Cert.Mix.Gen.frame m ρ, fun m ρ _ => Cert.MixIdeal.Gen.frame m ρ,
  fun m ρ _ => (θ_run _ _ _).mono (fun r h => ⟨fun c => (h c).2, sem_eq_zero_of_no_sems (by decide) r.2⟩) (Cert.MixRefIdeal.Value.run m ρ),
  fun m ρ _ => Cert.Norm.Gen.frame m ρ, fun m ρ _ => Cert.NormIdeal.Gen.frame m ρ,
  fun m ρ _ => (θ_run _ _ _).mono (fun r h => ⟨fun c => (h c).2, sem_eq_zero_of_no_sems (by decide) r.2⟩) (Cert.NormRefIdeal.Value.run m ρ),
  fun m ρ _ => Cert.Route.Gen.frame m ρ,
  fun m ρ _ => Cert.RouteIdeal.Gen.frame m ρ, fun m ρ _ => Cert.RouteIdeal.Gen.frame m ρ,
  fun m ρ _ => (θ_run _ _ _).mono (fun r h => ⟨fun c => (h c).2.2, sem_eq_zero_of_no_sems (by decide) r.2⟩) (Cert.RouteRefIdeal.Value.run m ρ),
  fun m ρ _ => (θ_run _ _ _).mono (fun r h => ⟨fun c => (h c).2.2, sem_eq_zero_of_no_sems (by decide) r.2⟩) (Cert.RouteRefIdeal.Value.run m ρ),
  trivial, algebraic_hgrn, trivial, algebraic_proj, trivial, algebraic_mix, trivial, algebraic_norm,
  trivial, algebraic_route⟩

end Cert.Proof

end
